-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_fwd [hPre_finite_fwd : Cert.Pre_finite_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_fwd [hPre_finite_fwd : Cert.Pre_finite_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InBack (m : (ℓ : Loc Cert.InBack.nD Cert.InBack.τ Cert.InBack.sig) → Buf (Elt Bits) ℓ) : Prop :=
  True

def Pre_InBackIdeal (m : (ℓ : Loc Cert.InBackIdeal.nD Cert.InBackIdeal.τ Cert.InBackIdeal.sig) → Buf (Elt Ideal) ℓ) : Prop :=
  True

def Pre_InBackRefIdeal (m : (ℓ : Loc Cert.InBackRefIdeal.nD Cert.InBackRefIdeal.τ Cert.InBackRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_OutMlp (m : (ℓ : Loc Cert.OutMlp.nD Cert.OutMlp.τ Cert.OutMlp.sig) → Buf (Elt Bits) ℓ) : Prop :=
  True

def Pre_OutMlpIdeal (m : (ℓ : Loc Cert.OutMlpIdeal.nD Cert.OutMlpIdeal.τ Cert.OutMlpIdeal.sig) → Buf (Elt Ideal) ℓ) : Prop :=
  True

def Pre_OutMlpRefIdeal (m : (ℓ : Loc Cert.OutMlpRefIdeal.nD Cert.OutMlpRefIdeal.τ Cert.OutMlpRefIdeal.sig) → Buf (Elt Ideal) ℓ) : Prop :=
  True

def Pre_MlpBack (m : (ℓ : Loc Cert.MlpBack.nD Cert.MlpBack.τ Cert.MlpBack.sig) → Buf (Elt Bits) ℓ) : Prop :=
  True

def Pre_MlpBackIdeal (m : (ℓ : Loc Cert.MlpBackIdeal.nD Cert.MlpBackIdeal.τ Cert.MlpBackIdeal.sig) → Buf (Elt Ideal) ℓ) : Prop :=
  True

def Pre_MlpBackRefIdeal (m : (ℓ : Loc Cert.MlpBackRefIdeal.nD Cert.MlpBackRefIdeal.τ Cert.MlpBackRefIdeal.sig) → Buf (Elt Ideal) ℓ) : Prop :=
  True

def Pre_MlpGrad (m : (ℓ : Loc Cert.MlpGrad.nD Cert.MlpGrad.τ Cert.MlpGrad.sig) → Buf (Elt Bits) ℓ) : Prop :=
  True

def Pre_MlpGradIdeal (m : (ℓ : Loc Cert.MlpGradIdeal.nD Cert.MlpGradIdeal.τ Cert.MlpGradIdeal.sig) → Buf (Elt Ideal) ℓ) : Prop :=
  True

def Pre_MlpGradRefIdeal (m : (ℓ : Loc Cert.MlpGradRefIdeal.nD Cert.MlpGradRefIdeal.τ Cert.MlpGradRefIdeal.sig) → Buf (Elt Ideal) ℓ) : Prop :=
  True

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackRefIdeal (m : (ℓ : Loc Cert.OutBackRefIdeal.nD Cert.OutBackRefIdeal.τ Cert.OutBackRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_finite_fwd [hAttnFwdIdeal : Cert.AttnFwdIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_finite_fwd [hAttnFwdRefIdeal : Cert.AttnFwdRefIdeal.Facts] [hPre_finite_fwd : Cert.Pre_finite_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_InBack [hInBack : Cert.InBack.Facts] : Prop :=
  ∀ (m : (ℓ : Loc Cert.InBack.nD Cert.InBack.τ Cert.InBack.sig) → Buf (Elt Bits) ℓ) (g : Dev Cert.InBack.nD → PrngReg), Pre_InBack m →
    θ_run (Cert.InBack.defs (F := Bits)) (onTc (τ := Cert.InBack.τ) (Cert.InBack.main (F := Bits))) ⟨m, fun _ => 0, g⟩ (fun r => (∀ c : Dev Cert.InBack.nD,
      r.2.mem ((c.tc : Thread Cert.InBack.nD Cert.InBack.τ).loc Cert.InBack.main_arg0) = m ((c.tc : Thread Cert.InBack.nD Cert.InBack.τ).loc Cert.InBack.main_arg0)
      ∧ r.2.mem ((c.tc : Thread Cert.InBack.nD Cert.InBack.τ).loc Cert.InBack.main_arg1) = m ((c.tc : Thread Cert.InBack.nD Cert.InBack.τ).loc Cert.InBack.main_arg1)
      ∧ r.2.mem ((c.tc : Thread Cert.InBack.nD Cert.InBack.τ).loc Cert.InBack.main_arg2) = m ((c.tc : Thread Cert.InBack.nD Cert.InBack.τ).loc Cert.InBack.main_arg2)
      ∧ r.2.mem ((c.tc : Thread Cert.InBack.nD Cert.InBack.τ).loc Cert.InBack.main_arg3) = m ((c.tc : Thread Cert.InBack.nD Cert.InBack.τ).loc Cert.InBack.main_arg3)
      ∧ r.2.mem ((c.tc : Thread Cert.InBack.nD Cert.InBack.τ).loc Cert.InBack.main_arg4) = m ((c.tc : Thread Cert.InBack.nD Cert.InBack.τ).loc Cert.InBack.main_arg4)
      ∧ r.2.mem ((c.tc : Thread Cert.InBack.nD Cert.InBack.τ).loc Cert.InBack.main_arg5) = m ((c.tc : Thread Cert.InBack.nD Cert.InBack.τ).loc Cert.InBack.main_arg5)
      ∧ r.2.mem ((c.tc : Thread Cert.InBack.nD Cert.InBack.τ).loc Cert.InBack.main_arg6) = m ((c.tc : Thread Cert.InBack.nD Cert.InBack.τ).loc Cert.InBack.main_arg6)
      ∧ r.2.mem ((c.tc : Thread Cert.InBack.nD Cert.InBack.τ).loc Cert.InBack.main_arg7) = m ((c.tc : Thread Cert.InBack.nD Cert.InBack.τ).loc Cert.InBack.main_arg7)
      ∧ r.2.mem ((c.tc : Thread Cert.InBack.nD Cert.InBack.τ).loc Cert.InBack.main_arg8) = m ((c.tc : Thread Cert.InBack.nD Cert.InBack.τ).loc Cert.InBack.main_arg8)
      ∧ r.2.mem ((c.tc : Thread Cert.InBack.nD Cert.InBack.τ).loc Cert.InBack.main_arg9) = m ((c.tc : Thread Cert.InBack.nD Cert.InBack.τ).loc Cert.InBack.main_arg9))
      ∧ r.2.sem = fun _ => 0)

def quiescent_InBackIdeal [hInBackIdeal : Cert.InBackIdeal.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
      ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
      ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
      ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
      ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
      ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
      ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
      ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
      ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ r.2.sem = fun _ => 0)

def quiescent_InBackRefIdeal [hInBackRefIdeal : Cert.InBackRefIdeal.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1)
      ∧ r.2.mem ((c.tc : Thread Cert.InBackRefIdeal.nD Cert.InBackRefIdeal.τ).loc Cert.InBackRefIdeal.main_arg2) = m ((c.tc : Thread Cert.InBackRefIdeal.nD Cert.InBackRefIdeal.τ).loc Cert.InBackRefIdeal.main_arg2)
      ∧ r.2.mem ((c.tc : Thread Cert.InBackRefIdeal.nD Cert.InBackRefIdeal.τ).loc Cert.InBackRefIdeal.main_arg3) = m ((c.tc : Thread Cert.InBackRefIdeal.nD Cert.InBackRefIdeal.τ).loc Cert.InBackRefIdeal.main_arg3)
      ∧ r.2.mem ((c.tc : Thread Cert.InBackRefIdeal.nD Cert.InBackRefIdeal.τ).loc Cert.InBackRefIdeal.main_arg4) = m ((c.tc : Thread Cert.InBackRefIdeal.nD Cert.InBackRefIdeal.τ).loc Cert.InBackRefIdeal.main_arg4)
      ∧ r.2.mem ((c.tc : Thread Cert.InBackRefIdeal.nD Cert.InBackRefIdeal.τ).loc Cert.InBackRefIdeal.main_arg5) = m ((c.tc : Thread Cert.InBackRefIdeal.nD Cert.InBackRefIdeal.τ).loc Cert.InBackRefIdeal.main_arg5)
      ∧ r.2.mem ((c.tc : Thread Cert.InBackRefIdeal.nD Cert.InBackRefIdeal.τ).loc Cert.InBackRefIdeal.main_arg6) = m ((c.tc : Thread Cert.InBackRefIdeal.nD Cert.InBackRefIdeal.τ).loc Cert.InBackRefIdeal.main_arg6)
      ∧ r.2.mem ((c.tc : Thread Cert.InBackRefIdeal.nD Cert.InBackRefIdeal.τ).loc Cert.InBackRefIdeal.main_arg7) = m ((c.tc : Thread Cert.InBackRefIdeal.nD Cert.InBackRefIdeal.τ).loc Cert.InBackRefIdeal.main_arg7)
      ∧ r.2.mem ((c.tc : Thread Cert.InBackRefIdeal.nD Cert.InBackRefIdeal.τ).loc Cert.InBackRefIdeal.main_arg8) = m ((c.tc : Thread Cert.InBackRefIdeal.nD Cert.InBackRefIdeal.τ).loc Cert.InBackRefIdeal.main_arg8)
      ∧ r.2.mem ((c.tc : Thread Cert.InBackRefIdeal.nD Cert.InBackRefIdeal.τ).loc Cert.InBackRefIdeal.main_arg9) = m ((c.tc : Thread Cert.InBackRefIdeal.nD Cert.InBackRefIdeal.τ).loc Cert.InBackRefIdeal.main_arg9))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5)
      ∧ r.2.mem ((c.tc : Thread Cert.InGrad.nD Cert.InGrad.τ).loc Cert.InGrad.main_arg6) = m ((c.tc : Thread Cert.InGrad.nD Cert.InGrad.τ).loc Cert.InGrad.main_arg6)
      ∧ r.2.mem ((c.tc : Thread Cert.InGrad.nD Cert.InGrad.τ).loc Cert.InGrad.main_arg7) = m ((c.tc : Thread Cert.InGrad.nD Cert.InGrad.τ).loc Cert.InGrad.main_arg7))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
      ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6)
      ∧ r.2.mem ((c.tc : Thread Cert.InGradIdeal.nD Cert.InGradIdeal.τ).loc Cert.InGradIdeal.main_arg7) = m ((c.tc : Thread Cert.InGradIdeal.nD Cert.InGradIdeal.τ).loc Cert.InGradIdeal.main_arg7))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4)
      ∧ r.2.mem ((c.tc : Thread Cert.InGradRefIdeal.nD Cert.InGradRefIdeal.τ).loc Cert.InGradRefIdeal.main_arg5) = m ((c.tc : Thread Cert.InGradRefIdeal.nD Cert.InGradRefIdeal.τ).loc Cert.InGradRefIdeal.main_arg5)
      ∧ r.2.mem ((c.tc : Thread Cert.InGradRefIdeal.nD Cert.InGradRefIdeal.τ).loc Cert.InGradRefIdeal.main_arg6) = m ((c.tc : Thread Cert.InGradRefIdeal.nD Cert.InGradRefIdeal.τ).loc Cert.InGradRefIdeal.main_arg6)
      ∧ r.2.mem ((c.tc : Thread Cert.InGradRefIdeal.nD Cert.InGradRefIdeal.τ).loc Cert.InGradRefIdeal.main_arg7) = m ((c.tc : Thread Cert.InGradRefIdeal.nD Cert.InGradRefIdeal.τ).loc Cert.InGradRefIdeal.main_arg7))
      ∧ r.2.sem = fun _ => 0)

def quiescent_OutMlp [hOutMlp : Cert.OutMlp.Facts] : Prop :=
  ∀ (m : (ℓ : Loc Cert.OutMlp.nD Cert.OutMlp.τ Cert.OutMlp.sig) → Buf (Elt Bits) ℓ) (g : Dev Cert.OutMlp.nD → PrngReg), Pre_OutMlp m →
    θ_run (Cert.OutMlp.defs (F := Bits)) (onTc (τ := Cert.OutMlp.τ) (Cert.OutMlp.main (F := Bits))) ⟨m, fun _ => 0, g⟩ (fun r => (∀ c : Dev Cert.OutMlp.nD,
      r.2.mem ((c.tc : Thread Cert.OutMlp.nD Cert.OutMlp.τ).loc Cert.OutMlp.main_arg0) = m ((c.tc : Thread Cert.OutMlp.nD Cert.OutMlp.τ).loc Cert.OutMlp.main_arg0)
      ∧ r.2.mem ((c.tc : Thread Cert.OutMlp.nD Cert.OutMlp.τ).loc Cert.OutMlp.main_arg1) = m ((c.tc : Thread Cert.OutMlp.nD Cert.OutMlp.τ).loc Cert.OutMlp.main_arg1)
      ∧ r.2.mem ((c.tc : Thread Cert.OutMlp.nD Cert.OutMlp.τ).loc Cert.OutMlp.main_arg2) = m ((c.tc : Thread Cert.OutMlp.nD Cert.OutMlp.τ).loc Cert.OutMlp.main_arg2)
      ∧ r.2.mem ((c.tc : Thread Cert.OutMlp.nD Cert.OutMlp.τ).loc Cert.OutMlp.main_arg3) = m ((c.tc : Thread Cert.OutMlp.nD Cert.OutMlp.τ).loc Cert.OutMlp.main_arg3)
      ∧ r.2.mem ((c.tc : Thread Cert.OutMlp.nD Cert.OutMlp.τ).loc Cert.OutMlp.main_arg4) = m ((c.tc : Thread Cert.OutMlp.nD Cert.OutMlp.τ).loc Cert.OutMlp.main_arg4)
      ∧ r.2.mem ((c.tc : Thread Cert.OutMlp.nD Cert.OutMlp.τ).loc Cert.OutMlp.main_arg5) = m ((c.tc : Thread Cert.OutMlp.nD Cert.OutMlp.τ).loc Cert.OutMlp.main_arg5)
      ∧ r.2.mem ((c.tc : Thread Cert.OutMlp.nD Cert.OutMlp.τ).loc Cert.OutMlp.main_arg6) = m ((c.tc : Thread Cert.OutMlp.nD Cert.OutMlp.τ).loc Cert.OutMlp.main_arg6)
      ∧ r.2.mem ((c.tc : Thread Cert.OutMlp.nD Cert.OutMlp.τ).loc Cert.OutMlp.main_arg7) = m ((c.tc : Thread Cert.OutMlp.nD Cert.OutMlp.τ).loc Cert.OutMlp.main_arg7)
      ∧ r.2.mem ((c.tc : Thread Cert.OutMlp.nD Cert.OutMlp.τ).loc Cert.OutMlp.main_arg8) = m ((c.tc : Thread Cert.OutMlp.nD Cert.OutMlp.τ).loc Cert.OutMlp.main_arg8))
      ∧ r.2.sem = fun _ => 0)

def quiescent_OutMlpIdeal [hOutMlpIdeal : Cert.OutMlpIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg), Pre_OutMlpIdeal m →
    θ_run (Cert.OutMlpIdeal.defs (F := Ideal)) (onTc (τ := Cert.OutMlpIdeal.τ) (Cert.OutMlpIdeal.main (F := Ideal))) ⟨m, fun _ => 0, g⟩ (fun r => (∀ c : Dev Cert.OutMlpIdeal.nD,
      r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
      ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
      ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
      ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
      ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
      ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
      ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
      ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
      ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8))
      ∧ r.2.sem = fun _ => 0)

def quiescent_OutMlpRefIdeal [hOutMlpRefIdeal : Cert.OutMlpRefIdeal.Facts] : Prop :=
  ∀ (m : (ℓ : Loc Cert.OutMlpRefIdeal.nD Cert.OutMlpRefIdeal.τ Cert.OutMlpRefIdeal.sig) → Buf (Elt Ideal) ℓ) (g : Dev Cert.OutMlpRefIdeal.nD → PrngReg), Pre_OutMlpRefIdeal m →
    θ_run (Cert.OutMlpRefIdeal.defs (F := Ideal)) (onTc (τ := Cert.OutMlpRefIdeal.τ) (Cert.OutMlpRefIdeal.main (F := Ideal))) ⟨m, fun _ => 0, g⟩ (fun r => (∀ c : Dev Cert.OutMlpRefIdeal.nD,
      r.2.mem ((c.tc : Thread Cert.OutMlpRefIdeal.nD Cert.OutMlpRefIdeal.τ).loc Cert.OutMlpRefIdeal.main_arg0) = m ((c.tc : Thread Cert.OutMlpRefIdeal.nD Cert.OutMlpRefIdeal.τ).loc Cert.OutMlpRefIdeal.main_arg0)
      ∧ r.2.mem ((c.tc : Thread Cert.OutMlpRefIdeal.nD Cert.OutMlpRefIdeal.τ).loc Cert.OutMlpRefIdeal.main_arg1) = m ((c.tc : Thread Cert.OutMlpRefIdeal.nD Cert.OutMlpRefIdeal.τ).loc Cert.OutMlpRefIdeal.main_arg1)
      ∧ r.2.mem ((c.tc : Thread Cert.OutMlpRefIdeal.nD Cert.OutMlpRefIdeal.τ).loc Cert.OutMlpRefIdeal.main_arg2) = m ((c.tc : Thread Cert.OutMlpRefIdeal.nD Cert.OutMlpRefIdeal.τ).loc Cert.OutMlpRefIdeal.main_arg2)
      ∧ r.2.mem ((c.tc : Thread Cert.OutMlpRefIdeal.nD Cert.OutMlpRefIdeal.τ).loc Cert.OutMlpRefIdeal.main_arg3) = m ((c.tc : Thread Cert.OutMlpRefIdeal.nD Cert.OutMlpRefIdeal.τ).loc Cert.OutMlpRefIdeal.main_arg3)
      ∧ r.2.mem ((c.tc : Thread Cert.OutMlpRefIdeal.nD Cert.OutMlpRefIdeal.τ).loc Cert.OutMlpRefIdeal.main_arg4) = m ((c.tc : Thread Cert.OutMlpRefIdeal.nD Cert.OutMlpRefIdeal.τ).loc Cert.OutMlpRefIdeal.main_arg4)
      ∧ r.2.mem ((c.tc : Thread Cert.OutMlpRefIdeal.nD Cert.OutMlpRefIdeal.τ).loc Cert.OutMlpRefIdeal.main_arg5) = m ((c.tc : Thread Cert.OutMlpRefIdeal.nD Cert.OutMlpRefIdeal.τ).loc Cert.OutMlpRefIdeal.main_arg5)
      ∧ r.2.mem ((c.tc : Thread Cert.OutMlpRefIdeal.nD Cert.OutMlpRefIdeal.τ).loc Cert.OutMlpRefIdeal.main_arg6) = m ((c.tc : Thread Cert.OutMlpRefIdeal.nD Cert.OutMlpRefIdeal.τ).loc Cert.OutMlpRefIdeal.main_arg6)
      ∧ r.2.mem ((c.tc : Thread Cert.OutMlpRefIdeal.nD Cert.OutMlpRefIdeal.τ).loc Cert.OutMlpRefIdeal.main_arg7) = m ((c.tc : Thread Cert.OutMlpRefIdeal.nD Cert.OutMlpRefIdeal.τ).loc Cert.OutMlpRefIdeal.main_arg7)
      ∧ r.2.mem ((c.tc : Thread Cert.OutMlpRefIdeal.nD Cert.OutMlpRefIdeal.τ).loc Cert.OutMlpRefIdeal.main_arg8) = m ((c.tc : Thread Cert.OutMlpRefIdeal.nD Cert.OutMlpRefIdeal.τ).loc Cert.OutMlpRefIdeal.main_arg8))
      ∧ r.2.sem = fun _ => 0)

def quiescent_MlpBack [hMlpBack : Cert.MlpBack.Facts] : Prop :=
  ∀ (m : (ℓ : Loc Cert.MlpBack.nD Cert.MlpBack.τ Cert.MlpBack.sig) → Buf (Elt Bits) ℓ) (g : Dev Cert.MlpBack.nD → PrngReg), Pre_MlpBack m →
    θ_run (Cert.MlpBack.defs (F := Bits)) (onTc (τ := Cert.MlpBack.τ) (Cert.MlpBack.main (F := Bits))) ⟨m, fun _ => 0, g⟩ (fun r => (∀ c : Dev Cert.MlpBack.nD,
      r.2.mem ((c.tc : Thread Cert.MlpBack.nD Cert.MlpBack.τ).loc Cert.MlpBack.main_arg0) = m ((c.tc : Thread Cert.MlpBack.nD Cert.MlpBack.τ).loc Cert.MlpBack.main_arg0)
      ∧ r.2.mem ((c.tc : Thread Cert.MlpBack.nD Cert.MlpBack.τ).loc Cert.MlpBack.main_arg1) = m ((c.tc : Thread Cert.MlpBack.nD Cert.MlpBack.τ).loc Cert.MlpBack.main_arg1)
      ∧ r.2.mem ((c.tc : Thread Cert.MlpBack.nD Cert.MlpBack.τ).loc Cert.MlpBack.main_arg2) = m ((c.tc : Thread Cert.MlpBack.nD Cert.MlpBack.τ).loc Cert.MlpBack.main_arg2)
      ∧ r.2.mem ((c.tc : Thread Cert.MlpBack.nD Cert.MlpBack.τ).loc Cert.MlpBack.main_arg3) = m ((c.tc : Thread Cert.MlpBack.nD Cert.MlpBack.τ).loc Cert.MlpBack.main_arg3)
      ∧ r.2.mem ((c.tc : Thread Cert.MlpBack.nD Cert.MlpBack.τ).loc Cert.MlpBack.main_arg4) = m ((c.tc : Thread Cert.MlpBack.nD Cert.MlpBack.τ).loc Cert.MlpBack.main_arg4))
      ∧ r.2.sem = fun _ => 0)

def quiescent_MlpBackIdeal [hMlpBackIdeal : Cert.MlpBackIdeal.Facts] : Prop :=
  ∀ (m : (ℓ : Loc Cert.MlpBackIdeal.nD Cert.MlpBackIdeal.τ Cert.MlpBackIdeal.sig) → Buf (Elt Ideal) ℓ) (g : Dev Cert.MlpBackIdeal.nD → PrngReg), Pre_MlpBackIdeal m →
    θ_run (Cert.MlpBackIdeal.defs (F := Ideal)) (onTc (τ := Cert.MlpBackIdeal.τ) (Cert.MlpBackIdeal.main (F := Ideal))) ⟨m, fun _ => 0, g⟩ (fun r => (∀ c : Dev Cert.MlpBackIdeal.nD,
      r.2.mem ((c.tc : Thread Cert.MlpBackIdeal.nD Cert.MlpBackIdeal.τ).loc Cert.MlpBackIdeal.main_arg0) = m ((c.tc : Thread Cert.MlpBackIdeal.nD Cert.MlpBackIdeal.τ).loc Cert.MlpBackIdeal.main_arg0)
      ∧ r.2.mem ((c.tc : Thread Cert.MlpBackIdeal.nD Cert.MlpBackIdeal.τ).loc Cert.MlpBackIdeal.main_arg1) = m ((c.tc : Thread Cert.MlpBackIdeal.nD Cert.MlpBackIdeal.τ).loc Cert.MlpBackIdeal.main_arg1)
      ∧ r.2.mem ((c.tc : Thread Cert.MlpBackIdeal.nD Cert.MlpBackIdeal.τ).loc Cert.MlpBackIdeal.main_arg2) = m ((c.tc : Thread Cert.MlpBackIdeal.nD Cert.MlpBackIdeal.τ).loc Cert.MlpBackIdeal.main_arg2)
      ∧ r.2.mem ((c.tc : Thread Cert.MlpBackIdeal.nD Cert.MlpBackIdeal.τ).loc Cert.MlpBackIdeal.main_arg3) = m ((c.tc : Thread Cert.MlpBackIdeal.nD Cert.MlpBackIdeal.τ).loc Cert.MlpBackIdeal.main_arg3)
      ∧ r.2.mem ((c.tc : Thread Cert.MlpBackIdeal.nD Cert.MlpBackIdeal.τ).loc Cert.MlpBackIdeal.main_arg4) = m ((c.tc : Thread Cert.MlpBackIdeal.nD Cert.MlpBackIdeal.τ).loc Cert.MlpBackIdeal.main_arg4))
      ∧ r.2.sem = fun _ => 0)

def quiescent_MlpBackRefIdeal [hMlpBackRefIdeal : Cert.MlpBackRefIdeal.Facts] : Prop :=
  ∀ (m : (ℓ : Loc Cert.MlpBackRefIdeal.nD Cert.MlpBackRefIdeal.τ Cert.MlpBackRefIdeal.sig) → Buf (Elt Ideal) ℓ) (g : Dev Cert.MlpBackRefIdeal.nD → PrngReg), Pre_MlpBackRefIdeal m →
    θ_run (Cert.MlpBackRefIdeal.defs (F := Ideal)) (onTc (τ := Cert.MlpBackRefIdeal.τ) (Cert.MlpBackRefIdeal.main (F := Ideal))) ⟨m, fun _ => 0, g⟩ (fun r => (∀ c : Dev Cert.MlpBackRefIdeal.nD,
      r.2.mem ((c.tc : Thread Cert.MlpBackRefIdeal.nD Cert.MlpBackRefIdeal.τ).loc Cert.MlpBackRefIdeal.main_arg0) = m ((c.tc : Thread Cert.MlpBackRefIdeal.nD Cert.MlpBackRefIdeal.τ).loc Cert.MlpBackRefIdeal.main_arg0)
      ∧ r.2.mem ((c.tc : Thread Cert.MlpBackRefIdeal.nD Cert.MlpBackRefIdeal.τ).loc Cert.MlpBackRefIdeal.main_arg1) = m ((c.tc : Thread Cert.MlpBackRefIdeal.nD Cert.MlpBackRefIdeal.τ).loc Cert.MlpBackRefIdeal.main_arg1)
      ∧ r.2.mem ((c.tc : Thread Cert.MlpBackRefIdeal.nD Cert.MlpBackRefIdeal.τ).loc Cert.MlpBackRefIdeal.main_arg2) = m ((c.tc : Thread Cert.MlpBackRefIdeal.nD Cert.MlpBackRefIdeal.τ).loc Cert.MlpBackRefIdeal.main_arg2)
      ∧ r.2.mem ((c.tc : Thread Cert.MlpBackRefIdeal.nD Cert.MlpBackRefIdeal.τ).loc Cert.MlpBackRefIdeal.main_arg3) = m ((c.tc : Thread Cert.MlpBackRefIdeal.nD Cert.MlpBackRefIdeal.τ).loc Cert.MlpBackRefIdeal.main_arg3)
      ∧ r.2.mem ((c.tc : Thread Cert.MlpBackRefIdeal.nD Cert.MlpBackRefIdeal.τ).loc Cert.MlpBackRefIdeal.main_arg4) = m ((c.tc : Thread Cert.MlpBackRefIdeal.nD Cert.MlpBackRefIdeal.τ).loc Cert.MlpBackRefIdeal.main_arg4))
      ∧ r.2.sem = fun _ => 0)

def quiescent_MlpGrad [hMlpGrad : Cert.MlpGrad.Facts] : Prop :=
  ∀ (m : (ℓ : Loc Cert.MlpGrad.nD Cert.MlpGrad.τ Cert.MlpGrad.sig) → Buf (Elt Bits) ℓ) (g : Dev Cert.MlpGrad.nD → PrngReg), Pre_MlpGrad m →
    θ_run (Cert.MlpGrad.defs (F := Bits)) (onTc (τ := Cert.MlpGrad.τ) (Cert.MlpGrad.main (F := Bits))) ⟨m, fun _ => 0, g⟩ (fun r => (∀ c : Dev Cert.MlpGrad.nD,
      r.2.mem ((c.tc : Thread Cert.MlpGrad.nD Cert.MlpGrad.τ).loc Cert.MlpGrad.main_arg0) = m ((c.tc : Thread Cert.MlpGrad.nD Cert.MlpGrad.τ).loc Cert.MlpGrad.main_arg0)
      ∧ r.2.mem ((c.tc : Thread Cert.MlpGrad.nD Cert.MlpGrad.τ).loc Cert.MlpGrad.main_arg1) = m ((c.tc : Thread Cert.MlpGrad.nD Cert.MlpGrad.τ).loc Cert.MlpGrad.main_arg1)
      ∧ r.2.mem ((c.tc : Thread Cert.MlpGrad.nD Cert.MlpGrad.τ).loc Cert.MlpGrad.main_arg2) = m ((c.tc : Thread Cert.MlpGrad.nD Cert.MlpGrad.τ).loc Cert.MlpGrad.main_arg2)
      ∧ r.2.mem ((c.tc : Thread Cert.MlpGrad.nD Cert.MlpGrad.τ).loc Cert.MlpGrad.main_arg3) = m ((c.tc : Thread Cert.MlpGrad.nD Cert.MlpGrad.τ).loc Cert.MlpGrad.main_arg3)
      ∧ r.2.mem ((c.tc : Thread Cert.MlpGrad.nD Cert.MlpGrad.τ).loc Cert.MlpGrad.main_arg4) = m ((c.tc : Thread Cert.MlpGrad.nD Cert.MlpGrad.τ).loc Cert.MlpGrad.main_arg4))
      ∧ r.2.sem = fun _ => 0)

def quiescent_MlpGradIdeal [hMlpGradIdeal : Cert.MlpGradIdeal.Facts] : Prop :=
  ∀ (m : (ℓ : Loc Cert.MlpGradIdeal.nD Cert.MlpGradIdeal.τ Cert.MlpGradIdeal.sig) → Buf (Elt Ideal) ℓ) (g : Dev Cert.MlpGradIdeal.nD → PrngReg), Pre_MlpGradIdeal m →
    θ_run (Cert.MlpGradIdeal.defs (F := Ideal)) (onTc (τ := Cert.MlpGradIdeal.τ) (Cert.MlpGradIdeal.main (F := Ideal))) ⟨m, fun _ => 0, g⟩ (fun r => (∀ c : Dev Cert.MlpGradIdeal.nD,
      r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
      ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
      ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2)
      ∧ r.2.mem ((c.tc : Thread Cert.MlpGradIdeal.nD Cert.MlpGradIdeal.τ).loc Cert.MlpGradIdeal.main_arg3) = m ((c.tc : Thread Cert.MlpGradIdeal.nD Cert.MlpGradIdeal.τ).loc Cert.MlpGradIdeal.main_arg3)
      ∧ r.2.mem ((c.tc : Thread Cert.MlpGradIdeal.nD Cert.MlpGradIdeal.τ).loc Cert.MlpGradIdeal.main_arg4) = m ((c.tc : Thread Cert.MlpGradIdeal.nD Cert.MlpGradIdeal.τ).loc Cert.MlpGradIdeal.main_arg4))
      ∧ r.2.sem = fun _ => 0)

def quiescent_MlpGradRefIdeal [hMlpGradRefIdeal : Cert.MlpGradRefIdeal.Facts] : Prop :=
  ∀ (m : (ℓ : Loc Cert.MlpGradRefIdeal.nD Cert.MlpGradRefIdeal.τ Cert.MlpGradRefIdeal.sig) → Buf (Elt Ideal) ℓ) (g : Dev Cert.MlpGradRefIdeal.nD → PrngReg), Pre_MlpGradRefIdeal m →
    θ_run (Cert.MlpGradRefIdeal.defs (F := Ideal)) (onTc (τ := Cert.MlpGradRefIdeal.τ) (Cert.MlpGradRefIdeal.main (F := Ideal))) ⟨m, fun _ => 0, g⟩ (fun r => (∀ c : Dev Cert.MlpGradRefIdeal.nD,
      r.2.mem ((c.tc : Thread Cert.MlpGradRefIdeal.nD Cert.MlpGradRefIdeal.τ).loc Cert.MlpGradRefIdeal.main_arg0) = m ((c.tc : Thread Cert.MlpGradRefIdeal.nD Cert.MlpGradRefIdeal.τ).loc Cert.MlpGradRefIdeal.main_arg0)
      ∧ r.2.mem ((c.tc : Thread Cert.MlpGradRefIdeal.nD Cert.MlpGradRefIdeal.τ).loc Cert.MlpGradRefIdeal.main_arg1) = m ((c.tc : Thread Cert.MlpGradRefIdeal.nD Cert.MlpGradRefIdeal.τ).loc Cert.MlpGradRefIdeal.main_arg1)
      ∧ r.2.mem ((c.tc : Thread Cert.MlpGradRefIdeal.nD Cert.MlpGradRefIdeal.τ).loc Cert.MlpGradRefIdeal.main_arg2) = m ((c.tc : Thread Cert.MlpGradRefIdeal.nD Cert.MlpGradRefIdeal.τ).loc Cert.MlpGradRefIdeal.main_arg2)
      ∧ r.2.mem ((c.tc : Thread Cert.MlpGradRefIdeal.nD Cert.MlpGradRefIdeal.τ).loc Cert.MlpGradRefIdeal.main_arg3) = m ((c.tc : Thread Cert.MlpGradRefIdeal.nD Cert.MlpGradRefIdeal.τ).loc Cert.MlpGradRefIdeal.main_arg3)
      ∧ r.2.mem ((c.tc : Thread Cert.MlpGradRefIdeal.nD Cert.MlpGradRefIdeal.τ).loc Cert.MlpGradRefIdeal.main_arg4) = m ((c.tc : Thread Cert.MlpGradRefIdeal.nD Cert.MlpGradRefIdeal.τ).loc Cert.MlpGradRefIdeal.main_arg4))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1)
      ∧ r.2.mem ((c.tc : Thread Cert.OutBack.nD Cert.OutBack.τ).loc Cert.OutBack.main_arg2) = m ((c.tc : Thread Cert.OutBack.nD Cert.OutBack.τ).loc Cert.OutBack.main_arg2)
      ∧ r.2.mem ((c.tc : Thread Cert.OutBack.nD Cert.OutBack.τ).loc Cert.OutBack.main_arg3) = m ((c.tc : Thread Cert.OutBack.nD Cert.OutBack.τ).loc Cert.OutBack.main_arg3)
      ∧ r.2.mem ((c.tc : Thread Cert.OutBack.nD Cert.OutBack.τ).loc Cert.OutBack.main_arg4) = m ((c.tc : Thread Cert.OutBack.nD Cert.OutBack.τ).loc Cert.OutBack.main_arg4)
      ∧ r.2.mem ((c.tc : Thread Cert.OutBack.nD Cert.OutBack.τ).loc Cert.OutBack.main_arg5) = m ((c.tc : Thread Cert.OutBack.nD Cert.OutBack.τ).loc Cert.OutBack.main_arg5))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1)
      ∧ r.2.mem ((c.tc : Thread Cert.OutBackIdeal.nD Cert.OutBackIdeal.τ).loc Cert.OutBackIdeal.main_arg2) = m ((c.tc : Thread Cert.OutBackIdeal.nD Cert.OutBackIdeal.τ).loc Cert.OutBackIdeal.main_arg2)
      ∧ r.2.mem ((c.tc : Thread Cert.OutBackIdeal.nD Cert.OutBackIdeal.τ).loc Cert.OutBackIdeal.main_arg3) = m ((c.tc : Thread Cert.OutBackIdeal.nD Cert.OutBackIdeal.τ).loc Cert.OutBackIdeal.main_arg3)
      ∧ r.2.mem ((c.tc : Thread Cert.OutBackIdeal.nD Cert.OutBackIdeal.τ).loc Cert.OutBackIdeal.main_arg4) = m ((c.tc : Thread Cert.OutBackIdeal.nD Cert.OutBackIdeal.τ).loc Cert.OutBackIdeal.main_arg4)
      ∧ r.2.mem ((c.tc : Thread Cert.OutBackIdeal.nD Cert.OutBackIdeal.τ).loc Cert.OutBackIdeal.main_arg5) = m ((c.tc : Thread Cert.OutBackIdeal.nD Cert.OutBackIdeal.τ).loc Cert.OutBackIdeal.main_arg5))
      ∧ r.2.sem = fun _ => 0)

def quiescent_OutBackRefIdeal [hOutBackRefIdeal : Cert.OutBackRefIdeal.Facts] : Prop :=
  ∀ (m : (ℓ : Loc Cert.OutBackRefIdeal.nD Cert.OutBackRefIdeal.τ Cert.OutBackRefIdeal.sig) → Buf (Elt Ideal) ℓ) (g : Dev Cert.OutBackRefIdeal.nD → PrngReg), Pre_OutBackRefIdeal m →
    θ_run (Cert.OutBackRefIdeal.defs (F := Ideal)) (onTc (τ := Cert.OutBackRefIdeal.τ) (Cert.OutBackRefIdeal.main (F := Ideal))) ⟨m, fun _ => 0, g⟩ (fun r => (∀ c : Dev Cert.OutBackRefIdeal.nD,
      r.2.mem ((c.tc : Thread Cert.OutBackRefIdeal.nD Cert.OutBackRefIdeal.τ).loc Cert.OutBackRefIdeal.main_arg0) = m ((c.tc : Thread Cert.OutBackRefIdeal.nD Cert.OutBackRefIdeal.τ).loc Cert.OutBackRefIdeal.main_arg0)
      ∧ r.2.mem ((c.tc : Thread Cert.OutBackRefIdeal.nD Cert.OutBackRefIdeal.τ).loc Cert.OutBackRefIdeal.main_arg1) = m ((c.tc : Thread Cert.OutBackRefIdeal.nD Cert.OutBackRefIdeal.τ).loc Cert.OutBackRefIdeal.main_arg1)
      ∧ r.2.mem ((c.tc : Thread Cert.OutBackRefIdeal.nD Cert.OutBackRefIdeal.τ).loc Cert.OutBackRefIdeal.main_arg2) = m ((c.tc : Thread Cert.OutBackRefIdeal.nD Cert.OutBackRefIdeal.τ).loc Cert.OutBackRefIdeal.main_arg2)
      ∧ r.2.mem ((c.tc : Thread Cert.OutBackRefIdeal.nD Cert.OutBackRefIdeal.τ).loc Cert.OutBackRefIdeal.main_arg3) = m ((c.tc : Thread Cert.OutBackRefIdeal.nD Cert.OutBackRefIdeal.τ).loc Cert.OutBackRefIdeal.main_arg3)
      ∧ r.2.mem ((c.tc : Thread Cert.OutBackRefIdeal.nD Cert.OutBackRefIdeal.τ).loc Cert.OutBackRefIdeal.main_arg4) = m ((c.tc : Thread Cert.OutBackRefIdeal.nD Cert.OutBackRefIdeal.τ).loc Cert.OutBackRefIdeal.main_arg4)
      ∧ r.2.mem ((c.tc : Thread Cert.OutBackRefIdeal.nD Cert.OutBackRefIdeal.τ).loc Cert.OutBackRefIdeal.main_arg5) = m ((c.tc : Thread Cert.OutBackRefIdeal.nD Cert.OutBackRefIdeal.τ).loc Cert.OutBackRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)) (v2 : (c : Dev Cert.KernelIdeal.nD) → Buf (Elt Ideal) ((c.tc : Thread Cert.KernelIdeal.nD Cert.KernelIdeal.τ).loc Cert.KernelIdeal.main_v77_2)) (v3 : (c : Dev Cert.KernelIdeal.nD) → Buf (Elt Ideal) ((c.tc : Thread Cert.KernelIdeal.nD Cert.KernelIdeal.τ).loc Cert.KernelIdeal.main_v77_3)) (v4 : (c : Dev Cert.KernelIdeal.nD) → Buf (Elt Ideal) ((c.tc : Thread Cert.KernelIdeal.nD Cert.KernelIdeal.τ).loc Cert.KernelIdeal.main_v77_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_v77_2) = v2 c
          ∧ r.2.mem ((c.tc : Thread Cert.KernelIdeal.nD Cert.KernelIdeal.τ).loc Cert.KernelIdeal.main_v77_3) = v3 c
          ∧ r.2.mem ((c.tc : Thread Cert.KernelIdeal.nD Cert.KernelIdeal.τ).loc Cert.KernelIdeal.main_v77_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_AttnFwd_AttnFwdIdeal : Prop :=
  IdealRules.named_const.Statement Cert.AttnFwdIdeal.κ "mask" .f32 0xF149F2CA#32 ⊥

def algebraic_AttnFwdIdeal_AttnFwdRefIdeal_pre_finite_fwd [hAttnFwdIdeal : Cert.AttnFwdIdeal.Facts] [hAttnFwdRefIdeal : Cert.AttnFwdRefIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v3_0)) (v1 : (c : Dev Cert.AttnFwdIdeal.nD) → Buf (Elt Ideal) ((c.tc : Thread Cert.AttnFwdIdeal.nD Cert.AttnFwdIdeal.τ).loc Cert.AttnFwdIdeal.main_v3_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v3_0) = v0 c
          ∧ r.2.mem ((c.tc : Thread Cert.AttnFwdIdeal.nD Cert.AttnFwdIdeal.τ).loc Cert.AttnFwdIdeal.main_v3_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v72) = v0 c
          ∧ r.2.mem ((c.tc : Thread Cert.AttnFwdRefIdeal.nD Cert.AttnFwdRefIdeal.τ).loc Cert.AttnFwdRefIdeal.main_v74) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v6_0)) (v1 : (c : Dev Cert.InIdeal.nD) → Buf (Elt Ideal) ((c.tc : Thread Cert.InIdeal.nD Cert.InIdeal.τ).loc Cert.InIdeal.main_v6_1)) (v2 : (c : Dev Cert.InIdeal.nD) → Buf (Elt Ideal) ((c.tc : Thread Cert.InIdeal.nD Cert.InIdeal.τ).loc Cert.InIdeal.main_v6_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v6_0) = v0 c
          ∧ r.2.mem ((c.tc : Thread Cert.InIdeal.nD Cert.InIdeal.τ).loc Cert.InIdeal.main_v6_1) = v1 c
          ∧ r.2.mem ((c.tc : Thread Cert.InIdeal.nD Cert.InIdeal.τ).loc Cert.InIdeal.main_v6_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v17) = v0 c
          ∧ r.2.mem ((c.tc : Thread Cert.InRefIdeal.nD Cert.InRefIdeal.τ).loc Cert.InRefIdeal.main_v19) = v1 c
          ∧ r.2.mem ((c.tc : Thread Cert.InRefIdeal.nD Cert.InRefIdeal.τ).loc Cert.InRefIdeal.main_v16) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_InBack_InBackIdeal : Prop :=
  True

def algebraic_InBackIdeal_InBackRefIdeal [hInBackIdeal : Cert.InBackIdeal.Facts] [hInBackRefIdeal : Cert.InBackRefIdeal.Facts] : Prop :=
  ∀ (m : (ℓ : Loc Cert.InBackIdeal.nD Cert.InBackIdeal.τ Cert.InBackIdeal.sig) → Buf (Elt Ideal) ℓ) (g : Dev Cert.InBackIdeal.nD → PrngReg)
    (m' : (ℓ : Loc Cert.InBackRefIdeal.nD Cert.InBackRefIdeal.τ Cert.InBackRefIdeal.sig) → Buf (Elt Ideal) ℓ) (g' : Dev Cert.InBackRefIdeal.nD → PrngReg), Pre_InBackIdeal m →
    (∀ c : Dev Cert.InBackIdeal.nD,
      m' ((c.tc : Thread Cert.InBackRefIdeal.nD Cert.InBackRefIdeal.τ).loc Cert.InBackRefIdeal.main_arg0) = m ((c.tc : Thread Cert.InBackIdeal.nD Cert.InBackIdeal.τ).loc Cert.InBackIdeal.main_arg0)
      ∧ m' ((c.tc : Thread Cert.InBackRefIdeal.nD Cert.InBackRefIdeal.τ).loc Cert.InBackRefIdeal.main_arg1) = m ((c.tc : Thread Cert.InBackIdeal.nD Cert.InBackIdeal.τ).loc Cert.InBackIdeal.main_arg1)
      ∧ m' ((c.tc : Thread Cert.InBackRefIdeal.nD Cert.InBackRefIdeal.τ).loc Cert.InBackRefIdeal.main_arg2) = m ((c.tc : Thread Cert.InBackIdeal.nD Cert.InBackIdeal.τ).loc Cert.InBackIdeal.main_arg2)
      ∧ m' ((c.tc : Thread Cert.InBackRefIdeal.nD Cert.InBackRefIdeal.τ).loc Cert.InBackRefIdeal.main_arg3) = m ((c.tc : Thread Cert.InBackIdeal.nD Cert.InBackIdeal.τ).loc Cert.InBackIdeal.main_arg3)
      ∧ m' ((c.tc : Thread Cert.InBackRefIdeal.nD Cert.InBackRefIdeal.τ).loc Cert.InBackRefIdeal.main_arg4) = m ((c.tc : Thread Cert.InBackIdeal.nD Cert.InBackIdeal.τ).loc Cert.InBackIdeal.main_arg4)
      ∧ m' ((c.tc : Thread Cert.InBackRefIdeal.nD Cert.InBackRefIdeal.τ).loc Cert.InBackRefIdeal.main_arg5) = m ((c.tc : Thread Cert.InBackIdeal.nD Cert.InBackIdeal.τ).loc Cert.InBackIdeal.main_arg5)
      ∧ m' ((c.tc : Thread Cert.InBackRefIdeal.nD Cert.InBackRefIdeal.τ).loc Cert.InBackRefIdeal.main_arg6) = m ((c.tc : Thread Cert.InBackIdeal.nD Cert.InBackIdeal.τ).loc Cert.InBackIdeal.main_arg6)
      ∧ m' ((c.tc : Thread Cert.InBackRefIdeal.nD Cert.InBackRefIdeal.τ).loc Cert.InBackRefIdeal.main_arg7) = m ((c.tc : Thread Cert.InBackIdeal.nD Cert.InBackIdeal.τ).loc Cert.InBackIdeal.main_arg7)
      ∧ m' ((c.tc : Thread Cert.InBackRefIdeal.nD Cert.InBackRefIdeal.τ).loc Cert.InBackRefIdeal.main_arg8) = m ((c.tc : Thread Cert.InBackIdeal.nD Cert.InBackIdeal.τ).loc Cert.InBackIdeal.main_arg8)
      ∧ m' ((c.tc : Thread Cert.InBackRefIdeal.nD Cert.InBackRefIdeal.τ).loc Cert.InBackRefIdeal.main_arg9) = m ((c.tc : Thread Cert.InBackIdeal.nD Cert.InBackIdeal.τ).loc Cert.InBackIdeal.main_arg9)) →
    ∃ (v0 : (c : Dev Cert.InBackIdeal.nD) → Buf (Elt Ideal) ((c.tc : Thread Cert.InBackIdeal.nD Cert.InBackIdeal.τ).loc Cert.InBackIdeal.main_v7_0)) (v1 : (c : Dev Cert.InBackIdeal.nD) → Buf (Elt Ideal) ((c.tc : Thread Cert.InBackIdeal.nD Cert.InBackIdeal.τ).loc Cert.InBackIdeal.main_v7_1)),
      θ_run (Cert.InBackIdeal.defs (F := Ideal)) (onTc (τ := Cert.InBackIdeal.τ) (Cert.InBackIdeal.main (F := Ideal))) ⟨m, fun _ => 0, g⟩ (fun r => ∀ c : Dev Cert.InBackIdeal.nD,
          r.2.mem ((c.tc : Thread Cert.InBackIdeal.nD Cert.InBackIdeal.τ).loc Cert.InBackIdeal.main_v7_0) = v0 c
          ∧ r.2.mem ((c.tc : Thread Cert.InBackIdeal.nD Cert.InBackIdeal.τ).loc Cert.InBackIdeal.main_v7_1) = v1 c
          ∧ r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
          ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
          ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
          ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
          ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
          ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
          ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
          ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
          ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
          ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ θ_run (Cert.InBackRefIdeal.defs (F := Ideal)) (onTc (τ := Cert.InBackRefIdeal.τ) (Cert.InBackRefIdeal.main (F := Ideal))) ⟨m', fun _ => 0, g'⟩ (fun r => ∀ c : Dev Cert.InBackRefIdeal.nD,
          r.2.mem ((c.tc : Thread Cert.InBackRefIdeal.nD Cert.InBackRefIdeal.τ).loc Cert.InBackRefIdeal.main_v38) = v0 c
          ∧ r.2.mem ((c.tc : Thread Cert.InBackRefIdeal.nD Cert.InBackRefIdeal.τ).loc Cert.InBackRefIdeal.main_v21) = v1 c
          ∧ r.2.mem ((c.tc : Thread Cert.InBackRefIdeal.nD Cert.InBackRefIdeal.τ).loc Cert.InBackRefIdeal.main_arg0) = m' ((c.tc : Thread Cert.InBackRefIdeal.nD Cert.InBackRefIdeal.τ).loc Cert.InBackRefIdeal.main_arg0)
          ∧ r.2.mem ((c.tc : Thread Cert.InBackRefIdeal.nD Cert.InBackRefIdeal.τ).loc Cert.InBackRefIdeal.main_arg1) = m' ((c.tc : Thread Cert.InBackRefIdeal.nD Cert.InBackRefIdeal.τ).loc Cert.InBackRefIdeal.main_arg1)
          ∧ r.2.mem ((c.tc : Thread Cert.InBackRefIdeal.nD Cert.InBackRefIdeal.τ).loc Cert.InBackRefIdeal.main_arg2) = m' ((c.tc : Thread Cert.InBackRefIdeal.nD Cert.InBackRefIdeal.τ).loc Cert.InBackRefIdeal.main_arg2)
          ∧ r.2.mem ((c.tc : Thread Cert.InBackRefIdeal.nD Cert.InBackRefIdeal.τ).loc Cert.InBackRefIdeal.main_arg3) = m' ((c.tc : Thread Cert.InBackRefIdeal.nD Cert.InBackRefIdeal.τ).loc Cert.InBackRefIdeal.main_arg3)
          ∧ r.2.mem ((c.tc : Thread Cert.InBackRefIdeal.nD Cert.InBackRefIdeal.τ).loc Cert.InBackRefIdeal.main_arg4) = m' ((c.tc : Thread Cert.InBackRefIdeal.nD Cert.InBackRefIdeal.τ).loc Cert.InBackRefIdeal.main_arg4)
          ∧ r.2.mem ((c.tc : Thread Cert.InBackRefIdeal.nD Cert.InBackRefIdeal.τ).loc Cert.InBackRefIdeal.main_arg5) = m' ((c.tc : Thread Cert.InBackRefIdeal.nD Cert.InBackRefIdeal.τ).loc Cert.InBackRefIdeal.main_arg5)
          ∧ r.2.mem ((c.tc : Thread Cert.InBackRefIdeal.nD Cert.InBackRefIdeal.τ).loc Cert.InBackRefIdeal.main_arg6) = m' ((c.tc : Thread Cert.InBackRefIdeal.nD Cert.InBackRefIdeal.τ).loc Cert.InBackRefIdeal.main_arg6)
          ∧ r.2.mem ((c.tc : Thread Cert.InBackRefIdeal.nD Cert.InBackRefIdeal.τ).loc Cert.InBackRefIdeal.main_arg7) = m' ((c.tc : Thread Cert.InBackRefIdeal.nD Cert.InBackRefIdeal.τ).loc Cert.InBackRefIdeal.main_arg7)
          ∧ r.2.mem ((c.tc : Thread Cert.InBackRefIdeal.nD Cert.InBackRefIdeal.τ).loc Cert.InBackRefIdeal.main_arg8) = m' ((c.tc : Thread Cert.InBackRefIdeal.nD Cert.InBackRefIdeal.τ).loc Cert.InBackRefIdeal.main_arg8)
          ∧ r.2.mem ((c.tc : Thread Cert.InBackRefIdeal.nD Cert.InBackRefIdeal.τ).loc Cert.InBackRefIdeal.main_arg9) = m' ((c.tc : Thread Cert.InBackRefIdeal.nD Cert.InBackRefIdeal.τ).loc Cert.InBackRefIdeal.main_arg9))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)
      ∧ m' ((c.tc : Thread Cert.InGradRefIdeal.nD Cert.InGradRefIdeal.τ).loc Cert.InGradRefIdeal.main_arg5) = m ((c.tc : Thread Cert.InGradIdeal.nD Cert.InGradIdeal.τ).loc Cert.InGradIdeal.main_arg5)
      ∧ m' ((c.tc : Thread Cert.InGradRefIdeal.nD Cert.InGradRefIdeal.τ).loc Cert.InGradRefIdeal.main_arg6) = m ((c.tc : Thread Cert.InGradIdeal.nD Cert.InGradIdeal.τ).loc Cert.InGradIdeal.main_arg6)
      ∧ m' ((c.tc : Thread Cert.InGradRefIdeal.nD Cert.InGradRefIdeal.τ).loc Cert.InGradRefIdeal.main_arg7) = m ((c.tc : Thread Cert.InGradIdeal.nD Cert.InGradIdeal.τ).loc Cert.InGradIdeal.main_arg7)) →
    ∃ (v0 : (c : Dev Cert.InGradIdeal.nD) → Buf (Elt Ideal) ((c.tc : Thread Cert.InGradIdeal.nD Cert.InGradIdeal.τ).loc Cert.InGradIdeal.main_v14)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v14) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
          ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6)
          ∧ r.2.mem ((c.tc : Thread Cert.InGradIdeal.nD Cert.InGradIdeal.τ).loc Cert.InGradIdeal.main_arg7) = m ((c.tc : Thread Cert.InGradIdeal.nD Cert.InGradIdeal.τ).loc Cert.InGradIdeal.main_arg7))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v20) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4)
          ∧ r.2.mem ((c.tc : Thread Cert.InGradRefIdeal.nD Cert.InGradRefIdeal.τ).loc Cert.InGradRefIdeal.main_arg5) = m' ((c.tc : Thread Cert.InGradRefIdeal.nD Cert.InGradRefIdeal.τ).loc Cert.InGradRefIdeal.main_arg5)
          ∧ r.2.mem ((c.tc : Thread Cert.InGradRefIdeal.nD Cert.InGradRefIdeal.τ).loc Cert.InGradRefIdeal.main_arg6) = m' ((c.tc : Thread Cert.InGradRefIdeal.nD Cert.InGradRefIdeal.τ).loc Cert.InGradRefIdeal.main_arg6)
          ∧ r.2.mem ((c.tc : Thread Cert.InGradRefIdeal.nD Cert.InGradRefIdeal.τ).loc Cert.InGradRefIdeal.main_arg7) = m' ((c.tc : Thread Cert.InGradRefIdeal.nD Cert.InGradRefIdeal.τ).loc Cert.InGradRefIdeal.main_arg7))

def preserves_OutMlp_OutMlpIdeal : Prop :=
  True

def algebraic_OutMlpIdeal_OutMlpRefIdeal [hOutMlpIdeal : Cert.OutMlpIdeal.Facts] [hOutMlpRefIdeal : Cert.OutMlpRefIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg)
    (m' : (ℓ : Loc Cert.OutMlpRefIdeal.nD Cert.OutMlpRefIdeal.τ Cert.OutMlpRefIdeal.sig) → Buf (Elt Ideal) ℓ) (g' : Dev Cert.OutMlpRefIdeal.nD → PrngReg), Pre_OutMlpIdeal m →
    (∀ c : Dev Cert.OutMlpIdeal.nD,
      m' ((c.tc : Thread Cert.OutMlpRefIdeal.nD Cert.OutMlpRefIdeal.τ).loc Cert.OutMlpRefIdeal.main_arg0) = m ((c.tc : Thread Cert.OutMlpIdeal.nD Cert.OutMlpIdeal.τ).loc Cert.OutMlpIdeal.main_arg0)
      ∧ m' ((c.tc : Thread Cert.OutMlpRefIdeal.nD Cert.OutMlpRefIdeal.τ).loc Cert.OutMlpRefIdeal.main_arg1) = m ((c.tc : Thread Cert.OutMlpIdeal.nD Cert.OutMlpIdeal.τ).loc Cert.OutMlpIdeal.main_arg1)
      ∧ m' ((c.tc : Thread Cert.OutMlpRefIdeal.nD Cert.OutMlpRefIdeal.τ).loc Cert.OutMlpRefIdeal.main_arg2) = m ((c.tc : Thread Cert.OutMlpIdeal.nD Cert.OutMlpIdeal.τ).loc Cert.OutMlpIdeal.main_arg2)
      ∧ m' ((c.tc : Thread Cert.OutMlpRefIdeal.nD Cert.OutMlpRefIdeal.τ).loc Cert.OutMlpRefIdeal.main_arg3) = m ((c.tc : Thread Cert.OutMlpIdeal.nD Cert.OutMlpIdeal.τ).loc Cert.OutMlpIdeal.main_arg3)
      ∧ m' ((c.tc : Thread Cert.OutMlpRefIdeal.nD Cert.OutMlpRefIdeal.τ).loc Cert.OutMlpRefIdeal.main_arg4) = m ((c.tc : Thread Cert.OutMlpIdeal.nD Cert.OutMlpIdeal.τ).loc Cert.OutMlpIdeal.main_arg4)
      ∧ m' ((c.tc : Thread Cert.OutMlpRefIdeal.nD Cert.OutMlpRefIdeal.τ).loc Cert.OutMlpRefIdeal.main_arg5) = m ((c.tc : Thread Cert.OutMlpIdeal.nD Cert.OutMlpIdeal.τ).loc Cert.OutMlpIdeal.main_arg5)
      ∧ m' ((c.tc : Thread Cert.OutMlpRefIdeal.nD Cert.OutMlpRefIdeal.τ).loc Cert.OutMlpRefIdeal.main_arg6) = m ((c.tc : Thread Cert.OutMlpIdeal.nD Cert.OutMlpIdeal.τ).loc Cert.OutMlpIdeal.main_arg6)
      ∧ m' ((c.tc : Thread Cert.OutMlpRefIdeal.nD Cert.OutMlpRefIdeal.τ).loc Cert.OutMlpRefIdeal.main_arg7) = m ((c.tc : Thread Cert.OutMlpIdeal.nD Cert.OutMlpIdeal.τ).loc Cert.OutMlpIdeal.main_arg7)
      ∧ m' ((c.tc : Thread Cert.OutMlpRefIdeal.nD Cert.OutMlpRefIdeal.τ).loc Cert.OutMlpRefIdeal.main_arg8) = m ((c.tc : Thread Cert.OutMlpIdeal.nD Cert.OutMlpIdeal.τ).loc Cert.OutMlpIdeal.main_arg8)) →
    ∃ (v0 : (c : Dev Cert.OutMlpIdeal.nD) → Buf (Elt Ideal) ((c.tc : Thread Cert.OutMlpIdeal.nD Cert.OutMlpIdeal.τ).loc Cert.OutMlpIdeal.main_v6_0)) (v1 : (c : Dev Cert.OutMlpIdeal.nD) → Buf (Elt Ideal) ((c.tc : Thread Cert.OutMlpIdeal.nD Cert.OutMlpIdeal.τ).loc Cert.OutMlpIdeal.main_v6_1)) (v2 : (c : Dev Cert.OutMlpIdeal.nD) → Buf (Elt Ideal) ((c.tc : Thread Cert.OutMlpIdeal.nD Cert.OutMlpIdeal.τ).loc Cert.OutMlpIdeal.main_v6_2)) (v3 : (c : Dev Cert.OutMlpIdeal.nD) → Buf (Elt Ideal) ((c.tc : Thread Cert.OutMlpIdeal.nD Cert.OutMlpIdeal.τ).loc Cert.OutMlpIdeal.main_v6_3)) (v4 : (c : Dev Cert.OutMlpIdeal.nD) → Buf (Elt Ideal) ((c.tc : Thread Cert.OutMlpIdeal.nD Cert.OutMlpIdeal.τ).loc Cert.OutMlpIdeal.main_v6_4)),
      θ_run (Cert.OutMlpIdeal.defs (F := Ideal)) (onTc (τ := Cert.OutMlpIdeal.τ) (Cert.OutMlpIdeal.main (F := Ideal))) ⟨m, fun _ => 0, g⟩ (fun r => ∀ c : Dev Cert.OutMlpIdeal.nD,
          r.2.mem ((c.tc : Thread Cert.OutMlpIdeal.nD Cert.OutMlpIdeal.τ).loc Cert.OutMlpIdeal.main_v6_0) = v0 c
          ∧ r.2.mem ((c.tc : Thread Cert.OutMlpIdeal.nD Cert.OutMlpIdeal.τ).loc Cert.OutMlpIdeal.main_v6_1) = v1 c
          ∧ r.2.mem ((c.tc : Thread Cert.OutMlpIdeal.nD Cert.OutMlpIdeal.τ).loc Cert.OutMlpIdeal.main_v6_2) = v2 c
          ∧ r.2.mem ((c.tc : Thread Cert.OutMlpIdeal.nD Cert.OutMlpIdeal.τ).loc Cert.OutMlpIdeal.main_v6_3) = v3 c
          ∧ r.2.mem ((c.tc : Thread Cert.OutMlpIdeal.nD Cert.OutMlpIdeal.τ).loc Cert.OutMlpIdeal.main_v6_4) = v4 c
          ∧ r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
          ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
          ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
          ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
          ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
          ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
          ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
          ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
          ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8))
      ∧ θ_run (Cert.OutMlpRefIdeal.defs (F := Ideal)) (onTc (τ := Cert.OutMlpRefIdeal.τ) (Cert.OutMlpRefIdeal.main (F := Ideal))) ⟨m', fun _ => 0, g'⟩ (fun r => ∀ c : Dev Cert.OutMlpRefIdeal.nD,
          r.2.mem ((c.tc : Thread Cert.OutMlpRefIdeal.nD Cert.OutMlpRefIdeal.τ).loc Cert.OutMlpRefIdeal.main_v26) = v0 c
          ∧ r.2.mem ((c.tc : Thread Cert.OutMlpRefIdeal.nD Cert.OutMlpRefIdeal.τ).loc Cert.OutMlpRefIdeal.main_v41) = v1 c
          ∧ r.2.mem ((c.tc : Thread Cert.OutMlpRefIdeal.nD Cert.OutMlpRefIdeal.τ).loc Cert.OutMlpRefIdeal.main_v42) = v2 c
          ∧ r.2.mem ((c.tc : Thread Cert.OutMlpRefIdeal.nD Cert.OutMlpRefIdeal.τ).loc Cert.OutMlpRefIdeal.main_v43) = v3 c
          ∧ r.2.mem ((c.tc : Thread Cert.OutMlpRefIdeal.nD Cert.OutMlpRefIdeal.τ).loc Cert.OutMlpRefIdeal.main_v46) = v4 c
          ∧ r.2.mem ((c.tc : Thread Cert.OutMlpRefIdeal.nD Cert.OutMlpRefIdeal.τ).loc Cert.OutMlpRefIdeal.main_arg0) = m' ((c.tc : Thread Cert.OutMlpRefIdeal.nD Cert.OutMlpRefIdeal.τ).loc Cert.OutMlpRefIdeal.main_arg0)
          ∧ r.2.mem ((c.tc : Thread Cert.OutMlpRefIdeal.nD Cert.OutMlpRefIdeal.τ).loc Cert.OutMlpRefIdeal.main_arg1) = m' ((c.tc : Thread Cert.OutMlpRefIdeal.nD Cert.OutMlpRefIdeal.τ).loc Cert.OutMlpRefIdeal.main_arg1)
          ∧ r.2.mem ((c.tc : Thread Cert.OutMlpRefIdeal.nD Cert.OutMlpRefIdeal.τ).loc Cert.OutMlpRefIdeal.main_arg2) = m' ((c.tc : Thread Cert.OutMlpRefIdeal.nD Cert.OutMlpRefIdeal.τ).loc Cert.OutMlpRefIdeal.main_arg2)
          ∧ r.2.mem ((c.tc : Thread Cert.OutMlpRefIdeal.nD Cert.OutMlpRefIdeal.τ).loc Cert.OutMlpRefIdeal.main_arg3) = m' ((c.tc : Thread Cert.OutMlpRefIdeal.nD Cert.OutMlpRefIdeal.τ).loc Cert.OutMlpRefIdeal.main_arg3)
          ∧ r.2.mem ((c.tc : Thread Cert.OutMlpRefIdeal.nD Cert.OutMlpRefIdeal.τ).loc Cert.OutMlpRefIdeal.main_arg4) = m' ((c.tc : Thread Cert.OutMlpRefIdeal.nD Cert.OutMlpRefIdeal.τ).loc Cert.OutMlpRefIdeal.main_arg4)
          ∧ r.2.mem ((c.tc : Thread Cert.OutMlpRefIdeal.nD Cert.OutMlpRefIdeal.τ).loc Cert.OutMlpRefIdeal.main_arg5) = m' ((c.tc : Thread Cert.OutMlpRefIdeal.nD Cert.OutMlpRefIdeal.τ).loc Cert.OutMlpRefIdeal.main_arg5)
          ∧ r.2.mem ((c.tc : Thread Cert.OutMlpRefIdeal.nD Cert.OutMlpRefIdeal.τ).loc Cert.OutMlpRefIdeal.main_arg6) = m' ((c.tc : Thread Cert.OutMlpRefIdeal.nD Cert.OutMlpRefIdeal.τ).loc Cert.OutMlpRefIdeal.main_arg6)
          ∧ r.2.mem ((c.tc : Thread Cert.OutMlpRefIdeal.nD Cert.OutMlpRefIdeal.τ).loc Cert.OutMlpRefIdeal.main_arg7) = m' ((c.tc : Thread Cert.OutMlpRefIdeal.nD Cert.OutMlpRefIdeal.τ).loc Cert.OutMlpRefIdeal.main_arg7)
          ∧ r.2.mem ((c.tc : Thread Cert.OutMlpRefIdeal.nD Cert.OutMlpRefIdeal.τ).loc Cert.OutMlpRefIdeal.main_arg8) = m' ((c.tc : Thread Cert.OutMlpRefIdeal.nD Cert.OutMlpRefIdeal.τ).loc Cert.OutMlpRefIdeal.main_arg8))

def preserves_MlpBack_MlpBackIdeal : Prop :=
  True

def algebraic_MlpBackIdeal_MlpBackRefIdeal [hMlpBackIdeal : Cert.MlpBackIdeal.Facts] [hMlpBackRefIdeal : Cert.MlpBackRefIdeal.Facts] : Prop :=
  ∀ (m : (ℓ : Loc Cert.MlpBackIdeal.nD Cert.MlpBackIdeal.τ Cert.MlpBackIdeal.sig) → Buf (Elt Ideal) ℓ) (g : Dev Cert.MlpBackIdeal.nD → PrngReg)
    (m' : (ℓ : Loc Cert.MlpBackRefIdeal.nD Cert.MlpBackRefIdeal.τ Cert.MlpBackRefIdeal.sig) → Buf (Elt Ideal) ℓ) (g' : Dev Cert.MlpBackRefIdeal.nD → PrngReg), Pre_MlpBackIdeal m →
    (∀ c : Dev Cert.MlpBackIdeal.nD,
      m' ((c.tc : Thread Cert.MlpBackRefIdeal.nD Cert.MlpBackRefIdeal.τ).loc Cert.MlpBackRefIdeal.main_arg0) = m ((c.tc : Thread Cert.MlpBackIdeal.nD Cert.MlpBackIdeal.τ).loc Cert.MlpBackIdeal.main_arg0)
      ∧ m' ((c.tc : Thread Cert.MlpBackRefIdeal.nD Cert.MlpBackRefIdeal.τ).loc Cert.MlpBackRefIdeal.main_arg1) = m ((c.tc : Thread Cert.MlpBackIdeal.nD Cert.MlpBackIdeal.τ).loc Cert.MlpBackIdeal.main_arg1)
      ∧ m' ((c.tc : Thread Cert.MlpBackRefIdeal.nD Cert.MlpBackRefIdeal.τ).loc Cert.MlpBackRefIdeal.main_arg2) = m ((c.tc : Thread Cert.MlpBackIdeal.nD Cert.MlpBackIdeal.τ).loc Cert.MlpBackIdeal.main_arg2)
      ∧ m' ((c.tc : Thread Cert.MlpBackRefIdeal.nD Cert.MlpBackRefIdeal.τ).loc Cert.MlpBackRefIdeal.main_arg3) = m ((c.tc : Thread Cert.MlpBackIdeal.nD Cert.MlpBackIdeal.τ).loc Cert.MlpBackIdeal.main_arg3)
      ∧ m' ((c.tc : Thread Cert.MlpBackRefIdeal.nD Cert.MlpBackRefIdeal.τ).loc Cert.MlpBackRefIdeal.main_arg4) = m ((c.tc : Thread Cert.MlpBackIdeal.nD Cert.MlpBackIdeal.τ).loc Cert.MlpBackIdeal.main_arg4)) →
    ∃ (v0 : (c : Dev Cert.MlpBackIdeal.nD) → Buf (Elt Ideal) ((c.tc : Thread Cert.MlpBackIdeal.nD Cert.MlpBackIdeal.τ).loc Cert.MlpBackIdeal.main_v20_0)) (v1 : (c : Dev Cert.MlpBackIdeal.nD) → Buf (Elt Ideal) ((c.tc : Thread Cert.MlpBackIdeal.nD Cert.MlpBackIdeal.τ).loc Cert.MlpBackIdeal.main_v20_1)) (v2 : (c : Dev Cert.MlpBackIdeal.nD) → Buf (Elt Ideal) ((c.tc : Thread Cert.MlpBackIdeal.nD Cert.MlpBackIdeal.τ).loc Cert.MlpBackIdeal.main_v20_2)) (v3 : (c : Dev Cert.MlpBackIdeal.nD) → Buf (Elt Ideal) ((c.tc : Thread Cert.MlpBackIdeal.nD Cert.MlpBackIdeal.τ).loc Cert.MlpBackIdeal.main_v20_3)),
      θ_run (Cert.MlpBackIdeal.defs (F := Ideal)) (onTc (τ := Cert.MlpBackIdeal.τ) (Cert.MlpBackIdeal.main (F := Ideal))) ⟨m, fun _ => 0, g⟩ (fun r => ∀ c : Dev Cert.MlpBackIdeal.nD,
          r.2.mem ((c.tc : Thread Cert.MlpBackIdeal.nD Cert.MlpBackIdeal.τ).loc Cert.MlpBackIdeal.main_v20_0) = v0 c
          ∧ r.2.mem ((c.tc : Thread Cert.MlpBackIdeal.nD Cert.MlpBackIdeal.τ).loc Cert.MlpBackIdeal.main_v20_1) = v1 c
          ∧ r.2.mem ((c.tc : Thread Cert.MlpBackIdeal.nD Cert.MlpBackIdeal.τ).loc Cert.MlpBackIdeal.main_v20_2) = v2 c
          ∧ r.2.mem ((c.tc : Thread Cert.MlpBackIdeal.nD Cert.MlpBackIdeal.τ).loc Cert.MlpBackIdeal.main_v20_3) = v3 c
          ∧ r.2.mem ((c.tc : Thread Cert.MlpBackIdeal.nD Cert.MlpBackIdeal.τ).loc Cert.MlpBackIdeal.main_arg0) = m ((c.tc : Thread Cert.MlpBackIdeal.nD Cert.MlpBackIdeal.τ).loc Cert.MlpBackIdeal.main_arg0)
          ∧ r.2.mem ((c.tc : Thread Cert.MlpBackIdeal.nD Cert.MlpBackIdeal.τ).loc Cert.MlpBackIdeal.main_arg1) = m ((c.tc : Thread Cert.MlpBackIdeal.nD Cert.MlpBackIdeal.τ).loc Cert.MlpBackIdeal.main_arg1)
          ∧ r.2.mem ((c.tc : Thread Cert.MlpBackIdeal.nD Cert.MlpBackIdeal.τ).loc Cert.MlpBackIdeal.main_arg2) = m ((c.tc : Thread Cert.MlpBackIdeal.nD Cert.MlpBackIdeal.τ).loc Cert.MlpBackIdeal.main_arg2)
          ∧ r.2.mem ((c.tc : Thread Cert.MlpBackIdeal.nD Cert.MlpBackIdeal.τ).loc Cert.MlpBackIdeal.main_arg3) = m ((c.tc : Thread Cert.MlpBackIdeal.nD Cert.MlpBackIdeal.τ).loc Cert.MlpBackIdeal.main_arg3)
          ∧ r.2.mem ((c.tc : Thread Cert.MlpBackIdeal.nD Cert.MlpBackIdeal.τ).loc Cert.MlpBackIdeal.main_arg4) = m ((c.tc : Thread Cert.MlpBackIdeal.nD Cert.MlpBackIdeal.τ).loc Cert.MlpBackIdeal.main_arg4))
      ∧ θ_run (Cert.MlpBackRefIdeal.defs (F := Ideal)) (onTc (τ := Cert.MlpBackRefIdeal.τ) (Cert.MlpBackRefIdeal.main (F := Ideal))) ⟨m', fun _ => 0, g'⟩ (fun r => ∀ c : Dev Cert.MlpBackRefIdeal.nD,
          r.2.mem ((c.tc : Thread Cert.MlpBackRefIdeal.nD Cert.MlpBackRefIdeal.τ).loc Cert.MlpBackRefIdeal.main_v76) = v0 c
          ∧ r.2.mem ((c.tc : Thread Cert.MlpBackRefIdeal.nD Cert.MlpBackRefIdeal.τ).loc Cert.MlpBackRefIdeal.main_v75) = v1 c
          ∧ r.2.mem ((c.tc : Thread Cert.MlpBackRefIdeal.nD Cert.MlpBackRefIdeal.τ).loc Cert.MlpBackRefIdeal.main_v58) = v2 c
          ∧ r.2.mem ((c.tc : Thread Cert.MlpBackRefIdeal.nD Cert.MlpBackRefIdeal.τ).loc Cert.MlpBackRefIdeal.main_v77) = v3 c
          ∧ r.2.mem ((c.tc : Thread Cert.MlpBackRefIdeal.nD Cert.MlpBackRefIdeal.τ).loc Cert.MlpBackRefIdeal.main_arg0) = m' ((c.tc : Thread Cert.MlpBackRefIdeal.nD Cert.MlpBackRefIdeal.τ).loc Cert.MlpBackRefIdeal.main_arg0)
          ∧ r.2.mem ((c.tc : Thread Cert.MlpBackRefIdeal.nD Cert.MlpBackRefIdeal.τ).loc Cert.MlpBackRefIdeal.main_arg1) = m' ((c.tc : Thread Cert.MlpBackRefIdeal.nD Cert.MlpBackRefIdeal.τ).loc Cert.MlpBackRefIdeal.main_arg1)
          ∧ r.2.mem ((c.tc : Thread Cert.MlpBackRefIdeal.nD Cert.MlpBackRefIdeal.τ).loc Cert.MlpBackRefIdeal.main_arg2) = m' ((c.tc : Thread Cert.MlpBackRefIdeal.nD Cert.MlpBackRefIdeal.τ).loc Cert.MlpBackRefIdeal.main_arg2)
          ∧ r.2.mem ((c.tc : Thread Cert.MlpBackRefIdeal.nD Cert.MlpBackRefIdeal.τ).loc Cert.MlpBackRefIdeal.main_arg3) = m' ((c.tc : Thread Cert.MlpBackRefIdeal.nD Cert.MlpBackRefIdeal.τ).loc Cert.MlpBackRefIdeal.main_arg3)
          ∧ r.2.mem ((c.tc : Thread Cert.MlpBackRefIdeal.nD Cert.MlpBackRefIdeal.τ).loc Cert.MlpBackRefIdeal.main_arg4) = m' ((c.tc : Thread Cert.MlpBackRefIdeal.nD Cert.MlpBackRefIdeal.τ).loc Cert.MlpBackRefIdeal.main_arg4))

def preserves_MlpGrad_MlpGradIdeal : Prop :=
  True

def algebraic_MlpGradIdeal_MlpGradRefIdeal [hMlpGradIdeal : Cert.MlpGradIdeal.Facts] [hMlpGradRefIdeal : Cert.MlpGradRefIdeal.Facts] : Prop :=
  ∀ (m : (ℓ : Loc Cert.MlpGradIdeal.nD Cert.MlpGradIdeal.τ Cert.MlpGradIdeal.sig) → Buf (Elt Ideal) ℓ) (g : Dev Cert.MlpGradIdeal.nD → PrngReg)
    (m' : (ℓ : Loc Cert.MlpGradRefIdeal.nD Cert.MlpGradRefIdeal.τ Cert.MlpGradRefIdeal.sig) → Buf (Elt Ideal) ℓ) (g' : Dev Cert.MlpGradRefIdeal.nD → PrngReg), Pre_MlpGradIdeal m →
    (∀ c : Dev Cert.MlpGradIdeal.nD,
      m' ((c.tc : Thread Cert.MlpGradRefIdeal.nD Cert.MlpGradRefIdeal.τ).loc Cert.MlpGradRefIdeal.main_arg0) = m ((c.tc : Thread Cert.MlpGradIdeal.nD Cert.MlpGradIdeal.τ).loc Cert.MlpGradIdeal.main_arg0)
      ∧ m' ((c.tc : Thread Cert.MlpGradRefIdeal.nD Cert.MlpGradRefIdeal.τ).loc Cert.MlpGradRefIdeal.main_arg1) = m ((c.tc : Thread Cert.MlpGradIdeal.nD Cert.MlpGradIdeal.τ).loc Cert.MlpGradIdeal.main_arg1)
      ∧ m' ((c.tc : Thread Cert.MlpGradRefIdeal.nD Cert.MlpGradRefIdeal.τ).loc Cert.MlpGradRefIdeal.main_arg2) = m ((c.tc : Thread Cert.MlpGradIdeal.nD Cert.MlpGradIdeal.τ).loc Cert.MlpGradIdeal.main_arg2)
      ∧ m' ((c.tc : Thread Cert.MlpGradRefIdeal.nD Cert.MlpGradRefIdeal.τ).loc Cert.MlpGradRefIdeal.main_arg3) = m ((c.tc : Thread Cert.MlpGradIdeal.nD Cert.MlpGradIdeal.τ).loc Cert.MlpGradIdeal.main_arg3)
      ∧ m' ((c.tc : Thread Cert.MlpGradRefIdeal.nD Cert.MlpGradRefIdeal.τ).loc Cert.MlpGradRefIdeal.main_arg4) = m ((c.tc : Thread Cert.MlpGradIdeal.nD Cert.MlpGradIdeal.τ).loc Cert.MlpGradIdeal.main_arg4)) →
    ∃ (v0 : (c : Dev Cert.MlpGradIdeal.nD) → Buf (Elt Ideal) ((c.tc : Thread Cert.MlpGradIdeal.nD Cert.MlpGradIdeal.τ).loc Cert.MlpGradIdeal.main_v30_0)) (v1 : (c : Dev Cert.MlpGradIdeal.nD) → Buf (Elt Ideal) ((c.tc : Thread Cert.MlpGradIdeal.nD Cert.MlpGradIdeal.τ).loc Cert.MlpGradIdeal.main_v30_1)),
      θ_run (Cert.MlpGradIdeal.defs (F := Ideal)) (onTc (τ := Cert.MlpGradIdeal.τ) (Cert.MlpGradIdeal.main (F := Ideal))) ⟨m, fun _ => 0, g⟩ (fun r => ∀ c : Dev Cert.MlpGradIdeal.nD,
          r.2.mem ((c.tc : Thread Cert.MlpGradIdeal.nD Cert.MlpGradIdeal.τ).loc Cert.MlpGradIdeal.main_v30_0) = v0 c
          ∧ r.2.mem ((c.tc : Thread Cert.MlpGradIdeal.nD Cert.MlpGradIdeal.τ).loc Cert.MlpGradIdeal.main_v30_1) = v1 c
          ∧ r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
          ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
          ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2)
          ∧ r.2.mem ((c.tc : Thread Cert.MlpGradIdeal.nD Cert.MlpGradIdeal.τ).loc Cert.MlpGradIdeal.main_arg3) = m ((c.tc : Thread Cert.MlpGradIdeal.nD Cert.MlpGradIdeal.τ).loc Cert.MlpGradIdeal.main_arg3)
          ∧ r.2.mem ((c.tc : Thread Cert.MlpGradIdeal.nD Cert.MlpGradIdeal.τ).loc Cert.MlpGradIdeal.main_arg4) = m ((c.tc : Thread Cert.MlpGradIdeal.nD Cert.MlpGradIdeal.τ).loc Cert.MlpGradIdeal.main_arg4))
      ∧ θ_run (Cert.MlpGradRefIdeal.defs (F := Ideal)) (onTc (τ := Cert.MlpGradRefIdeal.τ) (Cert.MlpGradRefIdeal.main (F := Ideal))) ⟨m', fun _ => 0, g'⟩ (fun r => ∀ c : Dev Cert.MlpGradRefIdeal.nD,
          r.2.mem ((c.tc : Thread Cert.MlpGradRefIdeal.nD Cert.MlpGradRefIdeal.τ).loc Cert.MlpGradRefIdeal.main_v31) = v0 c
          ∧ r.2.mem ((c.tc : Thread Cert.MlpGradRefIdeal.nD Cert.MlpGradRefIdeal.τ).loc Cert.MlpGradRefIdeal.main_v34) = v1 c
          ∧ r.2.mem ((c.tc : Thread Cert.MlpGradRefIdeal.nD Cert.MlpGradRefIdeal.τ).loc Cert.MlpGradRefIdeal.main_arg0) = m' ((c.tc : Thread Cert.MlpGradRefIdeal.nD Cert.MlpGradRefIdeal.τ).loc Cert.MlpGradRefIdeal.main_arg0)
          ∧ r.2.mem ((c.tc : Thread Cert.MlpGradRefIdeal.nD Cert.MlpGradRefIdeal.τ).loc Cert.MlpGradRefIdeal.main_arg1) = m' ((c.tc : Thread Cert.MlpGradRefIdeal.nD Cert.MlpGradRefIdeal.τ).loc Cert.MlpGradRefIdeal.main_arg1)
          ∧ r.2.mem ((c.tc : Thread Cert.MlpGradRefIdeal.nD Cert.MlpGradRefIdeal.τ).loc Cert.MlpGradRefIdeal.main_arg2) = m' ((c.tc : Thread Cert.MlpGradRefIdeal.nD Cert.MlpGradRefIdeal.τ).loc Cert.MlpGradRefIdeal.main_arg2)
          ∧ r.2.mem ((c.tc : Thread Cert.MlpGradRefIdeal.nD Cert.MlpGradRefIdeal.τ).loc Cert.MlpGradRefIdeal.main_arg3) = m' ((c.tc : Thread Cert.MlpGradRefIdeal.nD Cert.MlpGradRefIdeal.τ).loc Cert.MlpGradRefIdeal.main_arg3)
          ∧ r.2.mem ((c.tc : Thread Cert.MlpGradRefIdeal.nD Cert.MlpGradRefIdeal.τ).loc Cert.MlpGradRefIdeal.main_arg4) = m' ((c.tc : Thread Cert.MlpGradRefIdeal.nD Cert.MlpGradRefIdeal.τ).loc Cert.MlpGradRefIdeal.main_arg4))

def preserves_OutBack_OutBackIdeal : Prop :=
  True

def algebraic_OutBackIdeal_OutBackRefIdeal [hOutBackIdeal : Cert.OutBackIdeal.Facts] [hOutBackRefIdeal : Cert.OutBackRefIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackRefIdeal.nD Cert.OutBackRefIdeal.τ Cert.OutBackRefIdeal.sig) → Buf (Elt Ideal) ℓ) (g' : Dev Cert.OutBackRefIdeal.nD → PrngReg), Pre_OutBackIdeal m →
    (∀ c : Dev Cert.OutBackIdeal.nD,
      m' ((c.tc : Thread Cert.OutBackRefIdeal.nD Cert.OutBackRefIdeal.τ).loc Cert.OutBackRefIdeal.main_arg0) = m ((c.tc : Thread Cert.OutBackIdeal.nD Cert.OutBackIdeal.τ).loc Cert.OutBackIdeal.main_arg0)
      ∧ m' ((c.tc : Thread Cert.OutBackRefIdeal.nD Cert.OutBackRefIdeal.τ).loc Cert.OutBackRefIdeal.main_arg1) = m ((c.tc : Thread Cert.OutBackIdeal.nD Cert.OutBackIdeal.τ).loc Cert.OutBackIdeal.main_arg1)
      ∧ m' ((c.tc : Thread Cert.OutBackRefIdeal.nD Cert.OutBackRefIdeal.τ).loc Cert.OutBackRefIdeal.main_arg2) = m ((c.tc : Thread Cert.OutBackIdeal.nD Cert.OutBackIdeal.τ).loc Cert.OutBackIdeal.main_arg2)
      ∧ m' ((c.tc : Thread Cert.OutBackRefIdeal.nD Cert.OutBackRefIdeal.τ).loc Cert.OutBackRefIdeal.main_arg3) = m ((c.tc : Thread Cert.OutBackIdeal.nD Cert.OutBackIdeal.τ).loc Cert.OutBackIdeal.main_arg3)
      ∧ m' ((c.tc : Thread Cert.OutBackRefIdeal.nD Cert.OutBackRefIdeal.τ).loc Cert.OutBackRefIdeal.main_arg4) = m ((c.tc : Thread Cert.OutBackIdeal.nD Cert.OutBackIdeal.τ).loc Cert.OutBackIdeal.main_arg4)
      ∧ m' ((c.tc : Thread Cert.OutBackRefIdeal.nD Cert.OutBackRefIdeal.τ).loc Cert.OutBackRefIdeal.main_arg5) = m ((c.tc : Thread Cert.OutBackIdeal.nD Cert.OutBackIdeal.τ).loc Cert.OutBackIdeal.main_arg5)) →
    ∃ (v0 : (c : Dev Cert.OutBackIdeal.nD) → Buf (Elt Ideal) ((c.tc : Thread Cert.OutBackIdeal.nD Cert.OutBackIdeal.τ).loc Cert.OutBackIdeal.main_v27_0)) (v1 : (c : Dev Cert.OutBackIdeal.nD) → Buf (Elt Ideal) ((c.tc : Thread Cert.OutBackIdeal.nD Cert.OutBackIdeal.τ).loc Cert.OutBackIdeal.main_v27_1)) (v2 : (c : Dev Cert.OutBackIdeal.nD) → Buf (Elt Ideal) ((c.tc : Thread Cert.OutBackIdeal.nD Cert.OutBackIdeal.τ).loc Cert.OutBackIdeal.main_v27_2)) (v3 : (c : Dev Cert.OutBackIdeal.nD) → Buf (Elt Ideal) ((c.tc : Thread Cert.OutBackIdeal.nD Cert.OutBackIdeal.τ).loc Cert.OutBackIdeal.main_v27_3)) (v4 : (c : Dev Cert.OutBackIdeal.nD) → Buf (Elt Ideal) ((c.tc : Thread Cert.OutBackIdeal.nD Cert.OutBackIdeal.τ).loc Cert.OutBackIdeal.main_v27_4)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v27_0) = v0 c
          ∧ r.2.mem ((c.tc : Thread Cert.OutBackIdeal.nD Cert.OutBackIdeal.τ).loc Cert.OutBackIdeal.main_v27_1) = v1 c
          ∧ r.2.mem ((c.tc : Thread Cert.OutBackIdeal.nD Cert.OutBackIdeal.τ).loc Cert.OutBackIdeal.main_v27_2) = v2 c
          ∧ r.2.mem ((c.tc : Thread Cert.OutBackIdeal.nD Cert.OutBackIdeal.τ).loc Cert.OutBackIdeal.main_v27_3) = v3 c
          ∧ r.2.mem ((c.tc : Thread Cert.OutBackIdeal.nD Cert.OutBackIdeal.τ).loc Cert.OutBackIdeal.main_v27_4) = v4 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1)
          ∧ r.2.mem ((c.tc : Thread Cert.OutBackIdeal.nD Cert.OutBackIdeal.τ).loc Cert.OutBackIdeal.main_arg2) = m ((c.tc : Thread Cert.OutBackIdeal.nD Cert.OutBackIdeal.τ).loc Cert.OutBackIdeal.main_arg2)
          ∧ r.2.mem ((c.tc : Thread Cert.OutBackIdeal.nD Cert.OutBackIdeal.τ).loc Cert.OutBackIdeal.main_arg3) = m ((c.tc : Thread Cert.OutBackIdeal.nD Cert.OutBackIdeal.τ).loc Cert.OutBackIdeal.main_arg3)
          ∧ r.2.mem ((c.tc : Thread Cert.OutBackIdeal.nD Cert.OutBackIdeal.τ).loc Cert.OutBackIdeal.main_arg4) = m ((c.tc : Thread Cert.OutBackIdeal.nD Cert.OutBackIdeal.τ).loc Cert.OutBackIdeal.main_arg4)
          ∧ r.2.mem ((c.tc : Thread Cert.OutBackIdeal.nD Cert.OutBackIdeal.τ).loc Cert.OutBackIdeal.main_arg5) = m ((c.tc : Thread Cert.OutBackIdeal.nD Cert.OutBackIdeal.τ).loc Cert.OutBackIdeal.main_arg5))
      ∧ θ_run (Cert.OutBackRefIdeal.defs (F := Ideal)) (onTc (τ := Cert.OutBackRefIdeal.τ) (Cert.OutBackRefIdeal.main (F := Ideal))) ⟨m', fun _ => 0, g'⟩ (fun r => ∀ c : Dev Cert.OutBackRefIdeal.nD,
          r.2.mem ((c.tc : Thread Cert.OutBackRefIdeal.nD Cert.OutBackRefIdeal.τ).loc Cert.OutBackRefIdeal.main_v74) = v0 c
          ∧ r.2.mem ((c.tc : Thread Cert.OutBackRefIdeal.nD Cert.OutBackRefIdeal.τ).loc Cert.OutBackRefIdeal.main_v55) = v1 c
          ∧ r.2.mem ((c.tc : Thread Cert.OutBackRefIdeal.nD Cert.OutBackRefIdeal.τ).loc Cert.OutBackRefIdeal.main_v58) = v2 c
          ∧ r.2.mem ((c.tc : Thread Cert.OutBackRefIdeal.nD Cert.OutBackRefIdeal.τ).loc Cert.OutBackRefIdeal.main_v39) = v3 c
          ∧ r.2.mem ((c.tc : Thread Cert.OutBackRefIdeal.nD Cert.OutBackRefIdeal.τ).loc Cert.OutBackRefIdeal.main_v75) = v4 c
          ∧ r.2.mem ((c.tc : Thread Cert.OutBackRefIdeal.nD Cert.OutBackRefIdeal.τ).loc Cert.OutBackRefIdeal.main_arg0) = m' ((c.tc : Thread Cert.OutBackRefIdeal.nD Cert.OutBackRefIdeal.τ).loc Cert.OutBackRefIdeal.main_arg0)
          ∧ r.2.mem ((c.tc : Thread Cert.OutBackRefIdeal.nD Cert.OutBackRefIdeal.τ).loc Cert.OutBackRefIdeal.main_arg1) = m' ((c.tc : Thread Cert.OutBackRefIdeal.nD Cert.OutBackRefIdeal.τ).loc Cert.OutBackRefIdeal.main_arg1)
          ∧ r.2.mem ((c.tc : Thread Cert.OutBackRefIdeal.nD Cert.OutBackRefIdeal.τ).loc Cert.OutBackRefIdeal.main_arg2) = m' ((c.tc : Thread Cert.OutBackRefIdeal.nD Cert.OutBackRefIdeal.τ).loc Cert.OutBackRefIdeal.main_arg2)
          ∧ r.2.mem ((c.tc : Thread Cert.OutBackRefIdeal.nD Cert.OutBackRefIdeal.τ).loc Cert.OutBackRefIdeal.main_arg3) = m' ((c.tc : Thread Cert.OutBackRefIdeal.nD Cert.OutBackRefIdeal.τ).loc Cert.OutBackRefIdeal.main_arg3)
          ∧ r.2.mem ((c.tc : Thread Cert.OutBackRefIdeal.nD Cert.OutBackRefIdeal.τ).loc Cert.OutBackRefIdeal.main_arg4) = m' ((c.tc : Thread Cert.OutBackRefIdeal.nD Cert.OutBackRefIdeal.τ).loc Cert.OutBackRefIdeal.main_arg4)
          ∧ r.2.mem ((c.tc : Thread Cert.OutBackRefIdeal.nD Cert.OutBackRefIdeal.τ).loc Cert.OutBackRefIdeal.main_arg5) = m' ((c.tc : Thread Cert.OutBackRefIdeal.nD Cert.OutBackRefIdeal.τ).loc Cert.OutBackRefIdeal.main_arg5))

def Claim : Prop :=
  ∃ (hKernel : Cert.Kernel.Facts) (hKernelIdeal : Cert.KernelIdeal.Facts) (hReferenceIdeal : Cert.ReferenceIdeal.Facts) (hAttnFwd : Cert.AttnFwd.Facts) (hAttnFwdIdeal : Cert.AttnFwdIdeal.Facts) (hAttnFwdRefIdeal : Cert.AttnFwdRefIdeal.Facts) (hIn : Cert.In.Facts) (hInIdeal : Cert.InIdeal.Facts) (hInRefIdeal : Cert.InRefIdeal.Facts) (hInBack : Cert.InBack.Facts) (hInBackIdeal : Cert.InBackIdeal.Facts) (hInBackRefIdeal : Cert.InBackRefIdeal.Facts) (hInGrad : Cert.InGrad.Facts) (hInGradIdeal : Cert.InGradIdeal.Facts) (hInGradRefIdeal : Cert.InGradRefIdeal.Facts) (hOutMlp : Cert.OutMlp.Facts) (hOutMlpIdeal : Cert.OutMlpIdeal.Facts) (hOutMlpRefIdeal : Cert.OutMlpRefIdeal.Facts) (hMlpBack : Cert.MlpBack.Facts) (hMlpBackIdeal : Cert.MlpBackIdeal.Facts) (hMlpBackRefIdeal : Cert.MlpBackRefIdeal.Facts) (hMlpGrad : Cert.MlpGrad.Facts) (hMlpGradIdeal : Cert.MlpGradIdeal.Facts) (hMlpGradRefIdeal : Cert.MlpGradRefIdeal.Facts) (hOutBack : Cert.OutBack.Facts) (hOutBackIdeal : Cert.OutBackIdeal.Facts) (hOutBackRefIdeal : Cert.OutBackRefIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnFwd (hAttnFwd := hAttnFwd)
    ∧ quiescent_AttnFwdIdeal (hAttnFwdIdeal := hAttnFwdIdeal)
    ∧ quiescent_AttnFwdIdeal_pre_finite_fwd (hAttnFwdIdeal := hAttnFwdIdeal) (hPre_finite_fwd := hPre_finite_fwd)
    ∧ quiescent_AttnFwdRefIdeal (hAttnFwdRefIdeal := hAttnFwdRefIdeal)
    ∧ quiescent_AttnFwdRefIdeal_pre_finite_fwd (hAttnFwdRefIdeal := hAttnFwdRefIdeal) (hPre_finite_fwd := hPre_finite_fwd)
    ∧ quiescent_In (hIn := hIn)
    ∧ quiescent_InIdeal (hInIdeal := hInIdeal)
    ∧ quiescent_InRefIdeal (hInRefIdeal := hInRefIdeal)
    ∧ quiescent_InBack (hInBack := hInBack)
    ∧ quiescent_InBackIdeal (hInBackIdeal := hInBackIdeal)
    ∧ quiescent_InBackRefIdeal (hInBackRefIdeal := hInBackRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_OutMlp (hOutMlp := hOutMlp)
    ∧ quiescent_OutMlpIdeal (hOutMlpIdeal := hOutMlpIdeal)
    ∧ quiescent_OutMlpRefIdeal (hOutMlpRefIdeal := hOutMlpRefIdeal)
    ∧ quiescent_MlpBack (hMlpBack := hMlpBack)
    ∧ quiescent_MlpBackIdeal (hMlpBackIdeal := hMlpBackIdeal)
    ∧ quiescent_MlpBackRefIdeal (hMlpBackRefIdeal := hMlpBackRefIdeal)
    ∧ quiescent_MlpGrad (hMlpGrad := hMlpGrad)
    ∧ quiescent_MlpGradIdeal (hMlpGradIdeal := hMlpGradIdeal)
    ∧ quiescent_MlpGradRefIdeal (hMlpGradRefIdeal := hMlpGradRefIdeal)
    ∧ quiescent_OutBack (hOutBack := hOutBack)
    ∧ quiescent_OutBackIdeal (hOutBackIdeal := hOutBackIdeal)
    ∧ quiescent_OutBackRefIdeal (hOutBackRefIdeal := hOutBackRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_AttnFwd_AttnFwdIdeal
    ∧ algebraic_AttnFwdIdeal_AttnFwdRefIdeal_pre_finite_fwd (hAttnFwdIdeal := hAttnFwdIdeal) (hAttnFwdRefIdeal := hAttnFwdRefIdeal) (hPre_finite_fwd := hPre_finite_fwd)
    ∧ preserves_In_InIdeal
    ∧ algebraic_InIdeal_InRefIdeal (hInIdeal := hInIdeal) (hInRefIdeal := hInRefIdeal)
    ∧ preserves_InBack_InBackIdeal
    ∧ algebraic_InBackIdeal_InBackRefIdeal (hInBackIdeal := hInBackIdeal) (hInBackRefIdeal := hInBackRefIdeal)
    ∧ preserves_InGrad_InGradIdeal
    ∧ algebraic_InGradIdeal_InGradRefIdeal (hInGradIdeal := hInGradIdeal) (hInGradRefIdeal := hInGradRefIdeal)
    ∧ preserves_OutMlp_OutMlpIdeal
    ∧ algebraic_OutMlpIdeal_OutMlpRefIdeal (hOutMlpIdeal := hOutMlpIdeal) (hOutMlpRefIdeal := hOutMlpRefIdeal)
    ∧ preserves_MlpBack_MlpBackIdeal
    ∧ algebraic_MlpBackIdeal_MlpBackRefIdeal (hMlpBackIdeal := hMlpBackIdeal) (hMlpBackRefIdeal := hMlpBackRefIdeal)
    ∧ preserves_MlpGrad_MlpGradIdeal
    ∧ algebraic_MlpGradIdeal_MlpGradRefIdeal (hMlpGradIdeal := hMlpGradIdeal) (hMlpGradRefIdeal := hMlpGradRefIdeal)
    ∧ preserves_OutBack_OutBackIdeal
    ∧ algebraic_OutBackIdeal_OutBackRefIdeal (hOutBackIdeal := hOutBackIdeal) (hOutBackRefIdeal := hOutBackRefIdeal)
-- ==== Pre_finite.lean ====
abbrev S2176x1536 : Shape := ⟨2, ![2176, 1536]⟩
abbrev S2176x8 : Shape := ⟨2, ![2176, 8]⟩
abbrev S2176x512 : Shape := ⟨2, ![2176, 512]⟩
abbrev S_ : Shape := ⟨0, ![]⟩

class Facts : Prop where
  bitsLt_bf16_f32 : FTy.bits .bf16 < FTy.bits .f32
  bcast_S_S2176x1536 : S_.BroadcastsInDim S2176x1536 (![] : Fin 0 → Fin S2176x1536.rank)
  reducesTo_S2176x1536_S_d0_1 : S2176x1536.ReducesTo [0, 1] S_
  h_S_ : 0 < S_.numel
  bcast_S_S2176x8 : S_.BroadcastsInDim S2176x8 (![] : Fin 0 → Fin S2176x8.rank)
  reducesTo_S2176x8_S_d0_1 : S2176x8.ReducesTo [0, 1] S_
  bcast_S_S2176x512 : S_.BroadcastsInDim S2176x512 (![] : Fin 0 → Fin S2176x512.rank)
  reducesTo_S2176x512_S_d0_1 : S2176x512.ReducesTo [0, 1] S_

variable [Facts]

def fn {F : FTy → Type} [FloatOps F] (main_arg0 : FVec F S2176x1536 .bf16) (main_arg1 : FVec F S2176x8 .f32) (main_arg2 : FVec F S2176x512 .f32) : IVec S_ 1 :=
  let main_v0 : FVec F S2176x1536 .f32 := (extf .f32 · bitsLt_bf16_f32) main_arg0
  let main_v1 : FVec F S2176x1536 .f32 := Host.absf main_v0
  let main_cst : FVec F S_ .f32 := constant S_ .f32 0x7F800000#32
  let main_v2 : FVec F S2176x1536 .f32 := broadcastInDim S2176x1536 ![] bcast_S_S2176x1536 main_cst
  let main_v3 : IVec S2176x1536 1 := cmpf .olt main_v1 main_v2
  let main_c : IVec S_ 1 := constantI S_ 1 1#1
  let main_v4 : IVec S_ 1 := (fun x v => Host.reduce IntOp.andi x v reducesTo_S2176x1536_S_d0_1 h_S_) main_v3 main_c
  let main_v5 : FVec F S2176x8 .f32 := Host.absf main_arg1
  let main_cst_0 : FVec F S_ .f32 := constant S_ .f32 0x7F800000#32
  let main_v6 : FVec F S2176x8 .f32 := broadcastInDim S2176x8 ![] bcast_S_S2176x8 main_cst_0
  let main_v7 : IVec S2176x8 1 := cmpf .olt main_v5 main_v6
  let main_c_1 : IVec S_ 1 := constantI S_ 1 1#1
  let main_v8 : IVec S_ 1 := (fun x v => Host.reduce IntOp.andi x v reducesTo_S2176x8_S_d0_1 h_S_) main_v7 main_c_1
  let main_v9 : IVec S_ 1 := andi main_v4 main_v8
  let main_v10 : FVec F S2176x512 .f32 := Host.absf main_arg2
  let main_cst_2 : FVec F S_ .f32 := constant S_ .f32 0x7F800000#32
  let main_v11 : FVec F S2176x512 .f32 := broadcastInDim S2176x512 ![] bcast_S_S2176x512 main_cst_2
  let main_v12 : IVec S2176x512 1 := cmpf .olt main_v10 main_v11
  let main_c_3 : IVec S_ 1 := constantI S_ 1 1#1
  let main_v13 : IVec S_ 1 := (fun x v => Host.reduce IntOp.andi x v reducesTo_S2176x512_S_d0_1 h_S_) main_v12 main_c_3
  let main_v14 : IVec S_ 1 := andi main_v9 main_v13
  main_v14
-- ==== Pre_finite_fwd.lean ====
abbrev S2176x1536 : Shape := ⟨2, ![2176, 1536]⟩
abbrev S2176x8 : Shape := ⟨2, ![2176, 8]⟩
abbrev S_ : Shape := ⟨0, ![]⟩

class Facts : Prop where
  bitsLt_bf16_f32 : FTy.bits .bf16 < FTy.bits .f32
  bcast_S_S2176x1536 : S_.BroadcastsInDim S2176x1536 (![] : Fin 0 → Fin S2176x1536.rank)
  reducesTo_S2176x1536_S_d0_1 : S2176x1536.ReducesTo [0, 1] S_
  h_S_ : 0 < S_.numel
  bcast_S_S2176x8 : S_.BroadcastsInDim S2176x8 (![] : Fin 0 → Fin S2176x8.rank)
  reducesTo_S2176x8_S_d0_1 : S2176x8.ReducesTo [0, 1] S_

variable [Facts]

def fn {F : FTy → Type} [FloatOps F] (main_arg0 : FVec F S2176x1536 .bf16) (main_arg1 : FVec F S2176x8 .f32) : IVec S_ 1 :=
  let main_v0 : FVec F S2176x1536 .f32 := (extf .f32 · bitsLt_bf16_f32) main_arg0
  let main_v1 : FVec F S2176x1536 .f32 := Host.absf main_v0
  let main_cst : FVec F S_ .f32 := constant S_ .f32 0x7F800000#32
  let main_v2 : FVec F S2176x1536 .f32 := broadcastInDim S2176x1536 ![] bcast_S_S2176x1536 main_cst
  let main_v3 : IVec S2176x1536 1 := cmpf .olt main_v1 main_v2
  let main_c : IVec S_ 1 := constantI S_ 1 1#1
  let main_v4 : IVec S_ 1 := (fun x v => Host.reduce IntOp.andi x v reducesTo_S2176x1536_S_d0_1 h_S_) main_v3 main_c
  let main_v5 : FVec F S2176x8 .f32 := Host.absf main_arg1
  let main_cst_0 : FVec F S_ .f32 := constant S_ .f32 0x7F800000#32
  let main_v6 : FVec F S2176x8 .f32 := broadcastInDim S2176x8 ![] bcast_S_S2176x8 main_cst_0
  let main_v7 : IVec S2176x8 1 := cmpf .olt main_v5 main_v6
  let main_c_1 : IVec S_ 1 := constantI S_ 1 1#1
  let main_v8 : IVec S_ 1 := (fun x v => Host.reduce IntOp.andi x v reducesTo_S2176x8_S_d0_1 h_S_) main_v7 main_c_1
  let main_v9 : IVec S_ 1 := andi main_v4 main_v8
  main_v9
-- ==== Kernel.lean ====
abbrev S2176x1536 : Shape := ⟨2, ![2176, 1536]⟩
abbrev S2176x8 : Shape := ⟨2, ![2176, 8]⟩
abbrev S2176x512 : Shape := ⟨2, ![2176, 512]⟩
abbrev S_ : Shape := ⟨0, ![]⟩
abbrev S2176x128 : Shape := ⟨2, ![2176, 128]⟩
abbrev S8x2176 : Shape := ⟨2, ![8, 2176]⟩
abbrev S2176x8x64 : Shape := ⟨3, ![2176, 8, 64]⟩
abbrev S8x2176x2176 : Shape := ⟨3, ![8, 2176, 2176]⟩
abbrev S8x2176x1 : Shape := ⟨3, ![8, 2176, 1]⟩
abbrev S8x1x2176 : Shape := ⟨3, ![8, 1, 2176]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S1x2176x2176 : Shape := ⟨3, ![1, 2176, 2176]⟩
abbrev S8x64x2176 : Shape := ⟨3, ![8, 64, 2176]⟩
abbrev S4x2x2176 : Shape := ⟨3, ![4, 2, 2176]⟩
abbrev S4x8x2176 : Shape := ⟨3, ![4, 8, 2176]⟩
abbrev S1x8x2176 : Shape := ⟨3, ![1, 8, 2176]⟩
abbrev S128x2176 : Shape := ⟨2, ![128, 2176]⟩
abbrev S512x512 : Shape := ⟨2, ![512, 512]⟩
abbrev S512x128 : Shape := ⟨2, ![512, 128]⟩
abbrev S8x512 : Shape := ⟨2, ![8, 512]⟩
abbrev S512x64 : Shape := ⟨2, ![512, 64]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1x512 : Shape := ⟨3, ![1, 1, 512]⟩
abbrev S64x512 : Shape := ⟨2, ![64, 512]⟩
abbrev S1024x512 : Shape := ⟨2, ![1024, 512]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩
abbrev S64x1024 : Shape := ⟨2, ![64, 1024]⟩
abbrev S1536x512 : Shape := ⟨2, ![1536, 512]⟩
abbrev S1536x128 : Shape := ⟨2, ![1536, 128]⟩
abbrev S1536x64 : Shape := ⟨2, ![1536, 64]⟩
abbrev S1536 : Shape := ⟨1, ![1536]⟩
abbrev S1536x1 : Shape := ⟨2, ![1536, 1]⟩
abbrev S64x1536 : Shape := ⟨2, ![64, 1536]⟩
abbrev S2048x512 : Shape := ⟨2, ![2048, 512]⟩
abbrev S2048x128 : Shape := ⟨2, ![2048, 128]⟩
abbrev S2048x64 : Shape := ⟨2, ![2048, 64]⟩
abbrev S2048 : Shape := ⟨1, ![2048]⟩
abbrev S2048x1 : Shape := ⟨2, ![2048, 1]⟩
abbrev S64x2048 : Shape := ⟨2, ![64, 2048]⟩
abbrev S8x128 : Shape := ⟨2, ![8, 128]⟩
abbrev S128x64 : Shape := ⟨2, ![128, 64]⟩
abbrev S2176x64 : Shape := ⟨2, ![2176, 64]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S1x1x128 : Shape := ⟨3, ![1, 1, 128]⟩
abbrev S64x2176 : Shape := ⟨2, ![64, 2176]⟩
abbrev S64x128 : Shape := ⟨2, ![64, 128]⟩

abbrev nBuf : Space → Nat
  | .hbm => 106
  | .vmem => 27
  | .smem => 0
  | _ => 0

abbrev bufTy : (tb : Table) → Fin (tcTables nBuf tb) → BufTy
  | .hbm, ⟨0, _⟩ => ⟨S2176x1536, .bf16⟩
  | .hbm, ⟨1, _⟩ => ⟨S2176x8, .f32⟩
  | .hbm, ⟨2, _⟩ => ⟨S2176x512, .f32⟩
  | .hbm, ⟨3, _⟩ => ⟨S_, .f32⟩
  | .hbm, ⟨4, _⟩ => ⟨S_, .f32⟩
  | .hbm, ⟨5, _⟩ => ⟨S2176x8, .f32⟩
  | .hbm, ⟨6, _⟩ => ⟨S_, .i32⟩
  | .hbm, ⟨7, _⟩ => ⟨S_, .f32⟩
  | .hbm, ⟨8, _⟩ => ⟨S2176x128, .f32⟩
  | .hbm, ⟨9, _⟩ => ⟨S8x2176, .f32⟩
  | .hbm, ⟨10, _⟩ => ⟨S2176x1536, .f32⟩
  | .hbm, ⟨11, _⟩ => ⟨S2176x512, .f32⟩
  | .hbm, ⟨12, _⟩ => ⟨S2176x512, .f32⟩
  | .hbm, ⟨13, _⟩ => ⟨S2176x512, .f32⟩
  | .hbm, ⟨14, _⟩ => ⟨S2176x8x64, .f32⟩
  | .hbm, ⟨15, _⟩ => ⟨S2176x8x64, .f32⟩
  | .hbm, ⟨16, _⟩ => ⟨S8x2176x2176, .f32⟩
  | .hbm, ⟨17, _⟩ => ⟨S_, .f32⟩
  | .hbm, ⟨18, _⟩ => ⟨S8x2176x2176, .f32⟩
  | .hbm, ⟨19, _⟩ => ⟨S8x2176x2176, .f32⟩
  | .hbm, ⟨20, _⟩ => ⟨S8x2176, .f32⟩
  | .hbm, ⟨21, _⟩ => ⟨S8x2176x1, .f32⟩
  | .hbm, ⟨22, _⟩ => ⟨S8x2176, .f32⟩
  | .hbm, ⟨23, _⟩ => ⟨S8x1x2176, .f32⟩
  | .hbm, ⟨24, _⟩ => ⟨S8x2176x2176, .f32⟩
  | .hbm, ⟨25, _⟩ => ⟨S8x2176x2176, .f32⟩
  | .hbm, ⟨26, _⟩ => ⟨S8x2176x2176, .f32⟩
  | .hbm, ⟨27, _⟩ => ⟨S2176, .i32⟩
  | .hbm, ⟨28, _⟩ => ⟨S2176x1, .i32⟩
  | .hbm, ⟨29, _⟩ => ⟨S2176, .i32⟩
  | .hbm, ⟨30, _⟩ => ⟨S1x2176, .i32⟩
  | .hbm, ⟨31, _⟩ => ⟨S2176x2176, .i32⟩
  | .hbm, ⟨32, _⟩ => ⟨S2176x2176, .i32⟩
  | .hbm, ⟨33, _⟩ => ⟨S2176x2176, .i1⟩
  | .hbm, ⟨34, _⟩ => ⟨S1x2176x2176, .i1⟩
  | .hbm, ⟨35, _⟩ => ⟨S8x2176x2176, .f32⟩
  | .hbm, ⟨36, _⟩ => ⟨S_, .f32⟩
  | .hbm, ⟨37, _⟩ => ⟨S_, .f32⟩
  | .hbm, ⟨38, _⟩ => ⟨S8x2176x2176, .i1⟩
  | .hbm, ⟨39, _⟩ => ⟨S8x2176x2176, .f32⟩
  | .hbm, ⟨40, _⟩ => ⟨S8x2176x2176, .f32⟩
  | .hbm, ⟨41, _⟩ => ⟨S_, .f32⟩
  | .hbm, ⟨42, _⟩ => ⟨S8x2176, .f32⟩
  | .hbm, ⟨43, _⟩ => ⟨S_, .f32⟩
  | .hbm, ⟨44, _⟩ => ⟨S8x2176, .f32⟩
  | .hbm, ⟨45, _⟩ => ⟨S8x2176, .f32⟩
  | .hbm, ⟨46, _⟩ => ⟨S8x2176x1, .f32⟩
  | .hbm, ⟨47, _⟩ => ⟨S8x2176x2176, .f32⟩
  | .hbm, ⟨48, _⟩ => ⟨S8x2176x2176, .f32⟩
  | .hbm, ⟨49, _⟩ => ⟨S8x2176x2176, .f32⟩
  | .hbm, ⟨50, _⟩ => ⟨S_, .f32⟩
  | .hbm, ⟨51, _⟩ => ⟨S8x2176, .f32⟩
  | .hbm, ⟨52, _⟩ => ⟨S8x2176x1, .f32⟩
  | .hbm, ⟨53, _⟩ => ⟨S8x2176x2176, .f32⟩
  | .hbm, ⟨54, _⟩ => ⟨S8x2176x2176, .f32⟩
  | .hbm, ⟨55, _⟩ => ⟨S2176x8x64, .f32⟩
  | .hbm, ⟨56, _⟩ => ⟨S8x64x2176, .f32⟩
  | .hbm, ⟨57, _⟩ => ⟨S2176x8x64, .f32⟩
  | .hbm, ⟨58, _⟩ => ⟨S2176x512, .f32⟩
  | .hbm, ⟨59, _⟩ => ⟨S2176x8x64, .f32⟩
  | .hbm, ⟨60, _⟩ => ⟨S2176x8x64, .f32⟩
  | .hbm, ⟨61, _⟩ => ⟨S8x2176x2176, .f32⟩
  | .hbm, ⟨62, _⟩ => ⟨S_, .f32⟩
  | .hbm, ⟨63, _⟩ => ⟨S8x2176x2176, .f32⟩
  | .hbm, ⟨64, _⟩ => ⟨S8x2176x2176, .f32⟩
  | .hbm, ⟨65, _⟩ => ⟨S8x2176, .f32⟩
  | .hbm, ⟨66, _⟩ => ⟨S8x2176x1, .f32⟩
  | .hbm, ⟨67, _⟩ => ⟨S8x2176, .f32⟩
  | .hbm, ⟨68, _⟩ => ⟨S8x1x2176, .f32⟩
  | .hbm, ⟨69, _⟩ => ⟨S8x2176x2176, .f32⟩
  | .hbm, ⟨70, _⟩ => ⟨S8x2176x2176, .f32⟩
  | .hbm, ⟨71, _⟩ => ⟨S8x2176x2176, .f32⟩
  | .hbm, ⟨72, _⟩ => ⟨S2176, .i32⟩
  | .hbm, ⟨73, _⟩ => ⟨S2176x1, .i32⟩
  | .hbm, ⟨74, _⟩ => ⟨S2176, .i32⟩
  | .hbm, ⟨75, _⟩ => ⟨S1x2176, .i32⟩
  | .hbm, ⟨76, _⟩ => ⟨S2176x2176, .i32⟩
  | .hbm, ⟨77, _⟩ => ⟨S2176x2176, .i32⟩
  | .hbm, ⟨78, _⟩ => ⟨S2176x2176, .i1⟩
  | .hbm, ⟨79, _⟩ => ⟨S1x2176x2176, .i1⟩
  | .hbm, ⟨80, _⟩ => ⟨S8x2176x2176, .f32⟩
  | .hbm, ⟨81, _⟩ => ⟨S_, .f32⟩
  | .hbm, ⟨82, _⟩ => ⟨S_, .f32⟩
  | .hbm, ⟨83, _⟩ => ⟨S8x2176x2176, .i1⟩
  | .hbm, ⟨84, _⟩ => ⟨S8x2176x2176, .f32⟩
  | .hbm, ⟨85, _⟩ => ⟨S8x2176x2176, .f32⟩
  | .hbm, ⟨86, _⟩ => ⟨S_, .f32⟩
  | .hbm, ⟨87, _⟩ => ⟨S8x2176, .f32⟩
  | .hbm, ⟨88, _⟩ => ⟨S8x2176x1, .f32⟩
  | .hbm, ⟨89, _⟩ => ⟨S8x2176, .f32⟩
  | .hbm, ⟨90, _⟩ => ⟨S8x2176x2176, .f32⟩
  | .hbm, ⟨91, _⟩ => ⟨S8x2176x2176, .f32⟩
  | .hbm, ⟨92, _⟩ => ⟨S8x2176x2176, .f32⟩
  | .hbm, ⟨93, _⟩ => ⟨S_, .f32⟩
  | .hbm, ⟨94, _⟩ => ⟨S8x2176, .f32⟩
  | .hbm, ⟨95, _⟩ => ⟨S8x2176, .f32⟩
  | .hbm, ⟨96, _⟩ => ⟨S8x2176, .f32⟩
  | .hbm, ⟨97, _⟩ => ⟨S4x2x2176, .f32⟩
  | .hbm, ⟨98, _⟩ => ⟨S_, .i32⟩
  | .hbm, ⟨99, _⟩ => ⟨S_, .f32⟩
  | .hbm, ⟨100, _⟩ => ⟨S4x8x2176, .f32⟩
  | .hbm, ⟨101, _⟩ => ⟨S2176x512, .bf16⟩
  | .hbm, ⟨102, _⟩ => ⟨S2176x512, .bf16⟩
  | .hbm, ⟨103, _⟩ => ⟨S2176x512, .bf16⟩
  | .hbm, ⟨104, _⟩ => ⟨S4x8x2176, .f32⟩
  | .hbm, ⟨105, _⟩ => ⟨S2176x512, .f32⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | .local _ .vmem, ⟨10, _⟩ => ⟨S1x8x2176, .f32⟩
  | .local _ .vmem, ⟨11, _⟩ => ⟨S1x8x2176, .f32⟩
  | .local _ .vmem, ⟨12, _⟩ => ⟨S2176x128, .f32⟩
  | .local _ .vmem, ⟨13, _⟩ => ⟨S8x2176, .f32⟩
  | .local _ .vmem, ⟨14, _⟩ => ⟨S2176x128, .bf16⟩
  | .local _ .vmem, ⟨15, _⟩ => ⟨S2176x128, .bf16⟩
  | .local _ .vmem, ⟨16, _⟩ => ⟨S2176x128, .bf16⟩
  | .local _ .vmem, ⟨17, _⟩ => ⟨S2176x128, .bf16⟩
  | .local _ .vmem, ⟨18, _⟩ => ⟨S2176x128, .bf16⟩
  | .local _ .vmem, ⟨19, _⟩ => ⟨S2176x128, .bf16⟩
  | .local _ .vmem, ⟨20, _⟩ => ⟨S1x8x2176, .f32⟩
  | .local _ .vmem, ⟨21, _⟩ => ⟨S1x8x2176, .f32⟩
  | .local _ .vmem, ⟨22, _⟩ => ⟨S2176x128, .f32⟩
  | .local _ .vmem, ⟨23, _⟩ => ⟨S2176x128, .f32⟩
  | .local _ .vmem, ⟨24, _⟩ => ⟨S2176x128, .f32⟩
  | .local _ .vmem, ⟨25, _⟩ => ⟨S2176x128, .f32⟩
  | .local _ .vmem, ⟨26, _⟩ => ⟨S128x2176, .f32⟩
  | _, _ => ⟨S2176x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_cst : Ref sig .tc := ⟨.hbm, 3, rfl⟩
abbrev main_call0_call0_v0 : Ref sig .tc := ⟨.hbm, 4, rfl⟩
abbrev main_v0 : Ref sig .tc := ⟨.hbm, 5, rfl⟩
abbrev main_c : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_5 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v65 : Ref sig .tc := ⟨.hbm, 85, rfl⟩
abbrev main_cst_6 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_7 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_8 : Ref sig .tc := ⟨.hbm, 98, rfl⟩
abbrev main_call4_v0 : Ref sig .tc := ⟨.hbm, 99, rfl⟩
abbrev main_v76 : Ref sig .tc := ⟨.hbm, 100, rfl⟩
abbrev main_v77_0 : Ref sig .tc := ⟨.hbm, 101, rfl⟩
abbrev main_v77_1 : Ref sig .tc := ⟨.hbm, 102, rfl⟩
abbrev main_v77_2 : Ref sig .tc := ⟨.hbm, 103, rfl⟩
abbrev main_v77_3 : Ref sig .tc := ⟨.hbm, 104, rfl⟩
abbrev main_v77_4 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2176 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2176x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2176x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2176x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x2176 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2176x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2176x1536 : Shape := ⟨2, ![2176, 1536]⟩
abbrev S2176x8 : Shape := ⟨2, ![2176, 8]⟩
abbrev S2176x512 : Shape := ⟨2, ![2176, 512]⟩
abbrev S_ : Shape := ⟨0, ![]⟩
abbrev S2176x8x64 : Shape := ⟨3, ![2176, 8, 64]⟩
abbrev S8x2176x2176 : Shape := ⟨3, ![8, 2176, 2176]⟩
abbrev S8x2176 : Shape := ⟨2, ![8, 2176]⟩
abbrev S8x2176x1 : Shape := ⟨3, ![8, 2176, 1]⟩
abbrev S8x1x2176 : Shape := ⟨3, ![8, 1, 2176]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S1x2176x2176 : Shape := ⟨3, ![1, 2176, 2176]⟩
abbrev S8x64x2176 : Shape := ⟨3, ![8, 64, 2176]⟩
abbrev S8x2176x64 : Shape := ⟨3, ![8, 2176, 64]⟩
abbrev S4x2x2176 : Shape := ⟨3, ![4, 2, 2176]⟩
abbrev S4x8x2176 : Shape := ⟨3, ![4, 8, 2176]⟩

abbrev nBuf : Space → Nat
  | .hbm => 136
  | .vmem => 0
  | .smem => 0
  | _ => 0

abbrev hbmTy0_0 (i : Nat) : BufTy := match i % 128 with
  | 0 => ⟨S2176x1536, .bf16⟩
  | 1 => ⟨S2176x8, .f32⟩
  | 2 => ⟨S2176x512, .f32⟩
  | 3 => ⟨S2176x1536, .f32⟩
  | 4 => ⟨S2176x512, .f32⟩
  | 5 => ⟨S2176x512, .f32⟩
  | 6 => ⟨S2176x512, .f32⟩
  | 7 => ⟨S_, .f32⟩
  | 8 => ⟨S_, .f32⟩
  | 9 => ⟨S2176x8, .f32⟩
  | 10 => ⟨S2176x8x64, .f32⟩
  | 11 => ⟨S2176x8x64, .f32⟩
  | 12 => ⟨S8x2176x2176, .f32⟩
  | 13 => ⟨S_, .f32⟩
  | 14 => ⟨S8x2176x2176, .f32⟩
  | 15 => ⟨S8x2176x2176, .f32⟩
  | 16 => ⟨S8x2176, .f32⟩
  | 17 => ⟨S8x2176x1, .f32⟩
  | 18 => ⟨S8x2176, .f32⟩
  | 19 => ⟨S8x1x2176, .f32⟩
  | 20 => ⟨S8x2176x2176, .f32⟩
  | 21 => ⟨S8x2176x2176, .f32⟩
  | 22 => ⟨S8x2176x2176, .f32⟩
  | 23 => ⟨S2176, .i32⟩
  | 24 => ⟨S2176x1, .i32⟩
  | 25 => ⟨S2176, .i32⟩
  | 26 => ⟨S1x2176, .i32⟩
  | 27 => ⟨S2176x2176, .i32⟩
  | 28 => ⟨S2176x2176, .i32⟩
  | 29 => ⟨S2176x2176, .i1⟩
  | 30 => ⟨S1x2176x2176, .i1⟩
  | 31 => ⟨S8x2176x2176, .f32⟩
  | 32 => ⟨S_, .f32⟩
  | 33 => ⟨S_, .f32⟩
  | 34 => ⟨S8x2176x2176, .i1⟩
  | 35 => ⟨S8x2176x2176, .f32⟩
  | 36 => ⟨S8x2176x2176, .f32⟩
  | 37 => ⟨S_, .f32⟩
  | 38 => ⟨S8x2176x2176, .f32⟩
  | 39 => ⟨S_, .f32⟩
  | 40 => ⟨S8x2176, .f32⟩
  | 41 => ⟨S8x2176x1, .f32⟩
  | 42 => ⟨S8x2176x2176, .f32⟩
  | 43 => ⟨S8x2176x2176, .i1⟩
  | 44 => ⟨S8x2176x2176, .f32⟩
  | 45 => ⟨S_, .f32⟩
  | 46 => ⟨S8x2176, .f32⟩
  | 47 => ⟨S_, .f32⟩
  | 48 => ⟨S8x2176, .f32⟩
  | 49 => ⟨S8x2176, .f32⟩
  | 50 => ⟨S_, .f32⟩
  | 51 => ⟨S8x2176, .f32⟩
  | 52 => ⟨S8x2176, .i1⟩
  | 53 => ⟨S_, .f32⟩
  | 54 => ⟨S8x2176, .f32⟩
  | 55 => ⟨S8x2176, .i1⟩
  | 56 => ⟨S_, .f32⟩
  | 57 => ⟨S8x2176, .f32⟩
  | 58 => ⟨S_, .f32⟩
  | 59 => ⟨S8x2176, .f32⟩
  | 60 => ⟨S_, .f32⟩
  | 61 => ⟨S8x2176, .f32⟩
  | 62 => ⟨S8x2176, .f32⟩
  | 63 => ⟨S8x2176, .f32⟩
  | 64 => ⟨S8x2176x1, .f32⟩
  | 65 => ⟨S8x2176x2176, .f32⟩
  | 66 => ⟨S8x2176x2176, .f32⟩
  | 67 => ⟨S8x2176x2176, .f32⟩
  | 68 => ⟨S_, .f32⟩
  | 69 => ⟨S8x2176, .f32⟩
  | 70 => ⟨S8x2176x1, .f32⟩
  | 71 => ⟨S8x2176x2176, .f32⟩
  | 72 => ⟨S8x2176x2176, .f32⟩
  | 73 => ⟨S8x2176x1, .f32⟩
  | 74 => ⟨S_, .f32⟩
  | 75 => ⟨S8x2176x1, .f32⟩
  | 76 => ⟨S8x2176x1, .f32⟩
  | 77 => ⟨S2176x8x64, .f32⟩
  | 78 => ⟨S8x64x2176, .f32⟩
  | 79 => ⟨S2176x8x64, .f32⟩
  | 80 => ⟨S2176x512, .f32⟩
  | 81 => ⟨S2176x8x64, .f32⟩
  | 82 => ⟨S8x64x2176, .f32⟩
  | 83 => ⟨S8x2176x2176, .f32⟩
  | 84 => ⟨S8x64x2176, .f32⟩
  | 85 => ⟨S2176x8x64, .f32⟩
  | 86 => ⟨S2176x512, .f32⟩
  | 87 => ⟨S8x2176x2176, .f32⟩
  | 88 => ⟨S8x2176x2176, .f32⟩
  | 89 => ⟨S8x2176x2176, .f32⟩
  | 90 => ⟨S_, .f32⟩
  | 91 => ⟨S8x2176, .f32⟩
  | 92 => ⟨S8x2176x1, .f32⟩
  | 93 => ⟨S8x2176x1, .f32⟩
  | 94 => ⟨S8x2176x2176, .f32⟩
  | 95 => ⟨S8x2176x2176, .f32⟩
  | 96 => ⟨S_, .f32⟩
  | 97 => ⟨S8x2176, .f32⟩
  | 98 => ⟨S8x2176x2176, .f32⟩
  | 99 => ⟨S8x2176x2176, .f32⟩
  | 100 => ⟨S8x2176x2176, .f32⟩
  | 101 => ⟨S_, .f32⟩
  | 102 => ⟨S8x2176x2176, .f32⟩
  | 103 => ⟨S8x2176x2176, .f32⟩
  | 104 => ⟨S_, .f32⟩
  | 105 => ⟨S8x2176, .f32⟩
  | 106 => ⟨S8x2176x1, .f32⟩
  | 107 => ⟨S8x2176x2176, .f32⟩
  | 108 => ⟨S_, .f32⟩
  | 109 => ⟨S8x2176, .f32⟩
  | 110 => ⟨S8x1x2176, .f32⟩
  | 111 => ⟨S_, .f32⟩
  | 112 => ⟨S8x2176, .f32⟩
  | 113 => ⟨S2176x8, .f32⟩
  | 114 => ⟨S_, .f32⟩
  | 115 => ⟨S8x2176, .f32⟩
  | 116 => ⟨S2176x8, .f32⟩
  | 117 => ⟨S_, .f32⟩
  | 118 => ⟨S8x2176x2176, .f32⟩
  | 119 => ⟨S8x2176x2176, .f32⟩
  | 120 => ⟨S8x2176x64, .f32⟩
  | 121 => ⟨S2176x8x64, .f32⟩
  | 122 => ⟨S8x2176x64, .f32⟩
  | 123 => ⟨S2176x8x64, .f32⟩
  | 124 => ⟨S2176x512, .f32⟩
  | 125 => ⟨S2176x512, .f32⟩
  | 126 => ⟨S8x2176, .f32⟩
  | 127 => ⟨S4x2x2176, .f32⟩
  | _ => ⟨S2176x1536, .bf16⟩

abbrev hbmTy0_1 (i : Nat) : BufTy := match i % 128 with
  | 0 => ⟨S_, .i32⟩
  | 1 => ⟨S_, .f32⟩
  | 2 => ⟨S4x8x2176, .f32⟩
  | 3 => ⟨S2176x512, .bf16⟩
  | 4 => ⟨S2176x512, .bf16⟩
  | 5 => ⟨S2176x512, .bf16⟩
  | 6 => ⟨S2176x8x64, .f32⟩
  | 7 => ⟨S2176x512, .f32⟩
  | _ => ⟨S2176x1536, .bf16⟩

abbrev hbmTy (i : Nat) : BufTy := match i / 128 with
  | 0 => hbmTy0_0 i
  | 1 => hbmTy0_1 i
  | _ => ⟨S2176x1536, .bf16⟩

abbrev bufTy : (tb : Table) → Fin (tcTables nBuf tb) → BufTy
  | .hbm, ⟨i, _⟩ => hbmTy i
  | _, _ => ⟨S2176x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call1_v0 : Ref sig .tc := ⟨.hbm, 33, rfl⟩
abbrev main_v26_1 : Ref sig .tc := ⟨.hbm, 34, rfl⟩
abbrev main_call1_v2 : Ref sig .tc := ⟨.hbm, 35, rfl⟩
abbrev main_v26_0 : Ref sig .tc := ⟨.hbm, 36, rfl⟩
abbrev main_call1_cst : Ref sig .tc := ⟨.hbm, 37, rfl⟩
abbrev main_v26_2 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call2_cst : Ref sig .tc := ⟨.hbm, 101, rfl⟩
abbrev main_call2_v0 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c : Ref sig .tc := ⟨.hbm, 128, rfl⟩
abbrev main_call3_v0 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]
-- ==== AttnFwd.lean ====
abbrev S2176x1536 : Shape := ⟨2, ![2176, 1536]⟩
abbrev S2176x8 : Shape := ⟨2, ![2176, 8]⟩
abbrev S_ : Shape := ⟨0, ![]⟩
abbrev S2176x128 : Shape := ⟨2, ![2176, 128]⟩
abbrev S8x2176 : Shape := ⟨2, ![8, 2176]⟩
abbrev S2176x512 : Shape := ⟨2, ![2176, 512]⟩
abbrev S4x8x2176 : Shape := ⟨3, ![4, 8, 2176]⟩
abbrev S1x8x2176 : Shape := ⟨3, ![1, 8, 2176]⟩
abbrev S512x512 : Shape := ⟨2, ![512, 512]⟩
abbrev S512x128 : Shape := ⟨2, ![512, 128]⟩
abbrev S8x512 : Shape := ⟨2, ![8, 512]⟩
abbrev S512x64 : Shape := ⟨2, ![512, 64]⟩
abbrev S512 : Shape := ⟨1, ![512]⟩
abbrev S512x1 : Shape := ⟨2, ![512, 1]⟩
abbrev S1x512 : Shape := ⟨2, ![1, 512]⟩
abbrev S128x512 : Shape := ⟨2, ![128, 512]⟩
abbrev S1x1x512 : Shape := ⟨3, ![1, 1, 512]⟩
abbrev S512x1024 : Shape := ⟨2, ![512, 1024]⟩
abbrev S8x1024 : Shape := ⟨2, ![8, 1024]⟩
abbrev S1024x64 : Shape := ⟨2, ![1024, 64]⟩
abbrev S1024 : Shape := ⟨1, ![1024]⟩
abbrev S1x1024 : Shape := ⟨2, ![1, 1024]⟩
abbrev S512x1536 : Shape := ⟨2, ![512, 1536]⟩
abbrev S8x1536 : Shape := ⟨2, ![8, 1536]⟩
abbrev S1536x64 : Shape := ⟨2, ![1536, 64]⟩
abbrev S1536 : Shape := ⟨1, ![1536]⟩
abbrev S1x1536 : Shape := ⟨2, ![1, 1536]⟩
abbrev S512x2048 : Shape := ⟨2, ![512, 2048]⟩
abbrev S8x2048 : Shape := ⟨2, ![8, 2048]⟩
abbrev S2048x64 : Shape := ⟨2, ![2048, 64]⟩
abbrev S2048 : Shape := ⟨1, ![2048]⟩
abbrev S1x2048 : Shape := ⟨2, ![1, 2048]⟩
abbrev S128x2176 : Shape := ⟨2, ![128, 2176]⟩
abbrev S128x128 : Shape := ⟨2, ![128, 128]⟩
abbrev S128x64 : Shape := ⟨2, ![128, 64]⟩
abbrev S2176x64 : Shape := ⟨2, ![2176, 64]⟩
abbrev S128 : Shape := ⟨1, ![128]⟩
abbrev S128x1 : Shape := ⟨2, ![128, 1]⟩
abbrev S2176 : Shape := ⟨1, ![2176]⟩
abbrev S1x2176 : Shape := ⟨2, ![1, 2176]⟩
abbrev S1x128 : Shape := ⟨2, ![1, 128]⟩
abbrev S1x1x128 : Shape := ⟨3, ![1, 1, 128]⟩

abbrev nBuf : Space → Nat
  | .hbm => 11
  | .vmem => 12
  | .smem => 0
  | _ => 0

abbrev bufTy : (tb : Table) → Fin (tcTables nBuf tb) → BufTy
  | .hbm, ⟨0, _⟩ => ⟨S2176x1536, .bf16⟩
  | .hbm, ⟨1, _⟩ => ⟨S2176x8, .f32⟩
  | .hbm, ⟨2, _⟩ => ⟨S_, .f32⟩
  | .hbm, ⟨3, _⟩ => ⟨S_, .f32⟩
  | .hbm, ⟨4, _⟩ => ⟨S2176x8, .f32⟩
  | .hbm, ⟨5, _⟩ => ⟨S_, .i32⟩
  | .hbm, ⟨6, _⟩ => ⟨S_, .f32⟩
  | .hbm, ⟨7, _⟩ => ⟨S2176x128, .f32⟩
  | .hbm, ⟨8, _⟩ => ⟨S8x2176, .f32⟩
  | .hbm, ⟨9, _⟩ => ⟨S2176x512, .f32⟩
  | .hbm, ⟨10, _⟩ => ⟨S4x8x2176, .f32⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .f32⟩
  | .local _ .vmem, ⟨7, _⟩ => ⟨S8x2176, .f32⟩
  | .local _ .vmem, ⟨8, _⟩ => ⟨S2176x128, .f32⟩
  | .local _ .vmem, ⟨9, _⟩ => ⟨S2176x128, .f32⟩
  | .local _ .vmem, ⟨10, _⟩ => ⟨S1x8x2176, .f32⟩
  | .local _ .vmem, ⟨11, _⟩ => ⟨S1x8x2176, .f32⟩
  | _, _ => ⟨S2176x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_c : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S2176x1536 : Shape := ⟨2, ![2176, 1536]⟩
abbrev S2176x8 : Shape := ⟨2, ![2176, 8]⟩
abbrev S2176x512 : Shape := ⟨2, ![2176, 512]⟩
abbrev S_ : Shape := ⟨0, ![]⟩
abbrev S2176x8x64 : Shape := ⟨3, ![2176, 8, 64]⟩
abbrev S8x2176x2176 : Shape := ⟨3, ![8, 2176, 2176]⟩
abbrev S8x2176 : Shape := ⟨2, ![8, 2176]⟩
abbrev S8x2176x1 : Shape := ⟨3, ![8, 2176, 1]⟩
abbrev S8x1x2176 : Shape := ⟨3, ![8, 1, 2176]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S1x2176x2176 : Shape := ⟨3, ![1, 2176, 2176]⟩
abbrev S8x64x2176 : Shape := ⟨3, ![8, 64, 2176]⟩
abbrev S4x2x2176 : Shape := ⟨3, ![4, 2, 2176]⟩
abbrev S4x8x2176 : Shape := ⟨3, ![4, 8, 2176]⟩

abbrev nBuf : Space → Nat
  | .hbm => 96
  | .vmem => 0
  | .smem => 0
  | _ => 0

abbrev bufTy : (tb : Table) → Fin (tcTables nBuf tb) → BufTy
  | .hbm, ⟨0, _⟩ => ⟨S2176x1536, .bf16⟩
  | .hbm, ⟨1, _⟩ => ⟨S2176x8, .f32⟩
  | .hbm, ⟨2, _⟩ => ⟨S2176x1536, .f32⟩
  | .hbm, ⟨3, _⟩ => ⟨S2176x512, .f32⟩
  | .hbm, ⟨4, _⟩ => ⟨S2176x512, .f32⟩
  | .hbm, ⟨5, _⟩ => ⟨S2176x512, .f32⟩
  | .hbm, ⟨6, _⟩ => ⟨S_, .f32⟩
  | .hbm, ⟨7, _⟩ => ⟨S_, .f32⟩
  | .hbm, ⟨8, _⟩ => ⟨S2176x8, .f32⟩
  | .hbm, ⟨9, _⟩ => ⟨S2176x8x64, .f32⟩
  | .hbm, ⟨10, _⟩ => ⟨S2176x8x64, .f32⟩
  | .hbm, ⟨11, _⟩ => ⟨S8x2176x2176, .f32⟩
  | .hbm, ⟨12, _⟩ => ⟨S_, .f32⟩
  | .hbm, ⟨13, _⟩ => ⟨S8x2176x2176, .f32⟩
  | .hbm, ⟨14, _⟩ => ⟨S8x2176x2176, .f32⟩
  | .hbm, ⟨15, _⟩ => ⟨S8x2176, .f32⟩
  | .hbm, ⟨16, _⟩ => ⟨S8x2176x1, .f32⟩
  | .hbm, ⟨17, _⟩ => ⟨S8x2176, .f32⟩
  | .hbm, ⟨18, _⟩ => ⟨S8x1x2176, .f32⟩
  | .hbm, ⟨19, _⟩ => ⟨S8x2176x2176, .f32⟩
  | .hbm, ⟨20, _⟩ => ⟨S8x2176x2176, .f32⟩
  | .hbm, ⟨21, _⟩ => ⟨S8x2176x2176, .f32⟩
  | .hbm, ⟨22, _⟩ => ⟨S2176, .i32⟩
  | .hbm, ⟨23, _⟩ => ⟨S2176x1, .i32⟩
  | .hbm, ⟨24, _⟩ => ⟨S2176, .i32⟩
  | .hbm, ⟨25, _⟩ => ⟨S1x2176, .i32⟩
  | .hbm, ⟨26, _⟩ => ⟨S2176x2176, .i32⟩
  | .hbm, ⟨27, _⟩ => ⟨S2176x2176, .i32⟩
  | .hbm, ⟨28, _⟩ => ⟨S2176x2176, .i1⟩
  | .hbm, ⟨29, _⟩ => ⟨S1x2176x2176, .i1⟩
  | .hbm, ⟨30, _⟩ => ⟨S8x2176x2176, .f32⟩
  | .hbm, ⟨31, _⟩ => ⟨S_, .f32⟩
  | .hbm, ⟨32, _⟩ => ⟨S_, .f32⟩
  | .hbm, ⟨33, _⟩ => ⟨S8x2176x2176, .i1⟩
  | .hbm, ⟨34, _⟩ => ⟨S8x2176x2176, .f32⟩
  | .hbm, ⟨35, _⟩ => ⟨S8x2176x2176, .f32⟩
  | .hbm, ⟨36, _⟩ => ⟨S_, .f32⟩
  | .hbm, ⟨37, _⟩ => ⟨S8x2176, .f32⟩
  | .hbm, ⟨38, _⟩ => ⟨S8x2176x1, .f32⟩
  | .hbm, ⟨39, _⟩ => ⟨S8x2176, .f32⟩
  | .hbm, ⟨40, _⟩ => ⟨S8x2176x2176, .f32⟩
  | .hbm, ⟨41, _⟩ => ⟨S8x2176x2176, .f32⟩
  | .hbm, ⟨42, _⟩ => ⟨S8x2176x2176, .f32⟩
  | .hbm, ⟨43, _⟩ => ⟨S_, .f32⟩
  | .hbm, ⟨44, _⟩ => ⟨S8x2176, .f32⟩
  | .hbm, ⟨45, _⟩ => ⟨S8x2176, .f32⟩
  | .hbm, ⟨46, _⟩ => ⟨S8x2176, .f32⟩
  | .hbm, ⟨47, _⟩ => ⟨S2176x8x64, .f32⟩
  | .hbm, ⟨48, _⟩ => ⟨S2176x8x64, .f32⟩
  | .hbm, ⟨49, _⟩ => ⟨S8x2176x2176, .f32⟩
  | .hbm, ⟨50, _⟩ => ⟨S_, .f32⟩
  | .hbm, ⟨51, _⟩ => ⟨S8x2176x2176, .f32⟩
  | .hbm, ⟨52, _⟩ => ⟨S8x2176x2176, .f32⟩
  | .hbm, ⟨53, _⟩ => ⟨S8x2176, .f32⟩
  | .hbm, ⟨54, _⟩ => ⟨S8x2176x1, .f32⟩
  | .hbm, ⟨55, _⟩ => ⟨S8x2176, .f32⟩
  | .hbm, ⟨56, _⟩ => ⟨S8x1x2176, .f32⟩
  | .hbm, ⟨57, _⟩ => ⟨S8x2176x2176, .f32⟩
  | .hbm, ⟨58, _⟩ => ⟨S8x2176x2176, .f32⟩
  | .hbm, ⟨59, _⟩ => ⟨S8x2176x2176, .f32⟩
  | .hbm, ⟨60, _⟩ => ⟨S2176, .i32⟩
  | .hbm, ⟨61, _⟩ => ⟨S2176x1, .i32⟩
  | .hbm, ⟨62, _⟩ => ⟨S2176, .i32⟩
  | .hbm, ⟨63, _⟩ => ⟨S1x2176, .i32⟩
  | .hbm, ⟨64, _⟩ => ⟨S2176x2176, .i32⟩
  | .hbm, ⟨65, _⟩ => ⟨S2176x2176, .i32⟩
  | .hbm, ⟨66, _⟩ => ⟨S2176x2176, .i1⟩
  | .hbm, ⟨67, _⟩ => ⟨S1x2176x2176, .i1⟩
  | .hbm, ⟨68, _⟩ => ⟨S8x2176x2176, .f32⟩
  | .hbm, ⟨69, _⟩ => ⟨S_, .f32⟩
  | .hbm, ⟨70, _⟩ => ⟨S_, .f32⟩
  | .hbm, ⟨71, _⟩ => ⟨S8x2176x2176, .i1⟩
  | .hbm, ⟨72, _⟩ => ⟨S8x2176x2176, .f32⟩
  | .hbm, ⟨73, _⟩ => ⟨S8x2176x2176, .f32⟩
  | .hbm, ⟨74, _⟩ => ⟨S_, .f32⟩
  | .hbm, ⟨75, _⟩ => ⟨S8x2176, .f32⟩
  | .hbm, ⟨76, _⟩ => ⟨S_, .f32⟩
  | .hbm, ⟨77, _⟩ => ⟨S8x2176, .f32⟩
  | .hbm, ⟨78, _⟩ => ⟨S8x2176, .f32⟩
  | .hbm, ⟨79, _⟩ => ⟨S8x2176x1, .f32⟩
  | .hbm, ⟨80, _⟩ => ⟨S8x2176x2176, .f32⟩
  | .hbm, ⟨81, _⟩ => ⟨S8x2176x2176, .f32⟩
  | .hbm, ⟨82, _⟩ => ⟨S8x2176x2176, .f32⟩
  | .hbm, ⟨83, _⟩ => ⟨S_, .f32⟩
  | .hbm, ⟨84, _⟩ => ⟨S8x2176, .f32⟩
  | .hbm, ⟨85, _⟩ => ⟨S8x2176x1, .f32⟩
  | .hbm, ⟨86, _⟩ => ⟨S8x2176x2176, .f32⟩
  | .hbm, ⟨87, _⟩ => ⟨S8x2176x2176, .f32⟩
  | .hbm, ⟨88, _⟩ => ⟨S2176x8x64, .f32⟩
  | .hbm, ⟨89, _⟩ => ⟨S8x64x2176, .f32⟩
  | .hbm, ⟨90, _⟩ => ⟨S2176x8x64, .f32⟩
  | .hbm, ⟨91, _⟩ => ⟨S2176x512, .f32⟩
  | .hbm, ⟨92, _⟩ => ⟨S4x2x2176, .f32⟩
  | .hbm, ⟨93, _⟩ => ⟨S_, .i32⟩
  | .hbm, ⟨94, _⟩ => ⟨S_, .f32⟩
  | .hbm, ⟨95, _⟩ => ⟨S4x8x2176, .f32⟩
  | _, _ => ⟨S2176x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v57 : Ref sig .tc := ⟨.hbm, 73, rfl⟩
abbrev main_cst_5 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c : Ref sig .tc := ⟨.hbm, 93, rfl⟩
abbrev main_call3_v0 : Ref sig .tc := ⟨.hbm, 94, rfl⟩
abbrev main_v74 : Ref sig .tc := ⟨.hbm, 95, rfl⟩

abbrev nD : Nat := 1
abbrev τ : Topo := Topo.v7x

variable {F : FTy → Type} [FloatOps F]
-- ==== In.lean ====
abbrev S2176x1024 : Shape := ⟨2, ![2176, 1024]⟩
abbrev S1x1024 : Shape := ⟨2, ![1, 1024]⟩
abbrev S1024x2568 : Shape := ⟨2, ![1024, 2568]⟩
abbrev S2568x1024 : Shape := ⟨2, ![2568, 1024]⟩
abbrev S1024x1024 : Shape := ⟨2, ![1024, 1024]⟩
abbrev S8x1024 : Shape := ⟨2, ![8, 1024]⟩
abbrev S_ : Shape := ⟨0, ![]⟩
abbrev S128x1024 : Shape := ⟨2, ![128, 1024]⟩
abbrev S1152x1024 : Shape := ⟨2, ![1152, 1024]⟩
abbrev S2176x1536 : Shape := ⟨2, ![2176, 1536]⟩
abbrev S2176x1152 : Shape := ⟨2, ![2176, 1152]⟩
abbrev S544x1024 : Shape := ⟨2, ![544, 1024]⟩
abbrev S1536x1024 : Shape := ⟨2, ![1536, 1024]⟩
abbrev S544x1536 : Shape := ⟨2, ![544, 1536]⟩
abbrev S544x1152 : Shape := ⟨2, ![544, 1152]⟩
abbrev S544 : Shape := ⟨1, ![544]⟩
abbrev S544x1 : Shape := ⟨2, ![544, 1]⟩

abbrev nBuf : Space → Nat
  | .hbm => 14
  | .vmem => 11
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024x2568, .f32⟩
  | .hbm, ⟨3, _⟩ => ⟨S2568x1024, .f32⟩
  | .hbm, ⟨4, _⟩ => ⟨S2568x1024, .bf16⟩
  | .hbm, ⟨5, _⟩ => ⟨S1024x1024, .bf16⟩
  | .hbm, ⟨6, _⟩ => ⟨S8x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S1152x1024, .bf16⟩
  | .hbm, ⟨11, _⟩ => ⟨S2176x1024, .bf16⟩
  | .hbm, ⟨12, _⟩ => ⟨S2176x1536, .bf16⟩
  | .hbm, ⟨13, _⟩ => ⟨S2176x1152, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S1536x1024, .bf16⟩
  | .local _ .vmem, ⟨4, _⟩ => ⟨S1152x1024, .bf16⟩
  | .local _ .vmem, ⟨5, _⟩ => ⟨S544x1024, .bf16⟩
  | .local _ .vmem, ⟨6, _⟩ => ⟨S544x1024, .bf16⟩
  | .local _ .vmem, ⟨7, _⟩ => ⟨S544x1536, .bf16⟩
  | .local _ .vmem, ⟨8, _⟩ => ⟨S544x1536, .bf16⟩
  | .local _ .vmem, ⟨9, _⟩ => ⟨S544x1152, .f32⟩
  | .local _ .vmem, ⟨10, _⟩ => ⟨S544x1152, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InRefIdeal.lean ====
abbrev S2176x1024 : Shape := ⟨2, ![2176, 1024]⟩
abbrev S1x1024 : Shape := ⟨2, ![1, 1024]⟩
abbrev S1024x2568 : Shape := ⟨2, ![1024, 2568]⟩
abbrev S_ : Shape := ⟨0, ![]⟩
abbrev S2176 : Shape := ⟨1, ![2176]⟩
abbrev S2176x1 : Shape := ⟨2, ![2176, 1]⟩
abbrev S2176x2568 : Shape := ⟨2, ![2176, 2568]⟩
abbrev S2176x8 : Shape := ⟨2, ![2176, 8]⟩
abbrev S2176x128 : Shape := ⟨2, ![2176, 128]⟩
abbrev S2176x1152 : Shape := ⟨2, ![2176, 1152]⟩
abbrev S2176x1536 : Shape := ⟨2, ![2176, 1536]⟩

abbrev nBuf : Space → Nat
  | .hbm => 28
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024x2568, .f32⟩
  | .hbm, ⟨3, _⟩ => ⟨S2176x1024, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S2176x1, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S2176x1024, .f32⟩
  | .hbm, ⟨18, _⟩ => ⟨S2176x2568, .f32⟩
  | .hbm, ⟨19, _⟩ => ⟨S2176x1024, .f32⟩
  | .hbm, ⟨20, _⟩ => ⟨S2176x8, .f32⟩
  | .hbm, ⟨21, _⟩ => ⟨S_, .i32⟩
  | .hbm, ⟨22, _⟩ => ⟨S_, .f32⟩
  | .hbm, ⟨23, _⟩ => ⟨S2176x128, .f32⟩
  | .hbm, ⟨24, _⟩ => ⟨S2176x1152, .f32⟩
  | .hbm, ⟨25, _⟩ => ⟨S2176x1024, .bf16⟩
  | .hbm, ⟨26, _⟩ => ⟨S2176x1536, .f32⟩
  | .hbm, ⟨27, _⟩ => ⟨S2176x1536, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== InBack.lean ====
abbrev S2176x1024 : Shape := ⟨2, ![2176, 1024]⟩
abbrev S2176x512 : Shape := ⟨2, ![2176, 512]⟩
abbrev S2176x8 : Shape := ⟨2, ![2176, 8]⟩
abbrev S1x1024 : Shape := ⟨2, ![1, 1024]⟩
abbrev S1024x2568 : Shape := ⟨2, ![1024, 2568]⟩
abbrev S_ : Shape := ⟨0, ![]⟩
abbrev S2176x128 : Shape := ⟨2, ![2176, 128]⟩
abbrev S2568x1024 : Shape := ⟨2, ![2568, 1024]⟩
abbrev S1024x1024 : Shape := ⟨2, ![1024, 1024]⟩
abbrev S8x1024 : Shape := ⟨2, ![8, 1024]⟩
abbrev S128x1024 : Shape := ⟨2, ![128, 1024]⟩
abbrev S1152x1024 : Shape := ⟨2, ![1152, 1024]⟩
abbrev S544x1024 : Shape := ⟨2, ![544, 1024]⟩
abbrev S544x512 : Shape := ⟨2, ![544, 512]⟩
abbrev S544x128 : Shape := ⟨2, ![544, 128]⟩
abbrev S1536x1024 : Shape := ⟨2, ![1536, 1024]⟩
abbrev S512x1024 : Shape := ⟨2, ![512, 1024]⟩
abbrev S544 : Shape := ⟨1, ![544]⟩
abbrev S544x1 : Shape := ⟨2, ![544, 1]⟩
abbrev S1024 : Shape := ⟨1, ![1024]⟩

abbrev nBuf : Space → Nat
  | .hbm => 23
  | .vmem => 22
  | .smem => 0
  | _ => 0

abbrev bufTy : (tb : Table) → Fin (tcTables nBuf tb) → BufTy
  | .hbm, ⟨0, _⟩ => ⟨S2176x1024, .f32⟩
  | .hbm, ⟨1, _⟩ => ⟨S2176x512, .bf16⟩
  | .hbm, ⟨2, _⟩ => ⟨S2176x512, .bf16⟩
  | .hbm, ⟨3, _⟩ => ⟨S2176x512, .bf16⟩
  | .hbm, ⟨4, _⟩ => ⟨S2176x8, .bf16⟩
  | .hbm, ⟨5, _⟩ => ⟨S2176x512, .bf16⟩
  | .hbm, ⟨6, _⟩ => ⟨S2176x512, .bf16⟩
  | .hbm, ⟨7, _⟩ => ⟨S2176x1024, .f32⟩
  | .hbm, ⟨8, _⟩ => ⟨S1x1024, .f32⟩
  | .hbm, ⟨9, _⟩ => ⟨S1024x2568, .f32⟩
  | .hbm, ⟨10, _⟩ => ⟨S_, .i32⟩
  | .hbm, ⟨11, _⟩ => ⟨S_, .bf16⟩
  | .hbm, ⟨12, _⟩ => ⟨S2176x128, .bf16⟩
  | .hbm, ⟨13, _⟩ => ⟨S2568x1024, .f32⟩
  | .hbm, ⟨14, _⟩ => ⟨S2568x1024, .bf16⟩
  | .hbm, ⟨15, _⟩ => ⟨S1024x1024, .bf16⟩
  | .hbm, ⟨16, _⟩ => ⟨S8x1024, .bf16⟩
  | .hbm, ⟨17, _⟩ => ⟨S_, .i32⟩
  | .hbm, ⟨18, _⟩ => ⟨S_, .bf16⟩
  | .hbm, ⟨19, _⟩ => ⟨S128x1024, .bf16⟩
  | .hbm, ⟨20, _⟩ => ⟨S1152x1024, .bf16⟩
  | .hbm, ⟨21, _⟩ => ⟨S2176x1024, .f32⟩
  | .hbm, ⟨22, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x512, .bf16⟩
  | .local _ .vmem, ⟨3, _⟩ => ⟨S544x512, .bf16⟩
  | .local _ .vmem, ⟨4, _⟩ => ⟨S544x512, .bf16⟩
  | .local _ .vmem, ⟨5, _⟩ => ⟨S544x512, .bf16⟩
  | .local _ .vmem, ⟨6, _⟩ => ⟨S544x512, .bf16⟩
  | .local _ .vmem, ⟨7, _⟩ => ⟨S544x512, .bf16⟩
  | .local _ .vmem, ⟨8, _⟩ => ⟨S544x512, .bf16⟩
  | .local _ .vmem, ⟨9, _⟩ => ⟨S544x512, .bf16⟩
  | .local _ .vmem, ⟨10, _⟩ => ⟨S544x512, .bf16⟩
  | .local _ .vmem, ⟨11, _⟩ => ⟨S544x512, .bf16⟩
  | .local _ .vmem, ⟨12, _⟩ => ⟨S544x128, .bf16⟩
  | .local _ .vmem, ⟨13, _⟩ => ⟨S544x128, .bf16⟩
  | .local _ .vmem, ⟨14, _⟩ => ⟨S1536x1024, .bf16⟩
  | .local _ .vmem, ⟨15, _⟩ => ⟨S1152x1024, .bf16⟩
  | .local _ .vmem, ⟨16, _⟩ => ⟨S544x1024, .f32⟩
  | .local _ .vmem, ⟨17, _⟩ => ⟨S544x1024, .f32⟩
  | .local _ .vmem, ⟨18, _⟩ => ⟨S1x1024, .f32⟩
  | .local _ .vmem, ⟨19, _⟩ => ⟨S544x1024, .f32⟩
  | .local _ .vmem, ⟨20, _⟩ => ⟨S544x1024, .f32⟩
  | .local _ .vmem, ⟨21, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_40 : BitVec 32 := 0#32
  let v62 : BitVec 1 := Scalar.cmpi .ne v61 c0_i32_40
  v62

def k0_cond2 (i : grid0.Coords) : BitVec 1 :=
  let arg0 : BitVec 32 := BitVec.ofNat 32 (i 0).val
  let c0_i32 : BitVec 32 := 0#32
  let v60 : BitVec 1 := Scalar.cmpi .eq arg0 c0_i32
  let v_true : BitVec 1 := 1#1
  let v63 : BitVec 1 := Scalar.xori v60 v_true
  let v64 : BitVec 32 := Scalar.extui v63
  let c0_i32_41 : BitVec 32 := 0#32
  let v65 : BitVec 1 := Scalar.cmpi .ne v64 c0_i32_41
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1152x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S544x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InBackRefIdeal.lean ====
abbrev S2176x1024 : Shape := ⟨2, ![2176, 1024]⟩
abbrev S2176x512 : Shape := ⟨2, ![2176, 512]⟩
abbrev S2176x8 : Shape := ⟨2, ![2176, 8]⟩
abbrev S1x1024 : Shape := ⟨2, ![1, 1024]⟩
abbrev S1024x2568 : Shape := ⟨2, ![1024, 2568]⟩
abbrev S2176x2568 : Shape := ⟨2, ![2176, 2568]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x512, .bf16⟩
  | .hbm, ⟨2, _⟩ => ⟨S2176x512, .bf16⟩
  | .hbm, ⟨3, _⟩ => ⟨S2176x512, .bf16⟩
  | .hbm, ⟨4, _⟩ => ⟨S2176x8, .bf16⟩
  | .hbm, ⟨5, _⟩ => ⟨S2176x512, .bf16⟩
  | .hbm, ⟨6, _⟩ => ⟨S2176x512, .bf16⟩
  | .hbm, ⟨7, _⟩ => ⟨S2176x1024, .f32⟩
  | .hbm, ⟨8, _⟩ => ⟨S1x1024, .f32⟩
  | .hbm, ⟨9, _⟩ => ⟨S1024x2568, .f32⟩
  | .hbm, ⟨10, _⟩ => ⟨S2176x2568, .bf16⟩
  | .hbm, ⟨11, _⟩ => ⟨S2176x2568, .f32⟩
  | .hbm, ⟨12, _⟩ => ⟨S2176x1024, .f32⟩
  | .hbm, ⟨13, _⟩ => ⟨S_, .f32⟩
  | .hbm, ⟨14, _⟩ => ⟨S2176, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x1, .f32⟩
  | .hbm, ⟨23, _⟩ => ⟨S2176x1, .f32⟩
  | .hbm, ⟨24, _⟩ => ⟨S_, .f32⟩
  | .hbm, ⟨25, _⟩ => ⟨S2176x1, .f32⟩
  | .hbm, ⟨26, _⟩ => ⟨S2176x1, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S2176x2568, .f32⟩
  | .hbm, ⟨32, _⟩ => ⟨S2176x1024, .f32⟩
  | .hbm, ⟨33, _⟩ => ⟨S2176x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S_, .f32⟩
  | .hbm, ⟨41, _⟩ => ⟨S2176, .f32⟩
  | .hbm, ⟨42, _⟩ => ⟨S2176x1, .f32⟩
  | .hbm, ⟨43, _⟩ => ⟨S2176x1024, .f32⟩
  | .hbm, ⟨44, _⟩ => ⟨S2176x1024, .f32⟩
  | .hbm, ⟨45, _⟩ => ⟨S2176x1, .f32⟩
  | .hbm, ⟨46, _⟩ => ⟨S_, .f32⟩
  | .hbm, ⟨47, _⟩ => ⟨S2176x1, .f32⟩
  | .hbm, ⟨48, _⟩ => ⟨S2176x1, .f32⟩
  | .hbm, ⟨49, _⟩ => ⟨S_, .f32⟩
  | .hbm, ⟨50, _⟩ => ⟨S2176, .f32⟩
  | .hbm, ⟨51, _⟩ => ⟨S2176x1024, .f32⟩
  | .hbm, ⟨52, _⟩ => ⟨S2176x1024, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== InGrad.lean ====
abbrev S2176x512 : Shape := ⟨2, ![2176, 512]⟩
abbrev S2176x8 : Shape := ⟨2, ![2176, 8]⟩
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S2176x128 : Shape := ⟨2, ![2176, 128]⟩
abbrev S8x321x1024 : Shape := ⟨3, ![8, 321, 1024]⟩
abbrev S1088x1024 : Shape := ⟨2, ![1088, 1024]⟩
abbrev S1088x512 : Shape := ⟨2, ![1088, 512]⟩
abbrev S1088x128 : Shape := ⟨2, ![1088, 128]⟩
abbrev S2568x1024 : Shape := ⟨2, ![2568, 1024]⟩
abbrev S512x1024 : Shape := ⟨2, ![512, 1024]⟩
abbrev S8x1024 : Shape := ⟨2, ![8, 1024]⟩
abbrev S128x1024 : Shape := ⟨2, ![128, 1024]⟩
abbrev S321x1024 : Shape := ⟨2, ![321, 1024]⟩
abbrev S1x321x1024 : Shape := ⟨3, ![1, 321, 1024]⟩

abbrev nBuf : Space → Nat
  | .hbm => 28
  | .vmem => 16
  | .smem => 0
  | _ => 0

abbrev bufTy : (tb : Table) → Fin (tcTables nBuf tb) → BufTy
  | .hbm, ⟨0, _⟩ => ⟨S2176x512, .bf16⟩
  | .hbm, ⟨1, _⟩ => ⟨S2176x512, .bf16⟩
  | .hbm, ⟨2, _⟩ => ⟨S2176x512, .bf16⟩
  | .hbm, ⟨3, _⟩ => ⟨S2176x8, .bf16⟩
  | .hbm, ⟨4, _⟩ => ⟨S2176x512, .bf16⟩
  | .hbm, ⟨5, _⟩ => ⟨S2176x512, .bf16⟩
  | .hbm, ⟨6, _⟩ => ⟨S2176x1024, .f32⟩
  | .hbm, ⟨7, _⟩ => ⟨S1x1024, .f32⟩
  | .hbm, ⟨8, _⟩ => ⟨S2176x1024, .f32⟩
  | .hbm, ⟨9, _⟩ => ⟨S_, .f32⟩
  | .hbm, ⟨10, _⟩ => ⟨S2176, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S2176x1024, .bf16⟩
  | .hbm, ⟨24, _⟩ => ⟨S_, .i32⟩
  | .hbm, ⟨25, _⟩ => ⟨S_, .bf16⟩
  | .hbm, ⟨26, _⟩ => ⟨S2176x128, .bf16⟩
  | .hbm, ⟨27, _⟩ => ⟨S8x321x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x512, .bf16⟩
  | .local _ .vmem, ⟨3, _⟩ => ⟨S1088x512, .bf16⟩
  | .local _ .vmem, ⟨4, _⟩ => ⟨S1088x512, .bf16⟩
  | .local _ .vmem, ⟨5, _⟩ => ⟨S1088x512, .bf16⟩
  | .local _ .vmem, ⟨6, _⟩ => ⟨S1088x512, .bf16⟩
  | .local _ .vmem, ⟨7, _⟩ => ⟨S1088x512, .bf16⟩
  | .local _ .vmem, ⟨8, _⟩ => ⟨S1088x512, .bf16⟩
  | .local _ .vmem, ⟨9, _⟩ => ⟨S1088x512, .bf16⟩
  | .local _ .vmem, ⟨10, _⟩ => ⟨S1088x512, .bf16⟩
  | .local _ .vmem, ⟨11, _⟩ => ⟨S1088x512, .bf16⟩
  | .local _ .vmem, ⟨12, _⟩ => ⟨S1088x128, .bf16⟩
  | .local _ .vmem, ⟨13, _⟩ => ⟨S1088x128, .bf16⟩
  | .local _ .vmem, ⟨14, _⟩ => ⟨S8x321x1024, .bf16⟩
  | .local _ .vmem, ⟨15, _⟩ => ⟨S2568x1024, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v49 : BitVec 1 := Scalar.cmpi .eq arg0 c1_i32
  let v50 : BitVec 32 := Scalar.extui v49
  let c0_i32_38 : BitVec 32 := 0#32
  let v51 : BitVec 1 := Scalar.cmpi .ne v50 c0_i32_38
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1088x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1088x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1088x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x321x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InGradRefIdeal.lean ====
abbrev S2176x512 : Shape := ⟨2, ![2176, 512]⟩
abbrev S2176x8 : Shape := ⟨2, ![2176, 8]⟩
abbrev S2176x1024 : Shape := ⟨2, ![2176, 1024]⟩
abbrev S1x1024 : Shape := ⟨2, ![1, 1024]⟩
abbrev S2176x2568 : Shape := ⟨2, ![2176, 2568]⟩
abbrev S_ : Shape := ⟨0, ![]⟩
abbrev S1024x2568 : Shape := ⟨2, ![1024, 2568]⟩
abbrev S2176 : Shape := ⟨1, ![2176]⟩
abbrev S2176x1 : Shape := ⟨2, ![2176, 1]⟩
abbrev S2568x1024 : Shape := ⟨2, ![2568, 1024]⟩
abbrev S8x321x1024 : Shape := ⟨3, ![8, 321, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S2176x512, .bf16⟩
  | .hbm, ⟨2, _⟩ => ⟨S2176x512, .bf16⟩
  | .hbm, ⟨3, _⟩ => ⟨S2176x8, .bf16⟩
  | .hbm, ⟨4, _⟩ => ⟨S2176x512, .bf16⟩
  | .hbm, ⟨5, _⟩ => ⟨S2176x512, .bf16⟩
  | .hbm, ⟨6, _⟩ => ⟨S2176x1024, .f32⟩
  | .hbm, ⟨7, _⟩ => ⟨S1x1024, .f32⟩
  | .hbm, ⟨8, _⟩ => ⟨S2176x2568, .bf16⟩
  | .hbm, ⟨9, _⟩ => ⟨S2176x2568, .f32⟩
  | .hbm, ⟨10, _⟩ => ⟨S_, .f32⟩
  | .hbm, ⟨11, _⟩ => ⟨S1024x2568, .f32⟩
  | .hbm, ⟨12, _⟩ => ⟨S2176x1024, .f32⟩
  | .hbm, ⟨13, _⟩ => ⟨S_, .f32⟩
  | .hbm, ⟨14, _⟩ => ⟨S2176, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x1, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S2176x2568, .f32⟩
  | .hbm, ⟨28, _⟩ => ⟨S2568x1024, .f32⟩
  | .hbm, ⟨29, _⟩ => ⟨S1024x2568, .f32⟩
  | .hbm, ⟨30, _⟩ => ⟨S2568x1024, .f32⟩
  | .hbm, ⟨31, _⟩ => ⟨S8x321x1024, .f32⟩
  | .hbm, ⟨32, _⟩ => ⟨S8x321x1024, .bf16⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== OutMlp.lean ====
abbrev S2176x1024 : Shape := ⟨2, ![2176, 1024]⟩
abbrev S2176x512 : Shape := ⟨2, ![2176, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S2176x4096 : Shape := ⟨2, ![2176, 4096]⟩
abbrev S544x1024 : Shape := ⟨2, ![544, 1024]⟩
abbrev S544x512 : Shape := ⟨2, ![544, 512]⟩
abbrev S4x1024x512 : Shape := ⟨3, ![4, 1024, 512]⟩
abbrev S4x512x1024 : Shape := ⟨3, ![4, 512, 1024]⟩
abbrev S544x2048 : Shape := ⟨2, ![544, 2048]⟩
abbrev S544 : Shape := ⟨1, ![544]⟩
abbrev S544x1 : Shape := ⟨2, ![544, 1]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 20
  | .vmem => 25
  | .smem => 0
  | _ => 0

abbrev bufTy : (tb : Table) → Fin (tcTables nBuf tb) → BufTy
  | .hbm, ⟨0, _⟩ => ⟨S2176x1024, .f32⟩
  | .hbm, ⟨1, _⟩ => ⟨S2176x512, .f32⟩
  | .hbm, ⟨2, _⟩ => ⟨S2176x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S1024x1024, .bf16⟩
  | .hbm, ⟨10, _⟩ => ⟨S1024x8x512, .f32⟩
  | .hbm, ⟨11, _⟩ => ⟨S8x1024x512, .f32⟩
  | .hbm, ⟨12, _⟩ => ⟨S8x1024x512, .bf16⟩
  | .hbm, ⟨13, _⟩ => ⟨S8x512x1024, .f32⟩
  | .hbm, ⟨14, _⟩ => ⟨S8x512x1024, .bf16⟩
  | .hbm, ⟨15, _⟩ => ⟨S2176x1024, .f32⟩
  | .hbm, ⟨16, _⟩ => ⟨S2176x1024, .bf16⟩
  | .hbm, ⟨17, _⟩ => ⟨S2176x1024, .bf16⟩
  | .hbm, ⟨18, _⟩ => ⟨S2176x4096, .bf16⟩
  | .hbm, ⟨19, _⟩ => ⟨S2176x1024, .f32⟩
  | .local _ .vmem, ⟨0, _⟩ => ⟨S544x1024, .f32⟩
  | .local _ .vmem, ⟨1, _⟩ => ⟨S544x1024, .f32⟩
  | .local _ .vmem, ⟨2, _⟩ => ⟨S544x512, .f32⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S4x1024x512, .bf16⟩
  | .local _ .vmem, ⟨11, _⟩ => ⟨S4x1024x512, .bf16⟩
  | .local _ .vmem, ⟨12, _⟩ => ⟨S4x512x1024, .bf16⟩
  | .local _ .vmem, ⟨13, _⟩ => ⟨S4x512x1024, .bf16⟩
  | .local _ .vmem, ⟨14, _⟩ => ⟨S544x1024, .f32⟩
  | .local _ .vmem, ⟨15, _⟩ => ⟨S544x1024, .f32⟩
  | .local _ .vmem, ⟨16, _⟩ => ⟨S544x1024, .bf16⟩
  | .local _ .vmem, ⟨17, _⟩ => ⟨S544x1024, .bf16⟩
  | .local _ .vmem, ⟨18, _⟩ => ⟨S544x1024, .bf16⟩
  | .local _ .vmem, ⟨19, _⟩ => ⟨S544x1024, .bf16⟩
  | .local _ .vmem, ⟨20, _⟩ => ⟨S544x2048, .bf16⟩
  | .local _ .vmem, ⟨21, _⟩ => ⟨S544x2048, .bf16⟩
  | .local _ .vmem, ⟨22, _⟩ => ⟨S544x1024, .f32⟩
  | .local _ .vmem, ⟨23, _⟩ => ⟨S544x1024, .f32⟩
  | .local _ .vmem, ⟨24, _⟩ => ⟨S544x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v61 : BitVec 1 := Scalar.cmpi .eq arg1 c1_i32
  let v62 : BitVec 32 := Scalar.extui v61
  let c0_i32_43 : BitVec 32 := 0#32
  let v63 : BitVec 1 := Scalar.cmpi .ne v62 c0_i32_43
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S544x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S544x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S544x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== OutMlpRefIdeal.lean ====
abbrev S2176x1024 : Shape := ⟨2, ![2176, 1024]⟩
abbrev S2176x512 : Shape := ⟨2, ![2176, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2176 : Shape := ⟨1, ![2176]⟩
abbrev S2176x1 : Shape := ⟨2, ![2176, 1]⟩
abbrev S2176x4096 : Shape := ⟨2, ![2176, 4096]⟩

abbrev nBuf : Space → Nat
  | .hbm => 67
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x512, .f32⟩
  | .hbm, ⟨2, _⟩ => ⟨S2176x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S2176x512, .f32⟩
  | .hbm, ⟨10, _⟩ => ⟨S_, .f32⟩
  | .hbm, ⟨11, _⟩ => ⟨S2176, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x1, .f32⟩
  | .hbm, ⟨20, _⟩ => ⟨S2176x512, .f32⟩
  | .hbm, ⟨21, _⟩ => ⟨S2176x512, .f32⟩
  | .hbm, ⟨22, _⟩ => ⟨S2176x512, .f32⟩
  | .hbm, ⟨23, _⟩ => ⟨S2176x512, .f32⟩
  | .hbm, ⟨24, _⟩ => ⟨S2176x512, .f32⟩
  | .hbm, ⟨25, _⟩ => ⟨S_, .f32⟩
  | .hbm, ⟨26, _⟩ => ⟨S2176, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S_, .f32⟩
  | .hbm, ⟨32, _⟩ => ⟨S2176x1, .f32⟩
  | .hbm, ⟨33, _⟩ => ⟨S2176x1, .f32⟩
  | .hbm, ⟨34, _⟩ => ⟨S2176x1, .f32⟩
  | .hbm, ⟨35, _⟩ => ⟨S2176x512, .f32⟩
  | .hbm, ⟨36, _⟩ => ⟨S2176x512, .f32⟩
  | .hbm, ⟨37, _⟩ => ⟨S2176x512, .f32⟩
  | .hbm, ⟨38, _⟩ => ⟨S2176x512, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S_, .f32⟩
  | .hbm, ⟨44, _⟩ => ⟨S2176, .f32⟩
  | .hbm, ⟨45, _⟩ => ⟨S2176x1, .f32⟩
  | .hbm, ⟨46, _⟩ => ⟨S_, .f32⟩
  | .hbm, ⟨47, _⟩ => ⟨S2176x1, .f32⟩
  | .hbm, ⟨48, _⟩ => ⟨S2176x1, .f32⟩
  | .hbm, ⟨49, _⟩ => ⟨S_, .f32⟩
  | .hbm, ⟨50, _⟩ => ⟨S2176x1, .f32⟩
  | .hbm, ⟨51, _⟩ => ⟨S2176x1, .f32⟩
  | .hbm, ⟨52, _⟩ => ⟨S2176x1, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S2176x4096, .f32⟩
  | .hbm, ⟨58, _⟩ => ⟨S_, .f32⟩
  | .hbm, ⟨59, _⟩ => ⟨S2176x4096, .f32⟩
  | .hbm, ⟨60, _⟩ => ⟨S2176x4096, .f32⟩
  | .hbm, ⟨61, _⟩ => ⟨S2176x1024, .bf16⟩
  | .hbm, ⟨62, _⟩ => ⟨S2176x1024, .bf16⟩
  | .hbm, ⟨63, _⟩ => ⟨S2176x4096, .bf16⟩
  | .hbm, ⟨64, _⟩ => ⟨S2176x4096, .f32⟩
  | .hbm, ⟨65, _⟩ => ⟨S2176x1024, .f32⟩
  | .hbm, ⟨66, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_cst : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== MlpBack.lean ====
abbrev S2176x1024 : Shape := ⟨2, ![2176, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2176 : Shape := ⟨1, ![2176]⟩
abbrev S2176x1 : Shape := ⟨2, ![2176, 1]⟩
abbrev S2176x4096 : Shape := ⟨2, ![2176, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S544x1024 : Shape := ⟨2, ![544, 1024]⟩
abbrev S544x2048 : Shape := ⟨2, ![544, 2048]⟩
abbrev S4x1024x512 : Shape := ⟨3, ![4, 1024, 512]⟩
abbrev S4x512x1024 : Shape := ⟨3, ![4, 512, 1024]⟩
abbrev S1x512x1024 : Shape := ⟨3, ![1, 512, 1024]⟩
abbrev S512x1024 : Shape := ⟨2, ![512, 1024]⟩
abbrev S544x512 : Shape := ⟨2, ![544, 512]⟩
abbrev S1x1024x512 : Shape := ⟨3, ![1, 1024, 512]⟩
abbrev S1024x512 : Shape := ⟨2, ![1024, 512]⟩
abbrev S544 : Shape := ⟨1, ![544]⟩
abbrev S544x1 : Shape := ⟨2, ![544, 1]⟩
abbrev S1024 : Shape := ⟨1, ![1024]⟩

abbrev nBuf : Space → Nat
  | .hbm => 34
  | .vmem => 19
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S2176x1024, .f32⟩
  | .hbm, ⟨6, _⟩ => ⟨S_, .f32⟩
  | .hbm, ⟨7, _⟩ => ⟨S2176, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S2176x1024, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x4096, .f32⟩
  | .hbm, ⟨21, _⟩ => ⟨S_, .f32⟩
  | .hbm, ⟨22, _⟩ => ⟨S2176x4096, .f32⟩
  | .hbm, ⟨23, _⟩ => ⟨S2176x4096, .f32⟩
  | .hbm, ⟨24, _⟩ => ⟨S2176x4096, .bf16⟩
  | .hbm, ⟨25, _⟩ => ⟨S1024x8x512, .f32⟩
  | .hbm, ⟨26, _⟩ => ⟨S8x1024x512, .f32⟩
  | .hbm, ⟨27, _⟩ => ⟨S8x1024x512, .bf16⟩
  | .hbm, ⟨28, _⟩ => ⟨S8x512x1024, .f32⟩
  | .hbm, ⟨29, _⟩ => ⟨S8x512x1024, .bf16⟩
  | .hbm, ⟨30, _⟩ => ⟨S2176x4096, .bf16⟩
  | .hbm, ⟨31, _⟩ => ⟨S2176x1024, .f32⟩
  | .hbm, ⟨32, _⟩ => ⟨S1x1024, .f32⟩
  | .hbm, ⟨33, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S544x2048, .bf16⟩
  | .local _ .vmem, ⟨3, _⟩ => ⟨S544x2048, .bf16⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S4x1024x512, .bf16⟩
  | .local _ .vmem, ⟨8, _⟩ => ⟨S4x1024x512, .bf16⟩
  | .local _ .vmem, ⟨9, _⟩ => ⟨S4x512x1024, .bf16⟩
  | .local _ .vmem, ⟨10, _⟩ => ⟨S4x512x1024, .bf16⟩
  | .local _ .vmem, ⟨11, _⟩ => ⟨S544x2048, .bf16⟩
  | .local _ .vmem, ⟨12, _⟩ => ⟨S544x2048, .bf16⟩
  | .local _ .vmem, ⟨13, _⟩ => ⟨S544x1024, .f32⟩
  | .local _ .vmem, ⟨14, _⟩ => ⟨S544x1024, .f32⟩
  | .local _ .vmem, ⟨15, _⟩ => ⟨S1x1024, .f32⟩
  | .local _ .vmem, ⟨16, _⟩ => ⟨S544x1024, .bf16⟩
  | .local _ .vmem, ⟨17, _⟩ => ⟨S544x1024, .bf16⟩
  | .local _ .vmem, ⟨18, _⟩ => ⟨S544x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 2], ![false, false]⟩

def k0_cond4 (i : grid0.Coords) : BitVec 1 :=
  let arg1 : BitVec 32 := BitVec.ofNat 32 (i 1).val
  let c1_i32 : BitVec 32 := 1#32
  let v76 : BitVec 1 := Scalar.cmpi .eq arg1 c1_i32
  let v77 : BitVec 32 := Scalar.extui v76
  let c0_i32_56 : BitVec 32 := 0#32
  let v78 : BitVec 1 := Scalar.cmpi .ne v77 c0_i32_56
  v78

def k0_cond5 (i : grid0.Coords) : BitVec 1 :=
  let arg0 : BitVec 32 := BitVec.ofNat 32 (i 0).val
  let c0_i32_73 : BitVec 32 := 0#32
  let v110 : BitVec 1 := Scalar.cmpi .eq arg0 c0_i32_73
  let v111 : BitVec 32 := Scalar.extui v110
  let c0_i32_74 : BitVec 32 := 0#32
  let v112 : BitVec 1 := Scalar.cmpi .ne v111 c0_i32_74
  v112

def k0_cond6 (i : grid0.Coords) : BitVec 1 :=
  let arg0 : BitVec 32 := BitVec.ofNat 32 (i 0).val
  let c0_i32_73 : BitVec 32 := 0#32
  let v110 : BitVec 1 := Scalar.cmpi .eq arg0 c0_i32_73
  let true_75 : BitVec 1 := 1#1
  let v113 : BitVec 1 := Scalar.xori v110 true_75
  let v114 : BitVec 32 := Scalar.extui v113
  let c0_i32_76 : BitVec 32 := 0#32
  let v115 : BitVec 1 := Scalar.cmpi .ne v114 c0_i32_76
  v115

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S544x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MlpBackRefIdeal.lean ====
abbrev S2176x1024 : Shape := ⟨2, ![2176, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2176 : Shape := ⟨1, ![2176]⟩
abbrev S2176x1 : Shape := ⟨2, ![2176, 1]⟩
abbrev S2176x4096 : Shape := ⟨2, ![2176, 4096]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S2176x1024, .f32⟩
  | .hbm, ⟨6, _⟩ => ⟨S_, .f32⟩
  | .hbm, ⟨7, _⟩ => ⟨S2176, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S2176x1024, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x4096, .f32⟩
  | .hbm, ⟨21, _⟩ => ⟨S_, .f32⟩
  | .hbm, ⟨22, _⟩ => ⟨S2176x4096, .f32⟩
  | .hbm, ⟨23, _⟩ => ⟨S2176x4096, .f32⟩
  | .hbm, ⟨24, _⟩ => ⟨S_, .f32⟩
  | .hbm, ⟨25, _⟩ => ⟨S2176x4096, .f32⟩
  | .hbm, ⟨26, _⟩ => ⟨S2176x4096, .i1⟩
  | .hbm, ⟨27, _⟩ => ⟨S_, .f32⟩
  | .hbm, ⟨28, _⟩ => ⟨S2176x4096, .f32⟩
  | .hbm, ⟨29, _⟩ => ⟨S2176x4096, .f32⟩
  | .hbm, ⟨30, _⟩ => ⟨S2176x1024, .f32⟩
  | .hbm, ⟨31, _⟩ => ⟨S2176x4096, .f32⟩
  | .hbm, ⟨32, _⟩ => ⟨S2176x4096, .f32⟩
  | .hbm, ⟨33, _⟩ => ⟨S2176x4096, .f32⟩
  | .hbm, ⟨34, _⟩ => ⟨S2176x4096, .f32⟩
  | .hbm, ⟨35, _⟩ => ⟨S_, .f32⟩
  | .hbm, ⟨36, _⟩ => ⟨S2176x4096, .f32⟩
  | .hbm, ⟨37, _⟩ => ⟨S2176x4096, .f32⟩
  | .hbm, ⟨38, _⟩ => ⟨S2176x1024, .f32⟩
  | .hbm, ⟨39, _⟩ => ⟨S_, .f32⟩
  | .hbm, ⟨40, _⟩ => ⟨S2176, .f32⟩
  | .hbm, ⟨41, _⟩ => ⟨S2176x1, .f32⟩
  | .hbm, ⟨42, _⟩ => ⟨S_, .f32⟩
  | .hbm, ⟨43, _⟩ => ⟨S2176x1, .f32⟩
  | .hbm, ⟨44, _⟩ => ⟨S2176x1, .f32⟩
  | .hbm, ⟨45, _⟩ => ⟨S_, .f32⟩
  | .hbm, ⟨46, _⟩ => ⟨S2176x1, .f32⟩
  | .hbm, ⟨47, _⟩ => ⟨S2176x1, .f32⟩
  | .hbm, ⟨48, _⟩ => ⟨S2176x1, .f32⟩
  | .hbm, ⟨49, _⟩ => ⟨S2176x1, .f32⟩
  | .hbm, ⟨50, _⟩ => ⟨S_, .f32⟩
  | .hbm, ⟨51, _⟩ => ⟨S2176x1, .f32⟩
  | .hbm, ⟨52, _⟩ => ⟨S2176x1, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S2176x4096, .f32⟩
  | .hbm, ⟨58, _⟩ => ⟨S_, .f32⟩
  | .hbm, ⟨59, _⟩ => ⟨S2176x4096, .f32⟩
  | .hbm, ⟨60, _⟩ => ⟨S2176x4096, .f32⟩
  | .hbm, ⟨61, _⟩ => ⟨S_, .f32⟩
  | .hbm, ⟨62, _⟩ => ⟨S2176x4096, .f32⟩
  | .hbm, ⟨63, _⟩ => ⟨S2176x4096, .i1⟩
  | .hbm, ⟨64, _⟩ => ⟨S_, .f32⟩
  | .hbm, ⟨65, _⟩ => ⟨S2176x4096, .f32⟩
  | .hbm, ⟨66, _⟩ => ⟨S2176x4096, .f32⟩
  | .hbm, ⟨67, _⟩ => ⟨S2176x1024, .f32⟩
  | .hbm, ⟨68, _⟩ => ⟨S2176x1024, .f32⟩
  | .hbm, ⟨69, _⟩ => ⟨S2176x1024, .f32⟩
  | .hbm, ⟨70, _⟩ => ⟨S2176x4096, .f32⟩
  | .hbm, ⟨71, _⟩ => ⟨S2176x4096, .f32⟩
  | .hbm, ⟨72, _⟩ => ⟨S2176x4096, .f32⟩
  | .hbm, ⟨73, _⟩ => ⟨S2176x4096, .f32⟩
  | .hbm, ⟨74, _⟩ => ⟨S_, .f32⟩
  | .hbm, ⟨75, _⟩ => ⟨S2176x4096, .f32⟩
  | .hbm, ⟨76, _⟩ => ⟨S2176x4096, .f32⟩
  | .hbm, ⟨77, _⟩ => ⟨S2176x1024, .f32⟩
  | .hbm, ⟨78, _⟩ => ⟨S2176x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S2176x1024, .f32⟩
  | .hbm, ⟨83, _⟩ => ⟨S2176x1024, .f32⟩
  | .hbm, ⟨84, _⟩ => ⟨S2176x1024, .f32⟩
  | .hbm, ⟨85, _⟩ => ⟨S_, .f32⟩
  | .hbm, ⟨86, _⟩ => ⟨S2176, .f32⟩
  | .hbm, ⟨87, _⟩ => ⟨S2176x1, .f32⟩
  | .hbm, ⟨88, _⟩ => ⟨S2176x1024, .f32⟩
  | .hbm, ⟨89, _⟩ => ⟨S2176x1024, .f32⟩
  | .hbm, ⟨90, _⟩ => ⟨S2176x1024, .f32⟩
  | .hbm, ⟨91, _⟩ => ⟨S2176x1, .f32⟩
  | .hbm, ⟨92, _⟩ => ⟨S_, .f32⟩
  | .hbm, ⟨93, _⟩ => ⟨S2176x1, .f32⟩
  | .hbm, ⟨94, _⟩ => ⟨S2176x1, .f32⟩
  | .hbm, ⟨95, _⟩ => ⟨S_, .f32⟩
  | .hbm, ⟨96, _⟩ => ⟨S2176, .f32⟩
  | .hbm, ⟨97, _⟩ => ⟨S2176x1024, .f32⟩
  | .hbm, ⟨98, _⟩ => ⟨S2176x1024, .f32⟩
  | .hbm, ⟨99, _⟩ => ⟨S2176x1024, .f32⟩
  | .hbm, ⟨100, _⟩ => ⟨S2176x1024, .f32⟩
  | .hbm, ⟨101, _⟩ => ⟨S2176x1024, .f32⟩
  | .hbm, ⟨102, _⟩ => ⟨S2176x4096, .bf16⟩
  | .hbm, ⟨103, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_cst : Ref sig .tc := ⟨.hbm, 58, rfl⟩
abbrev main_call1_v0 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== MlpGrad.lean ====
abbrev S2176x1024 : Shape := ⟨2, ![2176, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2176 : Shape := ⟨1, ![2176]⟩
abbrev S2176x1 : Shape := ⟨2, ![2176, 1]⟩
abbrev S2176x4096 : Shape := ⟨2, ![2176, 4096]⟩
abbrev S8x512x1024 : Shape := ⟨3, ![8, 512, 1024]⟩
abbrev S8x1024x512 : Shape := ⟨3, ![8, 1024, 512]⟩
abbrev S2176x512 : Shape := ⟨2, ![2176, 512]⟩
abbrev S1x512x1024 : Shape := ⟨3, ![1, 512, 1024]⟩
abbrev S1x1024x512 : Shape := ⟨3, ![1, 1024, 512]⟩
abbrev S1024x2176 : Shape := ⟨2, ![1024, 2176]⟩
abbrev S512x1024 : Shape := ⟨2, ![512, 1024]⟩
abbrev S1024x512 : Shape := ⟨2, ![1024, 512]⟩

abbrev nBuf : Space → Nat
  | .hbm => 47
  | .vmem => 11
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S2176x1024, .f32⟩
  | .hbm, ⟨6, _⟩ => ⟨S_, .f32⟩
  | .hbm, ⟨7, _⟩ => ⟨S2176, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S2176x1024, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x4096, .f32⟩
  | .hbm, ⟨21, _⟩ => ⟨S_, .f32⟩
  | .hbm, ⟨22, _⟩ => ⟨S2176x4096, .f32⟩
  | .hbm, ⟨23, _⟩ => ⟨S2176x4096, .f32⟩
  | .hbm, ⟨24, _⟩ => ⟨S_, .f32⟩
  | .hbm, ⟨25, _⟩ => ⟨S2176x4096, .f32⟩
  | .hbm, ⟨26, _⟩ => ⟨S2176x4096, .i1⟩
  | .hbm, ⟨27, _⟩ => ⟨S_, .f32⟩
  | .hbm, ⟨28, _⟩ => ⟨S2176x4096, .f32⟩
  | .hbm, ⟨29, _⟩ => ⟨S2176x4096, .f32⟩
  | .hbm, ⟨30, _⟩ => ⟨S2176x1024, .f32⟩
  | .hbm, ⟨31, _⟩ => ⟨S2176x4096, .f32⟩
  | .hbm, ⟨32, _⟩ => ⟨S2176x4096, .f32⟩
  | .hbm, ⟨33, _⟩ => ⟨S2176x4096, .f32⟩
  | .hbm, ⟨34, _⟩ => ⟨S2176x4096, .f32⟩
  | .hbm, ⟨35, _⟩ => ⟨S_, .f32⟩
  | .hbm, ⟨36, _⟩ => ⟨S2176x4096, .f32⟩
  | .hbm, ⟨37, _⟩ => ⟨S2176x4096, .f32⟩
  | .hbm, ⟨38, _⟩ => ⟨S_, .f32⟩
  | .hbm, ⟨39, _⟩ => ⟨S2176x4096, .f32⟩
  | .hbm, ⟨40, _⟩ => ⟨S2176x4096, .f32⟩
  | .hbm, ⟨41, _⟩ => ⟨S2176x4096, .bf16⟩
  | .hbm, ⟨42, _⟩ => ⟨S2176x1024, .bf16⟩
  | .hbm, ⟨43, _⟩ => ⟨S2176x1024, .bf16⟩
  | .hbm, ⟨44, _⟩ => ⟨S2176x4096, .bf16⟩
  | .hbm, ⟨45, _⟩ => ⟨S8x512x1024, .bf16⟩
  | .hbm, ⟨46, _⟩ => ⟨S8x1024x512, .bf16⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S2176x1024, .bf16⟩
  | .local _ .vmem, ⟨4, _⟩ => ⟨S2176x512, .bf16⟩
  | .local _ .vmem, ⟨5, _⟩ => ⟨S2176x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1024x2176, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_call1_cst : Ref sig .tc := ⟨.hbm, 38, rfl⟩
abbrev main_call1_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpGradRefIdeal.lean ====
abbrev S2176x1024 : Shape := ⟨2, ![2176, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2176 : Shape := ⟨1, ![2176]⟩
abbrev S2176x1 : Shape := ⟨2, ![2176, 1]⟩
abbrev S2176x4096 : Shape := ⟨2, ![2176, 4096]⟩
abbrev S8x512x1024 : Shape := ⟨3, ![8, 512, 1024]⟩
abbrev S1024x8x512 : Shape := ⟨3, ![1024, 8, 512]⟩
abbrev S8x1024x512 : Shape := ⟨3, ![8, 1024, 512]⟩

abbrev nBuf : Space → Nat
  | .hbm => 48
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S2176x1024, .f32⟩
  | .hbm, ⟨6, _⟩ => ⟨S_, .f32⟩
  | .hbm, ⟨7, _⟩ => ⟨S2176, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S2176x1024, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x4096, .f32⟩
  | .hbm, ⟨21, _⟩ => ⟨S_, .f32⟩
  | .hbm, ⟨22, _⟩ => ⟨S2176x4096, .f32⟩
  | .hbm, ⟨23, _⟩ => ⟨S2176x4096, .f32⟩
  | .hbm, ⟨24, _⟩ => ⟨S_, .f32⟩
  | .hbm, ⟨25, _⟩ => ⟨S2176x4096, .f32⟩
  | .hbm, ⟨26, _⟩ => ⟨S2176x4096, .i1⟩
  | .hbm, ⟨27, _⟩ => ⟨S_, .f32⟩
  | .hbm, ⟨28, _⟩ => ⟨S2176x4096, .f32⟩
  | .hbm, ⟨29, _⟩ => ⟨S2176x4096, .f32⟩
  | .hbm, ⟨30, _⟩ => ⟨S2176x1024, .f32⟩
  | .hbm, ⟨31, _⟩ => ⟨S2176x1024, .f32⟩
  | .hbm, ⟨32, _⟩ => ⟨S1024x4096, .f32⟩
  | .hbm, ⟨33, _⟩ => ⟨S4096x1024, .f32⟩
  | .hbm, ⟨34, _⟩ => ⟨S2176x4096, .f32⟩
  | .hbm, ⟨35, _⟩ => ⟨S2176x4096, .f32⟩
  | .hbm, ⟨36, _⟩ => ⟨S2176x4096, .f32⟩
  | .hbm, ⟨37, _⟩ => ⟨S2176x4096, .f32⟩
  | .hbm, ⟨38, _⟩ => ⟨S_, .f32⟩
  | .hbm, ⟨39, _⟩ => ⟨S2176x4096, .f32⟩
  | .hbm, ⟨40, _⟩ => ⟨S2176x4096, .f32⟩
  | .hbm, ⟨41, _⟩ => ⟨S4096x1024, .f32⟩
  | .hbm, ⟨42, _⟩ => ⟨S1024x4096, .f32⟩
  | .hbm, ⟨43, _⟩ => ⟨S8x512x1024, .f32⟩
  | .hbm, ⟨44, _⟩ => ⟨S8x512x1024, .bf16⟩
  | .hbm, ⟨45, _⟩ => ⟨S1024x8x512, .f32⟩
  | .hbm, ⟨46, _⟩ => ⟨S8x1024x512, .f32⟩
  | .hbm, ⟨47, _⟩ => ⟨S8x1024x512, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== OutBack.lean ====
abbrev S2176x1024 : Shape := ⟨2, ![2176, 1024]⟩
abbrev S2176x512 : Shape := ⟨2, ![2176, 512]⟩
abbrev S1x512 : Shape := ⟨2, ![1, 512]⟩
abbrev S1024x1024 : Shape := ⟨2, ![1024, 1024]⟩
abbrev S_ : Shape := ⟨0, ![]⟩
abbrev S2176 : Shape := ⟨1, ![2176]⟩
abbrev S2176x1 : Shape := ⟨2, ![2176, 1]⟩
abbrev S544x1024 : Shape := ⟨2, ![544, 1024]⟩
abbrev S544x512 : Shape := ⟨2, ![544, 512]⟩
abbrev S544 : Shape := ⟨1, ![544]⟩
abbrev S544x1 : Shape := ⟨2, ![544, 1]⟩
abbrev S512 : Shape := ⟨1, ![512]⟩

abbrev nBuf : Space → Nat
  | .hbm => 44
  | .vmem => 19
  | .smem => 0
  | _ => 0

abbrev bufTy : (tb : Table) → Fin (tcTables nBuf tb) → BufTy
  | .hbm, ⟨0, _⟩ => ⟨S2176x1024, .f32⟩
  | .hbm, ⟨1, _⟩ => ⟨S2176x512, .f32⟩
  | .hbm, ⟨2, _⟩ => ⟨S2176x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S2176x512, .f32⟩
  | .hbm, ⟨7, _⟩ => ⟨S_, .f32⟩
  | .hbm, ⟨8, _⟩ => ⟨S2176, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S2176x512, .f32⟩
  | .hbm, ⟨18, _⟩ => ⟨S2176x512, .f32⟩
  | .hbm, ⟨19, _⟩ => ⟨S2176x512, .f32⟩
  | .hbm, ⟨20, _⟩ => ⟨S2176x512, .f32⟩
  | .hbm, ⟨21, _⟩ => ⟨S2176x512, .f32⟩
  | .hbm, ⟨22, _⟩ => ⟨S_, .f32⟩
  | .hbm, ⟨23, _⟩ => ⟨S2176, .f32⟩
  | .hbm, ⟨24, _⟩ => ⟨S2176x1, .f32⟩
  | .hbm, ⟨25, _⟩ => ⟨S_, .f32⟩
  | .hbm, ⟨26, _⟩ => ⟨S2176x1, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S2176x1, .f32⟩
  | .hbm, ⟨32, _⟩ => ⟨S2176x512, .f32⟩
  | .hbm, ⟨33, _⟩ => ⟨S2176x512, .f32⟩
  | .hbm, ⟨34, _⟩ => ⟨S2176x512, .f32⟩
  | .hbm, ⟨35, _⟩ => ⟨S2176x512, .f32⟩
  | .hbm, ⟨36, _⟩ => ⟨S2176x1024, .f32⟩
  | .hbm, ⟨37, _⟩ => ⟨S2176x1024, .bf16⟩
  | .hbm, ⟨38, _⟩ => ⟨S1024x1024, .bf16⟩
  | .hbm, ⟨39, _⟩ => ⟨S2176x512, .f32⟩
  | .hbm, ⟨40, _⟩ => ⟨S2176x512, .f32⟩
  | .hbm, ⟨41, _⟩ => ⟨S1x512, .f32⟩
  | .hbm, ⟨42, _⟩ => ⟨S1x512, .f32⟩
  | .hbm, ⟨43, _⟩ => ⟨S1024x1024, .bf16⟩
  | .local _ .vmem, ⟨0, _⟩ => ⟨S544x1024, .f32⟩
  | .local _ .vmem, ⟨1, _⟩ => ⟨S544x1024, .f32⟩
  | .local _ .vmem, ⟨2, _⟩ => ⟨S544x1024, .bf16⟩
  | .local _ .vmem, ⟨3, _⟩ => ⟨S544x1024, .bf16⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S544x512, .f32⟩
  | .local _ .vmem, ⟨12, _⟩ => ⟨S544x512, .f32⟩
  | .local _ .vmem, ⟨13, _⟩ => ⟨S544x512, .f32⟩
  | .local _ .vmem, ⟨14, _⟩ => ⟨S544x512, .f32⟩
  | .local _ .vmem, ⟨15, _⟩ => ⟨S1x512, .f32⟩
  | .local _ .vmem, ⟨16, _⟩ => ⟨S1x512, .f32⟩
  | .local _ .vmem, ⟨17, _⟩ => ⟨S1024x1024, .bf16⟩
  | .local _ .vmem, ⟨18, _⟩ => ⟨S1024x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_27 : BitVec 32 := 0#32
  let v65 : BitVec 1 := Scalar.cmpi .ne v64 c0_i32_27
  v65

def k0_cond2 (i : grid0.Coords) : BitVec 1 :=
  let arg0 : BitVec 32 := BitVec.ofNat 32 (i 0).val
  let c0_i32 : BitVec 32 := 0#32
  let v63 : BitVec 1 := Scalar.cmpi .eq arg0 c0_i32
  let v_true : BitVec 1 := 1#1
  let v66 : BitVec 1 := Scalar.xori v63 v_true
  let v67 : BitVec 32 := Scalar.extui v66
  let c0_i32_28 : BitVec 32 := 0#32
  let v68 : BitVec 1 := Scalar.cmpi .ne v67 c0_i32_28
  v68

def k0_cond3 (i : grid0.Coords) : BitVec 1 :=
  let arg0 : BitVec 32 := BitVec.ofNat 32 (i 0).val
  let c0_i32_29 : BitVec 32 := 0#32
  let v69 : BitVec 1 := Scalar.cmpi .eq arg0 c0_i32_29
  let v70 : BitVec 32 := Scalar.extui v69
  let c0_i32_30 : BitVec 32 := 0#32
  let v71 : BitVec 1 := Scalar.cmpi .ne v70 c0_i32_30
  v71

def k0_cond4 (i : grid0.Coords) : BitVec 1 :=
  let arg0 : BitVec 32 := BitVec.ofNat 32 (i 0).val
  let c0_i32_29 : BitVec 32 := 0#32
  let v69 : BitVec 1 := Scalar.cmpi .eq arg0 c0_i32_29
  let true_31 : BitVec 1 := 1#1
  let v72 : BitVec 1 := Scalar.xori v69 true_31
  let v73 : BitVec 32 := Scalar.extui v72
  let c0_i32_32 : BitVec 32 := 0#32
  let v74 : BitVec 1 := Scalar.cmpi .ne v73 c0_i32_32
  v74

def k0_cond7 (i : grid0.Coords) : BitVec 1 :=
  let arg0 : BitVec 32 := BitVec.ofNat 32 (i 0).val
  let c3_i32 : BitVec 32 := 3#32
  let v84 : BitVec 1 := Scalar.cmpi .eq arg0 c3_i32
  let v85 : BitVec 32 := Scalar.extui v84
  let c0_i32_40 : BitVec 32 := 0#32
  let v86 : BitVec 1 := Scalar.cmpi .ne v85 c0_i32_40
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutBackRefIdeal.lean ====
abbrev S2176x1024 : Shape := ⟨2, ![2176, 1024]⟩
abbrev S2176x512 : Shape := ⟨2, ![2176, 512]⟩
abbrev S1x512 : Shape := ⟨2, ![1, 512]⟩
abbrev S1024x1024 : Shape := ⟨2, ![1024, 1024]⟩
abbrev S_ : Shape := ⟨0, ![]⟩
abbrev S2176 : Shape := ⟨1, ![2176]⟩
abbrev S2176x1 : Shape := ⟨2, ![2176, 1]⟩
abbrev S512 : Shape := ⟨1, ![512]⟩

abbrev nBuf : Space → Nat
  | .hbm => 98
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x512, .f32⟩
  | .hbm, ⟨2, _⟩ => ⟨S2176x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S2176x512, .f32⟩
  | .hbm, ⟨7, _⟩ => ⟨S_, .f32⟩
  | .hbm, ⟨8, _⟩ => ⟨S2176, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x512, .f32⟩
  | .hbm, ⟨22, _⟩ => ⟨S2176x512, .f32⟩
  | .hbm, ⟨23, _⟩ => ⟨S2176x512, .f32⟩
  | .hbm, ⟨24, _⟩ => ⟨S2176x512, .f32⟩
  | .hbm, ⟨25, _⟩ => ⟨S2176x512, .f32⟩
  | .hbm, ⟨26, _⟩ => ⟨S_, .f32⟩
  | .hbm, ⟨27, _⟩ => ⟨S2176, .f32⟩
  | .hbm, ⟨28, _⟩ => ⟨S2176x1, .f32⟩
  | .hbm, ⟨29, _⟩ => ⟨S_, .f32⟩
  | .hbm, ⟨30, _⟩ => ⟨S2176x1, .f32⟩
  | .hbm, ⟨31, _⟩ => ⟨S2176x1, .f32⟩
  | .hbm, ⟨32, _⟩ => ⟨S_, .f32⟩
  | .hbm, ⟨33, _⟩ => ⟨S2176x1, .f32⟩
  | .hbm, ⟨34, _⟩ => ⟨S2176x1, .f32⟩
  | .hbm, ⟨35, _⟩ => ⟨S2176x1, .f32⟩
  | .hbm, ⟨36, _⟩ => ⟨S2176x1, .f32⟩
  | .hbm, ⟨37, _⟩ => ⟨S_, .f32⟩
  | .hbm, ⟨38, _⟩ => ⟨S2176x1, .f32⟩
  | .hbm, ⟨39, _⟩ => ⟨S2176x1, .f32⟩
  | .hbm, ⟨40, _⟩ => ⟨S2176x512, .f32⟩
  | .hbm, ⟨41, _⟩ => ⟨S2176x512, .f32⟩
  | .hbm, ⟨42, _⟩ => ⟨S2176x512, .f32⟩
  | .hbm, ⟨43, _⟩ => ⟨S2176x512, .f32⟩
  | .hbm, ⟨44, _⟩ => ⟨S2176x1024, .f32⟩
  | .hbm, ⟨45, _⟩ => ⟨S2176x1024, .f32⟩
  | .hbm, ⟨46, _⟩ => ⟨S1024x1024, .f32⟩
  | .hbm, ⟨47, _⟩ => ⟨S1024x1024, .f32⟩
  | .hbm, ⟨48, _⟩ => ⟨S2176x1024, .f32⟩
  | .hbm, ⟨49, _⟩ => ⟨S2176x512, .f32⟩
  | .hbm, ⟨50, _⟩ => ⟨S2176x512, .f32⟩
  | .hbm, ⟨51, _⟩ => ⟨S2176x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S2176x512, .f32⟩
  | .hbm, ⟨56, _⟩ => ⟨S2176x512, .f32⟩
  | .hbm, ⟨57, _⟩ => ⟨S2176x512, .f32⟩
  | .hbm, ⟨58, _⟩ => ⟨S_, .f32⟩
  | .hbm, ⟨59, _⟩ => ⟨S2176, .f32⟩
  | .hbm, ⟨60, _⟩ => ⟨S2176x1, .f32⟩
  | .hbm, ⟨61, _⟩ => ⟨S2176x512, .f32⟩
  | .hbm, ⟨62, _⟩ => ⟨S2176x512, .f32⟩
  | .hbm, ⟨63, _⟩ => ⟨S2176x1, .f32⟩
  | .hbm, ⟨64, _⟩ => ⟨S_, .f32⟩
  | .hbm, ⟨65, _⟩ => ⟨S2176x1, .f32⟩
  | .hbm, ⟨66, _⟩ => ⟨S2176x1, .f32⟩
  | .hbm, ⟨67, _⟩ => ⟨S_, .f32⟩
  | .hbm, ⟨68, _⟩ => ⟨S2176, .f32⟩
  | .hbm, ⟨69, _⟩ => ⟨S2176x512, .f32⟩
  | .hbm, ⟨70, _⟩ => ⟨S2176x512, .f32⟩
  | .hbm, ⟨71, _⟩ => ⟨S2176x512, .f32⟩
  | .hbm, ⟨72, _⟩ => ⟨S2176x512, .f32⟩
  | .hbm, ⟨73, _⟩ => ⟨S2176x512, .f32⟩
  | .hbm, ⟨74, _⟩ => ⟨S2176x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S2176x512, .f32⟩
  | .hbm, ⟨79, _⟩ => ⟨S2176x512, .f32⟩
  | .hbm, ⟨80, _⟩ => ⟨S2176x512, .f32⟩
  | .hbm, ⟨81, _⟩ => ⟨S_, .f32⟩
  | .hbm, ⟨82, _⟩ => ⟨S2176, .f32⟩
  | .hbm, ⟨83, _⟩ => ⟨S2176x1, .f32⟩
  | .hbm, ⟨84, _⟩ => ⟨S2176x512, .f32⟩
  | .hbm, ⟨85, _⟩ => ⟨S2176x512, .f32⟩
  | .hbm, ⟨86, _⟩ => ⟨S2176x1, .f32⟩
  | .hbm, ⟨87, _⟩ => ⟨S_, .f32⟩
  | .hbm, ⟨88, _⟩ => ⟨S2176x1, .f32⟩
  | .hbm, ⟨89, _⟩ => ⟨S2176x1, .f32⟩
  | .hbm, ⟨90, _⟩ => ⟨S_, .f32⟩
  | .hbm, ⟨91, _⟩ => ⟨S2176, .f32⟩
  | .hbm, ⟨92, _⟩ => ⟨S2176x512, .f32⟩
  | .hbm, ⟨93, _⟩ => ⟨S2176x512, .f32⟩
  | .hbm, ⟨94, _⟩ => ⟨S2176x512, .f32⟩
  | .hbm, ⟨95, _⟩ => ⟨S2176x512, .f32⟩
  | .hbm, ⟨96, _⟩ => ⟨S2176x512, .f32⟩
  | .hbm, ⟨97, _⟩ => ⟨S1024x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Proof.Attn.Scalars.lean ====
/- Scalars of the attention's backward pass read as real numbers: the constants, the comparison of two positions that masks a
   score, the sum that picks one head's column, and what carries a sum, a product or an exponential of finite values into the reals. -/
module

public import Idealize.ShloMosaic.PureOps.Ideal
public import Idealize.ShloMosaic.PureOps.Ideal.Laws
public import Idealize.ShloMosaic.Lib.Pointwise
public import Idealize.ShloMosaic.Lib.IdealHost

@[expose] public section

set_option maxRecDepth 16384

noncomputable section

namespace Cert.Attn

open Idealize.ShloMosaic

/-- The scale of the scores, one eighth, in the narrow format. -/
theorem eighth_bf16 : Ideal.ofBits .bf16 15872#16 = (((1 : ℝ) / 8 : ℝ) : EReal) := by
  simp [Ideal.ofBits, Ideal.ieee, -EReal.coe_mul]; norm_num

/-- The scale of the scores, one eighth, in the wide format. -/
theorem eighth_f32 : Ideal.ofBits .f32 1040187392#32 = (((1 : ℝ) / 8 : ℝ) : EReal) := by
  simp [Ideal.ofBits, Ideal.ieee, -EReal.coe_mul]; norm_num

/-- A finite sum of reals is a real. -/
theorem sum_coe {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- A choice between a real and zero is a real. -/
theorem select_coe (c : BitVec 1) (a : ℝ) : Scalar.select c (a : EReal) 0 = ((if c = 1 then a else 0 : ℝ) : EReal) := by
  show (if c = 1 then (a : EReal) else 0) = _
  split <;> simp

/-- A word below `2 ^ 31` read as a signed integer is itself. -/
theorem toInt_small (a : ℕ) (h : a < 4096) : (BitVec.ofNat 32 a).toInt = a := by
  rw [BitVec.toInt_eq_toNat_cond, BitVec.toNat_ofNat, Nat.mod_eq_of_lt (by omega), if_pos (by omega)]

/-- The causal mask: query `r + x` sees key `j` when `j ≤ r + x`. -/
theorem mask_word {n k : ℕ} (r : ℕ) (x : Fin n) (j : Fin k) (h : r + n ≤ 2176) (hk : k ≤ 2176) :
    (IntOp.cmpi .sge (IntOp.addi (BitVec.ofNat 32 r) (BitVec.ofNat 32 ↑x)) (BitVec.ofNat 32 ↑j) = 1) ↔ (j : ℕ) ≤ r + x := by
  have e : IntOp.addi (BitVec.ofNat 32 r) (BitVec.ofNat 32 ↑x) = BitVec.ofNat 32 (r + x) := by
    rw [BitVec.ofNat_add]; rfl
  rw [e]
  have hx := x.isLt; have hj := j.isLt
  show BitVec.ofBool ((BitVec.ofNat 32 ↑j).sle (BitVec.ofNat 32 (r + x))) = 1 ↔ _
  rw [BitVec.sle, toInt_small _ (by omega), toInt_small _ (by omega)]
  have ofBool_one : ∀ b : Bool, BitVec.ofBool b = 1 ↔ b = true := by decide
  rw [ofBool_one, decide_eq_true_iff]
  omega

/-- The head's number, as the kernel computes it from the pair's. -/
theorem head_word (p h : ℕ) (n : ℕ) (l : Fin n) (hp : p < 4) (hh : h < 2) (hn : n ≤ 128) :
    (IntOp.cmpi .eq (BitVec.ofNat 32 ↑l) (Scalar.addi (Scalar.muli 2#32 (BitVec.ofNat 32 p)) (BitVec.ofNat 32 h)) = 1) ↔ (l : ℕ) = 2 * p + h := by
  have e : Scalar.addi (Scalar.muli 2#32 (BitVec.ofNat 32 p)) (BitVec.ofNat 32 h) = BitVec.ofNat 32 (2 * p + h) := by
    show 2#32 * BitVec.ofNat 32 p + BitVec.ofNat 32 h = _
    rw [BitVec.ofNat_add, BitVec.ofNat_mul]
  rw [e]
  have hl := l.isLt
  have ofBool_one : ∀ b : Bool, BitVec.ofBool b = 1 ↔ b = true := by decide
  show BitVec.ofBool (BitVec.ofNat 32 ↑l == BitVec.ofNat 32 (2 * p + h)) = 1 ↔ _
  rw [ofBool_one, beq_iff_eq]
  refine ⟨fun hc => ?_, fun hc => by rw [hc]⟩
  have := congrArg BitVec.toNat hc
  rwa [BitVec.toNat_ofNat, BitVec.toNat_ofNat, Nat.mod_eq_of_lt (by omega), Nat.mod_eq_of_lt (by omega)] at this

/-- The sum over the lanes of the one that is the head's is that lane. -/
theorem pick_sum {n : ℕ} (p h : ℕ) (hp : p < 4) (f : Fin n → ℝ) (hh : h < 2) (hn : n ≤ 128) (hlt : 7 < n) :
    ∑ l : Fin n, (if IntOp.cmpi .eq (BitVec.ofNat 32 ↑l) (Scalar.addi (Scalar.muli 2#32 (BitVec.ofNat 32 p)) (BitVec.ofNat 32 h)) = 1 then f l else 0)
      = f ⟨2 * p + h, by omega⟩ := by
  simp only [head_word p h n _ hp hh hn]
  rw [Finset.sum_eq_single (⟨2 * p + h, by omega⟩ : Fin n)]
  · simp
  · intro b _ hb; exact if_neg fun hc => hb (Fin.ext hc)
  · intro hc; exact absurd (Finset.mem_univ _) hc

/-- A sum over a prefix of the keys is the sum over all of them where the rest is zero. -/
theorem sum_prefix (n : ℕ) (f : ℕ → ℝ) (hn : n ≤ 2176) (h : ∀ j, n ≤ j → f j = 0) :
    ∑ x : Fin n, f x = ∑ x ∈ Finset.range 2176, f x := by
  rw [Fin.sum_univ_eq_sum_range]
  exact Finset.sum_subset (Finset.range_subset_range.mpr hn) fun x _ hx => h x (by simpa using hx)

/-- The first row of a tile of queries. -/
def row0 (i : ℕ) : ℕ := 512 * i

/-- The number of rows of a tile: the last of the five is short. -/
def rows (i : ℕ) : ℕ := if i = 4 then 128 else 512

/-- The five tiles are all the rows. -/
theorem sum_tiles (f : ℕ → ℝ) :
    ∑ i ∈ Finset.range 5, ∑ x : Fin (rows i), f (512 * i + x) = ∑ t ∈ Finset.range 2176, f t := by
  have key : ∀ a n : ℕ, ∑ x : Fin n, f (a + x) = ∑ t ∈ Finset.Ico a (a + n), f t := by
    intro a n
    rw [Fin.sum_univ_eq_sum_range (fun x => f (a + x)), Finset.sum_Ico_eq_sum_range]
    simp
  rw [show Finset.range 2176 = Finset.Ico 0 2176 from Finset.range_eq_Ico 2176, ← Finset.sum_Ico_consecutive f (Nat.zero_le 512) (by omega : 512 ≤ 2176),
    ← Finset.sum_Ico_consecutive f (by omega : 512 ≤ 1024) (by omega : 1024 ≤ 2176),
    ← Finset.sum_Ico_consecutive f (by omega : 1024 ≤ 1536) (by omega : 1536 ≤ 2176),
    ← Finset.sum_Ico_consecutive f (by omega : 1536 ≤ 2048) (by omega : 2048 ≤ 2176)]
  rw [Finset.sum_range_succ, Finset.sum_range_succ, Finset.sum_range_succ, Finset.sum_range_succ, Finset.sum_range_one,
    key, key, key, key, key]
  simp only [add_assoc]
  rfl

end Cert.Attn

end
-- ==== Proof.Attn.Tile.lean ====
/-
  The real numbers behind one pair of heads of the attention's backward pass, and the state of its accumulators.

  `In` collects what one grid step reads, as functions of natural row and column numbers. From it come the tile's numbers: the score `s` (with the
  query's log-sum already subtracted), its masked exponential `e`, the factor `w` (the gradient of the probability minus the row's delta), and what
  one tile of queries adds to the gradients of the keys (`dk`), of the values (`dv`) and of the keys' gates (`dc`). `st` is the state of such an
  accumulator after `n0` tiles of the first head and `n1` of the second; `step0` and `step1` say that a store which adds one tile moves it on.
-/
module

public import proofs.«01_k».proof.Proof.Gen.KernelIdeal.Value
public import Idealize.ShloMosaic.Lib.Pipeline.ReadBack
public import Idealize.ShloMosaic.Lib.Pipeline.ValueKit
public import proofs.«01_k».proof.Proof.Attn.Scalars

@[expose] public section

set_option maxRecDepth 16384

noncomputable section

namespace Cert.Attn

open Cert.KernelIdeal Cert.KernelIdeal.Gen Idealize.ShloMosaic Idealize.ShloMosaic.Pointwise

/-- What one pair of heads reads: queries, keys, values, the output's gradient, the output, the log-sums, the cumulated gates by query and by key. -/
structure In where
  q : ℕ → ℕ → ℝ
  k : ℕ → ℕ → ℝ
  v : ℕ → ℕ → ℝ
  d : ℕ → ℕ → ℝ
  o : ℕ → ℕ → ℝ
  ls : ℕ → ℕ → ℝ
  cj : ℕ → ℕ → ℝ
  ct : ℕ → ℕ → ℝ

namespace In

variable (b : In) (p : ℕ)

/-- The score of query `t` and key `j` minus the log-sum of the query's row. -/
def s (hh j t : ℕ) : ℝ :=
  (∑ e : Fin 64, b.k j (64 * hh + e) * (b.q t (64 * hh + e) * (1 / 8))) + (b.ct (2 * p + hh) t - b.cj j (2 * p + hh)) - b.ls hh t

/-- The gradient of the probability minus the row's delta. -/
def w (hh j t : ℕ) : ℝ :=
  (∑ e : Fin 64, b.v j (64 * hh + e) * b.d t (64 * hh + e)) - ∑ e : Fin 64, b.d t (64 * hh + e) * b.o t (64 * hh + e)

/-- One tile's part of the gradient of the values. -/
def dv (r n hh j l : ℕ) : ℝ :=
  ∑ x : Fin n, if j ≤ r + x then Real.exp (b.s p hh j (r + x)) * b.d (r + x) (64 * hh + l) else 0

/-- One tile's part of the gradient of the keys. -/
def dk (r n hh j l : ℕ) : ℝ :=
  (∑ x : Fin n, if j ≤ r + x then Real.exp (b.s p hh j (r + x)) * b.w hh j (r + x) * b.q (r + x) (64 * hh + l) else 0) * (1 / 8)

/-- One tile's part of the gradient of the keys' gates, the same in each of the head's columns. -/
def dc (r n hh j _l : ℕ) : ℝ :=
  -∑ x : Fin n, if j ≤ r + x then Real.exp (b.s p hh j (r + x)) * b.w hh j (r + x) else 0

/-- The gradient of the queries' gates. -/
def dr (n hh t : ℕ) : ℝ := ∑ j : Fin n, if (j : ℕ) ≤ t then Real.exp (b.s p hh j t) * b.w hh j t else 0

/-- The gradient of the queries, before the scale. -/
def dq (n hh l t : ℕ) : ℝ :=
  ∑ j : Fin n, if (j : ℕ) ≤ t then b.k j (64 * hh + l) * (Real.exp (b.s p hh j t) * b.w hh j t) else 0

end In

/-- A key below the diagonal of every query of the tile gets nothing from it. -/
theorem masked_zero (r n j : ℕ) (f : Fin n → ℝ) (h : r + n ≤ j) : (∑ x : Fin n, if j ≤ r + x then f x else 0) = 0 :=
  Finset.sum_eq_zero fun x _ => if_neg (by have := x.isLt; omega)

namespace In

variable (b : In) (p : ℕ) {r n hh j l : ℕ}

theorem dk_zero (h : r + n ≤ j) : b.dk p r n hh j l = 0 := by
  rw [In.dk, masked_zero r n j _ h, zero_mul]

theorem dv_zero (h : r + n ≤ j) : b.dv p r n hh j l = 0 :=
  masked_zero r n j _ h

theorem dc_zero (h : r + n ≤ j) : b.dc p r n hh j l = 0 := by
  rw [In.dc, masked_zero r n j _ h, neg_zero]

end In

variable (F : ℕ → ℕ → ℕ → ℕ → ℕ → ℝ)

/-- The accumulator's entry for head `hh`, key `j`, column `l` after `n` tiles. -/
def acc (n hh j l : ℕ) : ℝ := ∑ i ∈ Finset.range n, F (row0 i) (rows i) hh j l

/-- The accumulator after `n0` tiles of the first head and `n1` tiles of the second. -/
def st (n0 n1 : ℕ) : S2176x128.Idx → EReal := fun y =>
  ((acc F (if (y 1 : ℕ) < 64 then n0 else n1) ((y 1 : ℕ) / 64) (y 0) ((y 1 : ℕ) % 64) : ℝ) : EReal)

theorem acc_succ (n hh j l : ℕ) : acc F (n + 1) hh j l = acc F n hh j l + F (row0 n) (rows n) hh j l := Finset.sum_range_succ _ _

/-- The whole buffer filled with zeros. -/
theorem st_zero (L : List (View.Piece (Elt Ideal) S2176x128 .f32)) (h : ∀ y, View.canon L y = (0 : EReal)) : View.canon L = st F 0 0 := by
  funext y; rw [h]; simp [st, acc]

variable {m n0 n1 : ℕ} {L : List (View.Piece (Elt Ideal) S2176x128 .f32)}

/-- A store that adds a tile of the first head. -/
theorem step0 (hL : View.canon L = st F n0 n1) (inb : ∀ a, (![0, 0] : Fin 2 → ℕ) a + (![m, 64] : Fin 2 → ℕ) a ≤ S2176x128.size a)
    (w : (⟨2, ![m, 64]⟩ : Shape).Idx → EReal)
    (hz : ∀ j l, m ≤ j → F (row0 n0) (rows n0) 0 j l = 0)
    (hw : ∀ (a : Fin m) (e : Fin 64), w (ix2 a e) = ((acc F n0 0 a e + F (row0 n0) (rows n0) 0 a e : ℝ) : EReal)) :
    View.canon ((⟨Rect.unit (s := S2176x128) ![0, 0] ![m, 64] inb, w⟩ : View.Piece (Elt Ideal) S2176x128 .f32) :: L) = st F (n0 + 1) n1 := by
  funext y
  by_cases hm : y ∈ (Rect.unit (s := S2176x128) ![0, 0] ![m, 64] inb).set
  · obtain ⟨x, rfl⟩ := (Rect.unit (s := S2176x128) ![0, 0] ![m, 64] inb).exists_idx_of_mem hm
    rw [show (Rect.unit (s := S2176x128) ![0, 0] ![m, 64] inb).idx x = (Rect.unit (s := S2176x128) ![0, 0] ![m, 64] inb).emb x from rfl, View.canon_cons_emb]
    obtain ⟨a, e, rfl⟩ : ∃ (a : Fin m) (e : Fin 64), x = ix2 a e := ⟨x 0, x 1, by funext k; fin_cases k <;> rfl⟩
    rw [hw, ← acc_succ]
    have e0 : (((Rect.unit (s := S2176x128) ![0, 0] ![m, 64] inb).emb (ix2 a e) 0 : Fin _) : ℕ) = a := by
      show 0 + 1 * (a : ℕ) = a; omega
    have e1 : (((Rect.unit (s := S2176x128) ![0, 0] ![m, 64] inb).emb (ix2 a e) 1 : Fin _) : ℕ) = e := by
      show 0 + 1 * (e : ℕ) = e; omega
    have := e.isLt
    rw [st, e0, e1, if_pos (by omega), Nat.div_eq_of_lt (by omega), Nat.mod_eq_of_lt (by omega)]
  · rw [View.canon_cons_of_not_mem (⟨Rect.unit (s := S2176x128) ![0, 0] ![m, 64] inb, w⟩ : View.Piece (Elt Ideal) S2176x128 .f32) L hm, hL]
    simp only [st]
    split
    · rename_i hy
      have hj : m ≤ (y 0 : ℕ) := by
        by_contra hc
        refine hm (Rect.mem_set_unit.mpr fun a => ?_)
        fin_cases a
        · exact ⟨Nat.zero_le _, by show (y 0 : ℕ) < 0 + m; omega⟩
        · exact ⟨Nat.zero_le _, by show (y 1 : ℕ) < 0 + 64; omega⟩
      rw [acc_succ, Nat.div_eq_of_lt hy, hz _ _ hj, add_zero]
    · rfl

/-- A store that adds a tile of the second head. -/
theorem step1 (hL : View.canon L = st F n0 n1) (inb : ∀ a, (![0, 64] : Fin 2 → ℕ) a + (![m, 64] : Fin 2 → ℕ) a ≤ S2176x128.size a)
    (w : (⟨2, ![m, 64]⟩ : Shape).Idx → EReal)
    (hz : ∀ j l, m ≤ j → F (row0 n1) (rows n1) 1 j l = 0)
    (hw : ∀ (a : Fin m) (e : Fin 64), w (ix2 a e) = ((acc F n1 1 a e + F (row0 n1) (rows n1) 1 a e : ℝ) : EReal)) :
    View.canon ((⟨Rect.unit (s := S2176x128) ![0, 64] ![m, 64] inb, w⟩ : View.Piece (Elt Ideal) S2176x128 .f32) :: L) = st F n0 (n1 + 1) := by
  funext y
  by_cases hm : y ∈ (Rect.unit (s := S2176x128) ![0, 64] ![m, 64] inb).set
  · obtain ⟨x, rfl⟩ := (Rect.unit (s := S2176x128) ![0, 64] ![m, 64] inb).exists_idx_of_mem hm
    rw [show (Rect.unit (s := S2176x128) ![0, 64] ![m, 64] inb).idx x = (Rect.unit (s := S2176x128) ![0, 64] ![m, 64] inb).emb x from rfl, View.canon_cons_emb]
    obtain ⟨a, e, rfl⟩ : ∃ (a : Fin m) (e : Fin 64), x = ix2 a e := ⟨x 0, x 1, by funext k; fin_cases k <;> rfl⟩
    rw [hw, ← acc_succ]
    have e0 : (((Rect.unit (s := S2176x128) ![0, 64] ![m, 64] inb).emb (ix2 a e) 0 : Fin _) : ℕ) = a := by
      show 0 + 1 * (a : ℕ) = a; omega
    have e1 : (((Rect.unit (s := S2176x128) ![0, 64] ![m, 64] inb).emb (ix2 a e) 1 : Fin _) : ℕ) = 64 + e := by
      show 64 + 1 * (e : ℕ) = 64 + e; omega
    have := e.isLt
    rw [st, e0, e1, if_neg (by omega), show (64 + (e : ℕ)) / 64 = 1 by omega, show (64 + (e : ℕ)) % 64 = e by omega]
  · rw [View.canon_cons_of_not_mem (⟨Rect.unit (s := S2176x128) ![0, 64] ![m, 64] inb, w⟩ : View.Piece (Elt Ideal) S2176x128 .f32) L hm, hL]
    simp only [st]
    split
    · rfl
    · rename_i hy
      have h1 := (y 1).isLt
      have h1' : (y 1 : ℕ) < 128 := h1
      have hj : m ≤ (y 0 : ℕ) := by
        by_contra hc
        refine hm (Rect.mem_set_unit.mpr fun a => ?_)
        fin_cases a
        · exact ⟨Nat.zero_le _, by show (y 0 : ℕ) < 0 + m; omega⟩
        · exact ⟨by show 64 ≤ (y 1 : ℕ); omega, by show (y 1 : ℕ) < 64 + 64; omega⟩
      rw [acc_succ, show (y 1 : ℕ) / 64 = 1 by omega, hz _ _ hj, add_zero]

/-- The state at a place of the first head. -/
theorem st_left (n0 n1 : ℕ) (a : Fin 2176) (e : Fin 128) (h : (e : ℕ) < 64) : st F n0 n1 (ix2 a e) = ((acc F n0 0 a e : ℝ) : EReal) := by
  show ((acc F (if (e : ℕ) < 64 then n0 else n1) ((e : ℕ) / 64) a ((e : ℕ) % 64) : ℝ) : EReal) = _
  rw [if_pos h, Nat.div_eq_of_lt h, Nat.mod_eq_of_lt h]

/-- The state at a place of the second head. -/
theorem st_right (n0 n1 : ℕ) (a : Fin 2176) (e : ℕ) (h : 64 + e < 128) :
    st F n0 n1 (ix2 a ⟨64 + e, h⟩) = ((acc F n1 1 a e : ℝ) : EReal) := by
  show ((acc F (if 64 + e < 64 then n0 else n1) ((64 + e) / 64) a ((64 + e) % 64) : ℝ) : EReal) = _
  rw [if_neg (by omega), show (64 + e) / 64 = 1 by omega, show (64 + e) % 64 = e by omega]

/-- What a load of `m` rows of one head finds in the accumulator. -/
def part (m n hh : ℕ) : (⟨2, ![m, 64]⟩ : Shape).Idx → EReal := fun x => ((acc F n hh (x 0 : Fin m) (x 1 : Fin 64) : ℝ) : EReal)

theorem part_apply (m n hh : ℕ) (a : Fin m) (e : Fin 64) : part F m n hh (ix2 a e) = ((acc F n hh a e : ℝ) : EReal) := rfl

variable {F}

/-- A load of the first head's columns. -/
theorem load0 {sig : RefSig} {κ : Kind} {sp : Space} (v : View sig κ sp S2176x128 .f32) (hL : View.canon L = st F n0 n1)
    (inb : ∀ a, (![0, 0] : Fin 2 → ℕ) a + (![m, 64] : Fin 2 → ℕ) a ≤ S2176x128.size a) :
    v.readCov L (Rect.unit (s := S2176x128) ![0, 0] ![m, 64] inb).toLoadRect = part F m n0 0 := by
  rw [View.readCov_eq_canon', hL]
  funext x
  obtain ⟨a, e, rfl⟩ : ∃ (a : Fin m) (e : Fin 64), x = ix2 a e := ⟨x 0, x 1, by funext k; fin_cases k <;> rfl⟩
  have e0 : (((Rect.unit (s := S2176x128) ![0, 0] ![m, 64] inb).toLoadRect.idx (ix2 a e) 0 : Fin _) : ℕ) = a := by
    show 0 + 1 * (a : ℕ) = a; omega
  have e1 : (((Rect.unit (s := S2176x128) ![0, 0] ![m, 64] inb).toLoadRect.idx (ix2 a e) 1 : Fin _) : ℕ) = e := by
    show 0 + 1 * (e : ℕ) = e; omega
  have := e.isLt
  rw [st, e0, e1, if_pos (by omega), Nat.div_eq_of_lt (by omega), Nat.mod_eq_of_lt (by omega)]
  rfl

/-- A load of the second head's columns. -/
theorem load1 {sig : RefSig} {κ : Kind} {sp : Space} (v : View sig κ sp S2176x128 .f32) (hL : View.canon L = st F n0 n1)
    (inb : ∀ a, (![0, 64] : Fin 2 → ℕ) a + (![m, 64] : Fin 2 → ℕ) a ≤ S2176x128.size a) :
    v.readCov L (Rect.unit (s := S2176x128) ![0, 64] ![m, 64] inb).toLoadRect = part F m n1 1 := by
  rw [View.readCov_eq_canon', hL]
  funext x
  obtain ⟨a, e, rfl⟩ : ∃ (a : Fin m) (e : Fin 64), x = ix2 a e := ⟨x 0, x 1, by funext k; fin_cases k <;> rfl⟩
  have e0 : (((Rect.unit (s := S2176x128) ![0, 64] ![m, 64] inb).toLoadRect.idx (ix2 a e) 0 : Fin _) : ℕ) = a := by
    show 0 + 1 * (a : ℕ) = a; omega
  have e1 : (((Rect.unit (s := S2176x128) ![0, 64] ![m, 64] inb).toLoadRect.idx (ix2 a e) 1 : Fin _) : ℕ) = 64 + e := by
    show 64 + 1 * (e : ℕ) = 64 + e; omega
  have := e.isLt
  rw [st, e0, e1, if_neg (by omega), show (64 + (e : ℕ)) / 64 = 1 by omega, show (64 + (e : ℕ)) % 64 = e by omega]
  rfl

/-- What one grid step's blocks hold. -/
structure Reads (b : In) (x0 x1 x2 : Vec Ideal S2176x128 .bf16) (x3 x4 : Vec Ideal S2176x128 .f32) (x5 : Vec Ideal S1x8x2176 .f32)
    (x6 : Vec Ideal S2176x128 .f32) (x7 : Vec Ideal S8x2176 .f32) : Prop where
  q : ∀ (a : Fin 2176) (e : Fin 128), x0 (ix2 a e) = ((b.q a e : ℝ) : EReal)
  k : ∀ (a : Fin 2176) (e : Fin 128), x1 (ix2 a e) = ((b.k a e : ℝ) : EReal)
  v : ∀ (a : Fin 2176) (e : Fin 128), x2 (ix2 a e) = ((b.v a e : ℝ) : EReal)
  d : ∀ (a : Fin 2176) (e : Fin 128), x3 (ix2 a e) = ((b.d a e : ℝ) : EReal)
  o : ∀ (a : Fin 2176) (e : Fin 128), x4 (ix2 a e) = ((b.o a e : ℝ) : EReal)
  ls : ∀ (z : Fin 1) (h : Fin 8) (t : Fin 2176), x5 (ix3 z h t) = ((b.ls h t : ℝ) : EReal)
  cj : ∀ (a : Fin 2176) (e : Fin 128), x6 (ix2 a e) = ((b.cj a e : ℝ) : EReal)
  ct : ∀ (h : Fin 8) (t : Fin 2176), x7 (ix2 h t) = ((b.ct h t : ℝ) : EReal)

end Cert.Attn

end
-- ==== Proof.Attn.Keys.lean ====
/-
  The backward pass's accumulator for the keys.

  The body walks over five tiles of queries and, in each, over the pair's two heads; each visit reads back the rows of the accumulator at or above the
  tile's last query, adds the tile's part and stores them again. `dk_steps` says so visit by visit; `keys` chains the visits from the fill with zeros.
-/
module

public import proofs.«01_k».proof.Proof.Attn.Tile
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pointwise

variable (c : Dev nD) (i : grid0.Coords) (arg1 : Memref sig .tc .vmem S2176x128 .bf16) (harg1 : arg1.IsWhole) (arg2 : Memref sig .tc .vmem S2176x128 .bf16) (harg2 : arg2.IsWhole) (arg3 : Memref sig .tc .vmem S2176x128 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S1x8x2176 .f32) (harg6 : arg6.IsWhole) (arg7 : Memref sig .tc .vmem S2176x128 .f32) (harg7 : arg7.IsWhole) (arg8 : Memref sig .tc .vmem S8x2176 .f32) (harg8 : arg8.IsWhole)
    (x0 x1 x2 : Vec Ideal S2176x128 .bf16) (x3 x4 : Vec Ideal S2176x128 .f32) (x5 : Vec Ideal S1x8x2176 .f32)
    (x6 : Vec Ideal S2176x128 .f32) (x7 : Vec Ideal S8x2176 .f32) {b : In}

set_option maxHeartbeats 8000000 in
open kernelRun0_A in
/-- Visit by visit: a buffer that holds the state before the visit holds the next one after it. -/
theorem dk_steps (R : Reads b x0 x1 x2 x3 x4 x5 x6 x7) (hi : (i 0 : ℕ) < 4) (arg14 : Memref sig .tc .vmem S2176x128 .f32) :
    (View.canon (sl.HS0_1 (F := Ideal)) = st (b.dk (i 0)) 0 0 →
      View.canon (sl.HS0_2 c i _ harg1 _ harg2 _ harg3 _ harg4 _ harg5 _ harg6 _ harg7 _ harg8 arg14 x0 x1 x2 x3 x4 x5 x6 x7) = st (b.dk (i 0)) 1 0) ∧
    (View.canon (sl.HS0_2 c i _ harg1 _ harg2 _ harg3 _ harg4 _ harg5 _ harg6 _ harg7 _ harg8 arg14 x0 x1 x2 x3 x4 x5 x6 x7) = st (b.dk (i 0)) 1 0 →
      View.canon (sl.HS0_3 c i _ harg1 _ harg2 _ harg3 _ harg4 _ harg5 _ harg6 _ harg7 _ harg8 arg14 x0 x1 x2 x3 x4 x5 x6 x7) = st (b.dk (i 0)) 1 1) ∧
    (View.canon (sl.HS0_3 c i _ harg1 _ harg2 _ harg3 _ harg4 _ harg5 _ harg6 _ harg7 _ harg8 arg14 x0 x1 x2 x3 x4 x5 x6 x7) = st (b.dk (i 0)) 1 1 →
      View.canon (sl.HS0_4 c i _ harg1 _ harg2 _ harg3 _ harg4 _ harg5 _ harg6 _ harg7 _ harg8 arg14 x0 x1 x2 x3 x4 x5 x6 x7) = st (b.dk (i 0)) 2 1) ∧
    (View.canon (sl.HS0_4 c i _ harg1 _ harg2 _ harg3 _ harg4 _ harg5 _ harg6 _ harg7 _ harg8 arg14 x0 x1 x2 x3 x4 x5 x6 x7) = st (b.dk (i 0)) 2 1 →
      View.canon (sl.HS0_5 c i _ harg1 _ harg2 _ harg3 _ harg4 _ harg5 _ harg6 _ harg7 _ harg8 arg14 x0 x1 x2 x3 x4 x5 x6 x7) = st (b.dk (i 0)) 2 2) ∧
    (View.canon (sl.HS0_5 c i _ harg1 _ harg2 _ harg3 _ harg4 _ harg5 _ harg6 _ harg7 _ harg8 arg14 x0 x1 x2 x3 x4 x5 x6 x7) = st (b.dk (i 0)) 2 2 →
      View.canon (sl.HS0_6 c i _ harg1 _ harg2 _ harg3 _ harg4 _ harg5 _ harg6 _ harg7 _ harg8 arg14 x0 x1 x2 x3 x4 x5 x6 x7) = st (b.dk (i 0)) 3 2) ∧
    (View.canon (sl.HS0_6 c i _ harg1 _ harg2 _ harg3 _ harg4 _ harg5 _ harg6 _ harg7 _ harg8 arg14 x0 x1 x2 x3 x4 x5 x6 x7) = st (b.dk (i 0)) 3 2 →
      View.canon (sl.HS0_7 c i _ harg1 _ harg2 _ harg3 _ harg4 _ harg5 _ harg6 _ harg7 _ harg8 arg14 x0 x1 x2 x3 x4 x5 x6 x7) = st (b.dk (i 0)) 3 3) ∧
    (View.canon (sl.HS0_7 c i _ harg1 _ harg2 _ harg3 _ harg4 _ harg5 _ harg6 _ harg7 _ harg8 arg14 x0 x1 x2 x3 x4 x5 x6 x7) = st (b.dk (i 0)) 3 3 →
      View.canon (sl.HS0_8 c i _ harg1 _ harg2 _ harg3 _ harg4 _ harg5 _ harg6 _ harg7 _ harg8 arg14 x0 x1 x2 x3 x4 x5 x6 x7) = st (b.dk (i 0)) 4 3) ∧
    (View.canon (sl.HS0_8 c i _ harg1 _ harg2 _ harg3 _ harg4 _ harg5 _ harg6 _ harg7 _ harg8 arg14 x0 x1 x2 x3 x4 x5 x6 x7) = st (b.dk (i 0)) 4 3 →
      View.canon (sl.HS0_9 c i _ harg1 _ harg2 _ harg3 _ harg4 _ harg5 _ harg6 _ harg7 _ harg8 arg14 x0 x1 x2 x3 x4 x5 x6 x7) = st (b.dk (i 0)) 4 4) ∧
    (View.canon (sl.HS0_9 c i _ harg1 _ harg2 _ harg3 _ harg4 _ harg5 _ harg6 _ harg7 _ harg8 arg14 x0 x1 x2 x3 x4 x5 x6 x7) = st (b.dk (i 0)) 4 4 →
      View.canon (sl.HS0_10 c i _ harg1 _ harg2 _ harg3 _ harg4 _ harg5 _ harg6 _ harg7 _ harg8 arg14 x0 x1 x2 x3 x4 x5 x6 x7) = st (b.dk (i 0)) 5 4) ∧
    (View.canon (sl.HS0_10 c i _ harg1 _ harg2 _ harg3 _ harg4 _ harg5 _ harg6 _ harg7 _ harg8 arg14 x0 x1 x2 x3 x4 x5 x6 x7) = st (b.dk (i 0)) 5 4 →
      View.canon (sl.HS0_11 c i _ harg1 _ harg2 _ harg3 _ harg4 _ harg5 _ harg6 _ harg7 _ harg8 arg14 x0 x1 x2 x3 x4 x5 x6 x7) = st (b.dk (i 0)) 5 5) := by
  refine ⟨?_, ?_, ?_, ?_, ?_, ?_, ?_, ?_, ?_, ?_⟩ <;> intro h <;>
    first | refine step0 _ h _ _ (fun j l hj => b.dk_zero _ hj) ?_ | refine step1 _ h _ _ (fun j l hj => b.dk_zero _ hj) ?_
  all_goals
    intro a e
    simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.r_43, sl.r_44, sl.r_45, sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.r_76, sl.r_77, sl.r_78,
      sl.v81, sl.v163, sl.v254, sl.v336, sl.v427, sl.v509, sl.v600, sl.v682, sl.v773, sl.v855, sl.v26, sl.v281, sl.v25, sl.v471, sl.cst_286, sl.cst_471, load0 _ h, load1 _ h,
      View.readAt_eq_ld, Memref.IsWhole.read_unread]
    pointwise [k0_pay1, k0_pay5, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140]
    simp only [R.q, R.k, R.v, R.d, R.o, R.ls, R.cj, R.ct, part_apply, eighth_bf16, eighth_f32, ← EReal.coe_mul, ← EReal.coe_add, ← EReal.coe_sub, sum_coe,
      Ideal.exp_coe, select_coe]
    simp (disch := omega) only [mask_word, pick_sum, ite_mul, mul_ite, zero_mul, mul_zero, zero_add, mul_one, mul_assoc, In.dk, In.s, In.w, row0, rows,
      Nat.mul_zero, Nat.mul_one, Nat.zero_add, Fin.isValue, Fin.coe_ofNat_eq_mod]
    rfl

open kernelRun0_A in
/-- The buffer after the last visit. -/
theorem keys (R : Reads b x0 x1 x2 x3 x4 x5 x6 x7) (hi : (i 0 : ℕ) < 4) (arg14 : Memref sig .tc .vmem S2176x128 .f32) :
    View.canon (sl.HS0_11 c i _ harg1 _ harg2 _ harg3 _ harg4 _ harg5 _ harg6 _ harg7 _ harg8 arg14 x0 x1 x2 x3 x4 x5 x6 x7) = st (b.dk (i 0)) 5 5 := by
  have h : View.canon (sl.HS0_1 (F := Ideal)) = st (b.dk (i 0)) 0 0 :=
    st_zero _ _ fun y => by
      unfold sl.HS0_1
      rw [View.canon_cons_unit_lit']
      · show Ideal.ofBits .f32 0#32 = 0
        simp [Ideal.ofBits, Ideal.ieee]
      · intro a; fin_cases a <;> rfl
  obtain ⟨h1, h2, h3, h4, h5, h6, h7, h8, h9, h10⟩ := dk_steps c i _ harg1 _ harg2 _ harg3 _ harg4 _ harg5 _ harg6 _ harg7 _ harg8 x0 x1 x2 x3 x4 x5 x6 x7 R hi arg14
  exact h10 (h9 (h8 (h7 (h6 (h5 (h4 (h3 (h2 (h1 h)))))))))

end Cert.Attn

end
-- ==== Proof.Attn.Values.lean ====
/-
  The backward pass's accumulator for the values.

  The body walks over five tiles of queries and, in each, over the pair's two heads; each visit reads back the rows of the accumulator at or above the
  tile's last query, adds the tile's part and stores them again. `dv_steps` says so visit by visit; `values` chains the visits from the fill with zeros.
-/
module

public import proofs.«01_k».proof.Proof.Attn.Tile
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pointwise

variable (c : Dev nD) (i : grid0.Coords) (arg1 : Memref sig .tc .vmem S2176x128 .bf16) (harg1 : arg1.IsWhole) (arg2 : Memref sig .tc .vmem S2176x128 .bf16) (harg2 : arg2.IsWhole) (arg3 : Memref sig .tc .vmem S2176x128 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S1x8x2176 .f32) (harg6 : arg6.IsWhole) (arg7 : Memref sig .tc .vmem S2176x128 .f32) (harg7 : arg7.IsWhole) (arg8 : Memref sig .tc .vmem S8x2176 .f32) (harg8 : arg8.IsWhole)
    (x0 x1 x2 : Vec Ideal S2176x128 .bf16) (x3 x4 : Vec Ideal S2176x128 .f32) (x5 : Vec Ideal S1x8x2176 .f32)
    (x6 : Vec Ideal S2176x128 .f32) (x7 : Vec Ideal S8x2176 .f32) {b : In}

set_option maxHeartbeats 8000000 in
open kernelRun0_A in
/-- Visit by visit: a buffer that holds the state before the visit holds the next one after it. -/
theorem dv_steps (R : Reads b x0 x1 x2 x3 x4 x5 x6 x7) (hi : (i 0 : ℕ) < 4) (arg15 : Memref sig .tc .vmem S2176x128 .f32) :
    (View.canon (sl.HS1_1 (F := Ideal)) = st (b.dv (i 0)) 0 0 →
      View.canon (sl.HS1_2 c i _ harg1 _ harg2 _ harg4 _ harg6 _ harg7 _ harg8 arg15 x0 x1 x3 x5 x6 x7) = st (b.dv (i 0)) 1 0) ∧
    (View.canon (sl.HS1_2 c i _ harg1 _ harg2 _ harg4 _ harg6 _ harg7 _ harg8 arg15 x0 x1 x3 x5 x6 x7) = st (b.dv (i 0)) 1 0 →
      View.canon (sl.HS1_3 c i _ harg1 _ harg2 _ harg4 _ harg6 _ harg7 _ harg8 arg15 x0 x1 x3 x5 x6 x7) = st (b.dv (i 0)) 1 1) ∧
    (View.canon (sl.HS1_3 c i _ harg1 _ harg2 _ harg4 _ harg6 _ harg7 _ harg8 arg15 x0 x1 x3 x5 x6 x7) = st (b.dv (i 0)) 1 1 →
      View.canon (sl.HS1_4 c i _ harg1 _ harg2 _ harg4 _ harg6 _ harg7 _ harg8 arg15 x0 x1 x3 x5 x6 x7) = st (b.dv (i 0)) 2 1) ∧
    (View.canon (sl.HS1_4 c i _ harg1 _ harg2 _ harg4 _ harg6 _ harg7 _ harg8 arg15 x0 x1 x3 x5 x6 x7) = st (b.dv (i 0)) 2 1 →
      View.canon (sl.HS1_5 c i _ harg1 _ harg2 _ harg4 _ harg6 _ harg7 _ harg8 arg15 x0 x1 x3 x5 x6 x7) = st (b.dv (i 0)) 2 2) ∧
    (View.canon (sl.HS1_5 c i _ harg1 _ harg2 _ harg4 _ harg6 _ harg7 _ harg8 arg15 x0 x1 x3 x5 x6 x7) = st (b.dv (i 0)) 2 2 →
      View.canon (sl.HS1_6 c i _ harg1 _ harg2 _ harg4 _ harg6 _ harg7 _ harg8 arg15 x0 x1 x3 x5 x6 x7) = st (b.dv (i 0)) 3 2) ∧
    (View.canon (sl.HS1_6 c i _ harg1 _ harg2 _ harg4 _ harg6 _ harg7 _ harg8 arg15 x0 x1 x3 x5 x6 x7) = st (b.dv (i 0)) 3 2 →
      View.canon (sl.HS1_7 c i _ harg1 _ harg2 _ harg4 _ harg6 _ harg7 _ harg8 arg15 x0 x1 x3 x5 x6 x7) = st (b.dv (i 0)) 3 3) ∧
    (View.canon (sl.HS1_7 c i _ harg1 _ harg2 _ harg4 _ harg6 _ harg7 _ harg8 arg15 x0 x1 x3 x5 x6 x7) = st (b.dv (i 0)) 3 3 →
      View.canon (sl.HS1_8 c i _ harg1 _ harg2 _ harg4 _ harg6 _ harg7 _ harg8 arg15 x0 x1 x3 x5 x6 x7) = st (b.dv (i 0)) 4 3) ∧
    (View.canon (sl.HS1_8 c i _ harg1 _ harg2 _ harg4 _ harg6 _ harg7 _ harg8 arg15 x0 x1 x3 x5 x6 x7) = st (b.dv (i 0)) 4 3 →
      View.canon (sl.HS1_9 c i _ harg1 _ harg2 _ harg4 _ harg6 _ harg7 _ harg8 arg15 x0 x1 x3 x5 x6 x7) = st (b.dv (i 0)) 4 4) ∧
    (View.canon (sl.HS1_9 c i _ harg1 _ harg2 _ harg4 _ harg6 _ harg7 _ harg8 arg15 x0 x1 x3 x5 x6 x7) = st (b.dv (i 0)) 4 4 →
      View.canon (sl.HS1_10 c i _ harg1 _ harg2 _ harg4 _ harg6 _ harg7 _ harg8 arg15 x0 x1 x3 x5 x6 x7) = st (b.dv (i 0)) 5 4) ∧
    (View.canon (sl.HS1_10 c i _ harg1 _ harg2 _ harg4 _ harg6 _ harg7 _ harg8 arg15 x0 x1 x3 x5 x6 x7) = st (b.dv (i 0)) 5 4 →
      View.canon (sl.HS1_11 c i _ harg1 _ harg2 _ harg4 _ harg6 _ harg7 _ harg8 arg15 x0 x1 x3 x5 x6 x7) = st (b.dv (i 0)) 5 5) := by
  refine ⟨?_, ?_, ?_, ?_, ?_, ?_, ?_, ?_, ?_, ?_⟩ <;> intro h <;>
    first | refine step0 _ h _ _ (fun j l hj => b.dv_zero _ hj) ?_ | refine step1 _ h _ _ (fun j l hj => b.dv_zero _ hj) ?_
  all_goals
    intro a e
    simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.r_43, sl.r_44, sl.r_45, sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.r_76, sl.r_77, sl.r_78,
      sl.v75, sl.v157, sl.v248, sl.v330, sl.v421, sl.v503, sl.v594, sl.v676, sl.v767, sl.v849, sl.v26, sl.v281, sl.v25, sl.v471, sl.cst_286, sl.cst_471, load0 _ h, load1 _ h,
      View.readAt_eq_ld, Memref.IsWhole.read_unread]
    pointwise [k0_pay1, k0_pay5, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140]
    simp only [R.q, R.k, R.v, R.d, R.o, R.ls, R.cj, R.ct, part_apply, eighth_bf16, eighth_f32, ← EReal.coe_mul, ← EReal.coe_add, ← EReal.coe_sub, sum_coe,
      Ideal.exp_coe, select_coe]
    simp (disch := omega) only [mask_word, pick_sum, ite_mul, mul_ite, zero_mul, mul_zero, zero_add, mul_one, mul_assoc, In.dv, In.s, In.w, row0, rows,
      Nat.mul_zero, Nat.mul_one, Nat.zero_add, Fin.isValue, Fin.coe_ofNat_eq_mod]
    rfl

open kernelRun0_A in
/-- The buffer after the last visit. -/
theorem values (R : Reads b x0 x1 x2 x3 x4 x5 x6 x7) (hi : (i 0 : ℕ) < 4) (arg15 : Memref sig .tc .vmem S2176x128 .f32) :
    View.canon (sl.HS1_11 c i _ harg1 _ harg2 _ harg4 _ harg6 _ harg7 _ harg8 arg15 x0 x1 x3 x5 x6 x7) = st (b.dv (i 0)) 5 5 := by
  have h : View.canon (sl.HS1_1 (F := Ideal)) = st (b.dv (i 0)) 0 0 :=
    st_zero _ _ fun y => by
      unfold sl.HS1_1
      rw [View.canon_cons_unit_lit']
      · show Ideal.ofBits .f32 0#32 = 0
        simp [Ideal.ofBits, Ideal.ieee]
      · intro a; fin_cases a <;> rfl
  obtain ⟨h1, h2, h3, h4, h5, h6, h7, h8, h9, h10⟩ := dv_steps c i _ harg1 _ harg2 _ harg4 _ harg6 _ harg7 _ harg8 x0 x1 x2 x3 x4 x5 x6 x7 R hi arg15
  exact h10 (h9 (h8 (h7 (h6 (h5 (h4 (h3 (h2 (h1 h)))))))))

end Cert.Attn

end
-- ==== Proof.Attn.Gates.lean ====
/-
  The backward pass's accumulator for the gates.

  The body walks over five tiles of queries and, in each, over the pair's two heads; each visit reads back the rows of the accumulator at or above the
  tile's last query, adds the tile's part and stores them again. `dc_steps` says so visit by visit; `gates` chains the visits from the fill with zeros.
-/
module

public import proofs.«01_k».proof.Proof.Attn.Tile
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pointwise

variable (c : Dev nD) (i : grid0.Coords) (arg1 : Memref sig .tc .vmem S2176x128 .bf16) (harg1 : arg1.IsWhole) (arg2 : Memref sig .tc .vmem S2176x128 .bf16) (harg2 : arg2.IsWhole) (arg3 : Memref sig .tc .vmem S2176x128 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S1x8x2176 .f32) (harg6 : arg6.IsWhole) (arg7 : Memref sig .tc .vmem S2176x128 .f32) (harg7 : arg7.IsWhole) (arg8 : Memref sig .tc .vmem S8x2176 .f32) (harg8 : arg8.IsWhole)
    (x0 x1 x2 : Vec Ideal S2176x128 .bf16) (x3 x4 : Vec Ideal S2176x128 .f32) (x5 : Vec Ideal S1x8x2176 .f32)
    (x6 : Vec Ideal S2176x128 .f32) (x7 : Vec Ideal S8x2176 .f32) {b : In}

set_option maxHeartbeats 8000000 in
open kernelRun0_A in
/-- Visit by visit: a buffer that holds the state before the visit holds the next one after it. -/
theorem dc_steps (R : Reads b x0 x1 x2 x3 x4 x5 x6 x7) (hi : (i 0 : ℕ) < 4) (arg13 : Memref sig .tc .vmem S2176x128 .f32) :
    (View.canon (sl.H12_1 (F := Ideal)) = st (b.dc (i 0)) 0 0 →
      View.canon (sl.H12_2 c i _ harg1 _ harg2 _ harg3 _ harg4 _ harg5 _ harg6 _ harg7 _ harg8 arg13 x0 x1 x2 x3 x4 x5 x6 x7) = st (b.dc (i 0)) 1 0) ∧
    (View.canon (sl.H12_2 c i _ harg1 _ harg2 _ harg3 _ harg4 _ harg5 _ harg6 _ harg7 _ harg8 arg13 x0 x1 x2 x3 x4 x5 x6 x7) = st (b.dc (i 0)) 1 0 →
      View.canon (sl.H12_3 c i _ harg1 _ harg2 _ harg3 _ harg4 _ harg5 _ harg6 _ harg7 _ harg8 arg13 x0 x1 x2 x3 x4 x5 x6 x7) = st (b.dc (i 0)) 1 1) ∧
    (View.canon (sl.H12_3 c i _ harg1 _ harg2 _ harg3 _ harg4 _ harg5 _ harg6 _ harg7 _ harg8 arg13 x0 x1 x2 x3 x4 x5 x6 x7) = st (b.dc (i 0)) 1 1 →
      View.canon (sl.H12_4 c i _ harg1 _ harg2 _ harg3 _ harg4 _ harg5 _ harg6 _ harg7 _ harg8 arg13 x0 x1 x2 x3 x4 x5 x6 x7) = st (b.dc (i 0)) 2 1) ∧
    (View.canon (sl.H12_4 c i _ harg1 _ harg2 _ harg3 _ harg4 _ harg5 _ harg6 _ harg7 _ harg8 arg13 x0 x1 x2 x3 x4 x5 x6 x7) = st (b.dc (i 0)) 2 1 →
      View.canon (sl.H12_5 c i _ harg1 _ harg2 _ harg3 _ harg4 _ harg5 _ harg6 _ harg7 _ harg8 arg13 x0 x1 x2 x3 x4 x5 x6 x7) = st (b.dc (i 0)) 2 2) ∧
    (View.canon (sl.H12_5 c i _ harg1 _ harg2 _ harg3 _ harg4 _ harg5 _ harg6 _ harg7 _ harg8 arg13 x0 x1 x2 x3 x4 x5 x6 x7) = st (b.dc (i 0)) 2 2 →
      View.canon (sl.H12_6 c i _ harg1 _ harg2 _ harg3 _ harg4 _ harg5 _ harg6 _ harg7 _ harg8 arg13 x0 x1 x2 x3 x4 x5 x6 x7) = st (b.dc (i 0)) 3 2) ∧
    (View.canon (sl.H12_6 c i _ harg1 _ harg2 _ harg3 _ harg4 _ harg5 _ harg6 _ harg7 _ harg8 arg13 x0 x1 x2 x3 x4 x5 x6 x7) = st (b.dc (i 0)) 3 2 →
      View.canon (sl.H12_7 c i _ harg1 _ harg2 _ harg3 _ harg4 _ harg5 _ harg6 _ harg7 _ harg8 arg13 x0 x1 x2 x3 x4 x5 x6 x7) = st (b.dc (i 0)) 3 3) ∧
    (View.canon (sl.H12_7 c i _ harg1 _ harg2 _ harg3 _ harg4 _ harg5 _ harg6 _ harg7 _ harg8 arg13 x0 x1 x2 x3 x4 x5 x6 x7) = st (b.dc (i 0)) 3 3 →
      View.canon (sl.H12_8 c i _ harg1 _ harg2 _ harg3 _ harg4 _ harg5 _ harg6 _ harg7 _ harg8 arg13 x0 x1 x2 x3 x4 x5 x6 x7) = st (b.dc (i 0)) 4 3) ∧
    (View.canon (sl.H12_8 c i _ harg1 _ harg2 _ harg3 _ harg4 _ harg5 _ harg6 _ harg7 _ harg8 arg13 x0 x1 x2 x3 x4 x5 x6 x7) = st (b.dc (i 0)) 4 3 →
      View.canon (sl.H12_9 c i _ harg1 _ harg2 _ harg3 _ harg4 _ harg5 _ harg6 _ harg7 _ harg8 arg13 x0 x1 x2 x3 x4 x5 x6 x7) = st (b.dc (i 0)) 4 4) ∧
    (View.canon (sl.H12_9 c i _ harg1 _ harg2 _ harg3 _ harg4 _ harg5 _ harg6 _ harg7 _ harg8 arg13 x0 x1 x2 x3 x4 x5 x6 x7) = st (b.dc (i 0)) 4 4 →
      View.canon (sl.H12_10 c i _ harg1 _ harg2 _ harg3 _ harg4 _ harg5 _ harg6 _ harg7 _ harg8 arg13 x0 x1 x2 x3 x4 x5 x6 x7) = st (b.dc (i 0)) 5 4) ∧
    (View.canon (sl.H12_10 c i _ harg1 _ harg2 _ harg3 _ harg4 _ harg5 _ harg6 _ harg7 _ harg8 arg13 x0 x1 x2 x3 x4 x5 x6 x7) = st (b.dc (i 0)) 5 4 →
      View.canon ((⟨Rect.unit (s := S2176x128) ![0, 64] S2176x64.size inb_S2176x128_S2176x64_0_64, k0_pay1 (F := Ideal) (sl.r_77 c i _ harg1 _ harg2 _ harg3 _ harg4 _ harg5 _ harg6 _ harg7 _ harg8 arg13 x0 x1 x2 x3 x4 x5 x6 x7)
        (sl.r_78 c i _ harg1 _ harg2 _ harg3 _ harg4 _ harg5 _ harg6 _ harg7 _ harg8 x0 x1 x2 x3 x4 x5 x6 x7)⟩ : View.Piece (Elt Ideal) S2176x128 .f32) :: sl.H12_10 c i _ harg1 _ harg2 _ harg3 _ harg4 _ harg5 _ harg6 _ harg7 _ harg8 arg13 x0 x1 x2 x3 x4 x5 x6 x7) = st (b.dc (i 0)) 5 5) := by
  refine ⟨?_, ?_, ?_, ?_, ?_, ?_, ?_, ?_, ?_, ?_⟩ <;> intro h <;>
    first | refine step0 _ h _ _ (fun j l hj => b.dc_zero _ hj) ?_ | refine step1 _ h _ _ (fun j l hj => b.dc_zero _ hj) ?_
  all_goals
    intro a e
    simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.r_43, sl.r_44, sl.r_45, sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.r_76, sl.r_77, sl.r_78,
      sl.v99, sl.v181, sl.v272, sl.v354, sl.v445, sl.v527, sl.v618, sl.v700, sl.v791, sl.v873, sl.v26, sl.v281, sl.v25, sl.v471, sl.cst_286, sl.cst_471, load0 _ h, load1 _ h,
      View.readAt_eq_ld, Memref.IsWhole.read_unread]
    pointwise [k0_pay1, k0_pay5, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140]
    simp only [R.q, R.k, R.v, R.d, R.o, R.ls, R.cj, R.ct, part_apply, eighth_bf16, eighth_f32, ← EReal.coe_mul, ← EReal.coe_add, ← EReal.coe_sub, sum_coe,
      Ideal.exp_coe, select_coe]
    simp (disch := omega) only [mask_word, pick_sum, ite_mul, mul_ite, zero_mul, mul_zero, zero_add, mul_one, mul_assoc, In.dc, In.s, In.w, row0, rows,
      Nat.mul_zero, Nat.mul_one, Nat.zero_add, Fin.isValue, Fin.coe_ofNat_eq_mod, ← sub_eq_add_neg]
    rfl

open kernelRun0_A in
/-- The buffer after the last visit. -/
theorem gates (R : Reads b x0 x1 x2 x3 x4 x5 x6 x7) (hi : (i 0 : ℕ) < 4) (arg13 : Memref sig .tc .vmem S2176x128 .f32) :
    View.canon ((⟨Rect.unit (s := S2176x128) ![0, 64] S2176x64.size inb_S2176x128_S2176x64_0_64, k0_pay1 (F := Ideal) (sl.r_77 c i _ harg1 _ harg2 _ harg3 _ harg4 _ harg5 _ harg6 _ harg7 _ harg8 arg13 x0 x1 x2 x3 x4 x5 x6 x7)
        (sl.r_78 c i _ harg1 _ harg2 _ harg3 _ harg4 _ harg5 _ harg6 _ harg7 _ harg8 x0 x1 x2 x3 x4 x5 x6 x7)⟩ : View.Piece (Elt Ideal) S2176x128 .f32) :: sl.H12_10 c i _ harg1 _ harg2 _ harg3 _ harg4 _ harg5 _ harg6 _ harg7 _ harg8 arg13 x0 x1 x2 x3 x4 x5 x6 x7) = st (b.dc (i 0)) 5 5 := by
  have h : View.canon (sl.H12_1 (F := Ideal)) = st (b.dc (i 0)) 0 0 :=
    st_zero _ _ fun y => by
      unfold sl.H12_1
      rw [View.canon_cons_unit_lit']
      · show Ideal.ofBits .f32 0#32 = 0
        simp [Ideal.ofBits, Ideal.ieee]
      · intro a; fin_cases a <;> rfl
  obtain ⟨h1, h2, h3, h4, h5, h6, h7, h8, h9, h10⟩ := dc_steps c i _ harg1 _ harg2 _ harg3 _ harg4 _ harg5 _ harg6 _ harg7 _ harg8 x0 x1 x2 x3 x4 x5 x6 x7 R hi arg13
  exact h10 (h9 (h8 (h7 (h6 (h5 (h4 (h3 (h2 (h1 h)))))))))

end Cert.Attn

end
-- ==== Proof.Attn.Queries.lean ====
/-
  The gradients of the queries and of the queries' gates, one pair of heads.

  Both are written tile by tile, each tile once. A tile's sum runs over the keys up to the tile's last query; the mask leaves nothing beyond, so it is the
  sum over all keys (`dr_prefix`, `dq_prefix`), and each store is the block of one function of the whole buffer.
-/
module

public import proofs.«01_k».proof.Proof.Attn.Tile
public import Idealize.ShloMosaic.Lib.Pointwise
public import Idealize.ShloMosaic.Lib.Pipeline.CanonAppend

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pointwise

/-- A masked sum over the keys up to `n` is the sum over all keys when the query lies below `n`. -/
theorem masked_prefix (n t : ℕ) (f : ℕ → ℝ) (ht : t < n) (hn : n ≤ 2176) :
    (∑ j : Fin n, if (j : ℕ) ≤ t then f j else 0) = ∑ j : Fin 2176, if (j : ℕ) ≤ t then f j else 0 := by
  rw [sum_prefix n (fun j => if j ≤ t then f j else 0) hn (fun j hj => if_neg (by omega)),
    sum_prefix 2176 (fun j => if j ≤ t then f j else 0) le_rfl (fun j hj => if_neg (by omega))]

theorem In.dr_prefix (b : In) (p n hh t : ℕ) (ht : t < n) (hn : n ≤ 2176) : b.dr p n hh t = b.dr p 2176 hh t :=
  masked_prefix n t (fun j => Real.exp (b.s p hh j t) * b.w hh j t) ht hn

theorem In.dq_prefix (b : In) (p n hh l t : ℕ) (ht : t < n) (hn : n ≤ 2176) : b.dq p n hh l t = b.dq p 2176 hh l t :=
  masked_prefix n t (fun j => b.k j (64 * hh + l) * (Real.exp (b.s p hh j t) * b.w hh j t)) ht hn

/-- The gradient of the queries' gates as the whole output block: rows 0 and 1 are the pair's heads, the others are zero. -/
def drBlk (b : In) (p : ℕ) : S1x8x2176.Idx → EReal := fun y =>
  if (y 1 : ℕ) < 2 then ((b.dr p 2176 (y 1) (y 2) : ℝ) : EReal) else 0

/-- The transposed gradient of the queries as the whole scratch buffer. -/
def dqBlk (b : In) (p : ℕ) : S128x2176.Idx → EReal := fun y =>
  ((b.dq p 2176 ((y 0 : ℕ) / 64) ((y 0 : ℕ) % 64) (y 1) : ℝ) : EReal)

/-- One tile's store of the queries' gates is a block of `drBlk`. -/
theorem dr_piece (b : In) (p hh r n : ℕ) (hh2 : hh < 2) (hn : r + n ≤ 2176)
    (inb : ∀ a, (![0, hh, r] : Fin 3 → ℕ) a + (![1, 1, n] : Fin 3 → ℕ) a ≤ S1x8x2176.size a) (w : (⟨3, ![1, 1, n]⟩ : Shape).Idx → EReal)
    (hw : ∀ x : Fin n, w (ix3 (0 : Fin 1) (0 : Fin 1) x) = ((b.dr p (r + n) hh (r + x) : ℝ) : EReal)) (x : (⟨3, ![1, 1, n]⟩ : Shape).Idx) :
    w x = drBlk b p ((Rect.unit (s := S1x8x2176) ![0, hh, r] ![1, 1, n] inb).emb x) := by
  obtain ⟨t, rfl⟩ : ∃ t : Fin n, x = ix3 (0 : Fin 1) (0 : Fin 1) t :=
    ⟨x 2, by funext k; fin_cases k <;> first | rfl | exact Subsingleton.elim (α := Fin 1) _ _⟩
  have e1 : (((Rect.unit (s := S1x8x2176) ![0, hh, r] ![1, 1, n] inb).emb (ix3 (0 : Fin 1) (0 : Fin 1) t) 1 : Fin _) : ℕ) = hh := by
    show hh + 1 * 0 = hh; omega
  have e2 : (((Rect.unit (s := S1x8x2176) ![0, hh, r] ![1, 1, n] inb).emb (ix3 (0 : Fin 1) (0 : Fin 1) t) 2 : Fin _) : ℕ) = r + t := by
    show r + 1 * (t : ℕ) = r + t; omega
  have := t.isLt
  rw [hw, drBlk, e1, e2, if_pos hh2, b.dr_prefix p _ hh _ (by omega) hn]

/-- One tile's store of the queries' gradient is a block of `dqBlk`. -/
theorem dq_piece (b : In) (p hh o r n : ℕ) (ho : o = 64 * hh) (hn : r + n ≤ 2176)
    (inb : ∀ a, (![o, r] : Fin 2 → ℕ) a + (![64, n] : Fin 2 → ℕ) a ≤ S128x2176.size a) (w : (⟨2, ![64, n]⟩ : Shape).Idx → EReal)
    (hw : ∀ (l : Fin 64) (x : Fin n), w (ix2 l x) = ((b.dq p (r + n) hh l (r + x) : ℝ) : EReal)) (x : (⟨2, ![64, n]⟩ : Shape).Idx) :
    w x = dqBlk b p ((Rect.unit (s := S128x2176) ![o, r] ![64, n] inb).emb x) := by
  obtain ⟨l, t, rfl⟩ : ∃ (l : Fin 64) (t : Fin n), x = ix2 l t := ⟨x 0, x 1, by funext k; fin_cases k <;> rfl⟩
  have e0 : (((Rect.unit (s := S128x2176) ![o, r] ![64, n] inb).emb (ix2 l t) 0 : Fin _) : ℕ) = o + l := by
    show o + 1 * (l : ℕ) = o + l; omega
  have e1 : (((Rect.unit (s := S128x2176) ![o, r] ![64, n] inb).emb (ix2 l t) 1 : Fin _) : ℕ) = r + t := by
    show r + 1 * (t : ℕ) = r + t; omega
  have := t.isLt
  have := l.isLt
  rw [hw, dqBlk, e0, e1, show (o + (l : ℕ)) / 64 = hh by omega, show (o + (l : ℕ)) % 64 = l by omega, b.dq_prefix p _ hh _ _ (by omega) hn]

/-- Rows from 2 on are untouched by a tile's store. -/
theorem dr_skip (hh r n : ℕ) (hh2 : hh < 2) (inb : ∀ a, (![0, hh, r] : Fin 3 → ℕ) a + (![1, 1, n] : Fin 3 → ℕ) a ≤ S1x8x2176.size a)
    (w : (⟨3, ![1, 1, n]⟩ : Shape).Idx → EReal) (L : List (View.Piece (Elt Ideal) S1x8x2176 .f32)) (y : S1x8x2176.Idx) (hy : 2 ≤ (y 1 : ℕ)) :
    View.canon ((⟨Rect.unit (s := S1x8x2176) ![0, hh, r] ![1, 1, n] inb, w⟩ : View.Piece (Elt Ideal) S1x8x2176 .f32) :: L) y = View.canon L y := by
  refine View.canon_cons_of_not_mem (⟨Rect.unit (s := S1x8x2176) ![0, hh, r] ![1, 1, n] inb, w⟩ : View.Piece (Elt Ideal) S1x8x2176 .f32) L fun hm => ?_
  have h := ((Rect.mem_set_unit (s := S1x8x2176) (inb := inb)).mp hm 1).2
  have h' : (y 1 : ℕ) < hh + 1 := h
  omega

variable (c : Dev nD) (i : grid0.Coords) (arg1 : Memref sig .tc .vmem S2176x128 .bf16) (harg1 : arg1.IsWhole) (arg2 : Memref sig .tc .vmem S2176x128 .bf16) (harg2 : arg2.IsWhole) (arg3 : Memref sig .tc .vmem S2176x128 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S1x8x2176 .f32) (harg6 : arg6.IsWhole) (arg7 : Memref sig .tc .vmem S2176x128 .f32) (harg7 : arg7.IsWhole) (arg8 : Memref sig .tc .vmem S8x2176 .f32) (harg8 : arg8.IsWhole)
    (x0 x1 x2 : Vec Ideal S2176x128 .bf16) (x3 x4 : Vec Ideal S2176x128 .f32) (x5 : Vec Ideal S1x8x2176 .f32)
    (x6 : Vec Ideal S2176x128 .f32) (x7 : Vec Ideal S8x2176 .f32) {b : In}

variable (arg9 : Memref sig .tc .vmem S2176x128 .bf16) (harg9 : arg9.IsWhole) (arg10 : Memref sig .tc .vmem S2176x128 .bf16) (harg10 : arg10.IsWhole) (arg11 : Memref sig .tc .vmem S2176x128 .bf16) (harg11 : arg11.IsWhole) (arg12 : Memref sig .tc .vmem S1x8x2176 .f32) (harg12 : arg12.IsWhole) (arg13 : Memref sig .tc .vmem S2176x128 .f32) (harg13 : arg13.IsWhole) (arg14 : Memref sig .tc .vmem S2176x128 .f32) (harg14 : arg14.IsWhole) (arg15 : Memref sig .tc .vmem S2176x128 .f32) (harg15 : arg15.IsWhole) (arg16 : Memref sig .tc .vmem S128x2176 .f32) (harg16 : arg16.IsWhole)

set_option maxHeartbeats 8000000 in
open kernelRun0_A in
/-- The transposed gradient of the queries, as the ten stores leave it. -/
theorem queries (R : Reads b x0 x1 x2 x3 x4 x5 x6 x7) (hi : (i 0 : ℕ) < 4) :
    View.canon (sl.HS2_10 c i _ harg1 _ harg2 _ harg3 _ harg4 _ harg5 _ harg6 _ harg7 _ harg8 x0 x1 x2 x3 x4 x5 x6 x7) = dqBlk b (i 0) := by
  funext y
  refine View.canon_apply_of_pieces (Val := Elt Ideal) (e := .f32) (dqBlk b (i 0)) _ ?_ y ?_
  · unfold sl.HS2_10
    simp only [List.forall_mem_cons, List.not_mem_nil, false_imp_iff, implies_true, and_true]
    refine ⟨dq_piece b _ 1 _ _ _ rfl (by omega) _ _ ?_, dq_piece b _ 0 _ _ _ rfl (by omega) _ _ ?_, dq_piece b _ 1 _ _ _ rfl (by omega) _ _ ?_, dq_piece b _ 0 _ _ _ rfl (by omega) _ _ ?_, dq_piece b _ 1 _ _ _ rfl (by omega) _ _ ?_, dq_piece b _ 0 _ _ _ rfl (by omega) _ _ ?_, dq_piece b _ 1 _ _ _ rfl (by omega) _ _ ?_, dq_piece b _ 0 _ _ _ rfl (by omega) _ _ ?_, dq_piece b _ 1 _ _ _ rfl (by omega) _ _ ?_, dq_piece b _ 0 _ _ _ rfl (by omega) _ _ ?_⟩
    all_goals
    intro l x
    simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.r_43, sl.r_44, sl.r_45, sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.r_76, sl.r_77, sl.r_78,
      sl.v26, sl.v281, sl.v25, sl.v471, sl.cst_286, sl.cst_471, View.readAt_eq_ld, Memref.IsWhole.read_unread]
    pointwise [k0_pay1, k0_pay4, k0_pay5, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140]
    simp only [R.q, R.k, R.v, R.d, R.o, R.ls, R.cj, R.ct, eighth_bf16, eighth_f32, ← EReal.coe_mul, ← EReal.coe_add, ← EReal.coe_sub, sum_coe,
      Ideal.exp_coe, select_coe]
    simp (disch := omega) only [mask_word, pick_sum, ite_mul, mul_ite, zero_mul, mul_zero, zero_add, mul_one, mul_assoc, In.dq, In.s, In.w,
      Nat.mul_zero, Nat.mul_one, Nat.zero_add, Fin.isValue, Fin.coe_ofNat_eq_mod]
  · unfold sl.HS2_10
    have h0 : (y 0 : ℕ) < 128 := (y 0).isLt
    have h1 : (y 1 : ℕ) < 2176 := (y 1).isLt
    simp only [List.exists_mem_cons_iff, List.not_mem_nil, false_and, exists_false, or_false, Rect.mem_set_unit, Fin.forall_fin_two]
    show _ ∨ _
    simp [S128x2176] at *
    omega

set_option maxHeartbeats 8000000 in
open kernelRun0_A in
/-- The gradient of the queries' gates, as the ten stores over the fill with zeros leave it. -/
theorem rowGates (R : Reads b x0 x1 x2 x3 x4 x5 x6 x7) (hi : (i 0 : ℕ) < 4) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = drBlk b (i 0) := by
  unfold out0_A_11
  rw [View.read_writes_junk_eq_canon]
  unfold kernelRun0_A
  funext y
  have h0 : (y 0 : ℕ) < 1 := (y 0).isLt
  have h1 : (y 1 : ℕ) < 8 := (y 1).isLt
  have h2 : (y 2 : ℕ) < 2176 := (y 2).isLt
  by_cases hy : (y 1 : ℕ) < 2
  · refine View.canon_append_of_pieces (Val := Elt Ideal) (e := .f32) (drBlk b (i 0)) [_] [_, _, _, _, _, _, _, _, _, _] ?_ y ?_
    · simp only [List.forall_mem_cons, List.not_mem_nil, false_imp_iff, implies_true, and_true]
      refine ⟨dr_piece b _ 1 _ _ (by omega) (by omega) _ _ ?_, dr_piece b _ 0 _ _ (by omega) (by omega) _ _ ?_, dr_piece b _ 1 _ _ (by omega) (by omega) _ _ ?_, dr_piece b _ 0 _ _ (by omega) (by omega) _ _ ?_, dr_piece b _ 1 _ _ (by omega) (by omega) _ _ ?_, dr_piece b _ 0 _ _ (by omega) (by omega) _ _ ?_, dr_piece b _ 1 _ _ (by omega) (by omega) _ _ ?_, dr_piece b _ 0 _ _ (by omega) (by omega) _ _ ?_, dr_piece b _ 1 _ _ (by omega) (by omega) _ _ ?_, dr_piece b _ 0 _ _ (by omega) (by omega) _ _ ?_⟩
      all_goals
      intro x
      simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.r_43, sl.r_44, sl.r_45, sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.r_76, sl.r_77, sl.r_78,
        sl.v26, sl.v281, sl.v25, sl.v471, sl.cst_286, sl.cst_471, View.readAt_eq_ld, Memref.IsWhole.read_unread]
      pointwise [k0_pay1, k0_pay4, k0_pay5, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140]
      simp only [R.q, R.k, R.v, R.d, R.o, R.ls, R.cj, R.ct, eighth_bf16, eighth_f32, ← EReal.coe_mul, ← EReal.coe_add, ← EReal.coe_sub, sum_coe,
        Ideal.exp_coe, select_coe]
      simp (disch := omega) only [mask_word, pick_sum, ite_mul, mul_ite, zero_mul, mul_zero, zero_add, mul_one, mul_assoc, In.dr, In.s, In.w,
        Nat.mul_zero, Nat.mul_one, Nat.zero_add, Fin.isValue, Fin.coe_ofNat_eq_mod]

    · simp only [List.exists_mem_cons_iff, List.not_mem_nil, false_and, exists_false, or_false, Rect.mem_set_unit]
      simp [Fin.forall_fin_succ, S1x8x2176] at *
      omega
  · dsimp only
    iterate 10 rw [dr_skip _ _ _ (by omega) _ _ _ _ (by omega)]
    rw [View.canon_cons_unit_lit', drBlk, if_neg hy]
    · show Ideal.ofBits .f32 0#32 = 0
      simp [Ideal.ofBits, Ideal.ieee]
    · intro a; fin_cases a <;> rfl

end Cert.Attn

end
-- ==== Proof.Attn.Blocks.lean ====
/-
  The five output blocks of one grid step of the attention's backward pass.

  Each is a function of its index alone: the gradients of the queries, the keys and the values, of the queries' gates and of the keys' gates.
-/
module

public import proofs.«01_k».proof.Proof.Attn.Keys
public import proofs.«01_k».proof.Proof.Attn.Values
public import proofs.«01_k».proof.Proof.Attn.Gates
public import proofs.«01_k».proof.Proof.Attn.Queries

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pointwise

/-- A load of a whole buffer reads its contents. -/
theorem load_whole {sig : RefSig} {κ : Kind} {sp : Space} {m n : ℕ} (v : View sig κ sp ⟨2, ![m, n]⟩ .f32) (L : List (View.Piece (Elt Ideal) ⟨2, ![m, n]⟩ .f32))
    (inb : ∀ a, (![0, 0] : Fin 2 → ℕ) a + (![m, n] : Fin 2 → ℕ) a ≤ (⟨2, ![m, n]⟩ : Shape).size a) :
    v.readCov L (Rect.unit (s := (⟨2, ![m, n]⟩ : Shape)) ![0, 0] ![m, n] inb).toLoadRect = View.canon L := by
  rw [View.readCov_eq_canon']
  funext x
  congr 1
  funext a
  fin_cases a
  · exact Fin.ext (by show 0 + 1 * (x 0 : ℕ) = x 0; omega)
  · exact Fin.ext (by show 0 + 1 * (x 1 : ℕ) = x 1; omega)

/-- The gradient of the queries as the whole output block. -/
def dqOut (b : In) (p : ℕ) : S2176x128.Idx → EReal := fun y =>
  ((b.dq p 2176 ((y 1 : ℕ) / 64) ((y 1 : ℕ) % 64) (y 0) * (1 / 8) : ℝ) : EReal)

variable (c : Dev nD) (i : grid0.Coords) (arg1 : Memref sig .tc .vmem S2176x128 .bf16) (harg1 : arg1.IsWhole) (arg2 : Memref sig .tc .vmem S2176x128 .bf16) (harg2 : arg2.IsWhole) (arg3 : Memref sig .tc .vmem S2176x128 .bf16) (harg3 : arg3.IsWhole) (arg4 : Memref sig .tc .vmem S2176x128 .f32) (harg4 : arg4.IsWhole) (arg5 : Memref sig .tc .vmem S2176x128 .f32) (harg5 : arg5.IsWhole) (arg6 : Memref sig .tc .vmem S1x8x2176 .f32) (harg6 : arg6.IsWhole) (arg7 : Memref sig .tc .vmem S2176x128 .f32) (harg7 : arg7.IsWhole) (arg8 : Memref sig .tc .vmem S8x2176 .f32) (harg8 : arg8.IsWhole)
    (x0 x1 x2 : Vec Ideal S2176x128 .bf16) (x3 x4 : Vec Ideal S2176x128 .f32) (x5 : Vec Ideal S1x8x2176 .f32)
    (x6 : Vec Ideal S2176x128 .f32) (x7 : Vec Ideal S8x2176 .f32) {b : In}

variable (arg9 : Memref sig .tc .vmem S2176x128 .bf16) (harg9 : arg9.IsWhole) (arg10 : Memref sig .tc .vmem S2176x128 .bf16) (harg10 : arg10.IsWhole) (arg11 : Memref sig .tc .vmem S2176x128 .bf16) (harg11 : arg11.IsWhole) (arg12 : Memref sig .tc .vmem S1x8x2176 .f32) (harg12 : arg12.IsWhole) (arg13 : Memref sig .tc .vmem S2176x128 .f32) (harg13 : arg13.IsWhole) (arg14 : Memref sig .tc .vmem S2176x128 .f32) (harg14 : arg14.IsWhole) (arg15 : Memref sig .tc .vmem S2176x128 .f32) (harg15 : arg15.IsWhole) (arg16 : Memref sig .tc .vmem S128x2176 .f32) (harg16 : arg16.IsWhole)

open kernelRun0_A in
theorem out_dq (R : Reads b x0 x1 x2 x3 x4 x5 x6 x7) (hi : (i 0 : ℕ) < 4) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = dqOut b (i 0) := by
  unfold out0_A_8
  rw [View.read_writes_junk_eq_canon]
  unfold kernelRun0_A
  dsimp only
  rw [View.canon_cons_unit_lit']
  · unfold sl.v887
    rw [load_whole arg16.view, queries c i _ harg1 _ harg2 _ harg3 _ harg4 _ harg5 _ harg6 _ harg7 _ harg8 x0 x1 x2 x3 x4 x5 x6 x7 R hi]
    funext y
    idx_vars y
    pointwise [k0_pay4]
    rw [eighth_f32]
    exact (EReal.coe_mul _ _).symm
  · intro a; fin_cases a <;> rfl

open kernelRun0_A in
theorem out_dk (R : Reads b x0 x1 x2 x3 x4 x5 x6 x7) (hi : (i 0 : ℕ) < 4) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = st (b.dk (i 0)) 5 5 := by
  unfold out0_A_9
  rw [View.read_writes_junk_eq_canon]
  unfold kernelRun0_A
  dsimp only
  rw [View.canon_cons_unit_lit']
  · unfold sl.v881
    rw [load_whole arg14.view, keys c i _ harg1 _ harg2 _ harg3 _ harg4 _ harg5 _ harg6 _ harg7 _ harg8 x0 x1 x2 x3 x4 x5 x6 x7 R hi]
    rfl
  · intro a; fin_cases a <;> rfl

open kernelRun0_A in
theorem out_dv (R : Reads b x0 x1 x2 x3 x4 x5 x6 x7) (hi : (i 0 : ℕ) < 4) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = st (b.dv (i 0)) 5 5 := by
  unfold out0_A_10
  rw [View.read_writes_junk_eq_canon]
  unfold kernelRun0_A
  dsimp only
  rw [View.canon_cons_unit_lit']
  · unfold sl.v884
    rw [load_whole arg15.view, values c i _ harg1 _ harg2 _ harg4 _ harg6 _ harg7 _ harg8 x0 x1 x2 x3 x4 x5 x6 x7 R hi]
    rfl
  · intro a; fin_cases a <;> rfl

theorem out_dc (R : Reads b x0 x1 x2 x3 x4 x5 x6 x7) (hi : (i 0 : ℕ) < 4) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = st (b.dc (i 0)) 5 5 := by
  unfold out0_A_12
  rw [View.read_writes_junk_eq_canon]
  exact gates c i _ harg1 _ harg2 _ harg3 _ harg4 _ harg5 _ harg6 _ harg7 _ harg8 x0 x1 x2 x3 x4 x5 x6 x7 R hi arg13

end Cert.Attn

end
-- ==== Proof.Attn.Arrays.lean ====
/-
  From one grid step's blocks to the whole arrays.

  `Data` holds the whole arrays as functions of natural row and column numbers; grid step `p` works on the pair of heads `2p`, `2p + 1`, whose numbers are
  `Data.pair p`. `Holds` says that the arrays at the region's entry are such a `Data`; then each step's blocks are its pair's (`reads`), and the five
  result arrays are the pair's gradients, block by block.
-/
module

public import proofs.«01_k».proof.Proof.Attn.Blocks

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pointwise

/-- The whole arrays: queries, keys, values, the output's gradient and the output by row and column; the log-sums by head and row; the cumulated
    gates by row and head. -/
structure Data where
  q : ℕ → ℕ → ℝ
  k : ℕ → ℕ → ℝ
  v : ℕ → ℕ → ℝ
  d : ℕ → ℕ → ℝ
  o : ℕ → ℕ → ℝ
  ls : ℕ → ℕ → ℝ
  c : ℕ → ℕ → ℝ

/-- The numbers of the pair of heads `2p`, `2p + 1`. -/
def Data.pair (D : Data) (p : ℕ) : In where
  q t e := D.q t (128 * p + e)
  k t e := D.k t (128 * p + e)
  v t e := D.v t (128 * p + e)
  d t e := D.d t (128 * p + e)
  o t e := D.o t (128 * p + e)
  ls h t := if h < 2 then D.ls (2 * p + h) t else 0
  cj t l := if l < 8 then D.c t l else 0
  ct h t := D.c t h

/-- The arrays a launch finds are those of `D`. -/
structure Holds (D : Data) (qkv : S2176x1536.Idx → EReal) (d o : S2176x512.Idx → EReal) (ls : S4x8x2176.Idx → EReal)
    (c : S2176x128.Idx → EReal) (ct : S8x2176.Idx → EReal) : Prop where
  q : ∀ (t : Fin 2176) (e : Fin 512), qkv (ix2 t ⟨e, by omega⟩) = ((D.q t e : ℝ) : EReal)
  k : ∀ (t : Fin 2176) (e : Fin 512), qkv (ix2 t ⟨512 + e, by omega⟩) = ((D.k t e : ℝ) : EReal)
  v : ∀ (t : Fin 2176) (e : Fin 512), qkv (ix2 t ⟨1024 + e, by omega⟩) = ((D.v t e : ℝ) : EReal)
  d : ∀ (t : Fin 2176) (e : Fin 512), d (ix2 t e) = ((D.d t e : ℝ) : EReal)
  o : ∀ (t : Fin 2176) (e : Fin 512), o (ix2 t e) = ((D.o t e : ℝ) : EReal)
  ls : ∀ (p : Fin 4) (h : Fin 8) (t : Fin 2176), ls (ix3 p h t) = ((if (h : ℕ) < 2 then D.ls (2 * p + h) t else 0 : ℝ) : EReal)
  c : ∀ (t : Fin 2176) (l : Fin 128), c (ix2 t l) = ((if (l : ℕ) < 8 then D.c t l else 0 : ℝ) : EReal)
  ct : ∀ (h : Fin 8) (t : Fin 2176), ct (ix2 h t) = ((D.c t h : ℝ) : EReal)

/-- The grid is one axis of four steps. -/
theorem coord_eq : ∀ t : Fin grid0.N, (grid0.coords t 0 : ℕ) = t := by decide +kernel

theorem step_lt (t : Fin cfg0.N) : (t : ℕ) < 4 := by have := t.isLt; have h : cfg0.N = 4 := N_0; omega

theorem index0 : ∀ t : Fin grid0.N, win0_0.index t 0 = 0 ∧ win0_0.index t 1 = t := by decide +kernel
theorem index1 : ∀ t : Fin grid0.N, win0_1.index t 0 = 0 ∧ win0_1.index t 1 = 4 + t := by decide +kernel
theorem index2 : ∀ t : Fin grid0.N, win0_2.index t 0 = 0 ∧ win0_2.index t 1 = 8 + t := by decide +kernel
theorem index3 : ∀ t : Fin grid0.N, win0_3.index t 0 = 0 ∧ win0_3.index t 1 = t := by decide +kernel
theorem index4 : ∀ t : Fin grid0.N, win0_4.index t 0 = 0 ∧ win0_4.index t 1 = t := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = t := by decide +kernel
theorem index9 : ∀ t : Fin grid0.N, win0_9.index t 0 = 0 ∧ win0_9.index t 1 = t := by decide +kernel
theorem index10 : ∀ t : Fin grid0.N, win0_10.index t 0 = 0 ∧ win0_10.index t 1 = t := by decide +kernel
theorem index12 : ∀ t : Fin grid0.N, win0_12.index t 0 = 0 ∧ win0_12.index t 1 = t := by decide +kernel
theorem index5 : ∀ t : Fin grid0.N, win0_5.index t 0 = t ∧ win0_5.index t 1 = 0 ∧ win0_5.index t 2 = 0 := by decide +kernel
theorem index11 : ∀ t : Fin grid0.N, win0_11.index t 0 = t ∧ win0_11.index t 1 = 0 ∧ win0_11.index t 2 = 0 := by decide +kernel

/-! Where a block's index lies in its array. -/

theorem emb0 (t : Fin cfg0.N) (a : Fin 2176) (e : Fin 128) :
    ((win0_0.blk t).view.emb (ix2 a e : S2176x128.Idx) : S2176x1536.Idx) = ix2 a ⟨128 * t + e, by have := step_lt t; have := e.isLt; omega⟩ := by
  have h := index0 t
  have h0 := h.1
  have h1 := h.2
  funext k
  fin_cases k
  · exact Fin.ext (by show win0_0.index t 0 * 2176 + 1 * (a : ℕ) = a; omega)
  · exact Fin.ext (by show win0_0.index t 1 * 128 + 1 * (e : ℕ) = 128 * t + e; omega)

theorem emb1 (t : Fin cfg0.N) (a : Fin 2176) (e : Fin 128) :
    ((win0_1.blk t).view.emb (ix2 a e : S2176x128.Idx) : S2176x1536.Idx) = ix2 a ⟨512 + (128 * t + e), by have := step_lt t; have := e.isLt; omega⟩ := by
  have h := index1 t
  have h0 := h.1
  have h1 := h.2
  funext k
  fin_cases k
  · exact Fin.ext (by show win0_1.index t 0 * 2176 + 1 * (a : ℕ) = a; omega)
  · exact Fin.ext (by show win0_1.index t 1 * 128 + 1 * (e : ℕ) = 512 + (128 * t + e); omega)

theorem emb2 (t : Fin cfg0.N) (a : Fin 2176) (e : Fin 128) :
    ((win0_2.blk t).view.emb (ix2 a e : S2176x128.Idx) : S2176x1536.Idx) = ix2 a ⟨1024 + (128 * t + e), by have := step_lt t; have := e.isLt; omega⟩ := by
  have h := index2 t
  have h0 := h.1
  have h1 := h.2
  funext k
  fin_cases k
  · exact Fin.ext (by show win0_2.index t 0 * 2176 + 1 * (a : ℕ) = a; omega)
  · exact Fin.ext (by show win0_2.index t 1 * 128 + 1 * (e : ℕ) = 1024 + (128 * t + e); omega)

theorem emb3 (t : Fin cfg0.N) (a : Fin 2176) (e : Fin 128) :
    ((win0_3.blk t).view.emb (ix2 a e : S2176x128.Idx) : S2176x512.Idx) = ix2 a ⟨128 * t + e, by have := step_lt t; have := e.isLt; omega⟩ := by
  have h := index3 t
  have h0 := h.1
  have h1 := h.2
  funext k
  fin_cases k
  · exact Fin.ext (by show win0_3.index t 0 * 2176 + 1 * (a : ℕ) = a; omega)
  · exact Fin.ext (by show win0_3.index t 1 * 128 + 1 * (e : ℕ) = 128 * t + e; omega)

theorem emb4 (t : Fin cfg0.N) (a : Fin 2176) (e : Fin 128) :
    ((win0_4.blk t).view.emb (ix2 a e : S2176x128.Idx) : S2176x512.Idx) = ix2 a ⟨128 * t + e, by have := step_lt t; have := e.isLt; omega⟩ := by
  have h := index4 t
  have h0 := h.1
  have h1 := h.2
  funext k
  fin_cases k
  · exact Fin.ext (by show win0_4.index t 0 * 2176 + 1 * (a : ℕ) = a; omega)
  · exact Fin.ext (by show win0_4.index t 1 * 128 + 1 * (e : ℕ) = 128 * t + e; omega)

theorem emb8 (t : Fin cfg0.N) (a : Fin 2176) (e : Fin 128) :
    ((win0_8.blk t).view.emb (ix2 a e : S2176x128.Idx) : S2176x512.Idx) = ix2 a ⟨128 * t + e, by have := step_lt t; have := e.isLt; omega⟩ := by
  have h := index8 t
  have h0 := h.1
  have h1 := h.2
  funext k
  fin_cases k
  · exact Fin.ext (by show win0_8.index t 0 * 2176 + 1 * (a : ℕ) = a; omega)
  · exact Fin.ext (by show win0_8.index t 1 * 128 + 1 * (e : ℕ) = 128 * t + e; omega)

theorem emb9 (t : Fin cfg0.N) (a : Fin 2176) (e : Fin 128) :
    ((win0_9.blk t).view.emb (ix2 a e : S2176x128.Idx) : S2176x512.Idx) = ix2 a ⟨128 * t + e, by have := step_lt t; have := e.isLt; omega⟩ := by
  have h := index9 t
  have h0 := h.1
  have h1 := h.2
  funext k
  fin_cases k
  · exact Fin.ext (by show win0_9.index t 0 * 2176 + 1 * (a : ℕ) = a; omega)
  · exact Fin.ext (by show win0_9.index t 1 * 128 + 1 * (e : ℕ) = 128 * t + e; omega)

theorem emb10 (t : Fin cfg0.N) (a : Fin 2176) (e : Fin 128) :
    ((win0_10.blk t).view.emb (ix2 a e : S2176x128.Idx) : S2176x512.Idx) = ix2 a ⟨128 * t + e, by have := step_lt t; have := e.isLt; omega⟩ := by
  have h := index10 t
  have h0 := h.1
  have h1 := h.2
  funext k
  fin_cases k
  · exact Fin.ext (by show win0_10.index t 0 * 2176 + 1 * (a : ℕ) = a; omega)
  · exact Fin.ext (by show win0_10.index t 1 * 128 + 1 * (e : ℕ) = 128 * t + e; omega)

theorem emb12 (t : Fin cfg0.N) (a : Fin 2176) (e : Fin 128) :
    ((win0_12.blk t).view.emb (ix2 a e : S2176x128.Idx) : S2176x512.Idx) = ix2 a ⟨128 * t + e, by have := step_lt t; have := e.isLt; omega⟩ := by
  have h := index12 t
  have h0 := h.1
  have h1 := h.2
  funext k
  fin_cases k
  · exact Fin.ext (by show win0_12.index t 0 * 2176 + 1 * (a : ℕ) = a; omega)
  · exact Fin.ext (by show win0_12.index t 1 * 128 + 1 * (e : ℕ) = 128 * t + e; omega)

theorem emb6 (t : Fin cfg0.N) (a : Fin 2176) (e : Fin 128) :
    ((win0_6.blk t).view.emb (ix2 a e : S2176x128.Idx) : S2176x128.Idx) = ix2 a ⟨e, by have := step_lt t; have := e.isLt; omega⟩ := by
  have h := index6 t
  have h0 := h.1
  have h1 := h.2
  funext k
  fin_cases k
  · exact Fin.ext (by show win0_6.index t 0 * 2176 + 1 * (a : ℕ) = a; omega)
  · exact Fin.ext (by show win0_6.index t 1 * 128 + 1 * (e : ℕ) = e; omega)

theorem emb7 (t : Fin cfg0.N) (a : Fin 8) (e : Fin 2176) :
    ((win0_7.blk t).view.emb (ix2 a e : S8x2176.Idx) : S8x2176.Idx) = ix2 a ⟨e, by have := step_lt t; have := e.isLt; omega⟩ := by
  have h := index7 t
  have h0 := h.1
  have h1 := h.2
  funext k
  fin_cases k
  · exact Fin.ext (by show win0_7.index t 0 * 8 + 1 * (a : ℕ) = a; omega)
  · exact Fin.ext (by show win0_7.index t 1 * 2176 + 1 * (e : ℕ) = e; omega)

theorem emb5 (t : Fin cfg0.N) (z : Fin 1) (h : Fin 8) (e : Fin 2176) :
    ((win0_5.blk t).view.emb (ix3 z h e : S1x8x2176.Idx) : S4x8x2176.Idx) = ix3 ⟨t, step_lt t⟩ h e := by
  have i := index5 t
  have h0 := i.1
  have h1 := i.2.1
  have h2 := i.2.2
  have hz := z.isLt
  funext k
  fin_cases k
  · exact Fin.ext (by show win0_5.index t 0 * 1 + 1 * (z : ℕ) = t; omega)
  · exact Fin.ext (by show win0_5.index t 1 * 8 + 1 * (h : ℕ) = h; omega)
  · exact Fin.ext (by show win0_5.index t 2 * 2176 + 1 * (e : ℕ) = e; omega)

theorem emb11 (t : Fin cfg0.N) (z : Fin 1) (h : Fin 8) (e : Fin 2176) :
    ((win0_11.blk t).view.emb (ix3 z h e : S1x8x2176.Idx) : S4x8x2176.Idx) = ix3 ⟨t, step_lt t⟩ h e := by
  have i := index11 t
  have h0 := i.1
  have h1 := i.2.1
  have h2 := i.2.2
  have hz := z.isLt
  funext k
  fin_cases k
  · exact Fin.ext (by show win0_11.index t 0 * 1 + 1 * (z : ℕ) = t; omega)
  · exact Fin.ext (by show win0_11.index t 1 * 8 + 1 * (h : ℕ) = h; omega)
  · exact Fin.ext (by show win0_11.index t 2 * 2176 + 1 * (e : ℕ) = e; omega)

variable (m : (ℓ : Loc nD τ sig) → Buf (Elt Ideal) ℓ) (c : Dev nD) {D : Data}

set_option maxHeartbeats 2000000 in
/-- Each step's blocks are its pair's numbers. -/
theorem reads (H : Holds D (V m c main_arg0) (V m c main_arg2) (V m c main_v43) (V m c main_v76) (V m c main_v1) (V m c main_v2)) (t : Fin cfg0.N) :
    Reads (D.pair t) (iblk m c 0 t) (iblk m c 1 t) (iblk m c 2 t) (iblk m c 3 t) (iblk m c 4 t) (iblk m c 5 t) (iblk m c 6 t) (iblk m c 7 t) := by
  have ht := step_lt t
  constructor
  · intro a e; unfold iblk; blk_simp; rw [emb0 t a e]; exact H.q a ⟨128 * t + e, by omega⟩
  · intro a e; unfold iblk; blk_simp; rw [emb1 t a e]; exact H.k a ⟨128 * t + e, by omega⟩
  · intro a e; unfold iblk; blk_simp; rw [emb2 t a e]; exact H.v a ⟨128 * t + e, by omega⟩
  · intro a e; unfold iblk; blk_simp; rw [emb3 t a e]; exact H.d a ⟨128 * t + e, by omega⟩
  · intro a e; unfold iblk; blk_simp; rw [emb4 t a e]; exact H.o a ⟨128 * t + e, by omega⟩
  · intro z h e; unfold iblk; blk_simp; rw [emb5 t z h e]; exact H.ls ⟨t, ht⟩ h e
  · intro a e; unfold iblk; blk_simp; rw [emb6 t a e]; exact H.c a e
  · intro h e; unfold iblk; blk_simp; rw [emb7 t h e]; exact H.ct h e

/-- The gradient of the keys as a whole array. -/
def dkArr (D : Data) : S2176x512.Idx → EReal := fun y =>
  ((acc ((D.pair ((y 1 : ℕ) / 128)).dk ((y 1 : ℕ) / 128)) 5 ((y 1 : ℕ) % 128 / 64) (y 0) ((y 1 : ℕ) % 128 % 64) : ℝ) : EReal)

theorem dk_final (H : Holds D (V m c main_arg0) (V m c main_arg2) (V m c main_v43) (V m c main_v76) (V m c main_v1) (V m c main_v2)) :
    (dats m 0 c).arrAt 9 cfg0.N = dkArr D := by
  refine (dats m 0 c).arrAt_eq_of_covers 9 (dkArr D) (by decide +kernel) fun t hf y => ?_
  blk_simp
  rw [after0_9]
  unfold outsAt0
  dsimp only
  obtain ⟨a, e, rfl⟩ : ∃ (a : Fin 2176) (e : Fin 128), y = ix2 a e := ⟨y 0, y 1, by funext k; fin_cases k <;> rfl⟩
  have hc := coord_eq t
  have ht := step_lt t
  rw [out_dk (b := D.pair t) (R := reads m c H t) (hi := by rw [hc]; exact ht), hc, emb9 t a e]
  have he := e.isLt
  show _ = ((acc ((D.pair ((128 * (t : ℕ) + e) / 128)).dk ((128 * (t : ℕ) + e) / 128)) 5 ((128 * (t : ℕ) + e) % 128 / 64) a ((128 * (t : ℕ) + e) % 128 % 64) : ℝ) : EReal)
  rw [show (128 * (t : ℕ) + e) / 128 = t by omega, show (128 * (t : ℕ) + e) % 128 = e by omega]
  show ((acc ((D.pair t).dk t) (if (e : ℕ) < 64 then 5 else 5) _ _ _ : ℝ) : EReal) = _
  rw [ite_self]
  rfl

/-- The gradient of the values as a whole array. -/
def dvArr (D : Data) : S2176x512.Idx → EReal := fun y =>
  ((acc ((D.pair ((y 1 : ℕ) / 128)).dv ((y 1 : ℕ) / 128)) 5 ((y 1 : ℕ) % 128 / 64) (y 0) ((y 1 : ℕ) % 128 % 64) : ℝ) : EReal)

theorem dv_final (H : Holds D (V m c main_arg0) (V m c main_arg2) (V m c main_v43) (V m c main_v76) (V m c main_v1) (V m c main_v2)) :
    (dats m 0 c).arrAt 10 cfg0.N = dvArr D := by
  refine (dats m 0 c).arrAt_eq_of_covers 10 (dvArr D) (by decide +kernel) fun t hf y => ?_
  blk_simp
  rw [after0_10]
  unfold outsAt0
  dsimp only
  obtain ⟨a, e, rfl⟩ : ∃ (a : Fin 2176) (e : Fin 128), y = ix2 a e := ⟨y 0, y 1, by funext k; fin_cases k <;> rfl⟩
  have hc := coord_eq t
  have ht := step_lt t
  rw [out_dv (b := D.pair t) (R := reads m c H t) (hi := by rw [hc]; exact ht), hc, emb10 t a e]
  have he := e.isLt
  show _ = ((acc ((D.pair ((128 * (t : ℕ) + e) / 128)).dv ((128 * (t : ℕ) + e) / 128)) 5 ((128 * (t : ℕ) + e) % 128 / 64) a ((128 * (t : ℕ) + e) % 128 % 64) : ℝ) : EReal)
  rw [show (128 * (t : ℕ) + e) / 128 = t by omega, show (128 * (t : ℕ) + e) % 128 = e by omega]
  show ((acc ((D.pair t).dv t) (if (e : ℕ) < 64 then 5 else 5) _ _ _ : ℝ) : EReal) = _
  rw [ite_self]
  rfl

/-- The gradient of the keys' gates as a whole array. -/
def dcArr (D : Data) : S2176x512.Idx → EReal := fun y =>
  ((acc ((D.pair ((y 1 : ℕ) / 128)).dc ((y 1 : ℕ) / 128)) 5 ((y 1 : ℕ) % 128 / 64) (y 0) ((y 1 : ℕ) % 128 % 64) : ℝ) : EReal)

theorem dc_final (H : Holds D (V m c main_arg0) (V m c main_arg2) (V m c main_v43) (V m c main_v76) (V m c main_v1) (V m c main_v2)) :
    (dats m 0 c).arrAt 12 cfg0.N = dcArr D := by
  refine (dats m 0 c).arrAt_eq_of_covers 12 (dcArr D) (by decide +kernel) fun t hf y => ?_
  blk_simp
  rw [after0_12]
  unfold outsAt0
  dsimp only
  obtain ⟨a, e, rfl⟩ : ∃ (a : Fin 2176) (e : Fin 128), y = ix2 a e := ⟨y 0, y 1, by funext k; fin_cases k <;> rfl⟩
  have hc := coord_eq t
  have ht := step_lt t
  rw [out_dc (b := D.pair t) (R := reads m c H t) (hi := by rw [hc]; exact ht), hc, emb12 t a e]
  have he := e.isLt
  show _ = ((acc ((D.pair ((128 * (t : ℕ) + e) / 128)).dc ((128 * (t : ℕ) + e) / 128)) 5 ((128 * (t : ℕ) + e) % 128 / 64) a ((128 * (t : ℕ) + e) % 128 % 64) : ℝ) : EReal)
  rw [show (128 * (t : ℕ) + e) / 128 = t by omega, show (128 * (t : ℕ) + e) % 128 = e by omega]
  show ((acc ((D.pair t).dc t) (if (e : ℕ) < 64 then 5 else 5) _ _ _ : ℝ) : EReal) = _
  rw [ite_self]
  rfl

/-- The gradient of the queries as a whole array. -/
def dqArr (D : Data) : S2176x512.Idx → EReal := fun y =>
  (((D.pair ((y 1 : ℕ) / 128)).dq ((y 1 : ℕ) / 128) 2176 ((y 1 : ℕ) % 128 / 64) ((y 1 : ℕ) % 128 % 64) (y 0) * (1 / 8) : ℝ) : EReal)

theorem dq_final (H : Holds D (V m c main_arg0) (V m c main_arg2) (V m c main_v43) (V m c main_v76) (V m c main_v1) (V m c main_v2)) :
    (dats m 0 c).arrAt 8 cfg0.N = dqArr D := by
  refine (dats m 0 c).arrAt_eq_of_covers 8 (dqArr D) (by decide +kernel) fun t hf y => ?_
  blk_simp
  rw [after0_8]
  unfold outsAt0
  dsimp only
  obtain ⟨a, e, rfl⟩ : ∃ (a : Fin 2176) (e : Fin 128), y = ix2 a e := ⟨y 0, y 1, by funext k; fin_cases k <;> rfl⟩
  have hc := coord_eq t
  have ht := step_lt t
  rw [out_dq (b := D.pair t) (R := reads m c H t) (hi := by rw [hc]; exact ht), hc, emb8 t a e]
  have he := e.isLt
  show _ = (((D.pair ((128 * (t : ℕ) + e) / 128)).dq ((128 * (t : ℕ) + e) / 128) 2176 ((128 * (t : ℕ) + e) % 128 / 64) ((128 * (t : ℕ) + e) % 128 % 64) a * (1 / 8) : ℝ) : EReal)
  rw [show (128 * (t : ℕ) + e) / 128 = t by omega, show (128 * (t : ℕ) + e) % 128 = e by omega]
  rfl

/-- The gradient of the queries' gates as a whole array. -/
def drArr (D : Data) : S4x8x2176.Idx → EReal := fun y =>
  if (y 1 : ℕ) < 2 then (((D.pair (y 0)).dr (y 0) 2176 (y 1) (y 2) : ℝ) : EReal) else 0

theorem dr_final (H : Holds D (V m c main_arg0) (V m c main_arg2) (V m c main_v43) (V m c main_v76) (V m c main_v1) (V m c main_v2)) :
    (dats m 0 c).arrAt 11 cfg0.N = drArr D := by
  refine (dats m 0 c).arrAt_eq_of_covers 11 (drArr D) (by decide +kernel) fun t hf y => ?_
  blk_simp
  rw [after0_11]
  unfold outsAt0
  dsimp only
  obtain ⟨z, a, e, rfl⟩ : ∃ (z : Fin 1) (a : Fin 8) (e : Fin 2176), y = ix3 z a e := ⟨y 0, y 1, y 2, by funext k; fin_cases k <;> rfl⟩
  have hc := coord_eq t
  have ht := step_lt t
  rw [rowGates (b := D.pair t) (R := reads m c H t) (hi := by rw [hc]; exact ht), hc, emb11 t z a e]
  rfl

end Cert.Attn

end
-- ==== Proof.Attn.Soft.lean ====
/-
  The host lines of forgetting attention, array by array, and the same arrays as real numbers.

  Both programs write the attention with the same host lines: the kernel to get the output and the log-sums that its backward call takes, the reference to
  differentiate. The arrays are named here once, over any operands, and each is read at an index as a real number when the operands are finite:
  the score of a position against an earlier one, its exponential from the row's largest score, the row's sum, the probability.
-/
module

public import proofs.«01_k».proof.Proof.Attn.Arrays
public import proofs.«01_k».proof.Proof.Gen.ReferenceIdeal.Run

@[expose] public section

set_option maxRecDepth 16384

noncomputable section

namespace Cert.Attn

open Cert.ReferenceIdeal Cert.ReferenceIdeal.Gen Idealize.ShloMosaic Idealize.ShloMosaic.TcCoe
open Idealize.ShloMosaic.Pointwise

/-- The gates' logarithms, cumulated over the positions. -/
def cumul (lf : S2176x8.Idx → EReal) : FVec Ideal S2176x8 .f32 :=
  Host.reduceWindowAdd ![2176, 1] ![1, 1] ![2175, 0] ![0, 0] (F := Ideal) (φ := .f32) lf
    (broadcastInDim S_ ![] bcast_S_S_ (constant S_ .f32 0x00000000#32)) reduceWindows_S2176x8_S2176x8_w2176s1p2175_0_w1s1p0_0 h_S_

/-- The queries (`o = 0`), keys (`512`) and values (`1024`), by head. -/
def headsQ (qkv : S2176x1536.Idx → EReal) : FVec Ideal S2176x8x64 .f32 :=
  shapeCast _ (extractStridedSlice S2176x512 ![0, 0] (extf (F := Ideal) .f32 (φ := .bf16) qkv bitsLt_bf16_f32) slices_S2176x1536_S2176x512_0_0)
    shapeCasts_S2176x512_S2176x8x64
def headsK (qkv : S2176x1536.Idx → EReal) : FVec Ideal S2176x8x64 .f32 :=
  shapeCast _ (extractStridedSlice S2176x512 ![0, 512] (extf (F := Ideal) .f32 (φ := .bf16) qkv bitsLt_bf16_f32) slices_S2176x1536_S2176x512_0_512)
    shapeCasts_S2176x512_S2176x8x64
def headsV (qkv : S2176x1536.Idx → EReal) : FVec Ideal S2176x8x64 .f32 :=
  shapeCast _ (extractStridedSlice S2176x512 ![0, 1024] (extf (F := Ideal) .f32 (φ := .bf16) qkv bitsLt_bf16_f32) slices_S2176x1536_S2176x512_0_1024)
    shapeCasts_S2176x512_S2176x8x64

/-- The scores with the gates' bias. -/
def scores (qkv : S2176x1536.Idx → EReal) (lf : S2176x8.Idx → EReal) : FVec Ideal S8x2176x2176 .f32 :=
  addf (mulf (Host.dotGeneral dot_S2176x8x64_S2176x8x64_S8x2176x2176_2_2_0_0_1_1 none (headsQ qkv) (headsK qkv))
      (broadcastInDim S8x2176x2176 ![] bcast_S_S8x2176x2176 (constant S_ .f32 0x3E000000#32)))
    (subf (broadcastInDim S8x2176x2176 ![0, 1, 2] bcast_S8x2176x1_S8x2176x2176_0_1_2
        (broadcastInDim S8x2176x1 ![0, 1] bcast_S8x2176_S8x2176x1_0_1 (transpose S8x2176 [1, 0] (cumul lf) transposes_S2176x8_S8x2176_1_0)))
      (broadcastInDim S8x2176x2176 ![0, 1, 2] bcast_S8x1x2176_S8x2176x2176_0_1_2
        (broadcastInDim S8x1x2176 ![0, 2] bcast_S8x2176_S8x1x2176_0_2 (transpose S8x2176 [1, 0] (cumul lf) transposes_S2176x8_S8x2176_1_0))))

/-- Where a position sees another. -/
def causal : IVec S8x2176x2176 1 :=
  broadcastInDim S8x2176x2176 ![0, 1, 2] bcast_S1x2176x2176_S8x2176x2176_0_1_2
    (broadcastInDim S1x2176x2176 ![1, 2] bcast_S2176x2176_S1x2176x2176_1_2
      (cmpi .sge
        (broadcastInDim S2176x2176 ![0, 1] bcast_S2176x1_S2176x2176_0_1 (broadcastInDim S2176x1 ![0] bcast_S2176_S2176x1_0 (iotaInDim S2176 32 0)))
        (broadcastInDim S2176x2176 ![0, 1] bcast_S1x2176_S2176x2176_0_1 (broadcastInDim S1x2176 ![1] bcast_S2176_S1x2176_1 (iotaInDim S2176 32 0)))))

/-- The scores of what a position sees, minus infinity elsewhere. -/
def masked (qkv : S2176x1536.Idx → EReal) (lf : S2176x8.Idx → EReal) : FVec Ideal S8x2176x2176 .f32 :=
  select causal (scores qkv lf) (broadcastInDim S8x2176x2176 ![] bcast_S_S8x2176x2176 (constant S_ .f32 0xFF800000#32))

/-- Each row's largest score. -/
def rowMax (qkv : S2176x1536.Idx → EReal) (lf : S2176x8.Idx → EReal) : FVec Ideal S8x2176 .f32 :=
  Host.reduce FloatOps.maximumf (masked qkv lf) (constant (F := Ideal) S_ .f32 0xFF800000#32) reducesTo_S8x2176x2176_S8x2176_d2 h_S_

/-- The exponentials of the scores from `top`, a number for each row. -/
def expFrom (qkv : S2176x1536.Idx → EReal) (lf : S2176x8.Idx → EReal) (top : FVec Ideal S8x2176 .f32) : FVec Ideal S8x2176x2176 .f32 :=
  Host.exp (subf (masked qkv lf) (broadcastInDim S8x2176x2176 ![0, 1, 2] bcast_S8x2176x1_S8x2176x2176_0_1_2
    (broadcastInDim S8x2176x1 ![0, 1] bcast_S8x2176_S8x2176x1_0_1 top)))

/-- The largest score, not below minus infinity. -/
def rowTop (qkv : S2176x1536.Idx → EReal) (lf : S2176x8.Idx → EReal) : FVec Ideal S8x2176 .f32 :=
  maximumf (broadcastInDim S8x2176 ![] bcast_S_S8x2176 (constant S_ .f32 0xFF800000#32)) (rowMax qkv lf)

/-- The sum along the last axis. -/
def rowSum (x : FVec Ideal S8x2176x2176 .f32) : FVec Ideal S8x2176 .f32 :=
  Host.reduceAdd x (constant S_ .f32 0x00000000#32) reducesTo_S8x2176x2176_S8x2176_d2 h_S_

/-- The exponentials, their sums and the probabilities. -/
def expo (qkv : S2176x1536.Idx → EReal) (lf : S2176x8.Idx → EReal) : FVec Ideal S8x2176x2176 .f32 := expFrom qkv lf (rowTop qkv lf)
def total (qkv : S2176x1536.Idx → EReal) (lf : S2176x8.Idx → EReal) : FVec Ideal S8x2176x1 .f32 :=
  broadcastInDim S8x2176x1 ![0, 1] bcast_S8x2176_S8x2176x1_0_1 (rowSum (expo qkv lf))
def prob (qkv : S2176x1536.Idx → EReal) (lf : S2176x8.Idx → EReal) : FVec Ideal S8x2176x2176 .f32 :=
  Host.divf (expo qkv lf) (broadcastInDim S8x2176x2176 ![0, 1, 2] bcast_S8x2176x1_S8x2176x2176_0_1_2 (total qkv lf))

/-- The attention's output. -/
def outHost (qkv : S2176x1536.Idx → EReal) (lf : S2176x8.Idx → EReal) : FVec Ideal S2176x512 .f32 :=
  shapeCast _ (transpose S2176x8x64 [2, 0, 1]
    (Host.dotGeneral dot_S2176x8x64_S8x2176x2176_S8x64x2176_0_2_2_1_1_0 none (headsV qkv) (prob qkv lf) : FVec Ideal S8x64x2176 .f32)
    transposes_S8x64x2176_S2176x8x64_2_0_1) shapeCasts_S2176x8x64_S2176x512

/-- The output's gradient, by head. -/
def headsG (d : S2176x512.Idx → EReal) : FVec Ideal S8x64x2176 .f32 :=
  transpose S8x64x2176 [1, 2, 0] (shapeCast S2176x8x64 d shapeCasts_S2176x512_S2176x8x64) transposes_S2176x8x64_S8x64x2176_1_2_0

/-- The gradient of the probabilities. -/
def gradP (qkv : S2176x1536.Idx → EReal) (d : S2176x512.Idx → EReal) : FVec Ideal S8x2176x2176 .f32 :=
  Host.dotGeneral dot_S8x64x2176_S2176x8x64_S8x2176x2176_1_2_2_0_0_1 none (headsG d) (headsV qkv)

/-- The gradient of each row's sum of exponentials. -/
def gradZ (qkv : S2176x1536.Idx → EReal) (lf : S2176x8.Idx → EReal) (d : S2176x512.Idx → EReal) : FVec Ideal S8x2176 .f32 :=
  Host.reduceAdd (Host.negf (shapeCast S8x2176x1 (rowSum (mulf (mulf (gradP qkv d)
      (broadcastInDim S8x2176x2176 ![0, 1, 2] bcast_S8x2176x1_S8x2176x2176_0_1_2
        (Host.divf (broadcastInDim S8x2176x1 ![] bcast_S_S8x2176x1 (constant S_ .f32 0x3F800000#32)) (mulf (total qkv lf) (total qkv lf)))))
      (expo qkv lf))) shapeCasts_S8x2176_S8x2176x1)) (constant S_ .f32 0x00000000#32) reducesTo_S8x2176x1_S8x2176_d2 h_S_

/-- The gradient of the scores. -/
def gradS (qkv : S2176x1536.Idx → EReal) (lf : S2176x8.Idx → EReal) (d : S2176x512.Idx → EReal) : FVec Ideal S8x2176x2176 .f32 :=
  select causal
    (mulf (addf (Host.divf (gradP qkv d) (broadcastInDim S8x2176x2176 ![0, 1, 2] bcast_S8x2176x1_S8x2176x2176_0_1_2 (total qkv lf)))
      (broadcastInDim S8x2176x2176 ![0, 1] bcast_S8x2176_S8x2176x2176_0_1 (gradZ qkv lf d))) (expo qkv lf))
    (broadcastInDim S8x2176x2176 ![] bcast_S_S8x2176x2176 (constant S_ .f32 0x00000000#32))

/-- The same with the scores' scale. -/
def gradS8 (qkv : S2176x1536.Idx → EReal) (lf : S2176x8.Idx → EReal) (d : S2176x512.Idx → EReal) : FVec Ideal S8x2176x2176 .f32 :=
  mulf (gradS qkv lf d) (broadcastInDim S8x2176x2176 ![] bcast_S_S8x2176x2176 (constant S_ .f32 0x3E000000#32))

/-- The five gradients: of the queries, the keys, the values, and of the cumulated gates by the row and by the column of the scores. -/
def resQ (qkv : S2176x1536.Idx → EReal) (lf : S2176x8.Idx → EReal) (d : S2176x512.Idx → EReal) : FVec Ideal S2176x512 .bf16 :=
  truncf (φ := .f32) .bf16 (shapeCast S2176x512 (transpose S2176x8x64 [1, 0, 2]
    (Host.dotGeneral dot_S8x2176x2176_S2176x8x64_S8x2176x64_2_0_1_2_0_1 none (gradS8 qkv lf d) (headsK qkv) : FVec Ideal S8x2176x64 .f32)
    transposes_S8x2176x64_S2176x8x64_1_0_2) shapeCasts_S2176x8x64_S2176x512) bitsLt_bf16_f32
def resK (qkv : S2176x1536.Idx → EReal) (lf : S2176x8.Idx → EReal) (d : S2176x512.Idx → EReal) : FVec Ideal S2176x512 .bf16 :=
  truncf (φ := .f32) .bf16 (shapeCast S2176x512 (transpose S2176x8x64 [1, 0, 2]
    (Host.dotGeneral dot_S8x2176x2176_S2176x8x64_S8x2176x64_1_0_2_2_0_1 none (gradS8 qkv lf d) (headsQ qkv) : FVec Ideal S8x2176x64 .f32)
    transposes_S8x2176x64_S2176x8x64_1_0_2) shapeCasts_S2176x8x64_S2176x512) bitsLt_bf16_f32
def resV (qkv : S2176x1536.Idx → EReal) (lf : S2176x8.Idx → EReal) (d : S2176x512.Idx → EReal) : FVec Ideal S2176x512 .bf16 :=
  truncf (φ := .f32) .bf16 (shapeCast S2176x512 (transpose S2176x8x64 [2, 0, 1]
    (Host.dotGeneral dot_S8x64x2176_S8x2176x2176_S8x64x2176_2_1_1_2_0_0 none (headsG d) (prob qkv lf) : FVec Ideal S8x64x2176 .f32)
    transposes_S8x64x2176_S2176x8x64_2_0_1) shapeCasts_S2176x8x64_S2176x512) bitsLt_bf16_f32
def resRow (qkv : S2176x1536.Idx → EReal) (lf : S2176x8.Idx → EReal) (d : S2176x512.Idx → EReal) : FVec Ideal S4x8x2176 .f32 :=
  pad S4x8x2176 ![0, 0, 0] ![0, 6, 0] ![0, 0, 0] (shapeCast S4x2x2176 (transpose S8x2176 [1, 0] (transpose S2176x8 [1, 0]
    (Host.reduceAdd (shapeCast S8x2176x1 (rowSum (gradS qkv lf d)) shapeCasts_S8x2176_S8x2176x1) (constant S_ .f32 0x00000000#32)
      reducesTo_S8x2176x1_S8x2176_d2 h_S_) transposes_S8x2176_S2176x8_1_0) transposes_S2176x8_S8x2176_1_0) shapeCasts_S8x2176_S4x2x2176)
    (sitofp (F := Ideal) .f32 (constantI S_ 32 0#32)) pads_S4x2x2176_S4x8x2176_000_060_000 h_S_
def resCol (qkv : S2176x1536.Idx → EReal) (lf : S2176x8.Idx → EReal) (d : S2176x512.Idx → EReal) : FVec Ideal S2176x512 .f32 :=
  shapeCast S2176x512 (broadcastInDim S2176x8x64 ![0, 1] bcast_S2176x8_S2176x8x64_0_1 (transpose S2176x8 [1, 0]
    (Host.reduceAdd (shapeCast S8x1x2176 (Host.reduceAdd (Host.negf (gradS qkv lf d)) (constant S_ .f32 0x00000000#32)
      reducesTo_S8x2176x2176_S8x2176_d1 h_S_) shapeCasts_S8x2176_S8x1x2176) (constant S_ .f32 0x00000000#32)
      reducesTo_S8x1x2176_S8x2176_d1 h_S_) transposes_S8x2176_S2176x8_1_0)) shapeCasts_S2176x8x64_S2176x512

variable (m : (ℓ : Loc nD τ sig) → Buf (Elt Ideal) ℓ) (c : Dev nD)

/-- The reference's results are these five. -/
theorem res_dq : Value.res_main_v98 m c =
    resQ (m ((c.tc : Thread nD τ).loc main_arg0)) (m ((c.tc : Thread nD τ).loc main_arg1)) (m ((c.tc : Thread nD τ).loc main_arg2)) := rfl
theorem res_dk : Value.res_main_v99 m c =
    resK (m ((c.tc : Thread nD τ).loc main_arg0)) (m ((c.tc : Thread nD τ).loc main_arg1)) (m ((c.tc : Thread nD τ).loc main_arg2)) := rfl
theorem res_dv : Value.res_main_v100 m c =
    resV (m ((c.tc : Thread nD τ).loc main_arg0)) (m ((c.tc : Thread nD τ).loc main_arg1)) (m ((c.tc : Thread nD τ).loc main_arg2)) := rfl
theorem res_dr : Value.res_main_v97 m c =
    resRow (m ((c.tc : Thread nD τ).loc main_arg0)) (m ((c.tc : Thread nD τ).loc main_arg1)) (m ((c.tc : Thread nD τ).loc main_arg2)) := rfl
theorem res_dc : Value.res_main_v102 m c =
    resCol (m ((c.tc : Thread nD τ).loc main_arg0)) (m ((c.tc : Thread nD τ).loc main_arg1)) (m ((c.tc : Thread nD τ).loc main_arg2)) := rfl

end Cert.Attn
-- ==== Proof.Attn.Rows.lean ====
/-
  The attention's rows as real numbers.

  With finite operands, each array of `Soft.lean` read at an index is a real number: the score `Data.S`, its exponential from the row's largest score, the
  row's sum, the probability `Data.P`, the gradients `Data.dP` of the probabilities and `Data.dS` of the scores.
-/
module

public import proofs.«01_k».proof.Proof.Attn.Soft
public import Idealize.ShloMosaic.Lib.KernelVsHost

@[expose] public section

set_option maxRecDepth 16384

noncomputable section

namespace Cert.Attn

open Cert.ReferenceIdeal Cert.ReferenceIdeal.Gen Idealize.ShloMosaic Idealize.ShloMosaic.TcCoe
open Idealize.ShloMosaic.Pointwise

namespace Data

variable (D : Data)

/-- The score of position `t` against `j`. -/
def S (h t j : ℕ) : ℝ := (∑ e : Fin 64, D.q t (h * 64 + e) * D.k j (h * 64 + e)) * (1 / 8) + (D.c t h - D.c j h)

/-- The score, minus infinity where `t` does not see `j`. -/
def SM (h t j : ℕ) : EReal := if j ≤ t then (D.S h t j : EReal) else ⊥

/-- The largest score of a row. -/
def top (h t : ℕ) : ℝ := ((Finset.univ : Finset (Fin 2176)).fold max ⊥ (fun j : Fin 2176 => D.SM h t j)).toReal

/-- The exponential of a score from the row's largest. -/
def E (h t j : ℕ) : ℝ := if j ≤ t then Real.exp (D.S h t j - D.top h t) else 0

/-- The sum of a row's exponentials. -/
def Z (h t : ℕ) : ℝ := ∑ j : Fin 2176, D.E h t j

/-- The probability. -/
def P (h t j : ℕ) : ℝ := D.E h t j * (1 / D.Z h t)

/-- The gradient of the probability. -/
def dP (h t j : ℕ) : ℝ := ∑ e : Fin 64, D.d t (h * 64 + e) * D.v j (h * 64 + e)

/-- The mean of the gradients of a row's probabilities. -/
def mean (h t : ℕ) : ℝ := ∑ j : Fin 2176, D.P h t j * D.dP h t j

/-- The gradient of the score. -/
def dS (h t j : ℕ) : ℝ := D.P h t j * (D.dP h t j - D.mean h t)

end Data

/-- The operands are those of `D`. -/
structure Of (D : Data) (qkv : S2176x1536.Idx → EReal) (lf : S2176x8.Idx → EReal) (d : S2176x512.Idx → EReal) : Prop where
  q : ∀ (t : Fin 2176) (e : ℕ) (he : e < 1536), e < 512 → qkv (ix2 t ⟨e, he⟩) = ((D.q t e : ℝ) : EReal)
  k : ∀ (t : Fin 2176) (e : ℕ) (he : 512 + e < 1536), e < 512 → qkv (ix2 t ⟨512 + e, he⟩) = ((D.k t e : ℝ) : EReal)
  v : ∀ (t : Fin 2176) (e : ℕ) (he : 1024 + e < 1536), qkv (ix2 t ⟨1024 + e, he⟩) = ((D.v t e : ℝ) : EReal)
  d : ∀ (t : Fin 2176) (e : ℕ) (he : e < 512), d (ix2 t ⟨e, he⟩) = ((D.d t e : ℝ) : EReal)
  c : ∀ (t : Fin 2176) (h : Fin 8), cumul lf (ix2 t h) = ((D.c t h : ℝ) : EReal)

/-- Minus infinity in the wide format. -/
theorem neg_inf : Ideal.ofBits .f32 4286578688#32 = ⊥ := by simp [Ideal.ofBits, Ideal.ieee]

/-- The comparison of two positions. -/
theorem sees (t j : Fin 2176) : (IntOp.cmpi .sge (BitVec.ofNat 32 ↑t) (BitVec.ofNat 32 ↑j) = 1) ↔ (j : ℕ) ≤ t := by
  have ht := t.isLt; have hj := j.isLt
  show BitVec.ofBool ((BitVec.ofNat 32 ↑j).sle (BitVec.ofNat 32 ↑t)) = 1 ↔ _
  rw [BitVec.sle, toInt_small _ (by omega), toInt_small _ (by omega)]
  have ofBool_one : ∀ b : Bool, BitVec.ofBool b = 1 ↔ b = true := by decide
  rw [ofBool_one, decide_eq_true_iff]
  omega

/-- A choice by a word's truth. -/
theorem select_if {α : Type} (c : BitVec 1) (a b : α) : Scalar.select c a b = if c = 1 then a else b := rfl

/-- The host's maximum along the last axis of three, at an index. -/
theorem reduceMax_at {n0 n1 n2 : ℕ} (x : (⟨3, ![n0, n1, n2]⟩ : Shape).Idx → EReal) (init : S_.Idx → EReal)
    (h : (⟨3, ![n0, n1, n2]⟩ : Shape).ReducesTo [2] ⟨2, ![n0, n1]⟩) (hu : 0 < S_.numel) (a : Fin n0) (b : Fin n1) :
    Host.reduce (FloatOps.maximumf (F := Ideal) (φ := .f32)) x init h hu (ix2 a b)
      = (Finset.univ : Finset (Fin n2)).fold max (init ix0) (fun k => x (ix3 a b k)) := by
  have e : Shape.Idx.first hu = ix0 := funext fun a => a.elim0
  have := Host.reduce_eq_fold (FloatOps.maximumf (F := Ideal) (φ := .f32)) x init h hu (ix2 a b)
  rw [this, h.fold_fiber_r3_a2, e]
  rfl

variable {D : Data} {qkv : S2176x1536.Idx → EReal} {lf : S2176x8.Idx → EReal} {d : S2176x512.Idx → EReal}

theorem scores_at (H : Of D qkv lf d) (h : Fin 8) (t j : Fin 2176) : scores qkv lf (ix3 h t j) = ((D.S h t j : ℝ) : EReal) := by
  pointwise [scores, headsQ, headsK]
  simp (disch := omega) only [H.q, H.k, H.c, eighth_f32, ← EReal.coe_mul, ← EReal.coe_add, ← EReal.coe_sub, sum_coe]
  rfl

theorem masked_at (H : Of D qkv lf d) (h : Fin 8) (t j : Fin 2176) : masked qkv lf (ix3 h t j) = D.SM h t j := by
  pointwise [masked, causal]
  rw [scores_at H, neg_inf, select_if]
  simp only [sees]
  rfl

/-- A row's largest score is finite. -/
theorem top_coe (D : Data) (h : ℕ) (t : Fin 2176) :
    (Finset.univ : Finset (Fin 2176)).fold max ⊥ (fun j : Fin 2176 => D.SM h t j) = ((D.top h t : ℝ) : EReal) := by
  unfold Data.top
  refine (EReal.coe_toReal ?_ ?_).symm
  · refine ne_of_lt ?_
    rw [Finset.fold_max_lt]
    refine ⟨bot_lt_top, fun x _ => ?_⟩
    unfold Data.SM
    split
    · exact EReal.coe_lt_top _
    · exact bot_lt_top
  · refine ne_of_gt ?_
    rw [Finset.lt_fold_max]
    refine Or.inr ⟨t, Finset.mem_univ _, ?_⟩
    rw [Data.SM, if_pos le_rfl]
    exact EReal.bot_lt_coe _

theorem rowMax_at (H : Of D qkv lf d) (h : Fin 8) (t : Fin 2176) : rowMax qkv lf (ix2 h t) = ((D.top h t : ℝ) : EReal) := by
  unfold rowMax
  refine (reduceMax_at _ _ _ _ h t).trans ?_
  rw [show constant (F := Ideal) S_ .f32 0xFF800000#32 ix0 = ⊥ from neg_inf]
  simp only [masked_at H]
  exact top_coe D h t

/-- The maximum with minus infinity everywhere, at an index. -/
theorem maxBot_at (x : S8x2176.Idx → EReal) (i : S8x2176.Idx) :
    maximumf (F := Ideal) (φ := .f32) (broadcastInDim S8x2176 ![] bcast_S_S8x2176 (constant S_ .f32 0xFF800000#32)) x i = x i := by
  show max (Ideal.ofBits .f32 4286578688#32) (x i) = x i
  rw [neg_inf]
  exact max_eq_right bot_le

theorem rowTop_at (H : Of D qkv lf d) (h : Fin 8) (t : Fin 2176) : rowTop qkv lf (ix2 h t) = ((D.top h t : ℝ) : EReal) := by
  unfold rowTop
  exact (maxBot_at _ _).trans (rowMax_at H h t)

theorem exp_SM (D : Data) (h t j : ℕ) : Ideal.exp (D.SM h t j - ((D.top h t : ℝ) : EReal)) = ((D.E h t j : ℝ) : EReal) := by
  unfold Data.SM Data.E
  split
  · rw [← EReal.coe_sub, Ideal.exp_coe]
  · rw [EReal.bot_sub]; exact Ideal.exp_bot

theorem expFrom_at (H : Of D qkv lf d) (u : S8x2176.Idx → EReal) (h : Fin 8) (t j : Fin 2176) (hu : u (ix2 h t) = ((D.top h t : ℝ) : EReal)) :
    expFrom qkv lf u (ix3 h t j) = ((D.E h t j : ℝ) : EReal) := by
  pointwise [expFrom]
  rw [masked_at H, hu]
  exact exp_SM D h t j

theorem expo_at (H : Of D qkv lf d) (h : Fin 8) (t j : Fin 2176) : expo qkv lf (ix3 h t j) = ((D.E h t j : ℝ) : EReal) :=
  expFrom_at H _ h t j (rowTop_at H h t)

theorem rowSum_at (x : S8x2176x2176.Idx → EReal) (h : Fin 8) (t : Fin 2176) (f : ℕ → ℝ) (hx : ∀ j : Fin 2176, x (ix3 h t j) = ((f j : ℝ) : EReal)) :
    rowSum x (ix2 h t) = ((∑ j : Fin 2176, f j : ℝ) : EReal) := by
  pointwise [rowSum]
  simp only [hx, sum_coe]

/-- Exponentials are not negative, and a position sees itself: the sum is positive. -/
theorem Data.Z_pos (D : Data) (h : ℕ) (t : Fin 2176) : 0 < D.Z h t := by
  unfold Data.Z
  refine Finset.sum_pos' (fun j _ => ?_) ⟨t, Finset.mem_univ _, ?_⟩
  · unfold Data.E; split
    · exact (Real.exp_pos _).le
    · exact le_rfl
  · rw [Data.E, if_pos le_rfl]; exact Real.exp_pos _

theorem total_at (H : Of D qkv lf d) (h : Fin 8) (t : Fin 2176) : total qkv lf (ix3 h t 0) = ((D.Z h t : ℝ) : EReal) := by
  pointwise [total]
  exact rowSum_at _ h t _ fun j => expo_at H h t j

theorem prob_at (H : Of D qkv lf d) (h : Fin 8) (t j : Fin 2176) : prob qkv lf (ix3 h t j) = ((D.P h t j : ℝ) : EReal) := by
  pointwise [prob]
  have hz := total_at H h t
  have hz' := (D.Z_pos h t).ne'
  rw [expo_at H, hz, Ideal.div_coe hz', ← EReal.coe_mul]
  rfl

/-- The output. -/
theorem out_at (H : Of D qkv lf d) (t : Fin 2176) (e : Fin 512) :
    outHost qkv lf (ix2 t e) = ((∑ j : Fin 2176, D.v j e * D.P (e / 64) t j : ℝ) : EReal) := by
  pointwise [outHost, headsV]
  simp (disch := omega) only [H.v, prob_at H, ← EReal.coe_mul, sum_coe]

theorem gradP_at (H : Of D qkv lf d) (h : Fin 8) (t j : Fin 2176) : gradP qkv d (ix3 h t j) = ((D.dP h t j : ℝ) : EReal) := by
  pointwise [gradP, headsG, headsV]
  simp (disch := omega) only [H.v, H.d, ← EReal.coe_mul, sum_coe]
  rfl

theorem one_unit (f : Fin 1 → EReal) : ∑ x, f x = f 0 := by simp

theorem gradZ_at (H : Of D qkv lf d) (h : Fin 8) (t : Fin 2176) :
    gradZ qkv lf d (ix2 h t) = ((-(D.mean h t * (1 / D.Z h t)) : ℝ) : EReal) := by
  have hz := total_at H h t
  have hz' := (D.Z_pos h t).ne'
  have hzz := mul_ne_zero hz' hz'
  pointwise [gradZ]
  rw [one_unit, rowSum_at _ h t (fun j => D.dP h t j * (1 / (D.Z h t * D.Z h t)) * D.E h t j), ← EReal.coe_neg]
  · congr 2
    unfold Data.mean
    rw [Finset.sum_mul]
    refine Finset.sum_congr rfl fun j _ => ?_
    unfold Data.P
    field_simp
  · intro j
    pointwise []
    rw [expo_at H, gradP_at H, hz, ← EReal.coe_mul, Ideal.div_coe hzz, one_mul, ← EReal.coe_mul, ← EReal.coe_mul]

theorem gradS_at (H : Of D qkv lf d) (h : Fin 8) (t j : Fin 2176) : gradS qkv lf d (ix3 h t j) = ((D.dS h t j : ℝ) : EReal) := by
  have hz := total_at H h t
  have hz' := (D.Z_pos h t).ne'
  pointwise [gradS, causal]
  rw [gradZ_at H, expo_at H, gradP_at H, hz, Ideal.div_coe hz', ← EReal.coe_mul, ← EReal.coe_add, ← EReal.coe_mul, select_coe]
  congr 1
  simp only [sees]
  unfold Data.dS Data.P
  by_cases hj : (j : ℕ) ≤ t
  · rw [if_pos hj]; ring
  · rw [if_neg hj, Data.E, if_neg hj]; ring

/-- The five gradients. -/
theorem resQ_at (H : Of D qkv lf d) (t : Fin 2176) (e : Fin 512) :
    resQ qkv lf d (ix2 t e) = ((∑ j : Fin 2176, D.dS (e / 64) t j * (1 / 8) * D.k j e : ℝ) : EReal) := by
  pointwise [resQ, gradS8, headsK]
  simp (disch := omega) only [H.k, gradS_at H, eighth_f32, ← EReal.coe_mul, sum_coe]

theorem resK_at (H : Of D qkv lf d) (j : Fin 2176) (e : Fin 512) :
    resK qkv lf d (ix2 j e) = ((∑ t : Fin 2176, D.dS (e / 64) t j * (1 / 8) * D.q t e : ℝ) : EReal) := by
  pointwise [resK, gradS8, headsQ]
  simp (disch := omega) only [H.q, gradS_at H, eighth_f32, ← EReal.coe_mul, sum_coe]

theorem resV_at (H : Of D qkv lf d) (j : Fin 2176) (e : Fin 512) :
    resV qkv lf d (ix2 j e) = ((∑ t : Fin 2176, D.d t e * D.P (e / 64) t j : ℝ) : EReal) := by
  pointwise [resV, headsG]
  simp (disch := omega) only [H.d, prob_at H, ← EReal.coe_mul, sum_coe]

theorem resRow_at (H : Of D qkv lf d) (p : Fin 4) (l : Fin 8) (t : Fin 2176) :
    resRow qkv lf d (ix3 p l t) = ((if (l : ℕ) < 2 then ∑ j : Fin 2176, D.dS (p * 2 + l) t j else 0 : ℝ) : EReal) := by
  pointwise [resRow]
  by_cases hl : (l : ℕ) < 2
  · rw [dif_pos hl, if_pos hl, one_unit]
    exact rowSum_at _ ⟨(p : ℕ) * 2 + l, by omega⟩ t _ fun j => gradS_at H _ t j
  · rw [dif_neg hl, if_neg hl]
    exact Idealize.ShloMosaic.sitofp_zero

theorem resCol_at (H : Of D qkv lf d) (j : Fin 2176) (e : Fin 512) :
    resCol qkv lf d (ix2 j e) = ((∑ t : Fin 2176, -D.dS (e / 64) t j : ℝ) : EReal) := by
  pointwise [resCol]
  rw [one_unit]
  simp (disch := omega) only [gradS_at H, ← EReal.coe_neg, sum_coe]

end Cert.Attn
-- ==== Proof.Attn.Entry.lean ====
/-
  What the backward call's launch finds.

  The kernel's host lines hand the call the cumulated gates in two layouts, the attention's output and its log-sums. They are the arrays of `Soft.lean`,
  so with finite operands they are those of a `Data` whose output and log-sums are the attention's own.
-/
module

public import proofs.«01_k».proof.Proof.Attn.Rows
public import Idealize.ShloMosaic.Lib.StableHlo.ReadAt

@[expose] public section

set_option maxRecDepth 16384

noncomputable section

namespace Cert.Attn

open Cert.KernelIdeal Cert.KernelIdeal.Gen Idealize.ShloMosaic Idealize.ShloMosaic.TcCoe
open Idealize.ShloMosaic.Pointwise

/-- The log-sums by head and row, from each row's largest score. -/
def logSums (qkv : S2176x1536.Idx → EReal) (lf : S2176x8.Idx → EReal) : FVec Ideal S8x2176 .f32 :=
  addf (shapeCast S8x2176 (broadcastInDim S8x2176x1 ![0, 1] bcast_S8x2176_S8x2176x1_0_1 (rowMax qkv lf)) shapeCasts_S8x2176x1_S8x2176)
    (Host.log (rowSum (expFrom qkv lf (rowMax qkv lf))))

/-- The log-sums as the call takes them: two heads a step, padded to eight rows. -/
def logSumsT (x : S8x2176.Idx → EReal) : FVec Ideal S4x8x2176 .f32 :=
  pad S4x8x2176 ![0, 0, 0] ![0, 6, 0] ![0, 0, 0] (shapeCast S4x2x2176 x shapeCasts_S8x2176_S4x2x2176)
    (sitofp (F := Ideal) .f32 (constantI S_ 32 0#32)) pads_S4x2x2176_S4x8x2176_000_060_000 h_S_

/-- The cumulated gates by row, padded to a register's lanes. -/
def gatesPad (x : S2176x8.Idx → EReal) : FVec Ideal S2176x128 .f32 :=
  pad S2176x128 ![0, 0] ![0, 120] ![0, 0] x (sitofp (F := Ideal) .f32 (constantI S_ 32 0#32)) pads_S2176x8_S2176x128_000_01200 h_S_

/-- The cumulated gates by head. -/
def gatesT (x : S2176x8.Idx → EReal) : FVec Ideal S8x2176 .f32 := transpose S8x2176 [1, 0] x transposes_S2176x8_S8x2176_1_0

section host
variable (m : (ℓ : Loc nD τ sig) → Buf (Elt Ideal) ℓ) (c : Dev nD)

theorem V_gatesT : Gen.V m c main_v2 = gatesT (cumul (m ((c.tc : Thread nD τ).loc main_arg1))) := by
  unfold Gen.V
  after_reads_simp
  try simp -implicitDefEqProofs only [StableHlo.TRef.toBuf, StableHlo.TRef.ofBuf, cast_cast, cast_eq]
  rfl

theorem V_gatesPad : Gen.V m c main_v1 = gatesPad (cumul (m ((c.tc : Thread nD τ).loc main_arg1))) := by
  unfold Gen.V
  after_reads_simp
  try simp -implicitDefEqProofs only [StableHlo.TRef.toBuf, StableHlo.TRef.ofBuf, cast_cast, cast_eq]
  rfl

theorem V_out : Gen.V m c main_v43 = outHost (m ((c.tc : Thread nD τ).loc main_arg0)) (m ((c.tc : Thread nD τ).loc main_arg1)) := by
  unfold Gen.V
  after_reads_simp
  try simp -implicitDefEqProofs only [StableHlo.TRef.toBuf, StableHlo.TRef.ofBuf, cast_cast, cast_eq]
  rfl

theorem V_logSums : Gen.V m c main_v76 = logSumsT (logSums (m ((c.tc : Thread nD τ).loc main_arg0)) (m ((c.tc : Thread nD τ).loc main_arg1))) := by
  unfold Gen.V
  after_reads_simp
  try simp -implicitDefEqProofs only [StableHlo.TRef.toBuf, StableHlo.TRef.ofBuf, cast_cast, cast_eq]
  rfl

end host

/-- The zero that pads. -/
theorem pad_zero : (FloatOps.sitofp FTy.f32 0#32 : Ideal .f32) = 0 := Idealize.ShloMosaic.sitofp_zero

theorem gatesPad_at (x : S2176x8.Idx → EReal) (t : Fin 2176) (l : Fin 128) :
    gatesPad x (ix2 t l) = if h : (l : ℕ) < 8 then x (ix2 t ⟨l, h⟩) else 0 := by
  pointwise [gatesPad]
  rw [pad_zero]

theorem gatesT_at (x : S2176x8.Idx → EReal) (h : Fin 8) (t : Fin 2176) : gatesT x (ix2 h t) = x (ix2 t h) := by
  pointwise [gatesT]

theorem logSumsT_at (x : S8x2176.Idx → EReal) (p : Fin 4) (h : Fin 8) (t : Fin 2176) :
    logSumsT x (ix3 p h t) = if hh : (h : ℕ) < 2 then x (ix2 ⟨(p : ℕ) * 2 + h, by omega⟩ t) else 0 := by
  pointwise [logSumsT]
  rw [pad_zero]

/-- A column dropped and a logarithm added, at an index. -/
theorem addLog_at (x y : S8x2176.Idx → EReal) (h : Fin 8) (t : Fin 2176) :
    addf (F := Ideal) (φ := .f32) (shapeCast S8x2176 (broadcastInDim S8x2176x1 ![0, 1] bcast_S8x2176_S8x2176x1_0_1 x) shapeCasts_S8x2176x1_S8x2176)
      (Host.log y) (ix2 h t) = x (ix2 h t) + Ideal.log (y (ix2 h t)) := by
  pointwise

variable {D : Data} {qkv : S2176x1536.Idx → EReal} {lf : S2176x8.Idx → EReal} {d : S2176x512.Idx → EReal}

theorem logSums_at (H : Of D qkv lf d) (h : Fin 8) (t : Fin 2176) :
    logSums qkv lf (ix2 h t) = ((D.top h t + Real.log (D.Z h t) : ℝ) : EReal) := by
  unfold logSums
  refine (addLog_at _ _ h t).trans ?_
  rw [rowMax_at H, rowSum_at _ h t _ fun j => expFrom_at H _ h t j (rowMax_at H h t)]
  rw [show (∑ j : Fin 2176, D.E h t j) = D.Z h t from rfl, EReal.coe_add]
  congr 1
  show (if D.Z h t ≤ 0 then ⊥ else _) = _
  rw [if_neg (not_le.mpr (D.Z_pos h t))]

/-- The attention's own output and log-sums. -/
structure Own (D : Data) : Prop where
  o : ∀ t e : ℕ, D.o t e = ∑ j : Fin 2176, D.v j e * D.P (e / 64) t j
  ls : ∀ h t : ℕ, D.ls h t = D.top h t + Real.log (D.Z h t)

/-- What the launch finds. -/
theorem holds (m : (ℓ : Loc nD τ sig) → Buf (Elt Ideal) ℓ) (c : Dev nD) (O : Own D)
    (H : Of D (m ((c.tc : Thread nD τ).loc main_arg0)) (m ((c.tc : Thread nD τ).loc main_arg1)) (m ((c.tc : Thread nD τ).loc main_arg2))) :
    Holds D (Gen.V m c main_arg0) (Gen.V m c main_arg2) (Gen.V m c main_v43) (Gen.V m c main_v76) (Gen.V m c main_v1) (Gen.V m c main_v2) where
  q t e := by rw [V_main_arg0]; exact H.q t e _ e.isLt
  k t e := by rw [V_main_arg0]; exact H.k t e _ e.isLt
  v t e := by rw [V_main_arg0]; exact H.v t e _
  d t e := by rw [V_main_arg2]; exact H.d t e _
  o t e := by rw [V_out, out_at H, O.o]
  ls p h t := by
    rw [V_logSums, logSumsT_at]
    by_cases hh : (h : ℕ) < 2
    · rw [dif_pos hh, if_pos hh, logSums_at H, O.ls]
      show ((D.top ((p : ℕ) * 2 + h) t + Real.log (D.Z ((p : ℕ) * 2 + h) t) : ℝ) : EReal) = _
      rw [Nat.mul_comm (p : ℕ) 2]
    · rw [dif_neg hh, if_neg hh]; rfl
  c t l := by
    rw [V_gatesPad, gatesPad_at]
    by_cases hl : (l : ℕ) < 8
    · rw [dif_pos hl, if_pos hl, H.c]
    · rw [dif_neg hl, if_neg hl]; rfl
  ct h t := by rw [V_gatesT, gatesT_at, H.c]

end Cert.Attn
-- ==== Proof.Attn.Grads.lean ====
/-
  The call's five gradients are the derivative's.

  A head's exponential of a score minus the row's log-sum is the probability, and the output's gradient against the output is the mean of the
  probabilities' gradients; so each of the call's sums, over its tiles and below the diagonal, is the sum that differentiating the attention gives.
-/
module

public import proofs.«01_k».proof.Proof.Attn.Entry

@[expose] public section

set_option maxRecDepth 16384

noncomputable section

namespace Cert.Attn

open Cert.KernelIdeal Cert.KernelIdeal.Gen Idealize.ShloMosaic Idealize.ShloMosaic.TcCoe
open Idealize.ShloMosaic.Pointwise

variable {D : Data}

/-- A position gives no probability to one that it does not see. -/
theorem P_masked (h t j : ℕ) (hj : ¬ j ≤ t) : D.P h t j = 0 := by rw [Data.P, Data.E, if_neg hj, zero_mul]

theorem dS_masked (h t j : ℕ) (hj : ¬ j ≤ t) : D.dS h t j = 0 := by rw [Data.dS, P_masked h t j hj, zero_mul]

/-- Column `e` of head `2p + hh` in the pair's numbering. -/
theorem col (p hh e : ℕ) : 128 * p + (64 * hh + e) = (2 * p + hh) * 64 + e := by ring

/-- The exponential of a score minus the log-sum is the probability. -/
theorem exp_s (O : Own D) (p hh j : ℕ) (t : Fin 2176) (hh2 : hh < 2) (hp : p < 4) (hj : j ≤ t) :
    Real.exp ((D.pair p).s p hh j t) = D.P (2 * p + hh) t j := by
  have hs : (D.pair p).s p hh j t = (D.S (2 * p + hh) t j - D.top (2 * p + hh) t) - Real.log (D.Z (2 * p + hh) t) := by
    unfold In.s Data.pair Data.S
    simp only [col]
    rw [if_pos hh2, if_pos (show 2 * p + hh < 8 by omega), O.ls, Finset.sum_mul]
    rw [Finset.sum_congr rfl fun (e : Fin 64) _ => show D.k j ((2 * p + hh) * 64 + ↑e) * (D.q t ((2 * p + hh) * 64 + ↑e) * (1 / 8))
      = D.q t ((2 * p + hh) * 64 + ↑e) * D.k j ((2 * p + hh) * 64 + ↑e) * (1 / 8) by ring]
    ring
  rw [hs, Real.exp_sub, Real.exp_log (D.Z_pos _ t), Data.P, Data.E, if_pos hj]
  ring

/-- The output's gradient against the output is the mean. -/
theorem w_eq (O : Own D) (p hh j t : ℕ) (hh2 : hh < 2) :
    (D.pair p).w hh j t = D.dP (2 * p + hh) t j - D.mean (2 * p + hh) t := by
  unfold In.w Data.pair Data.dP Data.mean
  simp only [col, O.o]
  congr 1
  · exact Finset.sum_congr rfl fun e _ => mul_comm _ _
  · simp only [Data.dP, Finset.mul_sum]
    rw [Finset.sum_comm]
    refine Finset.sum_congr rfl fun x _ => Finset.sum_congr rfl fun e _ => ?_
    have he : ((2 * p + hh) * 64 + (e : ℕ)) / 64 = 2 * p + hh := by omega
    rw [he]; ring

/-- The gradient of a score below the diagonal. -/
theorem dS_eq (O : Own D) (p hh j : ℕ) (t : Fin 2176) (hh2 : hh < 2) (hp : p < 4) (hj : j ≤ t) :
    Real.exp ((D.pair p).s p hh j t) * (D.pair p).w hh j t = D.dS (2 * p + hh) t j := by
  rw [exp_s O p hh j t hh2 hp hj, w_eq O p hh j t hh2]; rfl

/-- A sum over the tiles below the diagonal is a sum over all positions. -/
theorem tiles_sum (f g : ℕ → ℝ) (j : ℕ) (hpos : ∀ t : Fin 2176, j ≤ t → f t = g t) (hneg : ∀ t : Fin 2176, ¬ j ≤ t → g t = 0) :
    ∑ i ∈ Finset.range 5, ∑ x : Fin (rows i), (if j ≤ row0 i + x then f (row0 i + x) else 0) = ∑ t : Fin 2176, g t := by
  refine (sum_tiles (fun t => if j ≤ t then f t else 0)).trans ?_
  rw [← Fin.sum_univ_eq_sum_range]
  refine Finset.sum_congr rfl fun t _ => ?_
  by_cases h : j ≤ t
  · rw [if_pos h, hpos t h]
  · rw [if_neg h, hneg t h]

/-- A column's head and its place there. -/
theorem split (e : ℕ) : 2 * (e / 128) + e % 128 / 64 = e / 64 ∧ 64 * (e % 128 / 64) + e % 128 % 64 = e % 128 ∧ 128 * (e / 128) + e % 128 = e := by
  omega

variable {qkv : S2176x1536.Idx → EReal} {lf : S2176x8.Idx → EReal} {d : S2176x512.Idx → EReal}

theorem dv_eq (O : Own D) (H : Of D qkv lf d) : dvArr D = resV qkv lf d := by
  funext y
  idx_vars y
  rw [resV_at H]
  have he := y1.isLt
  obtain ⟨s1, s2, s3⟩ := split y1
  show ((∑ i ∈ Finset.range 5, ∑ x : Fin (rows i), (if (y0 : ℕ) ≤ row0 i + x then
    Real.exp ((D.pair (y1 / 128)).s (y1 / 128) (y1 % 128 / 64) y0 (row0 i + x))
      * (D.pair (y1 / 128)).d (row0 i + x) (64 * (y1 % 128 / 64) + y1 % 128 % 64) else 0) : ℝ) : EReal) = _
  refine congrArg _ (tiles_sum (fun t => Real.exp ((D.pair (y1 / 128)).s (y1 / 128) (y1 % 128 / 64) y0 t)
      * (D.pair (y1 / 128)).d t (64 * (y1 % 128 / 64) + y1 % 128 % 64)) (fun t => D.d t y1 * D.P (y1 / 64) t y0) y0 (fun t ht => ?_) fun t ht => ?_)
  · beta_reduce
    refine (congrArg (· * _) (exp_s O _ _ _ t (by omega) (by omega) ht)).trans ?_
    beta_reduce
    rw [s1, s2]
    show D.P (y1 / 64) t y0 * D.d t (128 * (y1 / 128) + y1 % 128) = _
    rw [s3, mul_comm]
  · beta_reduce
    rw [P_masked _ _ _ ht, mul_zero]

theorem dk_eq (O : Own D) (H : Of D qkv lf d) : dkArr D = resK qkv lf d := by
  funext y
  idx_vars y
  rw [resK_at H]
  have he := y1.isLt
  obtain ⟨s1, s2, s3⟩ := split y1
  show ((∑ i ∈ Finset.range 5, (∑ x : Fin (rows i), (if (y0 : ℕ) ≤ row0 i + x then
    Real.exp ((D.pair (y1 / 128)).s (y1 / 128) (y1 % 128 / 64) y0 (row0 i + x)) * (D.pair (y1 / 128)).w (y1 % 128 / 64) y0 (row0 i + x)
      * (D.pair (y1 / 128)).q (row0 i + x) (64 * (y1 % 128 / 64) + y1 % 128 % 64) else 0)) * (1 / 8) : ℝ) : EReal) = _
  refine congrArg _ ((Finset.sum_mul _ _ _).symm.trans ?_)
  refine (congrArg (· * (1 / 8 : ℝ)) (tiles_sum (fun t => Real.exp ((D.pair (y1 / 128)).s (y1 / 128) (y1 % 128 / 64) y0 t)
    * (D.pair (y1 / 128)).w (y1 % 128 / 64) y0 t * (D.pair (y1 / 128)).q t (64 * (y1 % 128 / 64) + y1 % 128 % 64)) (fun t => D.dS (y1 / 64) t y0 * D.q t y1) y0 (fun t ht => ?_) fun t ht => ?_)).trans ?_
  · beta_reduce
    refine (congrArg (· * _) (dS_eq O _ _ _ t (by omega) (by omega) ht)).trans ?_
    beta_reduce
    rw [s1, s2]
    show D.dS (y1 / 64) t y0 * D.q t (128 * (y1 / 128) + y1 % 128) = _
    rw [s3]
  · beta_reduce
    rw [dS_masked _ _ _ ht, zero_mul]
  · beta_reduce
    rw [Finset.sum_mul]
    exact Finset.sum_congr rfl fun t _ => by ring

theorem dc_eq (O : Own D) (H : Of D qkv lf d) : dcArr D = resCol qkv lf d := by
  funext y
  idx_vars y
  rw [resCol_at H]
  have he := y1.isLt
  obtain ⟨s1, s2, s3⟩ := split y1
  show ((∑ i ∈ Finset.range 5, -(∑ x : Fin (rows i), (if (y0 : ℕ) ≤ row0 i + x then
    Real.exp ((D.pair (y1 / 128)).s (y1 / 128) (y1 % 128 / 64) y0 (row0 i + x)) * (D.pair (y1 / 128)).w (y1 % 128 / 64) y0 (row0 i + x)
      else 0)) : ℝ) : EReal) = _
  rw [Finset.sum_neg_distrib, Finset.sum_neg_distrib]
  refine congrArg (fun r : ℝ => ((-r : ℝ) : EReal)) (tiles_sum (fun t => Real.exp ((D.pair (y1 / 128)).s (y1 / 128) (y1 % 128 / 64) y0 t)
    * (D.pair (y1 / 128)).w (y1 % 128 / 64) y0 t) (fun t => D.dS (y1 / 64) t y0) y0 (fun t ht => ?_) fun t ht => ?_)
  · beta_reduce
    refine (dS_eq O _ _ _ t (by omega) (by omega) ht).trans ?_
    rw [s1]
  · exact dS_masked _ _ _ ht

theorem dq_eq (O : Own D) (H : Of D qkv lf d) : dqArr D = resQ qkv lf d := by
  funext y
  idx_vars y
  rw [resQ_at H]
  have he := y1.isLt
  obtain ⟨s1, s2, s3⟩ := split y1
  show (((∑ j : Fin 2176, if (j : ℕ) ≤ y0 then (D.pair (y1 / 128)).k j (64 * (y1 % 128 / 64) + y1 % 128 % 64)
    * (Real.exp ((D.pair (y1 / 128)).s (y1 / 128) (y1 % 128 / 64) j y0) * (D.pair (y1 / 128)).w (y1 % 128 / 64) j y0) else 0) * (1 / 8) : ℝ) : EReal) = _
  refine congrArg _ ((Finset.sum_mul _ _ _).trans ?_)
  refine Finset.sum_congr rfl fun j _ => ?_
  by_cases hj : (j : ℕ) ≤ y0
  · refine (congrArg (· * _) (if_pos hj)).trans ?_
    beta_reduce
    refine (congrArg (· * _) (congrArg (_ * ·) (dS_eq O _ _ _ y0 (by omega) (by omega) hj))).trans ?_
    beta_reduce
    rw [s1, s2]
    show D.k j (128 * (y1 / 128) + y1 % 128) * D.dS (y1 / 64) y0 j * (1 / 8) = _
    rw [s3]; ring
  · refine (congrArg (· * _) (if_neg hj)).trans ?_
    beta_reduce
    rw [dS_masked _ _ _ hj]; ring

theorem dr_eq (O : Own D) (H : Of D qkv lf d) : drArr D = resRow qkv lf d := by
  funext y
  idx_vars y
  rw [resRow_at H]
  have hp := y0.isLt
  by_cases hl : (y1 : ℕ) < 2
  · refine (if_pos hl).trans ?_
    rw [if_pos hl, Nat.mul_comm (y0 : ℕ) 2]
    refine congrArg _ (Finset.sum_congr rfl fun j _ => ?_)
    by_cases hj : (j : ℕ) ≤ y2
    · exact (if_pos hj).trans (dS_eq O _ _ _ y2 hl hp hj)
    · exact (if_neg hj).trans (dS_masked _ _ _ hj).symm
  · refine (if_neg hl).trans ?_
    rw [if_neg hl]; rfl

end Cert.Attn
-- ==== Proof.Attn.Finite.lean ====
/-
  Finite operands are real numbers.

  The precondition compares each operand's absolute value with infinity; where it holds, the operands, and the gates cumulated from them, are real numbers,
  and `dataOf` is the `Data` that they make, with the attention's own output and log-sums.
-/
module

public import proofs.«01_k».proof.Proof.Attn.Grads
public import proofs.«01_k».proof.Pre_finite
public import Idealize.ShloMosaic.Lib.ReduceAll

@[expose] public section

set_option maxRecDepth 16384

noncomputable section

namespace Cert.Attn

open Cert.ReferenceIdeal Cert.ReferenceIdeal.Gen Idealize.ShloMosaic Idealize.ShloMosaic.TcCoe
open Idealize.ShloMosaic.Pointwise

/-- The operands are finite. -/
structure Finite (qkv : S2176x1536.Idx → EReal) (lf : S2176x8.Idx → EReal) (d : S2176x512.Idx → EReal) : Prop where
  qkv : ∀ i, ∃ r : ℝ, qkv i = r
  lf : ∀ i, ∃ r : ℝ, lf i = r
  d : ∀ i, ∃ r : ℝ, d i = r

/-- Infinity in the wide format. -/
theorem inf_f32 : Ideal.ofBits .f32 0x7F800000#32 = ⊤ := by simp [Ideal.ofBits, Ideal.ieee]

/-- An absolute value below infinity is a real number's. -/
theorem real_of_abs (x : EReal) (h : Ideal.cmp .olt (max x (-x)) ⊤ = 1#1) : ∃ r : ℝ, x = r := by
  have hlt : max x (-x) < ⊤ := by
    by_contra hc
    simp [Ideal.cmp, hc] at h
  induction x with
  | bot => simp at hlt
  | top => simp at hlt
  | coe r => exact ⟨r, rfl⟩

/-- A left fold of additions of reals is a real. -/
theorem foldl_real {ι : Type} (f : ι → EReal) (hf : ∀ n, ∃ r : ℝ, f n = r) :
    ∀ (l : List ι) (a : EReal), (∃ r : ℝ, a = r) → ∃ r : ℝ, l.foldl (fun r n => r + f n) a = r
  | [], _, h => h
  | n :: l, a, ⟨r, hr⟩ => by
    obtain ⟨s, hs⟩ := hf n
    exact foldl_real f hf l _ ⟨r + s, by beta_reduce; rw [hr, hs, EReal.coe_add]⟩

/-- A window's sum of finite numbers is finite. -/
theorem window_real {s t : Shape} (window strides lo hi : Fin s.rank → ℕ) (h : s.ReduceWindows window strides lo hi t) (x : s.Idx → EReal)
    (hx : ∀ i, ∃ r : ℝ, x i = r) (init : EReal) (hi' : ∃ r : ℝ, init = r) (j : t.Idx) :
    ∃ r : ℝ, Ideal.hostReduceWindowAdd window strides lo hi h x init j = r := by
  unfold Ideal.hostReduceWindowAdd Host.reduceWindow
  refine foldl_real _ (fun n => ?_) _ _ hi'
  beta_reduce
  split
  · exact hx _
  · exact hi'

/-- The host's window sum of finite numbers is finite. -/
theorem hostWindow_real {s t u : Shape} (window strides lo hi : Fin s.rank → ℕ) (h : s.ReduceWindows window strides lo hi t) (hu : 0 < u.numel)
    (x : s.Idx → EReal) (hx : ∀ i, ∃ r : ℝ, x i = r) (init : u.Idx → EReal) (hi' : ∀ i, ∃ r : ℝ, init i = r) (j : t.Idx) :
    ∃ r : ℝ, Host.reduceWindowAdd (F := Ideal) (φ := .f32) window strides lo hi x init h hu j = r :=
  window_real window strides lo hi h x hx _ (hi' _) j

/-- The cumulated gates are finite. -/
theorem cumul_real (lf : S2176x8.Idx → EReal) (h : ∀ i, ∃ r : ℝ, lf i = r) (i : S2176x8.Idx) : ∃ r : ℝ, cumul lf i = r := by
  unfold cumul
  refine hostWindow_real _ _ _ _ _ _ lf h _ (fun k => ⟨0, ?_⟩) i
  exact Ideal.ofBits_zero_f32

/-- The precondition says that the operands are finite. -/
theorem finite_of [Cert.Pre_finite.Facts] (qkv : S2176x1536.Idx → EReal) (lf : S2176x8.Idx → EReal) (d : S2176x512.Idx → EReal)
    (h : Cert.Pre_finite.fn (F := Ideal) qkv lf d = fun _ => 1#1) : Finite qkv lf d := by
  have h0 := congrFun h ix0
  unfold Cert.Pre_finite.fn at h0
  obtain ⟨h1, hd⟩ := IntOp.andi_eq_one.1 h0
  obtain ⟨hq, hl⟩ := IntOp.andi_eq_one.1 h1
  have : Subsingleton S_.Idx := ⟨fun a b => funext fun i => i.elim0⟩
  exact ⟨fun i => real_of_abs _ ((congrArg _ inf_f32.symm).trans (Host.reduce_andi_all _ _ _ _ _ hq i)),
    fun i => real_of_abs _ ((congrArg _ inf_f32.symm).trans (Host.reduce_andi_all _ _ _ _ _ hl i)),
    fun i => real_of_abs _ ((congrArg _ inf_f32.symm).trans (Host.reduce_andi_all _ _ _ _ _ hd i))⟩

/-- The operands as real numbers by row and column, before the attention's own output and log-sums. -/
def preData (qkv : S2176x1536.Idx → EReal) (lf : S2176x8.Idx → EReal) (d : S2176x512.Idx → EReal) : Data where
  q t e := if h : t < 2176 ∧ e < 512 then (qkv (ix2 ⟨t, h.1⟩ ⟨e, by omega⟩)).toReal else 0
  k t e := if h : t < 2176 ∧ e < 512 then (qkv (ix2 ⟨t, h.1⟩ ⟨512 + e, by omega⟩)).toReal else 0
  v t e := if h : t < 2176 ∧ e < 512 then (qkv (ix2 ⟨t, h.1⟩ ⟨1024 + e, by omega⟩)).toReal else 0
  d t e := if h : t < 2176 ∧ e < 512 then (d (ix2 ⟨t, h.1⟩ ⟨e, h.2⟩)).toReal else 0
  c t h := if hh : t < 2176 ∧ h < 8 then (cumul lf (ix2 ⟨t, hh.1⟩ ⟨h, hh.2⟩)).toReal else 0
  o _ _ := 0
  ls _ _ := 0

/-- The operands with the attention's own output and log-sums. -/
def dataOf (qkv : S2176x1536.Idx → EReal) (lf : S2176x8.Idx → EReal) (d : S2176x512.Idx → EReal) : Data :=
  { preData qkv lf d with
    o := fun t e => ∑ j : Fin 2176, (preData qkv lf d).v j e * (preData qkv lf d).P (e / 64) t j
    ls := fun h t => (preData qkv lf d).top h t + Real.log ((preData qkv lf d).Z h t) }

variable {qkv : S2176x1536.Idx → EReal} {lf : S2176x8.Idx → EReal} {d : S2176x512.Idx → EReal}

/-- Its output and log-sums are its own. -/
theorem own : Own (dataOf qkv lf d) := ⟨fun _ _ => rfl, fun _ _ => rfl⟩

theorem coe_real {x : EReal} (h : ∃ r : ℝ, x = r) : x = ((x.toReal : ℝ) : EReal) := by
  obtain ⟨r, rfl⟩ := h; rfl

/-- Finite operands are those of `dataOf`. -/
theorem of_finite (F : Finite qkv lf d) : Of (dataOf qkv lf d) qkv lf d where
  q t e he h := by
    refine (coe_real (F.qkv _)).trans (congrArg _ ?_)
    simp only [dataOf, preData]
    rw [dif_pos ⟨t.isLt, h⟩]
  k t e he h := by
    refine (coe_real (F.qkv _)).trans (congrArg _ ?_)
    simp only [dataOf, preData]
    rw [dif_pos ⟨t.isLt, h⟩]
  v t e he := by
    refine (coe_real (F.qkv _)).trans (congrArg _ ?_)
    simp only [dataOf, preData]
    rw [dif_pos ⟨t.isLt, by omega⟩]
  d t e he := by
    refine (coe_real (F.d _)).trans (congrArg _ ?_)
    simp only [dataOf, preData]
    rw [dif_pos ⟨t.isLt, he⟩]
  c t h := by
    refine (coe_real (cumul_real lf F.lf _)).trans (congrArg _ ?_)
    simp only [dataOf, preData]
    rw [dif_pos ⟨t.isLt, h.isLt⟩]

end Cert.Attn
-- ==== Proof.Attn.Runs.lean ====
/-
  The two runs, with the same five arrays as results.
-/
module

public import proofs.«01_k».proof.Proof.Attn.Finite
public import proofs.«01_k».proof.Proof.Gen.KernelIdeal.Value
public import proofs.«01_k».proof.Proof.Gen.ReferenceIdeal.Run

@[expose] public section

noncomputable section

namespace Cert.Attn

open Idealize.ShloMosaic Idealize.ShloMosaic.TcCoe Idealize.SL.Sem

section

open Cert.KernelIdeal Cert.KernelIdeal.Gen

variable (m : (ℓ : Loc nD τ sig) → Buf (Elt Ideal) ℓ) (c : Dev nD)

/-- The operands of one device are finite. -/
def FiniteAt : Prop :=
  Finite (m ((c.tc : Thread nD τ).loc main_arg0)) (m ((c.tc : Thread nD τ).loc main_arg1)) (m ((c.tc : Thread nD τ).loc main_arg2))

variable {m c}

theorem dq_value (hf : FiniteAt m c) : (dats m 0 c).arrAt 8 cfg0.N
    = resQ (m ((c.tc : Thread nD τ).loc main_arg0)) (m ((c.tc : Thread nD τ).loc main_arg1)) (m ((c.tc : Thread nD τ).loc main_arg2)) :=
  (dq_final m c (holds m c own (of_finite hf))).trans (dq_eq own (of_finite hf))

theorem dk_value (hf : FiniteAt m c) : (dats m 0 c).arrAt 9 cfg0.N
    = resK (m ((c.tc : Thread nD τ).loc main_arg0)) (m ((c.tc : Thread nD τ).loc main_arg1)) (m ((c.tc : Thread nD τ).loc main_arg2)) :=
  (dk_final m c (holds m c own (of_finite hf))).trans (dk_eq own (of_finite hf))

theorem dv_value (hf : FiniteAt m c) : (dats m 0 c).arrAt 10 cfg0.N
    = resV (m ((c.tc : Thread nD τ).loc main_arg0)) (m ((c.tc : Thread nD τ).loc main_arg1)) (m ((c.tc : Thread nD τ).loc main_arg2)) :=
  (dv_final m c (holds m c own (of_finite hf))).trans (dv_eq own (of_finite hf))

theorem dr_value (hf : FiniteAt m c) : (dats m 0 c).arrAt 11 cfg0.N
    = resRow (m ((c.tc : Thread nD τ).loc main_arg0)) (m ((c.tc : Thread nD τ).loc main_arg1)) (m ((c.tc : Thread nD τ).loc main_arg2)) :=
  (dr_final m c (holds m c own (of_finite hf))).trans (dr_eq own (of_finite hf))

theorem dc_value (hf : FiniteAt m c) : (dats m 0 c).arrAt 12 cfg0.N
    = resCol (m ((c.tc : Thread nD τ).loc main_arg0)) (m ((c.tc : Thread nD τ).loc main_arg1)) (m ((c.tc : Thread nD τ).loc main_arg2)) :=
  (dc_final m c (holds m c own (of_finite hf))).trans (dc_eq own (of_finite hf))

set_option maxHeartbeats 2000000 in
/-- Of finite operands the backward call leaves the gradients. -/
theorem kernel_run (m : (ℓ : Loc nD τ sig) → Buf (Elt Ideal) ℓ) (ρ : Dev nD → PrngReg)
    (hf : ∀ c : Dev nD, FiniteAt m c) :
    θ_run (defs (F := Ideal)) (onTc (τ := τ) (main (F := Ideal))) ⟨m, fun _ => 0, ρ⟩ fun r => ∀ c : Dev nD,
      r.2.mem ((c.tc : Thread nD τ).loc main_v77_0) = resQ (m ((c.tc : Thread nD τ).loc main_arg0)) (m ((c.tc : Thread nD τ).loc main_arg1)) (m ((c.tc : Thread nD τ).loc main_arg2))
      ∧ r.2.mem ((c.tc : Thread nD τ).loc main_v77_1) = resK (m ((c.tc : Thread nD τ).loc main_arg0)) (m ((c.tc : Thread nD τ).loc main_arg1)) (m ((c.tc : Thread nD τ).loc main_arg2))
      ∧ r.2.mem ((c.tc : Thread nD τ).loc main_v77_2) = resV (m ((c.tc : Thread nD τ).loc main_arg0)) (m ((c.tc : Thread nD τ).loc main_arg1)) (m ((c.tc : Thread nD τ).loc main_arg2))
      ∧ r.2.mem ((c.tc : Thread nD τ).loc main_v77_3) = resRow (m ((c.tc : Thread nD τ).loc main_arg0)) (m ((c.tc : Thread nD τ).loc main_arg1)) (m ((c.tc : Thread nD τ).loc main_arg2))
      ∧ r.2.mem ((c.tc : Thread nD τ).loc main_v77_4) = resCol (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (Cert.KernelIdeal.Value.run_blocks m ρ)
  obtain ⟨r0, r1, r2, r3, r4, rest⟩ := h c
  exact ⟨r0.trans (dq_value (hf c)), r1.trans (dk_value (hf c)), r2.trans (dv_value (hf c)), r3.trans (dr_value (hf c)), r4.trans (dc_value (hf c)), rest⟩

end

section

open Cert.ReferenceIdeal Cert.ReferenceIdeal.Gen

/-- So does the reference. -/
theorem reference_run (m : (ℓ : Loc nD τ sig) → Buf (Elt Ideal) ℓ) (ρ : Dev nD → PrngReg)
    (qkv : Dev nD → S2176x1536.Idx → EReal) (lf : Dev nD → S2176x8.Idx → EReal) (d : Dev nD → S2176x512.Idx → EReal)
    (hm : ∀ c : Dev nD, m ((c.tc : Thread nD τ).loc main_arg0) = qkv c ∧ m ((c.tc : Thread nD τ).loc main_arg1) = lf c ∧ m ((c.tc : Thread nD τ).loc main_arg2) = d c) :
    θ_run (defs (F := Ideal)) (onTc (τ := τ) (main (F := Ideal))) ⟨m, fun _ => 0, ρ⟩ fun r => ∀ c : Dev nD,
      r.2.mem ((c.tc : Thread nD τ).loc main_v98) = resQ (qkv c) (lf c) (d c)
      ∧ r.2.mem ((c.tc : Thread nD τ).loc main_v99) = resK (qkv c) (lf c) (d c)
      ∧ r.2.mem ((c.tc : Thread nD τ).loc main_v100) = resV (qkv c) (lf c) (d c)
      ∧ r.2.mem ((c.tc : Thread nD τ).loc main_v97) = resRow (qkv c) (lf c) (d c)
      ∧ r.2.mem ((c.tc : Thread nD τ).loc main_v102) = resCol (qkv c) (lf c) (d c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (Cert.ReferenceIdeal.Value.run (F := Ideal) m ρ)
  obtain ⟨a0, a1, a2⟩ := hm c
  obtain ⟨r0, r1, r2, r3, r4, rest⟩ := h c
  rw [← a0, ← a1, ← a2]
  exact ⟨r0.trans (res_dq m c), r1.trans (res_dk m c), r2.trans (res_dv m c), r3.trans (res_dr m c), r4.trans (res_dc m c), rest⟩

end

end Cert.Attn

end
-- ==== Proof.AttnFwd.Pair.lean ====
/-
  One pair of heads of the attention's forward call, as real numbers.

  `Reads` says that the blocks of a grid step are those of a `Data`, for the pair of heads `2p`, `2p + 1`. A tile's queries see keys up to the tile's last
  row; what lies beyond is masked, so a maximum or a sum over the tile's keys is the one over all keys (`top_prefix`, `Z_prefix`, `out_prefix`).
-/
module

public import proofs.«01_k».proof.Proof.Attn.Rows
public import proofs.«01_k».proof.Proof.Gen.AttnFwdIdeal.Value
public import Idealize.ShloMosaic.Lib.Pipeline.ValueKit

@[expose] public section

set_option maxRecDepth 16384

noncomputable section

namespace Cert.AttnFwdCall

open Cert.AttnFwdIdeal Cert.AttnFwdIdeal.Gen Idealize.ShloMosaic Idealize.ShloMosaic.TcCoe Idealize.SL.Sem
open Idealize.ShloMosaic.Pointwise Cert.Attn

/-- What one grid step's blocks hold: queries, keys, values, the cumulated gates by row and by head. -/
structure Reads (D : Data) (p : ℕ) (x0 x1 x2 : Vec Ideal S2176x128 .bf16) (x3 : Vec Ideal S2176x128 .f32) (x4 : Vec Ideal S8x2176 .f32) : Prop where
  q : ∀ (a : Fin 2176) (e : Fin 128), x0 (ix2 a e) = ((D.q a (128 * p + e) : ℝ) : EReal)
  k : ∀ (a : Fin 2176) (e : Fin 128), x1 (ix2 a e) = ((D.k a (128 * p + e) : ℝ) : EReal)
  v : ∀ (a : Fin 2176) (e : Fin 128), x2 (ix2 a e) = ((D.v a (128 * p + e) : ℝ) : EReal)
  c : ∀ (a : Fin 2176) (e : Fin 128), x3 (ix2 a e) = ((if (e : ℕ) < 8 then D.c a e else 0 : ℝ) : EReal)
  ct : ∀ (h : Fin 8) (t : Fin 2176), x4 (ix2 h t) = ((D.c t h : ℝ) : EReal)

variable (D : Data) (p : ℕ)

/-- The score as the kernel computes it: the scale is on the query. -/
theorem score (h t j o : ℕ) (ho : o = 64 * h) :
    (∑ e : Fin 64, D.q t (o + e) * ((1 / 8) * D.k j (o + e))) + (D.c t h - D.c j h) = D.S h t j := by
  unfold Data.S
  rw [Finset.sum_mul]
  congr 1
  refine Finset.sum_congr rfl fun e _ => ?_
  rw [ho, Nat.mul_comm 64 h]; ring

/-- The masked score of the pair's first head. -/
theorem masked0 (t j : ℕ) :
    (if j ≤ t then ((∑ e : Fin 64, D.q t (128 * p + e) * (1 / 8 * D.k j (128 * p + e)) + (D.c t (2 * p) - D.c j (2 * p)) : ℝ) : EReal) else ⊥)
      = D.SM (2 * p) t j := by
  rw [Data.SM, ← score D (2 * p) t j (128 * p) (by omega)]

/-- The masked score of the pair's second head. -/
theorem masked1 (t j : ℕ) :
    (if j ≤ t then ((∑ e : Fin 64, D.q t (128 * p + (64 + e)) * (1 / 8 * D.k j (128 * p + (64 + e)))
        + (D.c t (2 * p + 1) - D.c j (2 * p + 1)) : ℝ) : EReal) else ⊥) = D.SM (2 * p + 1) t j := by
  simp only [← Nat.add_assoc]
  rw [Data.SM, ← score D (2 * p + 1) t j (128 * p + 64) (by omega)]

/-- The mask's value. -/
theorem mask_bot : Named.named (F := Ideal) (φ := .f32) κ "mask" 0xF149F2CA#32 = ⊥ := by rfl

/-- The largest score among a tile's keys. -/
theorem top_prefix (h t n : ℕ) (ht : t < n) (hn : n ≤ 2176) :
    (Finset.univ : Finset (Fin n)).fold max ⊥ (fun j : Fin n => D.SM h t j) = ((D.top h t : ℝ) : EReal) := by
  rw [← top_coe D h ⟨t, by omega⟩]
  refine le_antisymm ?_ ?_
  · refine (Finset.fold_max_le _).mpr ⟨bot_le, fun j _ => ?_⟩
    exact (Finset.le_fold_max _).mpr (Or.inr ⟨⟨j, by omega⟩, Finset.mem_univ _, le_rfl⟩)
  · refine (Finset.fold_max_le _).mpr ⟨bot_le, fun j _ => ?_⟩
    by_cases hj : (j : ℕ) < n
    · exact (Finset.le_fold_max _).mpr (Or.inr ⟨⟨j, hj⟩, Finset.mem_univ _, le_rfl⟩)
    · show D.SM h t j ≤ _
      rw [Data.SM, if_neg (by omega)]; exact bot_le

/-- A key after the query has no weight. -/
theorem E_zero (h t j : ℕ) (hj : t < j) : D.E h t j = 0 := by rw [Data.E, if_neg (by omega)]

/-- The sum of the exponentials over a tile's keys. -/
theorem Z_prefix (h t n : ℕ) (ht : t < n) (hn : n ≤ 2176) : ∑ j : Fin n, D.E h t j = D.Z h t := by
  unfold Data.Z
  rw [sum_prefix n (fun j => D.E h t j) hn (fun j hj => E_zero D h t j (by omega)), sum_prefix 2176 (fun j => D.E h t j) le_rfl (fun j hj => E_zero D h t j (by omega))]

/-- The output of one head. -/
def out (h t e : ℕ) : ℝ := ∑ j : Fin 2176, D.v j e * D.P h t j

theorem out_prefix (h t e n : ℕ) (ht : t < n) (hn : n ≤ 2176) : (∑ j : Fin n, D.E h t j * D.v j e) * (1 / D.Z h t) = out D h t e := by
  unfold out Data.P
  rw [sum_prefix n (fun j => D.E h t j * D.v j e) hn (fun j hj => by rw [E_zero D h t j (by omega), zero_mul]), Finset.sum_mul,
    sum_prefix 2176 (fun j => D.v j e * (D.E h t j * (1 / D.Z h t))) le_rfl (fun j hj => by rw [E_zero D h t j (by omega), zero_mul, mul_zero])]
  exact Finset.sum_congr rfl fun j _ => by ring

/-- The output block of a step. -/
def oBlk : S2176x128.Idx → EReal := fun y => ((out D (2 * p + (y 1 : ℕ) / 64) (y 0) (128 * p + (y 1 : ℕ)) : ℝ) : EReal)

/-- The logarithm of a row's sum, with the row's largest score. -/
def ls (h t : ℕ) : ℝ := D.top h t + Real.log (D.Z h t)

/-- The log-sums' block of a step: rows 0 and 1 are the pair's heads, the others are zero. -/
def lBlk : S1x8x2176.Idx → EReal := fun y => if (y 1 : ℕ) < 2 then ((ls D (2 * p + (y 1 : ℕ)) (y 2) : ℝ) : EReal) else 0

/-- The logarithm of a row's sum. -/
theorem log_Z (h t : ℕ) (ht : t < 2176) : Ideal.log ((D.Z h t : ℝ) : EReal) = ((Real.log (D.Z h t) : ℝ) : EReal) := by
  show (if D.Z h t ≤ 0 then ⊥ else _) = _
  rw [if_neg (not_le.mpr (D.Z_pos h ⟨t, ht⟩))]

/-- A number over a row's sum. -/
theorem div_Z (a : ℝ) (h t : ℕ) (ht : t < 2176) : Ideal.div ((a : ℝ) : EReal) ((D.Z h t : ℝ) : EReal) = ((a * (1 / D.Z h t) : ℝ) : EReal) := by
  rw [Ideal.div_coe (D.Z_pos h ⟨t, ht⟩).ne', ← EReal.coe_mul]

/-- One tile's store of the output is a block of `oBlk`. -/
theorem o_piece (hh o r n : ℕ) (ho : o = 64 * hh) (inb : ∀ a, (![r, o] : Fin 2 → ℕ) a + (![n, 64] : Fin 2 → ℕ) a ≤ S2176x128.size a)
    (w : (⟨2, ![n, 64]⟩ : Shape).Idx → EReal)
    (hw : ∀ (x : Fin n) (l : Fin 64), w (ix2 x l) = ((out D (2 * p + hh) (r + x) (128 * p + (o + l)) : ℝ) : EReal)) (x : (⟨2, ![n, 64]⟩ : Shape).Idx) :
    w x = oBlk D p ((Rect.unit (s := S2176x128) ![r, o] ![n, 64] inb).emb x) := by
  obtain ⟨t, l, rfl⟩ : ∃ (t : Fin n) (l : Fin 64), x = ix2 t l := ⟨x 0, x 1, by funext k; fin_cases k <;> rfl⟩
  have e0 : (((Rect.unit (s := S2176x128) ![r, o] ![n, 64] inb).emb (ix2 t l) 0 : Fin _) : ℕ) = r + t := by
    show r + 1 * (t : ℕ) = r + t; omega
  have e1 : (((Rect.unit (s := S2176x128) ![r, o] ![n, 64] inb).emb (ix2 t l) 1 : Fin _) : ℕ) = o + l := by
    show o + 1 * (l : ℕ) = o + l; omega
  have := l.isLt
  rw [hw, oBlk, e0, e1, show (o + (l : ℕ)) / 64 = hh by omega]

/-- One tile's store of the log-sums is a block of `lBlk`. -/
theorem l_piece (hh r n : ℕ) (hh2 : hh < 2) (inb : ∀ a, (![0, hh, r] : Fin 3 → ℕ) a + (![1, 1, n] : Fin 3 → ℕ) a ≤ S1x8x2176.size a)
    (w : (⟨3, ![1, 1, n]⟩ : Shape).Idx → EReal)
    (hw : ∀ x : Fin n, w (ix3 (0 : Fin 1) (0 : Fin 1) x) = ((ls D (2 * p + hh) (r + x) : ℝ) : EReal)) (x : (⟨3, ![1, 1, n]⟩ : Shape).Idx) :
    w x = lBlk D p ((Rect.unit (s := S1x8x2176) ![0, hh, r] ![1, 1, n] inb).emb x) := by
  obtain ⟨t, rfl⟩ : ∃ t : Fin n, x = ix3 (0 : Fin 1) (0 : Fin 1) t :=
    ⟨x 2, by funext k; fin_cases k <;> first | rfl | exact Subsingleton.elim (α := Fin 1) _ _⟩
  have e1 : (((Rect.unit (s := S1x8x2176) ![0, hh, r] ![1, 1, n] inb).emb (ix3 (0 : Fin 1) (0 : Fin 1) t) 1 : Fin _) : ℕ) = hh := by
    show hh + 1 * 0 = hh; omega
  have e2 : (((Rect.unit (s := S1x8x2176) ![0, hh, r] ![1, 1, n] inb).emb (ix3 (0 : Fin 1) (0 : Fin 1) t) 2 : Fin _) : ℕ) = r + t := by
    show r + 1 * (t : ℕ) = r + t; omega
  rw [hw, lBlk, e1, e2, if_pos hh2]

end Cert.AttnFwdCall

end
-- ==== Proof.AttnFwd.Out.lean ====
/-
  The output block of one grid step: each tile and head is stored once, and every store is a block of one function.
-/
module

public import proofs.«01_k».proof.Proof.AttnFwd.Pair

@[expose] public section

set_option maxRecDepth 16384

noncomputable section

namespace Cert.AttnFwdCall

open Cert.AttnFwdIdeal Cert.AttnFwdIdeal.Gen Idealize.ShloMosaic Idealize.ShloMosaic.TcCoe Idealize.SL.Sem
open Idealize.ShloMosaic.Pointwise Cert.Attn

variable (c : Dev nD) (i : grid0.Coords) (arg1 : Memref sig .tc .vmem S2176x128 .bf16) (harg1 : arg1.IsWhole) (arg2 : Memref sig .tc .vmem S2176x128 .bf16) (harg2 : arg2.IsWhole) (arg3 : Memref sig .tc .vmem S2176x128 .bf16) (harg3 : arg3.IsWhole) (arg4 : Memref sig .tc .vmem S2176x128 .f32) (harg4 : arg4.IsWhole) (arg5 : Memref sig .tc .vmem S8x2176 .f32) (harg5 : arg5.IsWhole) (arg6 : Memref sig .tc .vmem S2176x128 .f32) (harg6 : arg6.IsWhole) (arg7 : Memref sig .tc .vmem S1x8x2176 .f32) (harg7 : arg7.IsWhole)
    (x0 x1 x2 : Vec Ideal S2176x128 .bf16) (x3 : Vec Ideal S2176x128 .f32) (x4 : Vec Ideal S8x2176 .f32) {D : Data}

set_option maxHeartbeats 8000000 in
open kernelRun0_A in
/-- The output, as the ten stores leave it. -/
theorem outBlock (R : Reads D (i 0) x0 x1 x2 x3 x4) (hi : (i 0 : ℕ) < 4) : out0_A_5 c i arg1 harg1 arg2 harg2 arg3 harg3 arg4 harg4 arg5 harg5 arg6 harg6 arg7 harg7 x0 x1 x2 x3 x4 = oBlk D (i 0) := by
  unfold out0_A_5
  rw [View.read_writes_junk_eq_canon]
  unfold kernelRun0_A
  funext y
  refine View.canon_apply_of_pieces (Val := Elt Ideal) (e := .f32) (oBlk D (i 0)) _ ?_ y ?_
  · simp only [List.forall_mem_cons, List.not_mem_nil, false_imp_iff, implies_true, and_true]
    refine ⟨o_piece D _ 1 _ _ _ rfl _ _ ?_, o_piece D _ 0 _ _ _ rfl _ _ ?_, o_piece D _ 1 _ _ _ rfl _ _ ?_, o_piece D _ 0 _ _ _ rfl _ _ ?_, o_piece D _ 1 _ _ _ rfl _ _ ?_, o_piece D _ 0 _ _ _ rfl _ _ ?_, o_piece D _ 1 _ _ _ rfl _ _ ?_, o_piece D _ 0 _ _ _ rfl _ _ ?_, o_piece D _ 1 _ _ _ rfl _ _ ?_, o_piece D _ 0 _ _ _ rfl _ _ ?_⟩
    all_goals
    intro x l
    have hx := x.isLt
    simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.v62, sl.v63, sl.v228, sl.v390, sl.v432, sl.cst_68, View.readAt_eq_ld, Memref.IsWhole.read_unread]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    simp only [R.q, R.k, R.v, R.c, R.ct, eighth_bf16, ← EReal.coe_mul, ← EReal.coe_add, ← EReal.coe_sub, sum_coe, select_coe, mask_bot, Attn.neg_inf]
    simp (disch := omega) only [mask_word, pick_sum, select_if, if_pos, mul_assoc, Nat.mul_zero, Nat.mul_one, Nat.zero_add, Nat.add_zero, zero_add, add_zero, Fin.isValue,
      Fin.coe_ofNat_eq_mod]
    simp (disch := omega) only [masked0, masked1, top_prefix, exp_SM, ← EReal.coe_mul, sum_coe, Z_prefix, div_Z, out_prefix, Nat.zero_add, Nat.add_zero]
  · have h0 : (y 0 : ℕ) < 2176 := (y 0).isLt
    have h1 : (y 1 : ℕ) < 128 := (y 1).isLt
    simp only [List.exists_mem_cons_iff, List.not_mem_nil, false_and, exists_false, or_false, Rect.mem_set_unit, Fin.forall_fin_two]
    show _ ∨ _
    simp [S2176x128] at *
    omega

end Cert.AttnFwdCall

end
-- ==== Proof.AttnFwd.Sums.lean ====
/-
  The log-sums' block of one grid step: each tile and head is stored once over a fill with zeros.
-/
module

public import proofs.«01_k».proof.Proof.AttnFwd.Pair

@[expose] public section

set_option maxRecDepth 16384

noncomputable section

namespace Cert.AttnFwdCall

open Cert.AttnFwdIdeal Cert.AttnFwdIdeal.Gen Idealize.ShloMosaic Idealize.ShloMosaic.TcCoe Idealize.SL.Sem
open Idealize.ShloMosaic.Pointwise Cert.Attn

/-- A column of log-sums laid along a row, at an index. -/
theorem tail512 (m l : FVec Ideal S512x1 .f32) (x : Fin 512) :
    shapeCast S1x1x512 (extractStridedSlice S1x512 ![0, 0] (transpose S128x512 [1, 0] (broadcastTo S512x128
      (shapeCast S512x1 (addf m (log l)) shapeCasts_S512x1_S512x1) broadcasts_S512x1_S512x128) transposes_S512x128_p1_0_S128x512)
      slices_S128x512_o0_0_S1x512) shapeCasts_S1x512_S1x1x512 (ix3 (0 : Fin 1) (0 : Fin 1) x)
      = m (ix2 x (0 : Fin 1)) + Ideal.log (l (ix2 x (0 : Fin 1))) := by
  pointwise

/-- The same for the last tile's 128 rows. -/
theorem tail128 (m l : FVec Ideal S128x1 .f32) (x : Fin 128) :
    shapeCast S1x1x128 (extractStridedSlice S1x128 ![0, 0] (transpose S128x128 [1, 0] (broadcastTo S128x128
      (shapeCast S128x1 (addf m (log l)) shapeCasts_S128x1_S128x1) broadcasts_S128x1_S128x128) transposes_S128x128_p1_0_S128x128)
      slices_S128x128_o0_0_S1x128) shapeCasts_S1x128_S1x1x128 (ix3 (0 : Fin 1) (0 : Fin 1) x)
      = m (ix2 x (0 : Fin 1)) + Ideal.log (l (ix2 x (0 : Fin 1))) := by
  pointwise
/-- Rows from 2 on are untouched by a tile's store. -/
theorem l_skip (hh r n : ℕ) (hh2 : hh < 2) (inb : ∀ a, (![0, hh, r] : Fin 3 → ℕ) a + (![1, 1, n] : Fin 3 → ℕ) a ≤ S1x8x2176.size a)
    (w : (⟨3, ![1, 1, n]⟩ : Shape).Idx → EReal) (L : List (View.Piece (Elt Ideal) S1x8x2176 .f32)) (y : S1x8x2176.Idx) (hy : 2 ≤ (y 1 : ℕ)) :
    View.canon ((⟨Rect.unit (s := S1x8x2176) ![0, hh, r] ![1, 1, n] inb, w⟩ : View.Piece (Elt Ideal) S1x8x2176 .f32) :: L) y = View.canon L y :=
  dr_skip hh r n hh2 inb w L y hy

variable (c : Dev nD) (i : grid0.Coords) (arg1 : Memref sig .tc .vmem S2176x128 .bf16) (harg1 : arg1.IsWhole) (arg2 : Memref sig .tc .vmem S2176x128 .bf16) (harg2 : arg2.IsWhole) (arg3 : Memref sig .tc .vmem S2176x128 .bf16) (harg3 : arg3.IsWhole) (arg4 : Memref sig .tc .vmem S2176x128 .f32) (harg4 : arg4.IsWhole) (arg5 : Memref sig .tc .vmem S8x2176 .f32) (harg5 : arg5.IsWhole) (arg6 : Memref sig .tc .vmem S2176x128 .f32) (harg6 : arg6.IsWhole) (arg7 : Memref sig .tc .vmem S1x8x2176 .f32) (harg7 : arg7.IsWhole)
    (x0 x1 x2 : Vec Ideal S2176x128 .bf16) (x3 : Vec Ideal S2176x128 .f32) (x4 : Vec Ideal S8x2176 .f32) {D : Data}

set_option maxHeartbeats 8000000 in
open kernelRun0_A in
/-- The log-sums, as the ten stores over the fill with zeros leave them. -/
theorem sumBlock (R : Reads D (i 0) x0 x1 x2 x3 x4) (hi : (i 0 : ℕ) < 4) : out0_A_6 c i arg1 harg1 arg2 harg2 arg3 harg3 arg4 harg4 arg5 harg5 arg6 harg6 arg7 harg7 x0 x1 x2 x3 x4 = lBlk D (i 0) := by
  unfold out0_A_6
  rw [View.read_writes_junk_eq_canon]
  unfold kernelRun0_A
  funext y
  have h0 : (y 0 : ℕ) < 1 := (y 0).isLt
  have h1 : (y 1 : ℕ) < 8 := (y 1).isLt
  have h2 : (y 2 : ℕ) < 2176 := (y 2).isLt
  by_cases hy : (y 1 : ℕ) < 2
  · refine View.canon_append_of_pieces (Val := Elt Ideal) (e := .f32) (lBlk D (i 0)) [_] [_, _, _, _, _, _, _, _, _, _] ?_ y ?_
    · simp only [List.forall_mem_cons, List.not_mem_nil, false_imp_iff, implies_true, and_true]
      refine ⟨l_piece D _ 1 _ _ (by omega) _ _ ?_, l_piece D _ 0 _ _ (by omega) _ _ ?_, l_piece D _ 1 _ _ (by omega) _ _ ?_, l_piece D _ 0 _ _ (by omega) _ _ ?_, l_piece D _ 1 _ _ (by omega) _ _ ?_, l_piece D _ 0 _ _ (by omega) _ _ ?_, l_piece D _ 1 _ _ (by omega) _ _ ?_, l_piece D _ 0 _ _ (by omega) _ _ ?_, l_piece D _ 1 _ _ (by omega) _ _ ?_, l_piece D _ 0 _ _ (by omega) _ _ ?_⟩
      all_goals
      intro x
      have hx := x.isLt
      simp only [sl.r, sl.r_1, sl.r_2, sl.r_3, sl.r_4, sl.r_5, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.v62, sl.v63, sl.v228, sl.v390, sl.v432, sl.cst_68, View.readAt_eq_ld, Memref.IsWhole.read_unread]
      simp only [k0_pay6, k0_pay18, k0_pay26, k0_pay36, k0_pay42, k0_pay52, k0_pay53, k0_pay59, k0_pay71, k0_pay78, k0_pay88]
      first | rw [tail512] | rw [tail128]
      pointwise [k0_pay1, k0_pay2, k0_pay3, k0_pay4, k0_pay5, k0_pay7, k0_pay8, k0_pay9, k0_pay10, k0_pay11, k0_pay12, k0_pay13, k0_pay14, k0_pay15, k0_pay16, k0_pay17, k0_pay19, k0_pay20, k0_pay21, k0_pay22, k0_pay23, k0_pay24, k0_pay25, k0_pay27, k0_pay28, k0_pay29, k0_pay30, k0_pay31, k0_pay32, k0_pay33, k0_pay34, k0_pay35, k0_pay37, k0_pay38, k0_pay39, k0_pay40, k0_pay41, k0_pay43, k0_pay44, k0_pay45, k0_pay46, k0_pay47, k0_pay48, k0_pay49, k0_pay50, k0_pay51, k0_pay54, k0_pay55, k0_pay56, k0_pay57, k0_pay58, k0_pay60, k0_pay61, k0_pay62, k0_pay63, k0_pay64, k0_pay65, k0_pay66, k0_pay67, k0_pay68, k0_pay69, k0_pay70, k0_pay72, k0_pay73, k0_pay74, k0_pay75, k0_pay76, k0_pay77, k0_pay79, k0_pay80, k0_pay81, k0_pay82, k0_pay83, k0_pay84, k0_pay85, k0_pay86, k0_pay87, k0_pay89, k0_pay90, k0_pay91]
      simp only [R.q, R.k, R.v, R.c, R.ct, eighth_bf16, ← EReal.coe_mul, ← EReal.coe_add, ← EReal.coe_sub, sum_coe, select_coe, mask_bot, Attn.neg_inf]
      simp (disch := omega) only [mask_word, pick_sum, select_if, if_pos, mul_assoc, Nat.mul_zero, Nat.mul_one, Nat.zero_add, Nat.add_zero, zero_add, add_zero, Fin.isValue,
        Fin.coe_ofNat_eq_mod]
      simp (disch := omega) only [masked0, masked1, top_prefix, exp_SM, ← EReal.coe_mul, sum_coe, Z_prefix, log_Z, ← EReal.coe_add, ls, Nat.zero_add, Nat.add_zero]
    · simp only [List.exists_mem_cons_iff, List.not_mem_nil, false_and, exists_false, or_false, Rect.mem_set_unit]
      simp [Fin.forall_fin_succ, S1x8x2176] at *
      omega
  · dsimp only
    iterate 10 rw [l_skip _ _ _ (by omega) _ _ _ _ (by omega)]
    rw [View.canon_cons_unit_lit', lBlk, if_neg hy]
    · show Ideal.ofBits .f32 0#32 = 0
      simp [Ideal.ofBits, Ideal.ieee]
    · intro a; fin_cases a <;> rfl

end Cert.AttnFwdCall

end
-- ==== Proof.AttnFwd.Arrays.lean ====
/-
  From one grid step's blocks to the whole arrays of the forward attention call.

  The host lines before the call lay the cumulated gates out by row and by head; then each step's blocks are the pair's numbers (`reads`), and the two
  result arrays are the output and the log-sums of the attention.
-/
module

public import proofs.«01_k».proof.Proof.AttnFwd.Out
public import proofs.«01_k».proof.Proof.AttnFwd.Sums
public import proofs.«01_k».proof.Proof.Attn.Entry
public import Idealize.ShloMosaic.Lib.StableHlo.ReadAt

@[expose] public section

set_option maxRecDepth 16384

noncomputable section

namespace Cert.AttnFwdCall

open Cert.AttnFwdIdeal Cert.AttnFwdIdeal.Gen Idealize.ShloMosaic Idealize.ShloMosaic.TcCoe Idealize.SL.Sem
open Idealize.ShloMosaic.Pointwise Cert.Attn

/-- The grid is one axis of four steps. -/
theorem step_coord : ∀ t : Fin grid0.N, (grid0.coords t 0 : ℕ) = t := by decide +kernel

theorem step_lt4 (t : Fin cfg0.N) : (t : ℕ) < 4 := by have := t.isLt; have h : cfg0.N = 4 := N_0; omega

theorem at0 : ∀ t : Fin grid0.N, win0_0.index t 0 = 0 ∧ win0_0.index t 1 = t := by decide +kernel
theorem at1 : ∀ t : Fin grid0.N, win0_1.index t 0 = 0 ∧ win0_1.index t 1 = 4 + t := by decide +kernel
theorem at2 : ∀ t : Fin grid0.N, win0_2.index t 0 = 0 ∧ win0_2.index t 1 = 8 + t := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = t := by decide +kernel
theorem at6 : ∀ t : Fin grid0.N, win0_6.index t 0 = t ∧ win0_6.index t 1 = 0 ∧ win0_6.index t 2 = 0 := by decide +kernel

/-! Where a block's index lies in its array. -/

theorem place0 (t : Fin cfg0.N) (a : Fin 2176) (e : Fin 128) :
    ((win0_0.blk t).view.emb (ix2 a e : S2176x128.Idx) : S2176x1536.Idx) = ix2 a ⟨128 * t + e, by have := step_lt4 t; have := e.isLt; omega⟩ := by
  have h := at0 t
  funext k
  fin_cases k
  · exact Fin.ext (by show win0_0.index t 0 * 2176 + 1 * (a : ℕ) = a; omega)
  · exact Fin.ext (by show win0_0.index t 1 * 128 + 1 * (e : ℕ) = 128 * t + e; omega)

theorem place1 (t : Fin cfg0.N) (a : Fin 2176) (e : Fin 128) :
    ((win0_1.blk t).view.emb (ix2 a e : S2176x128.Idx) : S2176x1536.Idx) = ix2 a ⟨512 + (128 * t + e), by have := step_lt4 t; have := e.isLt; omega⟩ := by
  have h := at1 t
  funext k
  fin_cases k
  · exact Fin.ext (by show win0_1.index t 0 * 2176 + 1 * (a : ℕ) = a; omega)
  · exact Fin.ext (by show win0_1.index t 1 * 128 + 1 * (e : ℕ) = 512 + (128 * t + e); omega)

theorem place2 (t : Fin cfg0.N) (a : Fin 2176) (e : Fin 128) :
    ((win0_2.blk t).view.emb (ix2 a e : S2176x128.Idx) : S2176x1536.Idx) = ix2 a ⟨1024 + (128 * t + e), by have := step_lt4 t; have := e.isLt; omega⟩ := by
  have h := at2 t
  funext k
  fin_cases k
  · exact Fin.ext (by show win0_2.index t 0 * 2176 + 1 * (a : ℕ) = a; omega)
  · exact Fin.ext (by show win0_2.index t 1 * 128 + 1 * (e : ℕ) = 1024 + (128 * t + e); omega)

theorem place3 (t : Fin cfg0.N) (a : Fin 2176) (e : Fin 128) :
    ((win0_3.blk t).view.emb (ix2 a e : S2176x128.Idx) : S2176x128.Idx) = ix2 a e := by
  have h := at3 t
  funext k
  fin_cases k
  · exact Fin.ext (by show win0_3.index t 0 * 2176 + 1 * (a : ℕ) = a; omega)
  · exact Fin.ext (by show win0_3.index t 1 * 128 + 1 * (e : ℕ) = e; omega)

theorem place4 (t : Fin cfg0.N) (a : Fin 8) (e : Fin 2176) :
    ((win0_4.blk t).view.emb (ix2 a e : S8x2176.Idx) : S8x2176.Idx) = ix2 a e := by
  have h := at4 t
  funext k
  fin_cases k
  · exact Fin.ext (by show win0_4.index t 0 * 8 + 1 * (a : ℕ) = a; omega)
  · exact Fin.ext (by show win0_4.index t 1 * 2176 + 1 * (e : ℕ) = e; omega)

theorem place5 (t : Fin cfg0.N) (a : Fin 2176) (e : Fin 128) :
    ((win0_5.blk t).view.emb (ix2 a e : S2176x128.Idx) : S2176x512.Idx) = ix2 a ⟨128 * t + e, by have := step_lt4 t; have := e.isLt; omega⟩ := by
  have h := at5 t
  funext k
  fin_cases k
  · exact Fin.ext (by show win0_5.index t 0 * 2176 + 1 * (a : ℕ) = a; omega)
  · exact Fin.ext (by show win0_5.index t 1 * 128 + 1 * (e : ℕ) = 128 * t + e; omega)

theorem place6 (t : Fin cfg0.N) (z : Fin 1) (h : Fin 8) (e : Fin 2176) :
    ((win0_6.blk t).view.emb (ix3 z h e : S1x8x2176.Idx) : S4x8x2176.Idx) = ix3 ⟨t, step_lt4 t⟩ h e := by
  have i := at6 t
  have hz := z.isLt
  funext k
  fin_cases k
  · exact Fin.ext (by show win0_6.index t 0 * 1 + 1 * (z : ℕ) = t; omega)
  · exact Fin.ext (by show win0_6.index t 1 * 8 + 1 * (h : ℕ) = h; omega)
  · exact Fin.ext (by show win0_6.index t 2 * 2176 + 1 * (e : ℕ) = e; omega)

variable (m : (ℓ : Loc nD τ sig) → Buf (Elt Ideal) ℓ) (c : Dev nD)

/-- The cumulated gates by head, as the host lines hand them over. -/
theorem host_gatesT : Gen.V m c main_v2 = gatesT (cumul (m ((c.tc : Thread nD τ).loc main_arg1))) := by
  unfold Gen.V
  after_reads_simp
  try simp -implicitDefEqProofs only [StableHlo.TRef.toBuf, StableHlo.TRef.ofBuf, cast_cast, cast_eq]
  rfl

/-- The cumulated gates by row, as the host lines hand them over. -/
theorem host_gatesPad : Gen.V m c main_v1 = gatesPad (cumul (m ((c.tc : Thread nD τ).loc main_arg1))) := by
  unfold Gen.V
  after_reads_simp
  try simp -implicitDefEqProofs only [StableHlo.TRef.toBuf, StableHlo.TRef.ofBuf, cast_cast, cast_eq]
  rfl

variable {D : Data} {d : S2176x512.Idx → EReal}

/-- The arguments of one device are those of `D`. -/
def OfAt (D : Data) (d : S2176x512.Idx → EReal) : Prop := Of D (m ((c.tc : Thread nD τ).loc main_arg0)) (m ((c.tc : Thread nD τ).loc main_arg1)) d

variable {m c}

set_option maxHeartbeats 2000000 in
/-- Each step's blocks are its pair's numbers. -/
theorem reads (H : OfAt m c D d) (t : Fin cfg0.N) :
    Reads D t (iblk m c 0 t) (iblk m c 1 t) (iblk m c 2 t) (iblk m c 3 t) (iblk m c 4 t) := by
  have ht := step_lt4 t
  constructor
  · intro a e; unfold iblk; blk_simp; rw [place0 t a e, V_main_arg0]; exact H.q a (128 * t + e) _ (by omega)
  · intro a e; unfold iblk; blk_simp; rw [place1 t a e, V_main_arg0]; exact H.k a (128 * t + e) _ (by omega)
  · intro a e; unfold iblk; blk_simp; rw [place2 t a e, V_main_arg0]; exact H.v a (128 * t + e) _
  · intro a e; unfold iblk; blk_simp; rw [place3 t a e, host_gatesPad, gatesPad_at]
    by_cases hl : (e : ℕ) < 8
    · rw [dif_pos hl, if_pos hl, H.c]
    · rw [dif_neg hl, if_neg hl]; rfl
  · intro h e; unfold iblk; blk_simp; rw [place4 t h e, host_gatesT, gatesT_at, H.c]

/-- The call's first result is the attention's output. -/
theorem o_final (H : OfAt m c D d) : (dats m 0 c).arrAt 5 cfg0.N
    = outHost (m ((c.tc : Thread nD τ).loc main_arg0)) (m ((c.tc : Thread nD τ).loc main_arg1)) := by
  refine (dats m 0 c).arrAt_eq_of_covers 5 _ (by decide +kernel) fun t hf y => ?_
  blk_simp
  rw [after0_5]
  unfold outsAt0
  dsimp only
  obtain ⟨a, e, rfl⟩ : ∃ (a : Fin 2176) (e : Fin 128), y = ix2 a e := ⟨y 0, y 1, by funext k; fin_cases k <;> rfl⟩
  have hc := step_coord t
  have ht := step_lt4 t
  rw [outBlock (D := D) (R := by rw [hc]; exact reads H t) (hi := by rw [hc]; exact ht), hc, place5 t a e, out_at H]
  show ((out D (2 * t + (e : ℕ) / 64) a (128 * t + e) : ℝ) : EReal) = _
  unfold out
  rw [show (128 * (t : ℕ) + e) / 64 = 2 * t + (e : ℕ) / 64 by omega]

/-- The call's second result is the log-sums, two heads a step. -/
theorem l_final (H : OfAt m c D d) : (dats m 0 c).arrAt 6 cfg0.N
    = logSumsT (logSums (m ((c.tc : Thread nD τ).loc main_arg0)) (m ((c.tc : Thread nD τ).loc main_arg1))) := by
  refine (dats m 0 c).arrAt_eq_of_covers 6 _ (by decide +kernel) fun t hf y => ?_
  blk_simp
  rw [after0_6]
  unfold outsAt0
  dsimp only
  obtain ⟨z, a, e, rfl⟩ : ∃ (z : Fin 1) (a : Fin 8) (e : Fin 2176), y = ix3 z a e := ⟨y 0, y 1, y 2, by funext k; fin_cases k <;> rfl⟩
  have hc := step_coord t
  have ht := step_lt4 t
  rw [sumBlock (D := D) (R := by rw [hc]; exact reads H t) (hi := by rw [hc]; exact ht), hc, place6 t z a e, logSumsT_at]
  show (if (a : ℕ) < 2 then ((ls D (2 * t + (a : ℕ)) e : ℝ) : EReal) else 0) = _
  by_cases hh : (a : ℕ) < 2
  · rw [if_pos hh, dif_pos hh, logSums_at H, Nat.mul_comm 2]
    rfl
  · rw [if_neg hh, dif_neg hh]

end Cert.AttnFwdCall

end
-- ==== Proof.AttnFwd.Runs.lean ====
/-
  The two runs of the forward attention call, side by side.

  Where the precondition holds, the operands are real numbers; then the call's two arrays are the host arrays of `Soft` and `Entry`, which are the
  reference's results.
-/
module

public import proofs.«01_k».proof.Proof.AttnFwd.Arrays
public import proofs.«01_k».proof.Proof.Attn.Finite
public import proofs.«01_k».proof.Defs
public import proofs.«01_k».proof.Proof.Gen.AttnFwdIdeal.Value
public import proofs.«01_k».proof.Proof.Gen.AttnFwdRefIdeal.Run

@[expose] public section

set_option maxRecDepth 16384

noncomputable section

namespace Cert.AttnFwdCall

open Idealize.ShloMosaic Idealize.ShloMosaic.TcCoe Idealize.ShloMosaic.Pointwise Idealize.SL.Sem Cert.Attn

/-- The shapes of the precondition's host lines fit. -/
theorem facts_pre : Cert.Pre_finite_fwd.Facts where
  bitsLt_bf16_f32 := by decide
  bcast_S_S2176x1536 := by decide
  reducesTo_S2176x1536_S_d0_1 := by decide
  h_S_ := by decide
  bcast_S_S2176x8 := by decide
  reducesTo_S2176x8_S_d0_1 := by decide

/-- The precondition says that the operands are finite; no gradient comes in, so zero stands for it. -/
theorem finite_of_pre [Cert.Pre_finite_fwd.Facts] (qkv : Cert.ReferenceIdeal.S2176x1536.Idx → EReal) (lf : Cert.ReferenceIdeal.S2176x8.Idx → EReal)
    (h : Cert.Pre_finite_fwd.fn (F := Ideal) qkv lf = fun _ => 1#1) : Finite qkv lf (fun _ => 0) := by
  have h0 := congrFun h ix0
  unfold Cert.Pre_finite_fwd.fn at h0
  obtain ⟨hq, hl⟩ := IntOp.andi_eq_one.1 h0
  have : Subsingleton Cert.ReferenceIdeal.S_.Idx := ⟨fun a b => funext fun i => i.elim0⟩
  exact ⟨fun i => real_of_abs _ ((congrArg _ inf_f32.symm).trans (Host.reduce_andi_all _ _ _ _ _ hq i)),
    fun i => real_of_abs _ ((congrArg _ inf_f32.symm).trans (Host.reduce_andi_all _ _ _ _ _ hl i)),
    fun _ => ⟨0, rfl⟩⟩

section

open Cert.AttnFwdRefIdeal Cert.AttnFwdRefIdeal.Gen

variable (m : (ℓ : Loc nD τ sig) → Buf (Elt Ideal) ℓ) (c : Dev nD)

/-- The reference's output is the host's. -/
theorem res_o : Value.res_main_v72 m c = outHost (m ((c.tc : Thread nD τ).loc main_arg0)) (m ((c.tc : Thread nD τ).loc main_arg1)) := rfl

/-- The reference's log-sums are the host's. -/
theorem res_l : Value.res_main_v74 m c
    = logSumsT (logSums (m ((c.tc : Thread nD τ).loc main_arg0)) (m ((c.tc : Thread nD τ).loc main_arg1))) := rfl

end

attribute [local instance] facts_pre Cert.AttnFwdIdeal.Gen.facts Cert.AttnFwdRefIdeal.Gen.facts

set_option maxHeartbeats 2000000 in
/-- Of finite arguments the forward attention call's two arrays are those of the reference. -/
theorem algebraic : Cert.algebraic_AttnFwdIdeal_AttnFwdRefIdeal_pre_finite_fwd := by
  intro m ρ m' ρ' hpre hagree
  have hf := fun c => of_finite (finite_of_pre _ _ (hpre c))
  refine ⟨fun c => outHost (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)),
    fun c => logSumsT (logSums (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))),
    (θ_run _ _ _).mono (fun r h c => ?_) (Cert.AttnFwdIdeal.Value.run_blocks (F := Ideal) m ρ),
    (θ_run _ _ _).mono (fun r h c => ?_) (Cert.AttnFwdRefIdeal.Value.run (F := Ideal) m' ρ')⟩
  · obtain ⟨r0, r1, rest⟩ := h c
    exact ⟨r0.trans (o_final (hf c)), r1.trans (l_final (hf c)), rest⟩
  · obtain ⟨a0, a1⟩ := hagree c
    obtain ⟨r0, r1, rest⟩ := h c
    refine ⟨r0.trans ((res_o m' c).trans ?_), r1.trans ((res_l m' c).trans ?_), rest⟩
    · rw [a0, a1]
    · rw [a0, a1]

end Cert.AttnFwdCall

end
-- ==== Proof.In.Blocks.lean ====
/-
  The blocks that one grid step of the input projection leaves: the normalised rows, and their products with two sets of columns
  of the weights.
-/
module

public import proofs.«01_k».proof.Proof.Gen.InIdeal.Value
public import Idealize.ShloMosaic.Lib.Pipeline.ValueKit
public import proofs.«01_k».proof.Proof.Attn.Scalars

@[expose] public section

set_option maxRecDepth 16384

noncomputable section

namespace Cert.InProj

open Cert.InIdeal Cert.InIdeal.Gen Idealize.ShloMosaic Idealize.ShloMosaic.TcCoe Idealize.SL.Sem
open Idealize.ShloMosaic.Pointwise

/-- One entry of a row, scaled by the root of the row's mean square and by a gain. -/
def scaled (h g : Fin 1024 → EReal) (e : Fin 1024) : EReal :=
  h e * Ideal.rsqrt (Ideal.div (∑ x, h x * h x) (Ideal.ofBits FTy.f32 1149239296#32) + Ideal.ofBits FTy.f32 897988541#32) * g e

theorem rows_at (h : Vec Ideal S544x1024 .f32) (g : Vec Ideal S1x1024 .f32) (r : Fin 544) (e : Fin 1024) :
    k0_pay1 h g (ix2 r e) = scaled (fun k => h (ix2 r k)) (fun k => g (ix2 0 k)) e := by
  pointwise [k0_pay1]
  rfl

theorem main_at (h : Vec Ideal S544x1024 .f32) (g : Vec Ideal S1x1024 .f32) (w : Vec Ideal S1536x1024 .bf16) (r : Fin 544) (e : Fin 1536) :
    k0_pay2 h g w (ix2 r e) = ∑ k : Fin 1024, k0_pay1 h g (ix2 r k) * w (ix2 e k) := by
  pointwise [k0_pay2]

theorem rest_at (h : Vec Ideal S544x1024 .f32) (g : Vec Ideal S1x1024 .f32) (w : Vec Ideal S1152x1024 .bf16) (r : Fin 544) (e : Fin 1152) :
    k0_pay3 h g w (ix2 r e) = ∑ k : Fin 1024, k0_pay1 h g (ix2 r k) * w (ix2 e k) := by
  pointwise [k0_pay3]

/-- All rows scaled. -/
def rowsArr (h : S2176x1024.Idx → EReal) (g : S1x1024.Idx → EReal) : S2176x1024.Idx → EReal := fun y =>
  scaled (fun k => h (ix2 (y 0) k)) (fun k => g (ix2 0 k)) (y 1)

/-- A column of the first set by its place in the weights. -/
def wide (r : Fin 1536) : Fin 2568 := ⟨r, by omega⟩

/-- The products with the first 1536 columns, whose weights stand transposed. -/
def mainArr (z : S2176x1024.Idx → EReal) (w : S2568x1024.Idx → EReal) : S2176x1536.Idx → EReal := fun y =>
  ∑ k : Fin 1024, z (ix2 (y 0) k) * w (ix2 (wide (y 1)) k)

/-- The products with the other columns. -/
def restArr (z : S2176x1024.Idx → EReal) (w : S1152x1024.Idx → EReal) : S2176x1152.Idx → EReal := fun y =>
  ∑ k : Fin 1024, z (ix2 (y 0) k) * w (ix2 (y 1) k)

theorem index0 : ∀ t : Fin cfg0.N, win0_0.index t = ![(t : ℕ), 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![(t : ℕ), 0] := by decide +kernel
theorem index5 : ∀ t : Fin cfg0.N, win0_5.index t = ![(t : ℕ), 0] := by decide +kernel
theorem index6 : ∀ t : Fin cfg0.N, win0_6.index t = ![(t : ℕ), 0] := by decide +kernel

theorem scaled_congr {h h' g g' : Fin 1024 → EReal} {e e' : Fin 1024} (hh : ∀ k, h k = h' k) (hg : ∀ k, g k = g' k) (he : e = e') :
    scaled h g e = scaled h' g' e' := by
  rw [funext hh, funext hg, he]

theorem sum_congr {f f' g g' : Fin 1024 → EReal} (h : ∀ k, f k = f' k) (h' : ∀ k, g k = g' k) : ∑ k, f k * g k = ∑ k, f' k * g' k := by
  rw [funext h, funext h']

variable (m : (ℓ : Loc nD τ sig) → Buf (Elt Ideal) ℓ) (c : Dev nD)

theorem rows_block (t : Fin cfg0.N) : (outsAt0 m c t).1 = k0_pay1 (iblk m c 0 t) (iblk m c 1 t) := by
  unfold outsAt0
  frame_out

theorem main_block (t : Fin cfg0.N) : (outsAt0 m c t).2.1 = k0_pay2 (iblk m c 0 t) (iblk m c 1 t) (X0_2 m c t) := by
  unfold outsAt0
  frame_out

theorem rest_block (t : Fin cfg0.N) : (outsAt0 m c t).2.2 = k0_pay3 (iblk m c 0 t) (iblk m c 1 t) (iblk m c 3 t) := by
  unfold outsAt0
  frame_out

theorem rows_final : (dats m 0 c).arrAt 4 cfg0.N = rowsArr (V m c main_arg0) (V m c main_arg1) := by
  refine (dats m 0 c).arrAt_eq_of_covers 4 (rowsArr (V m c main_arg0) (V m c main_arg1)) (by decide +kernel) fun t hf y => ?_
  blk_simp
  rw [after0_4, rows_block]
  idx_vars y
  rw [rows_at]
  unfold rowsArr
  refine scaled_congr (fun k => ?_) (fun k => ?_) ?_
  · blk_ext! [iblk, index0 t, index1 t, index4 t]
  · blk_ext! [iblk, index0 t, index1 t, index4 t]
  · apply Fin.ext
    blk_simp [index4 t]

/-- A row of a step's block by its place among all rows. -/
def row (t : Fin cfg0.N) (r : Fin 544) : Fin 2176 := ⟨544 * t + r, by have : cfg0.N = 4 := N_0; omega⟩

theorem rows_block_at (t : Fin cfg0.N) (r : Fin 544) (k : Fin 1024) :
    k0_pay1 (iblk m c 0 t) (iblk m c 1 t) (ix2 r k) = rowsArr (V m c main_arg0) (V m c main_arg1) (ix2 (row t r) k) := by
  rw [rows_at]
  unfold rowsArr
  refine scaled_congr (fun k => ?_) (fun k => ?_) rfl <;> blk_ext! [iblk, row, index0 t, index1 t, index4 t]

theorem wide_at (t : Fin cfg0.N) (r : Fin 1536) (k : Fin 1024) : X0_2 m c t (ix2 r k) = V m c main_v1 (ix2 (wide r) k) := by
  unfold X0_2 Pipeline.Window.fill
  rw [dif_pos (moved0_2 t _)]
  blk_ext! [iblk, wide, index2 t]

theorem main_final : (dats m 0 c).arrAt 5 cfg0.N = mainArr (rowsArr (V m c main_arg0) (V m c main_arg1)) (V m c main_v1) := by
  refine (dats m 0 c).arrAt_eq_of_covers 5 (mainArr (rowsArr (V m c main_arg0) (V m c main_arg1)) (V m c main_v1)) (by decide +kernel) fun t hf y => ?_
  blk_simp
  rw [after0_5, main_block]
  idx_vars y
  rw [main_at]
  simp only [rows_block_at, wide_at]
  unfold mainArr
  refine sum_congr (fun k => ?_) (fun k => ?_) <;> blk_ext! [row, wide, index5 t]

theorem rest_final : (dats m 0 c).arrAt 6 cfg0.N = restArr (rowsArr (V m c main_arg0) (V m c main_arg1)) (V m c main_v5) := by
  refine (dats m 0 c).arrAt_eq_of_covers 6 (restArr (rowsArr (V m c main_arg0) (V m c main_arg1)) (V m c main_v5)) (by decide +kernel) fun t hf y => ?_
  blk_simp
  rw [after0_6, rest_block]
  idx_vars y
  rw [rest_at]
  simp only [rows_block_at]
  unfold restArr
  refine sum_congr (fun k => ?_) (fun k => ?_) <;> blk_ext! [iblk, row, index3 t, index6 t]

end Cert.InProj

end
-- ==== Proof.MlpGrad.Blocks.lean ====
/-
  The blocks that one grid step of the MLP's weight-gradient call leaves.

  The step squares its block of hidden rows and multiplies it, transposed, with the incoming gradient; the first step also
  transposes the normalised rows into a scratch, which every step multiplies with its block of the hidden gradient.
-/
module

public import proofs.«01_k».proof.Proof.Gen.MlpGradIdeal.Value
public import Idealize.ShloMosaic.Lib.Pipeline.ValueKit
public import proofs.«01_k».proof.Proof.Attn.Scalars

@[expose] public section

set_option maxRecDepth 16384

noncomputable section

namespace Cert.MlpGrads

open Cert.MlpGradIdeal Cert.MlpGradIdeal.Gen Idealize.ShloMosaic Idealize.ShloMosaic.TcCoe Idealize.SL.Sem
open Idealize.ShloMosaic.Pointwise

/-- The squared block of hidden rows, transposed, times the incoming gradient. -/
theorem down_at (u : Vec Ideal S2176x512 .bf16) (dh : Vec Ideal S2176x1024 .bf16) (z : Fin 1) (r : Fin 512) (e : Fin 1024) :
    k0_pay2 u dh (ix3 z r e) = ∑ t : Fin 2176, u (ix2 t r) * u (ix2 t r) * dh (ix2 t e) := by
  pointwise [k0_pay2]

/-- A transposed array times the block of the hidden gradient. -/
theorem up_at (zt : Vec Ideal S1024x2176 .bf16) (du : Vec Ideal S2176x512 .bf16) (z : Fin 1) (r : Fin 1024) (e : Fin 512) :
    k0_pay3 zt du (ix3 z r e) = ∑ t : Fin 2176, zt (ix2 r t) * du (ix2 t e) := by
  pointwise [k0_pay3]

theorem turn_at (z : Vec Ideal S2176x1024 .bf16) (r : Fin 1024) (t : Fin 2176) : k0_pay1 z (ix2 r t) = z (ix2 t r) := by
  pointwise [k0_pay1]

/-- A hidden column by its block and its place there. -/
def col (b : Fin 8) (r : Fin 512) : Fin 4096 := ⟨512 * b + r, by omega⟩

/-- The gradient of the second matrix, in blocks of rows. -/
def downArr (u : S2176x4096.Idx → EReal) (dh : S2176x1024.Idx → EReal) : S8x512x1024.Idx → EReal := fun y =>
  ∑ t : Fin 2176, u (ix2 t (col (y 0) (y 1))) * u (ix2 t (col (y 0) (y 1))) * dh (ix2 t (y 2))

/-- The gradient of the first matrix, in blocks of columns. -/
def upArr (z : S2176x1024.Idx → EReal) (du : S2176x4096.Idx → EReal) : S8x1024x512.Idx → EReal := fun y =>
  ∑ t : Fin 2176, z (ix2 t (y 1)) * du (ix2 t (col (y 0) (y 2)))

theorem index0 : ∀ t : Fin cfg0.N, win0_0.index t = ![0, (t : ℕ)] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, (t : ℕ)] := by decide +kernel
theorem index4 : ∀ t : Fin cfg0.N, win0_4.index t = ![(t : ℕ), 0, 0] := by decide +kernel
theorem index5 : ∀ t : Fin cfg0.N, win0_5.index t = ![(t : ℕ), 0, 0] := by decide +kernel

theorem sum_sq_congr {f f' g g' : Fin 2176 → EReal} (h : ∀ a, f a = f' a) (h' : ∀ a, g a = g' a) :
    ∑ a, f a * f a * g a = ∑ a, f' a * f' a * g' a := by simp only [h, h']

variable (m : (ℓ : Loc nD τ sig) → Buf (Elt Ideal) ℓ) (c : Dev nD)

theorem rows_whole (t : Fin cfg0.N) : iblk m c 2 t = V m c main_v28 := by
  funext y
  idx_vars y
  blk_point [iblk, index2 t]

/-- The scratch holds the normalised rows transposed after every step. -/
theorem kept : ∀ (n : ℕ) (hn : n < cfg0.N), (outsAt0 m c n hn).2.2 = k0_pay1 (V m c main_v28)
  | 0, hn => by
    rw [outsAt0_A m c ⟨0, hn⟩ rfl]
    frame_out
    rw [rows_whole]
  | n + 1, hn => by
    have h8 : cfg0.N = 8 := N_0
    rw [outsAt0_B m c ⟨n + 1, hn⟩ (by show ¬(n + 1) % 8 = 0; omega)]
    exact kept n (Nat.lt_of_succ_lt hn)

theorem down_block (t : Fin cfg0.N) : (outsAt0 m c t.val t.isLt).1 = k0_pay2 (iblk m c 0 t) (iblk m c 1 t) := by
  by_cases h : t.val % 8 = 0
  · rw [outsAt0_A m c t h]
    frame_out
  · rw [outsAt0_B m c t h]
    frame_out

theorem up_block (t : Fin cfg0.N) : (outsAt0 m c t.val t.isLt).2.1 = k0_pay3 (k0_pay1 (V m c main_v28)) (iblk m c 3 t) := by
  by_cases h : t.val % 8 = 0
  · rw [outsAt0_A m c t h]
    frame_out
    rw [rows_whole]
  · rw [outsAt0_B m c t h]
    frame_out
    rw [kept]
    exact congrArg (fun z => k0_pay3 z (iblk m c 3 t)) (Memref.IsWhole.read_unread _ _)

theorem down_final : (dats m 0 c).arrAt 4 cfg0.N = downArr (V m c main_v26) (V m c main_v27) := by
  refine (dats m 0 c).arrAt_eq_of_covers 4 (downArr (V m c main_v26) (V m c main_v27)) (by decide +kernel) fun t hf y => ?_
  blk_simp
  rw [after0_4, down_block]
  idx_vars y
  rw [down_at]
  unfold downArr
  refine sum_sq_congr (fun a => ?_) (fun a => ?_) <;> blk_ext! [iblk, col, index0 t, index1 t, index4 t]

theorem up_final : (dats m 0 c).arrAt 5 cfg0.N = upArr (V m c main_v28) (V m c main_v29) := by
  refine (dats m 0 c).arrAt_eq_of_covers 5 (upArr (V m c main_v28) (V m c main_v29)) (by decide +kernel) fun t hf y => ?_
  blk_simp
  rw [after0_5, up_block]
  idx_vars y
  rw [up_at]
  simp only [turn_at]
  unfold upArr
  blk_point [iblk, col, index2 t, index3 t, index5 t]

end Cert.MlpGrads

end
-- ==== Proof.MlpGrad.Runs.lean ====
/-
  The two runs of the MLP's weight gradients.

  The kernel's host lines form the normalised rows, the hidden rows and the hidden gradient as the reference does, and the call multiplies
  them in blocks. Both runs end with the arrays of `Blocks.lean`.
-/
module

public import proofs.«01_k».proof.Proof.MlpGrad.Blocks
public import proofs.«01_k».proof.Proof.Gen.MlpGradRefIdeal.Run
public import proofs.«01_k».proof.Defs
public import Idealize.ShloMosaic.Lib.StableHlo.ReadAt

@[expose] public section

set_option maxRecDepth 16384

noncomputable section

namespace Cert.MlpGrads

open Idealize.ShloMosaic Idealize.ShloMosaic.TcCoe Idealize.SL.Sem
open Idealize.ShloMosaic.Pointwise

section kernel

open Cert.MlpGradIdeal Cert.MlpGradIdeal.Gen

/-- The normalised rows. -/
def normed (h : FVec Ideal S2176x1024 .f32) (g : FVec Ideal S1x1024 .f32) : FVec Ideal S2176x1024 .f32 :=
  mulf (mulf h (broadcastInDim S2176x1024 ![0, 1] bcast_S2176x1_S2176x1024_0_1 (Host.rsqrt (addf (Host.divf (broadcastInDim S2176x1 ![0] bcast_S2176_S2176x1_0
    (Host.reduceAdd (mulf h h) (constant S_ .f32 0x00000000#32) reducesTo_S2176x1024_S2176_d1 h_S_))
    (broadcastInDim S2176x1 ![] bcast_S_S2176x1 (constant S_ .f32 0x44800000#32))) (broadcastInDim S2176x1 ![] bcast_S_S2176x1 (constant S_ .f32 0x358637BD#32))))))
    (broadcastInDim S2176x1024 ![0, 1] bcast_S1x1024_S2176x1024_0_1 g)

/-- Their products with the first matrix. -/
def products (z : FVec Ideal S2176x1024 .f32) (w : FVec Ideal S1024x4096 .f32) : FVec Ideal S2176x4096 .f32 :=
  Host.dotGeneral dot_S2176x1024_S1024x4096_S2176x4096_1_0_0_1_n_n none z w

/-- The hidden rows: the products above zero. -/
def hidden (a : FVec Ideal S2176x4096 .f32) : FVec Ideal S2176x4096 .f32 :=
  maximumf a (broadcastInDim S2176x4096 ![] bcast_S_S2176x4096 (constant S_ .f32 0x00000000#32))

/-- The gradient that the second matrix hands back. -/
def handed (dh : FVec Ideal S2176x1024 .f32) (w : FVec Ideal S4096x1024 .f32) : FVec Ideal S2176x4096 .f32 :=
  Host.dotGeneral dot_S2176x1024_S4096x1024_S2176x4096_1_1_0_0_n_n none dh w

/-- The gradient of the products. -/
def hiddenGrad (a d : FVec Ideal S2176x4096 .f32) : FVec Ideal S2176x4096 .f32 :=
  select (cmpf .ogt a (broadcastInDim S2176x4096 ![] bcast_S_S2176x4096 (constant S_ .f32 0x00000000#32)))
    (addf (mulf (hidden a) d) (mulf d (hidden a))) (broadcastInDim S2176x4096 ![] bcast_S_S2176x4096 (constant S_ .f32 0x00000000#32))

variable (m : (ℓ : Loc nD τ sig) → Buf (Elt Ideal) ℓ) (c : Dev nD)

theorem V_rows : Gen.V m c main_v28 = normed (m ((c.tc : Thread nD τ).loc main_arg1)) (m ((c.tc : Thread nD τ).loc main_arg2)) := by
  unfold Gen.V
  after_reads_simp
  try simp -implicitDefEqProofs only [StableHlo.TRef.toBuf, StableHlo.TRef.ofBuf, cast_cast, cast_eq]
  rfl

theorem V_incoming : Gen.V m c main_v27 = m ((c.tc : Thread nD τ).loc main_arg0) := by
  unfold Gen.V
  after_reads_simp
  try simp -implicitDefEqProofs only [StableHlo.TRef.toBuf, StableHlo.TRef.ofBuf, cast_cast, cast_eq]
  rfl

theorem V_hidden : Gen.V m c main_v26 = hidden (products (normed (m ((c.tc : Thread nD τ).loc main_arg1)) (m ((c.tc : Thread nD τ).loc main_arg2))) (m ((c.tc : Thread nD τ).loc main_arg3))) := by
  unfold Gen.V
  after_reads_simp
  try simp -implicitDefEqProofs only [StableHlo.TRef.toBuf, StableHlo.TRef.ofBuf, cast_cast, cast_eq]
  rfl

theorem V_hiddenGrad : Gen.V m c main_v29 = hiddenGrad (products (normed (m ((c.tc : Thread nD τ).loc main_arg1)) (m ((c.tc : Thread nD τ).loc main_arg2))) (m ((c.tc : Thread nD τ).loc main_arg3)))
    (handed (m ((c.tc : Thread nD τ).loc main_arg0)) (m ((c.tc : Thread nD τ).loc main_arg4))) := by
  unfold Gen.V
  after_reads_simp
  try simp -implicitDefEqProofs only [StableHlo.TRef.toBuf, StableHlo.TRef.ofBuf, cast_cast, cast_eq]
  rfl

/-- The gradients of the two matrices from the operands. -/
def resDown (dh h : S2176x1024.Idx → EReal) (g : S1x1024.Idx → EReal) (up : S1024x4096.Idx → EReal) : S8x512x1024.Idx → EReal :=
  downArr (hidden (products (normed h g) up)) dh

def resUp (dh h : S2176x1024.Idx → EReal) (g : S1x1024.Idx → EReal) (up : S1024x4096.Idx → EReal) (down : S4096x1024.Idx → EReal) : S8x1024x512.Idx → EReal :=
  upArr (normed h g) (hiddenGrad (products (normed h g) up) (handed dh down))

theorem down_value : (dats m 0 c).arrAt 4 cfg0.N = resDown (m ((c.tc : Thread nD τ).loc main_arg0)) (m ((c.tc : Thread nD τ).loc main_arg1))
    (m ((c.tc : Thread nD τ).loc main_arg2)) (m ((c.tc : Thread nD τ).loc main_arg3)) := by
  rw [down_final, V_hidden, V_incoming]
  rfl

theorem up_value : (dats m 0 c).arrAt 5 cfg0.N = resUp (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  rw [up_final, V_rows, V_hiddenGrad]
  rfl

variable (ρ : Dev nD → PrngReg)

/-- The kernel ends with the two gradients. -/
theorem kernel_run : θ_run (defs (F := Ideal)) (onTc (τ := τ) (main (F := Ideal))) ⟨m, fun _ => 0, ρ⟩ fun r => ∀ c : Dev nD,
      r.2.mem ((c.tc : Thread nD τ).loc main_v30_0) = resDown (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v30_1) = resUp (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (Cert.MlpGradIdeal.Value.run_blocks m ρ)
  obtain ⟨r0, r1, rest⟩ := h c
  exact ⟨r0.trans (down_value m c), r1.trans (up_value m c), rest⟩

end kernel

section reference

open Cert.MlpGradRefIdeal Cert.MlpGradRefIdeal.Gen

theorem ref_down (dh : FVec Ideal S2176x1024 .f32) (u : FVec Ideal S2176x4096 .f32) :
    (truncf (F := Ideal) .bf16 (shapeCast S8x512x1024 (transpose S4096x1024 [1, 0] (Host.dotGeneral dot_S2176x1024_S2176x4096_S1024x4096_0_0_1_1_n_n none dh (mulf u u)) transposes_S1024x4096_S4096x1024_1_0) shapeCasts_S4096x1024_S8x512x1024) bitsLt_bf16_f32 : S8x512x1024.Idx → EReal)
      = downArr u dh := by
  funext y
  idx_vars y
  pointwise [downArr]
  refine Finset.sum_congr rfl fun x _ => ?_
  rw [mul_comm]
  have e : (⟨(y0 : ℕ) * 512 + y1, by omega⟩ : Fin 4096) = col y0 y1 := Fin.ext (by show (y0 : ℕ) * 512 + y1 = 512 * (y0 : ℕ) + y1; omega)
  rw [← e]

theorem ref_up (z : FVec Ideal S2176x1024 .f32) (du : FVec Ideal S2176x4096 .f32) :
    (truncf (F := Ideal) .bf16 (transpose S8x1024x512 [1, 0, 2] (shapeCast S1024x8x512 (transpose S1024x4096 [1, 0] (Host.dotGeneral dot_S2176x4096_S2176x1024_S4096x1024_0_0_1_1_n_n none du z) transposes_S4096x1024_S1024x4096_1_0) shapeCasts_S1024x4096_S1024x8x512) transposes_S1024x8x512_S8x1024x512_1_0_2) bitsLt_bf16_f32 : S8x1024x512.Idx → EReal)
      = upArr z du := by
  funext y
  idx_vars y
  pointwise [upArr]
  refine Finset.sum_congr rfl fun x _ => ?_
  rw [mul_comm]
  have e : (⟨(y0 : ℕ) * 512 + y2, by omega⟩ : Fin 4096) = col y0 y2 := Fin.ext (by show (y0 : ℕ) * 512 + y2 = 512 * (y0 : ℕ) + y2; omega)
  rw [← e]

variable (m : (ℓ : Loc nD τ sig) → Buf (Elt Ideal) ℓ) (ρ : Dev nD → PrngReg)

/-- The reference ends with the two gradients. -/
theorem reference_run : θ_run (defs (F := Ideal)) (onTc (τ := τ) (main (F := Ideal))) ⟨m, fun _ => 0, ρ⟩ fun r => ∀ c : Dev nD,
      r.2.mem ((c.tc : Thread nD τ).loc main_v31) = resDown (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v34) = resUp (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (Cert.MlpGradRefIdeal.Value.run (F := Ideal) m ρ)
  obtain ⟨r0, r1, rest⟩ := h c
  exact ⟨r0.trans (ref_down _ _), r1.trans (ref_up _ _), rest⟩

end reference

set_option maxHeartbeats 1000000 in
/-- So from equal arguments the two programs end with equal results. -/
theorem algebraic : Cert.algebraic_MlpGradIdeal_MlpGradRefIdeal := by
  intro m ρ m' ρ' _ hagree
  refine ⟨fun c => resDown (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1))
      (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3)),
    fun c => resUp (m ((c.tc : Thread Cert.MlpGradIdeal.nD Cert.MlpGradIdeal.τ).loc Cert.MlpGradIdeal.main_arg0)) (m ((c.tc : Thread Cert.MlpGradIdeal.nD Cert.MlpGradIdeal.τ).loc Cert.MlpGradIdeal.main_arg1))
      (m ((c.tc : Thread Cert.MlpGradIdeal.nD Cert.MlpGradIdeal.τ).loc Cert.MlpGradIdeal.main_arg2)) (m ((c.tc : Thread Cert.MlpGradIdeal.nD Cert.MlpGradIdeal.τ).loc Cert.MlpGradIdeal.main_arg3))
      (m ((c.tc : Thread Cert.MlpGradIdeal.nD Cert.MlpGradIdeal.τ).loc Cert.MlpGradIdeal.main_arg4)), kernel_run m ρ, ?_⟩
  refine (θ_run _ _ _).mono (fun r h c => ?_) (reference_run m' ρ')
  obtain ⟨a0, a1, a2, a3, a4⟩ := hagree c
  obtain ⟨r0, r1, rest⟩ := h c
  rw [a0, a1, a2, a3] at r0
  rw [a0, a1, a2, a3, a4] at r1
  exact ⟨r0, r1, rest⟩

end Cert.MlpGrads

end
-- ==== Proof.In.Runs.lean ====
/-
  The two runs of the input projection.
-/
module

public import proofs.«01_k».proof.Proof.In.Blocks
public import proofs.«01_k».proof.Proof.MlpGrad.Runs
public import proofs.«01_k».proof.Proof.Gen.InRefIdeal.Run
public import proofs.«01_k».proof.Defs
public import Idealize.ShloMosaic.Lib.StableHlo.ReadAt

@[expose] public section

set_option maxRecDepth 16384

noncomputable section

namespace Cert.InProj

open Idealize.ShloMosaic Idealize.ShloMosaic.TcCoe Idealize.SL.Sem
open Idealize.ShloMosaic.Pointwise

/-- The host's normalised rows are the scaled rows. -/
theorem normed_eq (h : FVec Ideal ⟨2, ![2176, 1024]⟩ .f32) (g : FVec Ideal ⟨2, ![1, 1024]⟩ .f32) : MlpGrads.normed h g = rowsArr h g := by
  funext y
  idx_vars y
  pointwise [MlpGrads.normed, rowsArr]
  rfl

theorem zero_of_int (ty : FTy) : FloatOps.sitofp (F := Ideal) ty (0#32) = (0 : EReal) := by
  show (((0#32 : BitVec 32).toInt : ℝ) : EReal) = 0
  simp

section kernel

open Cert.InIdeal Cert.InIdeal.Gen

/-- The transposed weights. -/
def turned (w : FVec Ideal S1024x2568 .f32) : FVec Ideal S2568x1024 .bf16 := truncf .bf16 (transpose S2568x1024 [1, 0] w transposes_S1024x2568_S2568x1024_1_0) bitsLt_bf16_f32

/-- The weights of the second set of columns: 1024 columns, then the eight gates among zeros. -/
def others (w : FVec Ideal S2568x1024 .bf16) : FVec Ideal S1152x1024 .bf16 :=
  concatenate S1152x1024 0 [⟨S1024x1024, extractStridedSlice S1024x1024 ![1544, 0] w slices_S2568x1024_S1024x1024_1544_0⟩,
    ⟨S128x1024, pad S128x1024 ![0, 0] ![120, 0] ![0, 0] (extractStridedSlice S8x1024 ![1536, 0] w slices_S2568x1024_S8x1024_1536_0) (sitofp .bf16 (constantI S_ 32 0#32)) pads_S8x1024_S128x1024_01200_000 h_S_⟩] concatenates_S1024x1024_S128x1024_S1152x1024_d0

variable (m : (ℓ : Loc nD τ sig) → Buf (Elt Ideal) ℓ) (c : Dev nD)

theorem V_turned : Gen.V m c main_v1 = turned (m ((c.tc : Thread nD τ).loc main_arg2)) := by
  unfold Gen.V
  after_reads_simp
  try simp -implicitDefEqProofs only [StableHlo.TRef.toBuf, StableHlo.TRef.ofBuf, cast_cast, cast_eq]
  rfl

theorem V_others : Gen.V m c main_v5 = others (turned (m ((c.tc : Thread nD τ).loc main_arg2))) := by
  unfold Gen.V
  after_reads_simp
  try simp -implicitDefEqProofs only [StableHlo.TRef.toBuf, StableHlo.TRef.ofBuf, cast_cast, cast_eq]
  rfl

/-- The three results from the operands. -/
def resMain (h : S2176x1024.Idx → EReal) (g : S1x1024.Idx → EReal) (w : S1024x2568.Idx → EReal) : S2176x1536.Idx → EReal :=
  mainArr (rowsArr h g) (turned w)

def resRest (h : S2176x1024.Idx → EReal) (g : S1x1024.Idx → EReal) (w : S1024x2568.Idx → EReal) : S2176x1152.Idx → EReal :=
  restArr (rowsArr h g) (others (turned w))

variable (ρ : Dev nD → PrngReg)

theorem kernel_run : θ_run (defs (F := Ideal)) (onTc (τ := τ) (main (F := Ideal))) ⟨m, fun _ => 0, ρ⟩ fun r => ∀ c : Dev nD,
      r.2.mem ((c.tc : Thread nD τ).loc main_v6_0) = rowsArr (m ((c.tc : Thread nD τ).loc main_arg0)) (m ((c.tc : Thread nD τ).loc main_arg1))
      ∧ r.2.mem ((c.tc : Thread nD τ).loc main_v6_1) = resMain (m ((c.tc : Thread nD τ).loc main_arg0)) (m ((c.tc : Thread nD τ).loc main_arg1)) (m ((c.tc : Thread nD τ).loc main_arg2))
      ∧ r.2.mem ((c.tc : Thread nD τ).loc main_v6_2) = resRest (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (Cert.InIdeal.Value.run_blocks m ρ)
  obtain ⟨r0, r1, r2, rest⟩ := h c
  refine ⟨r0.trans ?_, r1.trans ?_, r2.trans ?_, rest⟩
  · rw [rows_final, V_main_arg0, V_main_arg1]
  · rw [main_final, V_main_arg0, V_main_arg1, V_turned]
    rfl
  · rw [rest_final, V_main_arg0, V_main_arg1, V_others]
    rfl

end kernel

section reference

open Cert.InRefIdeal Cert.InRefIdeal.Gen

theorem ref_rest (z : FVec Ideal S2176x1024 .f32) (w : FVec Ideal S1024x2568 .f32) :
   concatenate S2176x1152 1 [⟨S2176x1024, (extractStridedSlice S2176x1024 ![0, 1544] (Host.dotGeneral dot_S2176x1024_S1024x2568_S2176x2568_1_0_0_1_n_n none z w) slices_S2176x2568_S2176x1024_0_1544)⟩, ⟨S2176x128, (pad S2176x128 ![0, 0] ![0, 120] ![0, 0] (extractStridedSlice S2176x8 ![0, 1536] (Host.dotGeneral dot_S2176x1024_S1024x2568_S2176x2568_1_0_0_1_n_n none z w) slices_S2176x2568_S2176x8_0_1536) (sitofp .f32 (constantI S_ 32 0#32)) pads_S2176x8_S2176x128_000_01200 h_S_)⟩] concatenates_S2176x1024_S2176x128_S2176x1152_d1
    = restArr z (others (turned w)) := by
  funext y
  idx_vars y
  pointwise [restArr, others, turned]
  by_cases h : (y1 : ℕ) < 1024
  · simp only [h, ↓reduceDIte]
  · by_cases h' : (y1 : ℕ) - 1024 < 8
    · simp only [h, h', ↓reduceDIte]
    · simp only [h, h', ↓reduceDIte, zero_of_int, mul_zero, Finset.sum_const_zero]

theorem ref_main (z : FVec Ideal S2176x1024 .f32) (w : FVec Ideal S1024x2568 .f32) :
   (truncf (F := Ideal) .bf16 (extractStridedSlice S2176x1536 ![0, 0] (Host.dotGeneral dot_S2176x1024_S1024x2568_S2176x2568_1_0_0_1_n_n none z w) slices_S2176x2568_S2176x1536_0_0) bitsLt_bf16_f32 : S2176x1536.Idx → EReal)
    = mainArr z (turned w) := by
  funext y
  idx_vars y
  pointwise [mainArr, turned, wide]

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r => ∀ c : Dev nD,
      r.2.mem ((c.tc : Thread nD τ).loc main_v17) = rowsArr (m ((c.tc : Thread nD τ).loc main_arg0)) (m ((c.tc : Thread nD τ).loc main_arg1))
      ∧ r.2.mem ((c.tc : Thread nD τ).loc main_v19) = resMain (m ((c.tc : Thread nD τ).loc main_arg0)) (m ((c.tc : Thread nD τ).loc main_arg1)) (m ((c.tc : Thread nD τ).loc main_arg2))
      ∧ r.2.mem ((c.tc : Thread nD τ).loc main_v16) = resRest (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (Cert.InRefIdeal.Value.run (F := Ideal) m ρ)
  obtain ⟨r0, r1, r2, rest⟩ := h c
  refine ⟨r0.trans (normed_eq _ _), r1.trans ?_, r2.trans ?_, rest⟩
  · exact (ref_main _ _).trans (congrArg (fun z => mainArr z _) (normed_eq _ _))
  · exact (ref_rest _ _).trans (congrArg (fun z => restArr z _) (normed_eq _ _))

end reference

/-- So from equal arguments the two programs end with equal results. -/
theorem algebraic : Cert.algebraic_InIdeal_InRefIdeal := by
  intro m ρ m' ρ' _ hagree
  refine ⟨_, _, _, kernel_run m ρ, ?_⟩
  refine (θ_run _ _ _).mono (fun r h c => ?_) (reference_run m' ρ')
  obtain ⟨a0, a1, a2⟩ := hagree c
  obtain ⟨r0, r1, r2, rest⟩ := h c
  rw [a0, a1] at r0
  rw [a0, a1, a2] at r1 r2
  exact ⟨r0, r1, r2, rest⟩

end Cert.InProj

end
-- ==== Proof.MlpBack.Body.lean ====
/-
  The body of the MLP's backward pass, run in its three cases.

  At the first half of the hidden units it stores the rounded gradient of the output, the gradients of the half's hidden sums, and their products with the
  first weights in the accumulator. At the second half it adds the other products, takes the accumulator back through the norm, and stores the gradient of
  the rows; the gradient of the norm's gain is stored at the first block of rows and added to at the later ones. The pieces that each buffer ends with are
  found by running the printed body, over any element values.
-/
module

public import proofs.«01_k».proof.Proof.Gen.MlpBackIdeal.Frame
public import proofs.«01_k».proof.Proof.Gen.MlpBackIdeal.Skeleton
public import Idealize.ShloMosaic.Lib.Pipeline.FrameBody
public import Idealize.ShloMosaic.Lib.Ring
public import Idealize.ShloMosaic.Lib.Tactic

@[expose] public section

set_option maxRecDepth 16384

noncomputable section

namespace Cert.MlpBacks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MlpBackIdeal Cert.MlpBackIdeal.Gen

variable {F : FTy → Type} [FloatOps F]

local notation "𝕄" => MT nD τ sig Unit (Elt F) ℕ (UR sig nD τ) ℕ

/-- Whether the accumulator is added to, as the body computes it. -/
def later (i : grid0.Coords) : BitVec 1 :=
  Scalar.cmpi .ne (Scalar.extui (Scalar.xori (Scalar.cmpi .eq (BitVec.ofNat 32 (i 1).val) 0#32) 1#1) : BitVec 32) 0#32

variable (c : Dev nD) (i : grid0.Coords)
  (arg2 : Memref sig .tc .vmem S544x1024 .f32) (harg2 : arg2.IsWhole) (arg3 : Memref sig .tc .vmem S544x2048 .bf16) (harg3 : arg3.IsWhole)
  (arg4 : Memref sig .tc .vmem S544x1024 .f32) (harg4 : arg4.IsWhole) (arg5 : Memref sig .tc .vmem S1x1024 .f32) (harg5 : arg5.IsWhole)
  (arg6 : Memref sig .tc .vmem S4x1024x512 .bf16) (harg6 : arg6.IsWhole) (arg7 : Memref sig .tc .vmem S4x512x1024 .bf16) (harg7 : arg7.IsWhole)
  (arg8 : Memref sig .tc .vmem S544x2048 .bf16) (harg8 : arg8.IsWhole) (arg9 : Memref sig .tc .vmem S544x1024 .f32) (harg9 : arg9.IsWhole)
  (arg10 : Memref sig .tc .vmem S1x1024 .f32) (harg10 : arg10.IsWhole) (arg11 : Memref sig .tc .vmem S544x1024 .bf16) (harg11 : arg11.IsWhole)
  (arg12 : Memref sig .tc .vmem S544x1024 .f32) (harg12 : arg12.IsWhole)

set_option maxHeartbeats 1000000 in
/-- The body at the first half: the pieces of the hidden sums' gradients, the rounded gradient and the accumulator, with the proof that it runs to
    them from the inputs' blocks. -/
noncomputable def runFirst (h1 : k0_cond1 i = 1#1) (h3 : ¬later i = 1#1) (h4 : ¬k0_cond4 i = 1#1)
    (x0 : Vec F S544x1024 .f32) (x1 : Vec F S544x2048 .bf16) (x4 : Vec F S4x1024x512 .bf16) (x5 : Vec F S4x512x1024 .bf16) :
    Σ' (L6 : List (View.Piece (Elt F) S544x2048 .bf16)), Σ' (L9 : List (View.Piece (Elt F) S544x1024 .bf16)), { LS : List (View.Piece (Elt F) S544x1024 .f32) //
      ∀ (E : Set ℕ) (K : PUnit → sProp 𝕄),
        iprop(owns (c : Thread nD τ) arg2 fullShare x0
            ∗ owns (c : Thread nD τ) arg3 fullShare x1
            ∗ owns (c : Thread nD τ) arg6 fullShare x4
            ∗ owns (c : Thread nD τ) arg7 fullShare x5
            ∗ (∃ d, owns (c : Thread nD τ) arg8 fullShare d)
            ∗ (∃ d, owns (c : Thread nD τ) arg11 fullShare d)
            ∗ (∃ d, owns (c : Thread nD τ) arg12 fullShare d)
            ∗ (iprop(owns (c : Thread nD τ) arg2 fullShare x0
                ∗ owns (c : Thread nD τ) arg3 fullShare x1
                ∗ owns (c : Thread nD τ) arg6 fullShare x4
                ∗ owns (c : Thread nD τ) arg7 fullShare x5
                ∗ (∃ f, arg8.view.loc (c : Thread nD τ) ↦[arg8.view.set]{fullShare} arg8.view.writes (Elt F) f L6)
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f LS)) -∗ K ⟨⟩))
          ⊢ wp frame (wpE (defs₀ (F := F)) Variants.none c none) E (cc0_mlp_bwd i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_mlp_bwd_eq_skeleton]; unfold cc0_mlp_bwd_skel
    simp only [k0_part2_eq_skeleton, k0_part3_eq_skeleton]; unfold k0_part2_skel k0_part3_skel
    simp only [k0_part1_eq_skeleton]; unfold k0_part1_skel
    unfold owns
    iintro ⟨⟨%f2, %hf2, H2⟩, ⟨%f3, %hf3, H3⟩, ⟨%f6, %hf6, H6⟩, ⟨%f7, %hf7, H7⟩, ⟨%d8, %f8, -, H8⟩, ⟨%d11, %f11, -, H11⟩, ⟨%d12, %f12, -, H12⟩, Hk⟩
    obtain rfl := harg2.eq_unread hf2; obtain rfl := harg3.eq_unread hf3; obtain rfl := harg6.eq_unread hf6; obtain rfl := harg7.eq_unread hf7
    sl_exec (disch := first | sl_exact h1 | sl_exact h3 | sl_exact h4)
    sl_step
    iapply Hk
    isplitl [H2]
    · iexists _; isplitr
      · ipureintro; exact harg2.read_unread _
      · iexact H2
    isplitl [H3]
    · iexists _; isplitr
      · ipureintro; exact harg3.read_unread _
      · iexact H3
    isplitl [H6]
    · iexists _; isplitr
      · ipureintro; exact harg6.read_unread _
      · iexact H6
    isplitl [H7]
    · iexists _; isplitr
      · ipureintro; exact harg7.read_unread _
      · iexact H7
    isplitl [H8]; · iexists _; iexact H8
    isplitl [H11]; · iexists _; iexact H11
    iexists _; iexact H12

set_option maxHeartbeats 1000000 in
/-- The body at the second half of the first block of rows, from the rounded gradient and the accumulator: the pieces of the hidden sums' gradients,
    the gradient of the rows, the gradient of the gain and the accumulator. -/
noncomputable def runSecond (h1 : ¬k0_cond1 i = 1#1) (h3 : later i = 1#1) (h4 : k0_cond4 i = 1#1) (h5 : k0_cond5 i = 1#1) (h6 : ¬k0_cond6 i = 1#1)
    (x0 : Vec F S544x1024 .f32) (x1 : Vec F S544x2048 .bf16) (x2 : Vec F S544x1024 .f32) (x3 : Vec F S1x1024 .f32) (x4 : Vec F S4x1024x512 .bf16) (x5 : Vec F S4x512x1024 .bf16) (z : Vec F S544x1024 .bf16) (s : Vec F S544x1024 .f32) :
    Σ' (L6 : List (View.Piece (Elt F) S544x2048 .bf16)), Σ' (L7 : List (View.Piece (Elt F) S544x1024 .f32)), Σ' (L8 : List (View.Piece (Elt F) S1x1024 .f32)), { LS : List (View.Piece (Elt F) S544x1024 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg11 fullShare z
            ∗ owns (c : Thread nD τ) arg12 fullShare s
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg11 fullShare z
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg12.view.loc (c : Thread nD τ) ↦[arg12.view.set]{fullShare} arg12.view.writes (Elt F) f LS)) -∗ K ⟨⟩))
          ⊢ wp frame (wpE (defs₀ (F := F)) Variants.none c none) E (cc0_mlp_bwd i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_mlp_bwd_eq_skeleton]; unfold cc0_mlp_bwd_skel
    simp only [k0_part2_eq_skeleton, k0_part3_eq_skeleton]; unfold k0_part2_skel k0_part3_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%d8, %f8, -, H8⟩, ⟨%d9, %f9, -, H9⟩, ⟨%d10, %f10, -, H10⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12
    sl_exec (disch := first | sl_exact h1 | sl_exact h3 | sl_exact h4 | sl_exact h5 | sl_exact h6)
    sl_step
    iapply Hk
    isplitl [H2]
    · iexists _; isplitr
      · ipureintro; exact harg2.read_unread _
      · iexact H2
    isplitl [H3]
    · iexists _; isplitr
      · ipureintro; exact harg3.read_unread _
      · iexact H3
    isplitl [H4]
    · iexists _; isplitr
      · ipureintro; exact harg4.read_unread _
      · iexact H4
    isplitl [H5]
    · iexists _; isplitr
      · ipureintro; exact harg5.read_unread _
      · iexact H5
    isplitl [H6]
    · iexists _; isplitr
      · ipureintro; exact harg6.read_unread _
      · iexact H6
    isplitl [H7]
    · iexists _; isplitr
      · ipureintro; exact harg7.read_unread _
      · iexact H7
    isplitl [H11]
    · iexists _; isplitr
      · ipureintro; exact harg11.read_unread _
      · iexact H11
    isplitl [H8]; · iexists _; iexact H8
    isplitl [H9]; · iexists _; iexact H9
    isplitl [H10]; · iexists _; iexact H10
    iexists _; iexact H12

set_option maxHeartbeats 1000000 in
/-- The body at the second half of a later block of rows: the gain's gradient is added to what the blocks before left. -/
noncomputable def runLater (h1 : ¬k0_cond1 i = 1#1) (h3 : later i = 1#1) (h4 : k0_cond4 i = 1#1) (h5 : ¬k0_cond5 i = 1#1) (h6 : k0_cond6 i = 1#1)
    (x0 : Vec F S544x1024 .f32) (x1 : Vec F S544x2048 .bf16) (x2 : Vec F S544x1024 .f32) (x3 : Vec F S1x1024 .f32) (x4 : Vec F S4x1024x512 .bf16) (x5 : Vec F S4x512x1024 .bf16) (z : Vec F S544x1024 .bf16) (s : Vec F S544x1024 .f32) (w : Vec F S1x1024 .f32) :
    Σ' (L6 : List (View.Piece (Elt F) S544x2048 .bf16)), Σ' (L7 : List (View.Piece (Elt F) S544x1024 .f32)), Σ' (L8 : List (View.Piece (Elt F) S1x1024 .f32)), { LS : List (View.Piece (Elt F) S544x1024 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg11 fullShare z
            ∗ owns (c : Thread nD τ) arg12 fullShare s
            ∗ owns (c : Thread nD τ) arg10 fullShare w
            ∗ (∃ d, owns (c : Thread nD τ) arg8 fullShare d)
            ∗ (∃ d, owns (c : Thread nD τ) arg9 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg11 fullShare z
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg12.view.loc (c : Thread nD τ) ↦[arg12.view.set]{fullShare} arg12.view.writes (Elt F) f LS)) -∗ K ⟨⟩))
          ⊢ wp frame (wpE (defs₀ (F := F)) Variants.none c none) E (cc0_mlp_bwd i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_mlp_bwd_eq_skeleton]; unfold cc0_mlp_bwd_skel
    simp only [k0_part2_eq_skeleton, k0_part3_eq_skeleton]; unfold k0_part2_skel k0_part3_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f10, %hf10, H10⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg10.eq_unread hf10
    sl_exec (disch := first | sl_exact h1 | sl_exact h3 | sl_exact h4 | sl_exact h5 | sl_exact h6)
    sl_step
    iapply Hk
    isplitl [H2]
    · iexists _; isplitr
      · ipureintro; exact harg2.read_unread _
      · iexact H2
    isplitl [H3]
    · iexists _; isplitr
      · ipureintro; exact harg3.read_unread _
      · iexact H3
    isplitl [H4]
    · iexists _; isplitr
      · ipureintro; exact harg4.read_unread _
      · iexact H4
    isplitl [H5]
    · iexists _; isplitr
      · ipureintro; exact harg5.read_unread _
      · iexact H5
    isplitl [H6]
    · iexists _; isplitr
      · ipureintro; exact harg6.read_unread _
      · iexact H6
    isplitl [H7]
    · iexists _; isplitr
      · ipureintro; exact harg7.read_unread _
      · iexact H7
    isplitl [H11]
    · iexists _; isplitr
      · ipureintro; exact harg11.read_unread _
      · iexact H11
    isplitl [H8]; · iexists _; iexact H8
    isplitl [H9]; · iexists _; iexact H9
    isplitl [H10]; · iexists _; iexact H10
    iexists _; iexact H12

end Cert.MlpBacks

end
-- ==== Proof.MlpBack.Contents.lean ====
/-
  What the buffers of the MLP's backward pass hold after each point of its grid, over any element values.

  The grid's points are the pairs of a block of rows and a half of the hidden units. The rounded gradient and the accumulator are carried from the first
  half to the second; the gain's gradient is carried from each block of rows to the next.
-/
module

public import proofs.«01_k».proof.Proof.MlpBack.Body
public import proofs.«01_k».proof.Proof.Gen.MlpBackIdeal.Points
public import Idealize.ShloMosaic.Lib.Pipeline.TableIdle
public import Idealize.ShloMosaic.Lib.WordCmp
public import Idealize.ShloMosaic.Lib.Claim

@[expose] public section

set_option maxRecDepth 16384

noncomputable section

namespace Cert.MlpBacks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpBackIdeal Cert.MlpBackIdeal.Gen

variable {F : FTy → Type} [FloatOps F]

local notation "𝕄" => MT nD τ sig Unit (Elt F) ℕ (UR sig nD τ) ℕ

/-! ## The three kinds of points -/

theorem cond_even : ∀ t : Fin cfg0.N, t.val % 2 = 0 → k0_cond1 (grid0.coords t) = 1#1 ∧ ¬later (grid0.coords t) = 1#1 ∧ ¬k0_cond4 (grid0.coords t) = 1#1 :=
  (by decide +kernel : ∀ t : Fin grid0.N, t.val % 2 = 0 →
    k0_cond1 (grid0.coords t) = 1#1 ∧ ¬later (grid0.coords t) = 1#1 ∧ ¬k0_cond4 (grid0.coords t) = 1#1)

theorem cond_odd : ∀ t : Fin cfg0.N, t.val % 2 = 1 → ¬k0_cond1 (grid0.coords t) = 1#1 ∧ later (grid0.coords t) = 1#1 ∧ k0_cond4 (grid0.coords t) = 1#1 :=
  (by decide +kernel : ∀ t : Fin grid0.N, t.val % 2 = 1 →
    ¬k0_cond1 (grid0.coords t) = 1#1 ∧ later (grid0.coords t) = 1#1 ∧ k0_cond4 (grid0.coords t) = 1#1)

theorem cond_one : ∀ t : Fin cfg0.N, t.val = 1 → k0_cond5 (grid0.coords t) = 1#1 ∧ ¬k0_cond6 (grid0.coords t) = 1#1 :=
  (by decide +kernel : ∀ t : Fin grid0.N, t.val = 1 → k0_cond5 (grid0.coords t) = 1#1 ∧ ¬k0_cond6 (grid0.coords t) = 1#1)

theorem cond_later : ∀ t : Fin cfg0.N, t.val % 2 = 1 → t.val ≠ 1 → ¬k0_cond5 (grid0.coords t) = 1#1 ∧ k0_cond6 (grid0.coords t) = 1#1 :=
  (by decide +kernel : ∀ t : Fin grid0.N, t.val % 2 = 1 → t.val ≠ 1 → ¬k0_cond5 (grid0.coords t) = 1#1 ∧ k0_cond6 (grid0.coords t) = 1#1)

/-- The first of the two points of a block of rows. -/
def base (t : Fin cfg0.N) : Fin cfg0.N := ⟨t.val - t.val % 2, lt_of_le_of_lt (Nat.sub_le _ _) t.isLt⟩

theorem base_val (t : Fin cfg0.N) : (base t).val = t.val - t.val % 2 := rfl

theorem base_even (t : Fin cfg0.N) : (base t).val % 2 = 0 := by rw [base_val]; omega

theorem base_of_even (t : Fin cfg0.N) (h : t.val % 2 = 0) : base t = t := by
  apply Fin.ext; rw [base_val]; omega

theorem at_congr {α : Type} (f : ∀ t : Fin cfg0.N, t.val % 2 = 0 → α) {t u : Fin cfg0.N} (e : t = u) (h : t.val % 2 = 0) (h' : u.val % 2 = 0) :
    f t h = f u h' := by subst e; rfl

/-- The point before. -/
def prev (t : Fin cfg0.N) : Fin cfg0.N := ⟨t.val - 1, lt_of_le_of_lt (Nat.sub_le _ _) t.isLt⟩

theorem base_prev (t : Fin cfg0.N) (h : t.val % 2 = 1) : base (prev t) = base t := by
  apply Fin.ext
  rw [base_val, base_val]
  have h2 : (prev t).val = t.val - 1 := rfl
  omega

/-- Each window's staging buffer at a point, and that it is whole; the accumulator. -/
abbrev stage0 (t : Fin cfg0.N) : Memref sig .tc .vmem S544x1024 .f32 := win0_0.stage (cfg0.slots t 0)
abbrev whole0 (t : Fin cfg0.N) : (stage0 t).IsWhole := hstage0_0 ((cfg0.slots t 0).cast nbuf0_0)
abbrev stage1 (t : Fin cfg0.N) : Memref sig .tc .vmem S544x2048 .bf16 := win0_1.stage (cfg0.slots t 1)
abbrev whole1 (t : Fin cfg0.N) : (stage1 t).IsWhole := hstage0_1 ((cfg0.slots t 1).cast nbuf0_1)
abbrev stage2 (t : Fin cfg0.N) : Memref sig .tc .vmem S544x1024 .f32 := win0_2.stage (cfg0.slots t 2)
abbrev whole2 (t : Fin cfg0.N) : (stage2 t).IsWhole := hstage0_2 ((cfg0.slots t 2).cast nbuf0_2)
abbrev stage3 (t : Fin cfg0.N) : Memref sig .tc .vmem S1x1024 .f32 := win0_3.stage (cfg0.slots t 3)
abbrev whole3 (t : Fin cfg0.N) : (stage3 t).IsWhole := hstage0_3 ((cfg0.slots t 3).cast nbuf0_3)
abbrev stage4 (t : Fin cfg0.N) : Memref sig .tc .vmem S4x1024x512 .bf16 := win0_4.stage (cfg0.slots t 4)
abbrev whole4 (t : Fin cfg0.N) : (stage4 t).IsWhole := hstage0_4 ((cfg0.slots t 4).cast nbuf0_4)
abbrev stage5 (t : Fin cfg0.N) : Memref sig .tc .vmem S4x512x1024 .bf16 := win0_5.stage (cfg0.slots t 5)
abbrev whole5 (t : Fin cfg0.N) : (stage5 t).IsWhole := hstage0_5 ((cfg0.slots t 5).cast nbuf0_5)
abbrev stage6 (t : Fin cfg0.N) : Memref sig .tc .vmem S544x2048 .bf16 := win0_6.stage (cfg0.slots t 6)
abbrev whole6 (t : Fin cfg0.N) : (stage6 t).IsWhole := hstage0_6 ((cfg0.slots t 6).cast nbuf0_6)
abbrev stage7 (t : Fin cfg0.N) : Memref sig .tc .vmem S544x1024 .f32 := win0_7.stage (cfg0.slots t 7)
abbrev whole7 (t : Fin cfg0.N) : (stage7 t).IsWhole := hstage0_7 ((cfg0.slots t 7).cast nbuf0_7)
abbrev stage8 (t : Fin cfg0.N) : Memref sig .tc .vmem S1x1024 .f32 := win0_8.stage (cfg0.slots t 8)
abbrev whole8 (t : Fin cfg0.N) : (stage8 t).IsWhole := hstage0_8 ((cfg0.slots t 8).cast nbuf0_8)
abbrev stage9 (t : Fin cfg0.N) : Memref sig .tc .vmem S544x1024 .bf16 := win0_9.stage (cfg0.slots t 9)
abbrev whole9 (t : Fin cfg0.N) : (stage9 t).IsWhole := hstage0_9 ((cfg0.slots t 9).cast nbuf0_9)
abbrev acc : Memref sig .tc .vmem S544x1024 .f32 := Memref.whole cc0_scratch0

variable (m : (ℓ : Loc nD τ sig) → Buf (Elt F) ℓ) (ρ : Dev nD → PrngReg) (c : Dev nD)

/-- The run at a first point, on the inputs' blocks. -/
abbrev first (t : Fin cfg0.N) (h : t.val % 2 = 0) :=
  runFirst (F := F) c (grid0.coords t)
    (stage0 t) (whole0 t) (stage1 t) (whole1 t) (stage2 t) (whole2 t) (stage3 t) (whole3 t) (stage4 t) (whole4 t) (stage5 t) (whole5 t)
    (stage6 t) (whole6 t) (stage7 t) (whole7 t) (stage8 t) (whole8 t) (stage9 t) (whole9 t) acc (Memref.isWhole_whole _)
    (cond_even t h).1 (cond_even t h).2.1 (cond_even t h).2.2 (iblk m c 0 t) (iblk m c 1 t) (iblk m c 4 t) (iblk m c 5 t)

/-- The hidden sums' gradients, the rounded gradient and the accumulator that a first point leaves. -/
def sumsFirst (t : Fin cfg0.N) (h : t.val % 2 = 0) : Vec F S544x2048 .bf16 := View.canon (first m c t h).1
def roundAt (t : Fin cfg0.N) (h : t.val % 2 = 0) : Vec F S544x1024 .bf16 := View.canon (first m c t h).2.1
def accAt (t : Fin cfg0.N) (h : t.val % 2 = 0) : Vec F S544x1024 .f32 := View.canon (first m c t h).2.2.1

/-- The run at the second point of the first block of rows. -/
abbrev second (t : Fin cfg0.N) (h : t.val = 1) :=
  runSecond (F := F) c (grid0.coords t)
    (stage0 t) (whole0 t) (stage1 t) (whole1 t) (stage2 t) (whole2 t) (stage3 t) (whole3 t) (stage4 t) (whole4 t) (stage5 t) (whole5 t)
    (stage6 t) (whole6 t) (stage7 t) (whole7 t) (stage8 t) (whole8 t) (stage9 t) (whole9 t) acc (Memref.isWhole_whole _)
    (cond_odd t (by omega)).1 (cond_odd t (by omega)).2.1 (cond_odd t (by omega)).2.2 (cond_one t h).1 (cond_one t h).2
    (iblk m c 0 t) (iblk m c 1 t) (iblk m c 2 t) (iblk m c 3 t) (iblk m c 4 t) (iblk m c 5 t)
    (roundAt m c (base t) (base_even t)) (accAt m c (base t) (base_even t))

/-- The run at the second point of a later block of rows, from the gain's gradient so far. -/
abbrev third (t : Fin cfg0.N) (h : t.val % 2 = 1) (h1 : t.val ≠ 1) (w : Vec F S1x1024 .f32) :=
  runLater (F := F) c (grid0.coords t)
    (stage0 t) (whole0 t) (stage1 t) (whole1 t) (stage2 t) (whole2 t) (stage3 t) (whole3 t) (stage4 t) (whole4 t) (stage5 t) (whole5 t)
    (stage6 t) (whole6 t) (stage7 t) (whole7 t) (stage8 t) (whole8 t) (stage9 t) (whole9 t) acc (Memref.isWhole_whole _)
    (cond_odd t h).1 (cond_odd t h).2.1 (cond_odd t h).2.2 (cond_later t h h1).1 (cond_later t h h1).2
    (iblk m c 0 t) (iblk m c 1 t) (iblk m c 2 t) (iblk m c 3 t) (iblk m c 4 t) (iblk m c 5 t)
    (roundAt m c (base t) (base_even t)) (accAt m c (base t) (base_even t)) w

/-- The gain's gradient after the points so far. -/
def gain : (n : ℕ) → n < cfg0.N → Vec F S1x1024 .f32
  | 0, h => iblk m c 3 ⟨0, h⟩
  | n + 1, h =>
    if h1 : n + 1 = 1 then View.canon (second m c ⟨n + 1, h⟩ h1).2.2.1
    else if h2 : (n + 1) % 2 = 1 then View.canon (third m c ⟨n + 1, h⟩ h2 h1 (gain n (Nat.lt_of_succ_lt h))).2.2.1
    else gain n (Nat.lt_of_succ_lt h)

abbrev gainAt (t : Fin cfg0.N) : Vec F S1x1024 .f32 := gain m c t.val t.isLt

theorem gain_one (t : Fin cfg0.N) (h : t.val = 1) : gainAt m c t = View.canon (second m c t h).2.2.1 := by
  obtain ⟨n, hn⟩ := t
  match n, hn, h with
  | 1, hn, _ => unfold gainAt; rw [gain, dif_pos rfl]

theorem gain_succ (n : ℕ) (hn : n + 1 < cfg0.N) (h : (n + 1) % 2 = 1) (h1 : n + 1 ≠ 1) :
    gain m c (n + 1) hn = View.canon (third m c ⟨n + 1, hn⟩ h h1 (gain m c n (Nat.lt_of_succ_lt hn))).2.2.1 := by
  rw [gain, dif_neg h1, dif_pos h]

theorem gain_later (t : Fin cfg0.N) (h : t.val % 2 = 1) (h1 : t.val ≠ 1) :
    gainAt m c t = View.canon (third m c t h h1 (gainAt m c (prev t))).2.2.1 := by
  obtain ⟨n, hn⟩ := t
  match n, hn, h, h1 with
  | n + 1, hn, h, h1 =>
    have e : gainAt m c (prev ⟨n + 1, hn⟩) = gain m c n (Nat.lt_of_succ_lt hn) := rfl
    rw [e]
    exact gain_succ m c n hn h h1

theorem gain_even (t : Fin cfg0.N) (h : t.val % 2 = 0) (h0 : t.val ≠ 0) : gainAt m c t = gainAt m c (prev t) := by
  obtain ⟨n, hn⟩ := t
  match n, hn, h, h0 with
  | n + 1, hn, h, h0 =>
    have e1 : ¬n + 1 = 1 := fun e => absurd h (by show ¬(n + 1) % 2 = 0; omega)
    have e2 : ¬(n + 1) % 2 = 1 := fun e => absurd (h.symm.trans e) (by decide)
    show gain m c (n + 1) hn = gain m c n (Nat.lt_of_succ_lt hn)
    rw [gain, dif_neg e1, dif_neg e2]

/-- The hidden sums' gradients and the rows' gradient that a second point leaves. -/
def sumsSecond (t : Fin cfg0.N) (h : t.val % 2 = 1) : Vec F S544x2048 .bf16 :=
  if h1 : t.val = 1 then View.canon (second m c t h1).1 else View.canon (third m c t h h1 (gainAt m c (prev t))).1
def rowsAt (t : Fin cfg0.N) (h : t.val % 2 = 1) : Vec F S544x1024 .f32 :=
  if h1 : t.val = 1 then View.canon (second m c t h1).2.1 else View.canon (third m c t h h1 (gainAt m c (prev t))).2.1

/-- Every piece list covers its buffer. -/
theorem cover_sumsFirst (t : Fin cfg0.N) (h : t.val % 2 = 0) (y : S544x2048.Idx) : ∃ p ∈ (first m c t h).1, y ∈ p.1.set :=
  View.cover_of_tiledL (first m c t h).1 S544x512.size (by sl_kernel_rfl) y
theorem cover_round (t : Fin cfg0.N) (h : t.val % 2 = 0) (y : S544x1024.Idx) : ∃ p ∈ (first m c t h).2.1, y ∈ p.1.set :=
  View.cover_of_tiledL (first m c t h).2.1 S544x1024.size (by sl_kernel_rfl) y
theorem cover_acc (t : Fin cfg0.N) (h : t.val % 2 = 0) (y : S544x1024.Idx) : ∃ p ∈ (first m c t h).2.2.1, y ∈ p.1.set :=
  View.cover_of_tiledL (first m c t h).2.2.1 S544x1024.size (by sl_kernel_rfl) y
theorem cover_sumsOne (t : Fin cfg0.N) (h : t.val = 1) (y : S544x2048.Idx) : ∃ p ∈ (second m c t h).1, y ∈ p.1.set :=
  View.cover_of_tiledL (second m c t h).1 S544x512.size (by sl_kernel_rfl) y
theorem cover_rowsOne (t : Fin cfg0.N) (h : t.val = 1) (y : S544x1024.Idx) : ∃ p ∈ (second m c t h).2.1, y ∈ p.1.set :=
  View.cover_of_tiledL (second m c t h).2.1 S544x1024.size (by sl_kernel_rfl) y
theorem cover_gainOne (t : Fin cfg0.N) (h : t.val = 1) (y : S1x1024.Idx) : ∃ p ∈ (second m c t h).2.2.1, y ∈ p.1.set :=
  View.cover_of_tiledL (second m c t h).2.2.1 S1x1024.size (by sl_kernel_rfl) y
theorem cover_sumsLater (t : Fin cfg0.N) (h : t.val % 2 = 1) (h1 : t.val ≠ 1) (w : Vec F S1x1024 .f32) (y : S544x2048.Idx) :
    ∃ p ∈ (third m c t h h1 w).1, y ∈ p.1.set :=
  View.cover_of_tiledL (third m c t h h1 w).1 S544x512.size (by sl_kernel_rfl) y
theorem cover_rowsLater (t : Fin cfg0.N) (h : t.val % 2 = 1) (h1 : t.val ≠ 1) (w : Vec F S1x1024 .f32) (y : S544x1024.Idx) :
    ∃ p ∈ (third m c t h h1 w).2.1, y ∈ p.1.set :=
  View.cover_of_tiledL (third m c t h h1 w).2.1 S544x1024.size (by sl_kernel_rfl) y
theorem cover_gainLater (t : Fin cfg0.N) (h : t.val % 2 = 1) (h1 : t.val ≠ 1) (w : Vec F S1x1024 .f32) (y : S1x1024.Idx) :
    ∃ p ∈ (third m c t h h1 w).2.2.1, y ∈ p.1.set :=
  View.cover_of_tiledL (third m c t h h1 w).2.2.1 S1x1024.size (by sl_kernel_rfl) y

/-! ## What the buffers hold after each point -/

/-- Between the two points of a block of rows the accumulator holds what the first left; elsewhere anything. -/
def between (n : ℕ) (hn : n ≤ cfg0.N) : sProp 𝕄 :=
  if h : n % 2 = 1 then
    iprop(iprop(owns (c : Thread nD τ) acc fullShare (accAt m c (base ⟨n - 1, by omega⟩) (base_even _))) ∗ (∃ r, prngReg c r))
  else Pipeline.ΦA spec0 c

theorem between_even (n : ℕ) (hn : n ≤ cfg0.N) (h : n % 2 = 0) : between m c n hn = Pipeline.ΦA spec0 c := dif_neg (by omega)

theorem between_odd (n : ℕ) (hn : n ≤ cfg0.N) (h : n % 2 = 1) : between m c n hn =
    iprop(iprop(owns (c : Thread nD τ) acc fullShare (accAt m c (base ⟨n - 1, by omega⟩) (base_even _))) ∗ (∃ r, prngReg c r)) := dif_pos h

/-- The launch's set-up: the arrays as the region finds them, the buffers after each point, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => if h : t.val % 2 = 1 then sumsSecond m c t h else sumsFirst m c t (by omega)
    | ⟨7, _⟩ => if h : t.val % 2 = 1 then rowsAt m c t h else accAt m c t (by omega)
    | ⟨8, _⟩ => gainAt m c t
    | ⟨9, _⟩ => roundAt m c (base t) (base_even t)
  Φ t := between m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) :
    (dats m 0 c).after 6 t = if h : t.val % 2 = 1 then sumsSecond m c t h else sumsFirst m c t (by omega) := by dsimp only [dats]
theorem after_7 (t : Fin cfg0.N) :
    (dats m 0 c).after 7 t = if h : t.val % 2 = 1 then rowsAt m c t h else accAt m c t (by omega) := by dsimp only [dats]
theorem after_8 (t : Fin cfg0.N) : (dats m 0 c).after 8 t = gainAt m c t := by dsimp only [dats]
theorem after_9 (t : Fin cfg0.N) : (dats m 0 c).after 9 t = roundAt m c (base t) (base_even t) := by dsimp only [dats]

theorem before_0 (t : Fin cfg0.N) (d) : (dats m 0 c).before 0 t d = iblk m c 0 t := before0_0_of m (dats m 0 c) (A_eq m c 0) (after_0 m c) t d
theorem before_1 (t : Fin cfg0.N) (d) : (dats m 0 c).before 1 t d = iblk m c 1 t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d
theorem before_4 (t : Fin cfg0.N) (d) : (dats m 0 c).before 4 t d = iblk m c 4 t := before0_4_of m (dats m 0 c) (A_eq m c 4) (after_4 m c) t d
theorem before_5 (t : Fin cfg0.N) (d) : (dats m 0 c).before 5 t d = iblk m c 5 t := before0_5_of m (dats m 0 c) (A_eq m c 5) (after_5 m c) t d

/-! ## The results that are carried -/

theorem idle_even : ∀ t : Fin cfg0.N, t.val % 2 = 0 →
    cfg0.idle 7 (grid0.coords t) = true ∧ cfg0.idle 8 (grid0.coords t) = true ∧ cfg0.idle 9 (grid0.coords t) = false := by decide +kernel

theorem idle_odd : ∀ t : Fin cfg0.N, t.val % 2 = 1 →
    cfg0.idle 7 (grid0.coords t) = false ∧ cfg0.idle 8 (grid0.coords t) = false ∧ cfg0.idle 9 (grid0.coords t) = true := by decide +kernel

theorem fresh_8 : ∀ n, n ≤ cfg0.N → cfg0.fresh 8 n = decide (n ≤ 1 ∨ n = 8) :=
  Pipeline.Cfg.fresh_tab cfg0 8 (fun n => decide (n ≤ 1 ∨ n = 8)) rfl (by decide +kernel)

theorem fresh_9 : ∀ n, n ≤ cfg0.N → cfg0.fresh 9 n = decide (n % 2 = 0) :=
  Pipeline.Cfg.fresh_tab cfg0 9 (fun n => decide (n % 2 = 0)) rfl (by decide +kernel)

theorem before_8 (t : Fin cfg0.N) (h : t.val % 2 = 1) (h1 : t.val ≠ 1) (d) : (dats m 0 c).before 8 t d = gainAt m c (prev t) := by
  have hN : cfg0.N = 8 := N_0
  have ht := t.isLt
  rw [Dat.before_out_traj _ 8 rfl (fun _ _ => rfl) (fun u h0 hi _ => ?_) t.val t rfl d, if_neg, after_8]
  · rfl
  · rw [fresh_8 _ (Nat.le_of_lt t.isLt), decide_eq_true_eq]; omega
  · rw [after_8, after_8]
    refine gain_even m c u ?_ h0
    by_contra hu
    exact absurd (hi.symm.trans (idle_odd u (by omega)).2.1) (by decide)

theorem before_9 (t : Fin cfg0.N) (h : t.val % 2 = 1) (d) : (dats m 0 c).before 9 t d = roundAt m c (base t) (base_even t) := by
  have hs : ∀ u : Fin cfg0.N, u.val % 2 = 1 → (dats m 0 c).after 9 u = (dats m 0 c).after 9 (prev u) := fun u hu => by
    rw [after_9, after_9]; exact at_congr (roundAt m c) (base_prev u hu).symm _ _
  rw [Dat.before_out_traj _ 9 rfl (fun _ _ => rfl) (fun u h0 hi _ => ?_) t.val t rfl d, if_neg]
  · exact (hs t h).symm.trans (after_9 m c t)
  · rw [fresh_9 _ (Nat.le_of_lt t.isLt), decide_eq_true_eq]; omega
  · refine hs u ?_
    by_contra hu
    exact absurd (hi.symm.trans (idle_even u (by omega)).2.2) (by decide)

end Cert.MlpBacks

end
-- ==== Proof.MlpBack.Frame.lean ====
/-
  The body's triple at the three kinds of points of the MLP's backward pass, its run over any element values, and its frame.
-/
module

public import proofs.«01_k».proof.Proof.MlpBack.Contents

@[expose] public section

set_option maxRecDepth 16384

noncomputable section

namespace Cert.MlpBacks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpBackIdeal Cert.MlpBackIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The body at every point -/

theorem rest_eq :
    (Pipeline.ΦA spec0 c : sProp 𝕄) = iprop(iprop((∃ d, owns (c : Thread nD τ) acc fullShare d)) ∗ (∃ r, prngReg c r)) := by
  unfold Pipeline.ΦA; rw [scopedRest0_eq]; simp only [acc, owns_whole]; try rfl

/-- Pieces that cover a buffer leave it at their canonical contents. -/
theorem owns_of_pieces {s : Shape} {e : EltTy} (a : Memref sig .tc .vmem s e) (f : a.view.ty.Contents (Elt F)) (L : List (View.Piece (Elt F) s e))
    (hc : ∀ y, ∃ p ∈ L, y ∈ p.1.set) :
    (a.view.loc (c : Thread nD τ) ↦[a.view.set]{fullShare} a.view.writes (Elt F) f L : sProp 𝕄) ⊢ owns (c : Thread nD τ) a fullShare (View.canon L) := by
  unfold owns
  iintro H
  iexists _; isplitr
  swap; · iexact H
  ipureintro
  exact View.read_writes_eq_canon _ _ _ hc

def bodyPre (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare ((dats m 0 c).before 8 t d))
    ∗ (∃ d, owns (c : Thread nD τ) (stage9 t) fullShare ((dats m 0 c).before 9 t d)))

def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- A buffer that is live at a point, or written back there, is left at its contents. -/
theorem leaves_live (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

theorem leaves_flush (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h, hf]

/-! ### What each buffer is left at -/

theorem left_0 (t : Fin cfg0.N) : (dats m 0 c).leavesExact 0 t = owns (c : Thread nD τ) (stage0 t) fullShare (iblk m c 0 t) := by
  rw [leaves_live m c 0 t rfl, after_0]
theorem left_1 (t : Fin cfg0.N) : (dats m 0 c).leavesExact 1 t = owns (c : Thread nD τ) (stage1 t) fullShare (iblk m c 1 t) := by
  rw [leaves_live m c 1 t rfl, after_1]
theorem left_2 (t : Fin cfg0.N) : (dats m 0 c).leavesExact 2 t = owns (c : Thread nD τ) (stage2 t) fullShare (iblk m c 2 t) := by
  rw [leaves_live m c 2 t rfl, after_2]
theorem left_3 (t : Fin cfg0.N) : (dats m 0 c).leavesExact 3 t = owns (c : Thread nD τ) (stage3 t) fullShare (iblk m c 3 t) := by
  rw [leaves_live m c 3 t rfl, after_3]
theorem left_4 (t : Fin cfg0.N) : (dats m 0 c).leavesExact 4 t = owns (c : Thread nD τ) (stage4 t) fullShare (iblk m c 4 t) := by
  rw [leaves_live m c 4 t rfl, after_4]
theorem left_5 (t : Fin cfg0.N) : (dats m 0 c).leavesExact 5 t = owns (c : Thread nD τ) (stage5 t) fullShare (iblk m c 5 t) := by
  rw [leaves_live m c 5 t rfl, after_5]
theorem left_even_6 (t : Fin cfg0.N) (h : t.val % 2 = 0) :
    (dats m 0 c).leavesExact 6 t = owns (c : Thread nD τ) (stage6 t) fullShare (sumsFirst m c t h) := by
  rw [leaves_live m c 6 t rfl, after_6, dif_neg (by omega)]
theorem left_odd_6 (t : Fin cfg0.N) (h : t.val % 2 = 1) :
    (dats m 0 c).leavesExact 6 t = owns (c : Thread nD τ) (stage6 t) fullShare (sumsSecond m c t h) := by
  rw [leaves_live m c 6 t rfl, after_6, dif_pos h]
theorem left_even_7 (t : Fin cfg0.N) (h : t.val % 2 = 0) :
    (dats m 0 c).leavesExact 7 t = iprop(∃ d, owns (c : Thread nD τ) (stage7 t) fullShare ((dats m 0 c).before 7 t d)) :=
  Dat.leavesExact_idle (dats m 0 c) 7 t (idle_even t h).1 (Bool.eq_false_iff.mpr fun hf => absurd ((flush0_7 t).mp hf) (by omega))
theorem left_even_8 (t : Fin cfg0.N) (h : t.val % 2 = 0) :
    (dats m 0 c).leavesExact 8 t = iprop(∃ d, owns (c : Thread nD τ) (stage8 t) fullShare ((dats m 0 c).before 8 t d)) :=
  Dat.leavesExact_idle (dats m 0 c) 8 t (idle_even t h).2.1 (Bool.eq_false_iff.mpr fun hf => absurd ((flush0_8 t).mp hf) (by omega))
theorem left_odd_7 (t : Fin cfg0.N) (h : t.val % 2 = 1) :
    (dats m 0 c).leavesExact 7 t = owns (c : Thread nD τ) (stage7 t) fullShare (rowsAt m c t h) := by
  rw [leaves_live m c 7 t (idle_odd t h).1, after_7, dif_pos h]
theorem left_odd_8 (t : Fin cfg0.N) (h : t.val % 2 = 1) :
    (dats m 0 c).leavesExact 8 t = owns (c : Thread nD τ) (stage8 t) fullShare (gainAt m c t) := by
  rw [leaves_live m c 8 t (idle_odd t h).2.1, after_8]
theorem left_even_9 (t : Fin cfg0.N) (h : t.val % 2 = 0) :
    (dats m 0 c).leavesExact 9 t = owns (c : Thread nD τ) (stage9 t) fullShare (roundAt m c t h) := by
  rw [leaves_live m c 9 t (idle_even t h).2.2, after_9, at_congr (roundAt m c) (base_of_even t h) _ h]
theorem left_odd_9 (t : Fin cfg0.N) (h : t.val % 2 = 1) :
    (dats m 0 c).leavesExact 9 t = owns (c : Thread nD τ) (stage9 t) fullShare (roundAt m c (base t) (base_even t)) := by
  rw [leaves_flush m c 9 t (idle_odd t h).2.2 ((flush0_9 t).mpr h), after_9]

theorem between_after_first (t : Fin cfg0.N) (h : t.val % 2 = 0) : (dats m 0 c).Φ t.succ =
    iprop(iprop(owns (c : Thread nD τ) acc fullShare (accAt m c t h)) ∗ (∃ r, prngReg c r)) := by
  rw [show (dats m 0 c).Φ t.succ = between m c (t.val + 1) t.isLt from rfl, between_odd m c _ _ (by omega),
    at_congr (accAt m c) (show base ⟨t.val + 1 - 1, by omega⟩ = t from base_of_even t h) _ h]
theorem between_before_second (t : Fin cfg0.N) (h : t.val % 2 = 1) : (dats m 0 c).Φ t.castSucc =
    iprop(iprop(owns (c : Thread nD τ) acc fullShare (accAt m c (base t) (base_even t))) ∗ (∃ r, prngReg c r)) := by
  rw [show (dats m 0 c).Φ t.castSucc = between m c t.val (Nat.le_of_lt t.isLt) from rfl, between_odd m c _ _ h,
    at_congr (accAt m c) (show base ⟨t.val - 1, by omega⟩ = base t from base_prev t h) _ (base_even t)]
theorem between_before_first (t : Fin cfg0.N) (h : t.val % 2 = 0) : (dats m 0 c).Φ t.castSucc =
    iprop(iprop((∃ d, owns (c : Thread nD τ) acc fullShare d)) ∗ (∃ r, prngReg c r)) := by
  rw [show (dats m 0 c).Φ t.castSucc = between m c t.val (Nat.le_of_lt t.isLt) from rfl, between_even m c _ _ h, rest_eq]
theorem between_after_second (t : Fin cfg0.N) (h : t.val % 2 = 1) : (dats m 0 c).Φ t.succ =
    iprop(iprop((∃ d, owns (c : Thread nD τ) acc fullShare d)) ∗ (∃ r, prngReg c r)) := by
  rw [show (dats m 0 c).Φ t.succ = between m c (t.val + 1) t.isLt from rfl, between_even m c _ _ (by omega), rest_eq]

theorem own_sumsFirst (t : Fin cfg0.N) (h : t.val % 2 = 0) (f : (stage6 t).view.ty.Contents (Elt F)) :
    ((stage6 t).view.loc (c : Thread nD τ) ↦[(stage6 t).view.set]{fullShare} (stage6 t).view.writes (Elt F) f (first m c t h).1 : sProp 𝕄)
      ⊢ owns (c : Thread nD τ) (stage6 t) fullShare (sumsFirst m c t h) := owns_of_pieces c (stage6 t) f _ (cover_sumsFirst m c t h)
theorem own_round (t : Fin cfg0.N) (h : t.val % 2 = 0) (f : (stage9 t).view.ty.Contents (Elt F)) :
    ((stage9 t).view.loc (c : Thread nD τ) ↦[(stage9 t).view.set]{fullShare} (stage9 t).view.writes (Elt F) f (first m c t h).2.1 : sProp 𝕄)
      ⊢ owns (c : Thread nD τ) (stage9 t) fullShare (roundAt m c t h) := owns_of_pieces c (stage9 t) f _ (cover_round m c t h)
theorem own_acc (t : Fin cfg0.N) (h : t.val % 2 = 0) (f : acc.view.ty.Contents (Elt F)) :
    (acc.view.loc (c : Thread nD τ) ↦[acc.view.set]{fullShare} acc.view.writes (Elt F) f (first m c t h).2.2.1 : sProp 𝕄)
      ⊢ owns (c : Thread nD τ) acc fullShare (accAt m c t h) := owns_of_pieces c acc f _ (cover_acc m c t h)
theorem own_sumsOne (t : Fin cfg0.N) (h1 : t.val = 1) (h : t.val % 2 = 1) (f : (stage6 t).view.ty.Contents (Elt F)) :
    ((stage6 t).view.loc (c : Thread nD τ) ↦[(stage6 t).view.set]{fullShare} (stage6 t).view.writes (Elt F) f (second m c t h1).1 : sProp 𝕄)
      ⊢ owns (c : Thread nD τ) (stage6 t) fullShare (sumsSecond m c t h) := by
  rw [sumsSecond, dif_pos h1]
  exact owns_of_pieces c (stage6 t) f _ (cover_sumsOne m c t h1)
theorem own_rowsOne (t : Fin cfg0.N) (h1 : t.val = 1) (h : t.val % 2 = 1) (f : (stage7 t).view.ty.Contents (Elt F)) :
    ((stage7 t).view.loc (c : Thread nD τ) ↦[(stage7 t).view.set]{fullShare} (stage7 t).view.writes (Elt F) f (second m c t h1).2.1 : sProp 𝕄)
      ⊢ owns (c : Thread nD τ) (stage7 t) fullShare (rowsAt m c t h) := by
  rw [rowsAt, dif_pos h1]
  exact owns_of_pieces c (stage7 t) f _ (cover_rowsOne m c t h1)
theorem own_gainOne (t : Fin cfg0.N) (h1 : t.val = 1) (h : t.val % 2 = 1) (f : (stage8 t).view.ty.Contents (Elt F)) :
    ((stage8 t).view.loc (c : Thread nD τ) ↦[(stage8 t).view.set]{fullShare} (stage8 t).view.writes (Elt F) f (second m c t h1).2.2.1 : sProp 𝕄)
      ⊢ owns (c : Thread nD τ) (stage8 t) fullShare (gainAt m c t) := by
  rw [gain_one m c t h1]
  exact owns_of_pieces c (stage8 t) f _ (cover_gainOne m c t h1)
theorem own_sumsLater (t : Fin cfg0.N) (h : t.val % 2 = 1) (h1 : t.val ≠ 1) (f : (stage6 t).view.ty.Contents (Elt F)) :
    ((stage6 t).view.loc (c : Thread nD τ) ↦[(stage6 t).view.set]{fullShare} (stage6 t).view.writes (Elt F) f (third m c t h h1 (gainAt m c (prev t))).1 : sProp 𝕄)
      ⊢ owns (c : Thread nD τ) (stage6 t) fullShare (sumsSecond m c t h) := by
  rw [sumsSecond, dif_neg h1]
  exact owns_of_pieces c (stage6 t) f _ (cover_sumsLater m c t h h1 _)
theorem own_rowsLater (t : Fin cfg0.N) (h : t.val % 2 = 1) (h1 : t.val ≠ 1) (f : (stage7 t).view.ty.Contents (Elt F)) :
    ((stage7 t).view.loc (c : Thread nD τ) ↦[(stage7 t).view.set]{fullShare} (stage7 t).view.writes (Elt F) f (third m c t h h1 (gainAt m c (prev t))).2.1 : sProp 𝕄)
      ⊢ owns (c : Thread nD τ) (stage7 t) fullShare (rowsAt m c t h) := by
  rw [rowsAt, dif_neg h1]
  exact owns_of_pieces c (stage7 t) f _ (cover_rowsLater m c t h h1 _)
theorem own_gainLater (t : Fin cfg0.N) (h : t.val % 2 = 1) (h1 : t.val ≠ 1) (f : (stage8 t).view.ty.Contents (Elt F)) :
    ((stage8 t).view.loc (c : Thread nD τ) ↦[(stage8 t).view.set]{fullShare} (stage8 t).view.writes (Elt F) f (third m c t h h1 (gainAt m c (prev t))).2.2.1 : sProp 𝕄)
      ⊢ owns (c : Thread nD τ) (stage8 t) fullShare (gainAt m c t) := by
  rw [gain_later m c t h h1]
  exact owns_of_pieces c (stage8 t) f _ (cover_gainLater m c t h h1 _)

set_option maxHeartbeats 1000000 in
theorem body_first (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl, between_before_first m c t h, between_after_first m c t h]
  rw [left_0, left_1, left_2, left_3, left_4, left_5, left_even_6 m c t h, left_even_7 m c t h, left_even_8 m c t h,
    left_even_9 m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((first m c t h).2.2.2 Set.univ _)
  isplitl [H0]; · iexact H0
  isplitl [H1]; · iexact H1
  isplitl [H4]; · iexact H4
  isplitl [H5]; · iexact H5
  isplitl [H6]; · iexists _; iexact H6
  isplitl [H9]; · iexists _; iexact H9
  isplitl [HS]; · iexact HS
  iintro ⟨H0, H1, H4, H5, ⟨%e6, H6⟩, ⟨%e9, H9⟩, ⟨%es, HS⟩⟩
  isplitl [HS Hg]
  · isplitl [HS]
    · iapply (own_acc m c t h es); iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (own_sumsFirst m c t h e6); iexact H6
  isplitl [H7]; · iexists _; iexact H7
  isplitl [H8]; · iexists _; iexact H8
  iapply (own_round m c t h e9); iexact H9

set_option maxHeartbeats 1000000 in
theorem body_second (t : Fin cfg0.N) (h1 : t.val = 1) (h : t.val % 2 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_9 m c t h]
  rw [show (dats m 0 c).owesAt () t.succ = (dats m 0 c).owesAt () t.castSucc from rfl, between_before_second m c t h, between_after_second m c t h]
  rw [left_0, left_1, left_2, left_3, left_4, left_5, left_odd_6 m c t h, left_odd_7 m c t h, left_odd_8 m c t h,
    left_odd_9 m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((second m c t h1).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H9]; · iexact H9
  isplitl [HS]; · iexact HS
  isplitl [H6]; · iexists _; iexact H6
  isplitl [H7]; · iexists _; iexact H7
  isplitl [H8]; · iexists _; iexact H8
  iintro ⟨H0, H1, H2, H3, H4, H5, H9, ⟨%e6, H6⟩, ⟨%e7, H7⟩, ⟨%e8, H8⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (own_sumsOne m c t h1 h e6); iexact H6
  isplitl [H7]; · iapply (own_rowsOne m c t h1 h e7); iexact H7
  isplitl [H8]; · iapply (own_gainOne m c t h1 h e8); iexact H8
  iexact H9

set_option maxHeartbeats 1000000 in
theorem body_third (t : Fin cfg0.N) (h : t.val % 2 = 1) (h1 : t.val ≠ 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_8 m c t h h1, before_9 m c t h]
  rw [show (dats m 0 c).owesAt () t.succ = (dats m 0 c).owesAt () t.castSucc from rfl, between_before_second m c t h, between_after_second m c t h]
  rw [left_0, left_1, left_2, left_3, left_4, left_5, left_odd_6 m c t h, left_odd_7 m c t h, left_odd_8 m c t h,
    left_odd_9 m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((third m c t h h1 (gainAt m c (prev t))).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H9]; · iexact H9
  isplitl [HS]; · iexact HS
  isplitl [H8]; · iexact H8
  isplitl [H6]; · iexists _; iexact H6
  isplitl [H7]; · iexists _; iexact H7
  iintro ⟨H0, H1, H2, H3, H4, H5, H9, ⟨%e6, H6⟩, ⟨%e7, H7⟩, ⟨%e8, H8⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (own_sumsLater m c t h h1 e6); iexact H6
  isplitl [H7]; · iapply (own_rowsLater m c t h h1 e7); iexact H7
  isplitl [H8]; · iapply (own_gainLater m c t h h1 e8); iexact H8
  iexact H9

/-! ## The run and the frame -/

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  rcases Nat.mod_two_eq_zero_or_one t.val with h | h
  · exact triple_restated (body_first m c t h) rfl .rfl fun _ => .rfl
  · by_cases h1 : t.val = 1
    · exact triple_restated (body_second m c t h1 h) rfl .rfl fun _ => .rfl
    · exact triple_restated (body_third m c t h h1) rfl .rfl fun _ => .rfl

theorem hin : Pipeline.ΦA spec0 c ⊢ (dats m 0 c).Φ 0 := by
  rw [show (dats m 0 c).Φ 0 = between m c 0 (Nat.zero_le _) from rfl, between_even m c 0 _ rfl]

theorem hout : (dats m 0 c).Φ (Fin.last cfg0.N) ⊢ Pipeline.ΦA spec0 c := by
  rw [show (dats m 0 c).Φ (Fin.last cfg0.N) = between m c cfg0.N (Nat.le_refl _) from rfl, between_even m c _ _ (by rw [show cfg0.N = 8 from N_0])]

set_option backward.isDefEq.respectTransparency.types false in
/-- Every execution ends with the pipeline's arrays at what the proof data says, and every counter at zero. -/
theorem run_quiescent :
    θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.MlpBacks

end
-- ==== Proof.MlpBack.Norm.lean ====
/-
  The backward pass of a norm on the extended reals. A row is divided by the root of its mean square (plus a small constant); the gradient of the row, as the
  chain rule writes it step by step, is the closed form with one mean. No entry has to be finite: the mean square is either a positive real, whose root
  distributes over sums, or infinite, and then the inverse root is zero and both forms add nothing.
-/
module

public import Idealize.ShloMosaic.Lib.Pipeline.ValueKit

@[expose] public section

noncomputable section

namespace Cert.NormBack

open Idealize.ShloMosaic

theorem k1024 : Ideal.ofBits FTy.f32 1149239296#32 = ((1024 : ℝ) : EReal) := by
  simp [Ideal.ofBits, Ideal.ieee, -EReal.coe_mul]; norm_num

theorem k512 : Ideal.ofBits FTy.f32 1140850688#32 = ((512 : ℝ) : EReal) := by
  simp [Ideal.ofBits, Ideal.ieee, -EReal.coe_mul]; norm_num

theorem minusHalf : Ideal.ofBits FTy.f32 3204448256#32 = ((-(1 / 2) : ℝ) : EReal) := by
  simp [Ideal.ofBits, Ideal.ieee, -EReal.coe_mul, -EReal.coe_neg]; norm_num

theorem two : Ideal.ofBits FTy.f32 1073741824#32 = ((2 : ℝ) : EReal) := by
  simp [Ideal.ofBits, Ideal.ieee, -EReal.coe_mul]; norm_num

theorem tiny : ∃ x : ℝ, 0 < x ∧ Ideal.ofBits FTy.f32 897988541#32 = (x : EReal) := by
  refine ⟨8796093 * (2 : ℝ) ^ (-43 : ℤ), by positivity, ?_⟩
  simp [Ideal.ofBits, Ideal.ieee, -EReal.coe_mul]

/-- A row's mean square, plus the small constant. -/
def square {n : ℕ} (k : BitVec 32) (h : Fin n → EReal) : EReal :=
  Ideal.div (∑ x, h x * h x) (Ideal.ofBits FTy.f32 k) + Ideal.ofBits FTy.f32 897988541#32

/-- The inverse of its root. -/
def root {n : ℕ} (k : BitVec 32) (h : Fin n → EReal) : EReal := Ideal.rsqrt (square k h)

/-- The closed form: the gradient `a` of the normed and scaled row, brought back to the row. -/
def closed {n : ℕ} (k : BitVec 32) (h g a : Fin n → EReal) (e : Fin n) : EReal :=
  root k h * (a e * g e - h e * root k h * Ideal.div (∑ x, a x * g x * (h x * root k h)) (Ideal.ofBits FTy.f32 k))

/-- The gradient of the mean square, as the chain rule finds it. -/
def slope {n : ℕ} (k : BitVec 32) (h g a : Fin n → EReal) : EReal :=
  Ideal.div ((∑ x, h x * (a x * g x)) * (Ideal.ofBits FTy.f32 3204448256#32 * Ideal.div (root k h) (square k h))) (Ideal.ofBits FTy.f32 k)

theorem mul_sum {n : ℕ} (r : ℝ) (hr : 0 ≤ r) (f : Fin n → EReal) : ∑ x, f x * (r : EReal) = (∑ x, f x) * (r : EReal) := by
  have h0 : (0 : EReal) ≤ (r : EReal) := by exact_mod_cast hr
  have : ∀ s : Finset (Fin n), ∑ x ∈ s, f x * (r : EReal) = (∑ x ∈ s, f x) * (r : EReal) := by
    intro s
    induction s using Finset.induction_on with
    | empty => simp
    | insert a s ha ih => rw [Finset.sum_insert ha, Finset.sum_insert ha, ih, EReal.right_distrib_of_nonneg_of_ne_top h0 (EReal.coe_ne_top r)]
  exact this _

theorem square_nonneg (x : EReal) : 0 ≤ x * x := by
  rcases le_total 0 x with h | h
  · exact mul_nonneg h h
  · have := EReal.neg_le_neg_iff.mpr h
    rw [neg_zero] at this
    have h2 := mul_nonneg this this
    rwa [neg_mul_neg] at h2

theorem div_coe (x : EReal) (k : ℝ) (hk : k ≠ 0) : Ideal.div x (k : EReal) = x * ((k⁻¹ : ℝ) : EReal) := by
  unfold Ideal.div
  rw [if_neg (by exact_mod_cast hk), EReal.coe_inv]

/-- Doubling a product with a negative real. -/
theorem double_neg (p : EReal) (c : ℝ) (hc : 0 < c) : p * ((-c : ℝ) : EReal) + p * ((-c : ℝ) : EReal) = -(p * ((2 * c : ℝ) : EReal)) := by
  induction p with
  | bot => rw [EReal.bot_mul_coe_of_neg (by linarith), EReal.bot_mul_coe_of_pos (by linarith)]; rfl
  | top => rw [EReal.top_mul_coe_of_neg (by linarith), EReal.top_mul_coe_of_pos (by linarith)]; rfl
  | coe x => norm_cast; ring

/-- The mean square is infinite or a positive real. -/
theorem square_cases {n : ℕ} (k : BitVec 32) (κ : ℝ) (hκ : 0 < κ) (hk : Ideal.ofBits FTy.f32 k = (κ : EReal)) (h : Fin n → EReal) :
    square k h = ⊤ ∨ ∃ x : ℝ, 0 < x ∧ square k h = (x : EReal) := by
  obtain ⟨ε, hε, he⟩ := tiny
  have h0 : (ε : EReal) ≤ square k h := by
    unfold square
    rw [he, hk, div_coe _ _ hκ.ne']
    refine le_add_of_nonneg_left (mul_nonneg (Finset.sum_nonneg fun x _ => square_nonneg _) ?_)
    exact_mod_cast (inv_pos.mpr hκ).le
  generalize square k h = s at h0
  induction s with
  | bot => exact absurd h0 (by simp)
  | top => exact Or.inl rfl
  | coe x => exact Or.inr ⟨x, lt_of_lt_of_le hε (by exact_mod_cast h0), rfl⟩

/-- The chain rule's sum is the closed form. -/
theorem chain_eq {n : ℕ} (k : BitVec 32) (κ : ℝ) (hκ : 0 < κ) (hk : Ideal.ofBits FTy.f32 k = (κ : EReal)) (h g a : Fin n → EReal) (e : Fin n) :
    a e * g e * root k h + h e * slope k h g a + slope k h g a * h e = closed k h g a e := by
  have hc : ∀ x : Fin n, a x * g x * (h x * root k h) = h x * (a x * g x) * root k h := fun x => by
    rw [← mul_assoc, mul_comm (a x * g x) (h x)]
  unfold closed
  simp only [hc]
  unfold slope
  rcases square_cases k κ hκ hk h with hs | ⟨x, hx, hs⟩
  · have hr : root k h = 0 := by unfold root; rw [hs]; rfl
    rw [hr, hs, hk, div_coe _ _ hκ.ne']
    have h0 : Ideal.div 0 ⊤ = 0 := by unfold Ideal.div; simp
    rw [h0]
    simp
  · have hr : root k h = (((Real.sqrt x)⁻¹ : ℝ) : EReal) := by
      unfold root; rw [hs]
      show (if x < 0 then ⊥ else if x = 0 then ⊤ else (((Real.sqrt x)⁻¹ : ℝ) : EReal)) = _
      rw [if_neg (by linarith), if_neg (by linarith)]
    have hp : 0 < (Real.sqrt x)⁻¹ := inv_pos.mpr (Real.sqrt_pos.mpr hx)
    have hx' : x⁻¹ = (Real.sqrt x)⁻¹ * (Real.sqrt x)⁻¹ := by rw [← mul_inv, Real.mul_self_sqrt hx.le]
    rw [hr, hs, hk, minusHalf, div_coe _ _ hκ.ne', div_coe _ _ hκ.ne', div_coe _ _ hx.ne', hx']
    generalize (Real.sqrt x)⁻¹ = r at hp
    rw [mul_sum r hp.le]
    generalize ∑ x, h x * (a x * g x) = T
    have h0 : (0 : EReal) ≤ (r : EReal) := by exact_mod_cast hp.le
    rw [EReal.mul_sub_of_nonneg_of_ne_top h0 (EReal.coe_ne_top r), mul_comm (r : EReal) (a e * g e), sub_eq_add_neg, add_assoc]
    congr 1
    have e1 : T * (((-(1 / 2) : ℝ) : EReal) * ((r : EReal) * ((r * r : ℝ) : EReal))) * ((κ⁻¹ : ℝ) : EReal) = T * ((-(r * r * r * κ⁻¹ / 2) : ℝ) : EReal) := by
      rw [mul_assoc, ← EReal.coe_mul, ← EReal.coe_mul, ← EReal.coe_mul]
      congr 2; ring
    have e2 : (r : EReal) * (h e * (r : EReal) * (T * (r : EReal) * ((κ⁻¹ : ℝ) : EReal))) = h e * T * ((2 * (r * r * r * κ⁻¹ / 2) : ℝ) : EReal) := by
      have : (r : EReal) * (h e * (r : EReal) * (T * (r : EReal) * ((κ⁻¹ : ℝ) : EReal))) = h e * T * ((r : EReal) * ((r : EReal) * ((r : EReal) * ((κ⁻¹ : ℝ) : EReal)))) := by
        ac_rfl
      rw [this, ← EReal.coe_mul, ← EReal.coe_mul, ← EReal.coe_mul]
      congr 2; ring
    rw [e1, e2, mul_comm (T * _) (h e), ← mul_assoc, double_neg _ _ (by positivity)]

end Cert.NormBack

end
-- ==== Proof.OutMlp.Body.lean ====
/-
  The body of the call that closes the block (output projection, norm and MLP), run once for each half of the hidden units.

  At the first half it stores the mixed rows, the new rows and the normed rows, and opens the accumulator; at both it stores its hidden values and adds
  their products to the accumulator; at the second it stores the accumulator as the block's output. The pieces that each buffer ends with are found by
  running the printed body, over any element values.
-/
module

public import proofs.«01_k».proof.Proof.Gen.OutMlpIdeal.Frame
public import proofs.«01_k».proof.Proof.Gen.OutMlpIdeal.Skeleton
public import Idealize.ShloMosaic.Lib.Pipeline.FrameBody
public import Idealize.ShloMosaic.Lib.Ring
public import Idealize.ShloMosaic.Lib.Tactic

@[expose] public section

set_option maxRecDepth 16384

noncomputable section

namespace Cert.OutMlps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OutMlpIdeal Cert.OutMlpIdeal.Gen

variable {F : FTy → Type} [FloatOps F]

local notation "𝕄" => MT nD τ sig Unit (Elt F) ℕ (UR sig nD τ) ℕ

variable (c : Dev nD) (i : grid0.Coords)
  (arg2 : Memref sig .tc .vmem S544x1024 .f32) (harg2 : arg2.IsWhole) (arg3 : Memref sig .tc .vmem S544x512 .f32) (harg3 : arg3.IsWhole)
  (arg4 : Memref sig .tc .vmem S544x512 .f32) (harg4 : arg4.IsWhole) (arg5 : Memref sig .tc .vmem S1x512 .f32) (harg5 : arg5.IsWhole)
  (arg6 : Memref sig .tc .vmem S1x512 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S4x1024x512 .bf16) (harg9 : arg9.IsWhole)
  (arg10 : Memref sig .tc .vmem S4x512x1024 .bf16) (harg10 : arg10.IsWhole) (arg11 : Memref sig .tc .vmem S544x1024 .f32) (harg11 : arg11.IsWhole)
  (arg12 : Memref sig .tc .vmem S544x1024 .bf16) (harg12 : arg12.IsWhole) (arg13 : Memref sig .tc .vmem S544x1024 .bf16) (harg13 : arg13.IsWhole)
  (arg14 : Memref sig .tc .vmem S544x2048 .bf16) (harg14 : arg14.IsWhole) (arg15 : Memref sig .tc .vmem S544x1024 .f32) (harg15 : arg15.IsWhole)
  (arg16 : Memref sig .tc .vmem S544x1024 .f32) (harg16 : arg16.IsWhole)

set_option maxHeartbeats 1000000 in
/-- The body at the first half: the pieces of the new rows, the mixed rows, the normed rows, the hidden values and the accumulator, with the proof that
    it runs to them from the inputs' blocks. -/
noncomputable def runFirst (h1 : k0_cond1 i = 1#1) (h2 : ¬k0_cond2 i = 1#1)
    (x0 : Vec F S544x1024 .f32) (x1 x2 : Vec F S544x512 .f32) (x3 x4 : Vec F S1x512 .f32) (x5 : Vec F S1024x1024 .bf16) (x6 : Vec F S1x1024 .f32)
    (x7 : Vec F S4x1024x512 .bf16) (x8 : Vec F S4x512x1024 .bf16) :
    Σ' (L9 : List (View.Piece (Elt F) S544x1024 .f32)), Σ' (L10 : List (View.Piece (Elt F) S544x1024 .bf16)), Σ' (L11 : List (View.Piece (Elt F) S544x1024 .bf16)),
      Σ' (L12 : List (View.Piece (Elt F) S544x2048 .bf16)), { LS : List (View.Piece (Elt F) S544x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ (∃ d, owns (c : Thread nD τ) arg11 fullShare d) ∗ (∃ d, owns (c : Thread nD τ) arg12 fullShare d)
            ∗ (∃ d, owns (c : Thread nD τ) arg13 fullShare d) ∗ (∃ d, owns (c : Thread nD τ) arg14 fullShare d)
            ∗ (∃ d, owns (c : Thread nD τ) arg16 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6 ∗ owns (c : Thread nD τ) arg9 fullShare x7 ∗ owns (c : Thread nD τ) arg10 fullShare x8
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f L12)
                ∗ (∃ f, arg16.view.loc (c : Thread nD τ) ↦[arg16.view.set]{fullShare} arg16.view.writes (Elt F) f LS)) -∗ K ⟨⟩))
          ⊢ wp frame (wpE (defs₀ (F := F)) Variants.none c none) E (cc0_out_mlp_fwd i arg2 harg2 arg3 harg3 arg4 harg4 arg5 harg5 arg6 harg6 arg7 harg7
              arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_out_mlp_fwd_eq_skeleton]; unfold cc0_out_mlp_fwd_skel
    simp only [k0_part2_eq_skeleton, k0_part3_eq_skeleton]; unfold k0_part2_skel k0_part3_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    sl_exec (disch := first | sl_exact h1 | sl_exact h2)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _; isplitr; · ipureintro; exact harg7.read_unread _
                    iexact H5
    isplitl [H6]; · iexists _; isplitr; · ipureintro; exact harg8.read_unread _
                    iexact H6
    isplitl [H7]; · iexists _; isplitr; · ipureintro; exact harg9.read_unread _
                    iexact H7
    isplitl [H8]; · iexists _; isplitr; · ipureintro; exact harg10.read_unread _
                    iexact H8
    isplitl [H9]; · iexists _; iexact H9
    isplitl [H10]; · iexists _; iexact H10
    isplitl [H11]; · iexists _; iexact H11
    isplitl [H12]; · iexists _; iexact H12
    iexists _; iexact HS

set_option maxHeartbeats 1000000 in
/-- The body at the second half: the pieces of the hidden values, the block's output and the accumulator, from the weights' blocks, the normed rows and
    the accumulator. -/
noncomputable def runSecond (h1 : ¬k0_cond1 i = 1#1) (h2 : k0_cond2 i = 1#1)
    (x7 : Vec F S4x1024x512 .bf16) (x8 : Vec F S4x512x1024 .bf16) (z : Vec F S544x1024 .bf16) (s : Vec F S544x1024 .f32) :
    Σ' (L12 : List (View.Piece (Elt F) S544x2048 .bf16)), Σ' (L13 : List (View.Piece (Elt F) S544x1024 .f32)), { LS : List (View.Piece (Elt F) S544x1024 .f32) //
      ∀ (E : Set ℕ) (K : PUnit → sProp 𝕄),
        iprop(owns (c : Thread nD τ) arg9 fullShare x7 ∗ owns (c : Thread nD τ) arg10 fullShare x8 ∗ owns (c : Thread nD τ) arg13 fullShare z
            ∗ owns (c : Thread nD τ) arg16 fullShare s ∗ (∃ d, owns (c : Thread nD τ) arg14 fullShare d) ∗ (∃ d, owns (c : Thread nD τ) arg15 fullShare d)
            ∗ (iprop(owns (c : Thread nD τ) arg9 fullShare x7 ∗ owns (c : Thread nD τ) arg10 fullShare x8 ∗ owns (c : Thread nD τ) arg13 fullShare z
                ∗ (∃ f, arg16.view.loc (c : Thread nD τ) ↦[arg16.view.set]{fullShare} arg16.view.writes (Elt F) f LS)
                ∗ (∃ f, arg14.view.loc (c : Thread nD τ) ↦[arg14.view.set]{fullShare} arg14.view.writes (Elt F) f L12)
                ∗ (∃ f, arg15.view.loc (c : Thread nD τ) ↦[arg15.view.set]{fullShare} arg15.view.writes (Elt F) f L13)) -∗ K ⟨⟩))
          ⊢ wp frame (wpE (defs₀ (F := F)) Variants.none c none) E (cc0_out_mlp_fwd i arg2 harg2 arg3 harg3 arg4 harg4 arg5 harg5 arg6 harg6 arg7 harg7
              arg8 harg8 arg9 harg9 arg10 harg10 arg11 harg11 arg12 harg12 arg13 harg13 arg14 harg14 arg15 harg15 arg16 harg16) K } := by
  refine ⟨?_, ?_, ?_, fun E K => ?run⟩
  case run =>
    simp only [cc0_out_mlp_fwd_eq_skeleton]; unfold cc0_out_mlp_fwd_skel
    simp only [k0_part2_eq_skeleton, k0_part3_eq_skeleton]; unfold k0_part2_skel k0_part3_skel
    unfold owns
    iintro ⟨⟨%f7, %hf7, H7⟩, ⟨%f8, %hf8, H8⟩, ⟨%f11, %hf11, H11⟩, ⟨%fs, %hfs, HS⟩, ⟨%d12, %f12, -, H12⟩, ⟨%d13, %f13, -, H13⟩, Hk⟩
    obtain rfl := harg9.eq_unread hf7; obtain rfl := harg10.eq_unread hf8; obtain rfl := harg13.eq_unread hf11; obtain rfl := harg16.eq_unread hfs
    sl_exec (disch := first | sl_exact h1 | sl_exact h2)
    sl_step
    iapply Hk
    isplitl [H7]; · iexists _; isplitr; · ipureintro; exact harg9.read_unread _
                    iexact H7
    isplitl [H8]; · iexists _; isplitr; · ipureintro; exact harg10.read_unread _
                    iexact H8
    isplitl [H11]; · iexists _; isplitr; · ipureintro; exact harg13.read_unread _
                     iexact H11
    isplitl [HS]; · iexists _; iexact HS
    isplitl [H12]; · iexists _; iexact H12
    iexists _; iexact H13

end Cert.OutMlps

end
-- ==== Proof.OutMlp.Contents.lean ====
/-
  What the buffers of the call that closes the block hold after each point of its grid, over any element values.

  The grid's points are the pairs of a block of rows and a half of the hidden units. What the first half leaves (new rows, mixed rows, normed rows) is
  carried through the second, where it is written back; the accumulator is carried from the first half to the second.
-/
module

public import proofs.«01_k».proof.Proof.OutMlp.Body
public import proofs.«01_k».proof.Proof.Gen.OutMlpIdeal.Points
public import Idealize.ShloMosaic.Lib.Pipeline.TableIdle
public import Idealize.ShloMosaic.Lib.WordCmp
public import Idealize.ShloMosaic.Lib.Claim

@[expose] public section

set_option maxRecDepth 16384

noncomputable section

namespace Cert.OutMlps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutMlpIdeal Cert.OutMlpIdeal.Gen

variable {F : FTy → Type} [FloatOps F]

local notation "𝕄" => MT nD τ sig Unit (Elt F) ℕ (UR sig nD τ) ℕ

/-! ## The two kinds of points -/

theorem cond_even : ∀ t : Fin cfg0.N, t.val % 2 = 0 → k0_cond1 (grid0.coords t) = 1#1 ∧ ¬k0_cond2 (grid0.coords t) = 1#1 :=
  (by decide +kernel : ∀ t : Fin grid0.N, t.val % 2 = 0 → k0_cond1 (grid0.coords t) = 1#1 ∧ ¬k0_cond2 (grid0.coords t) = 1#1)

theorem cond_odd : ∀ t : Fin cfg0.N, t.val % 2 = 1 → ¬k0_cond1 (grid0.coords t) = 1#1 ∧ k0_cond2 (grid0.coords t) = 1#1 :=
  (by decide +kernel : ∀ t : Fin grid0.N, t.val % 2 = 1 → ¬k0_cond1 (grid0.coords t) = 1#1 ∧ k0_cond2 (grid0.coords t) = 1#1)

/-- The first of the two points of a block of rows. -/
def base (t : Fin cfg0.N) : Fin cfg0.N := ⟨t.val - t.val % 2, lt_of_le_of_lt (Nat.sub_le _ _) t.isLt⟩

theorem base_even (t : Fin cfg0.N) : (base t).val % 2 = 0 := by
  have : (base t).val = t.val - t.val % 2 := rfl
  omega

theorem base_of_even (t : Fin cfg0.N) (h : t.val % 2 = 0) : base t = t := by
  apply Fin.ext
  have : (base t).val = t.val - t.val % 2 := rfl
  omega

theorem at_congr {α : Type} (f : ∀ t : Fin cfg0.N, t.val % 2 = 0 → α) {t u : Fin cfg0.N} (e : t = u) (h : t.val % 2 = 0) (h' : u.val % 2 = 0) :
    f t h = f u h' := by subst e; rfl

theorem base_pred (t : Fin cfg0.N) (h : t.val % 2 = 1) : base ⟨t.val - 1, lt_of_le_of_lt (Nat.sub_le _ _) t.isLt⟩ = base t := by
  apply Fin.ext
  have h1 : (base t).val = t.val - t.val % 2 := rfl
  have h2 : (base ⟨t.val - 1, lt_of_le_of_lt (Nat.sub_le _ _) t.isLt⟩).val = (t.val - 1) - (t.val - 1) % 2 := rfl
  omega

/-- Each window's staging buffer at a point, and that it is whole; the accumulator. -/
abbrev stage0 (t : Fin cfg0.N) : Memref sig .tc .vmem S544x1024 .f32 := win0_0.stage (cfg0.slots t 0)
abbrev whole0 (t : Fin cfg0.N) : (stage0 t).IsWhole := hstage0_0 ((cfg0.slots t 0).cast nbuf0_0)
abbrev stage1 (t : Fin cfg0.N) : Memref sig .tc .vmem S544x512 .f32 := win0_1.stage (cfg0.slots t 1)
abbrev whole1 (t : Fin cfg0.N) : (stage1 t).IsWhole := hstage0_1 ((cfg0.slots t 1).cast nbuf0_1)
abbrev stage2 (t : Fin cfg0.N) : Memref sig .tc .vmem S544x512 .f32 := win0_2.stage (cfg0.slots t 2)
abbrev whole2 (t : Fin cfg0.N) : (stage2 t).IsWhole := hstage0_2 ((cfg0.slots t 2).cast nbuf0_2)
abbrev stage3 (t : Fin cfg0.N) : Memref sig .tc .vmem S1x512 .f32 := win0_3.stage (cfg0.slots t 3)
abbrev whole3 (t : Fin cfg0.N) : (stage3 t).IsWhole := hstage0_3 ((cfg0.slots t 3).cast nbuf0_3)
abbrev stage4 (t : Fin cfg0.N) : Memref sig .tc .vmem S1x512 .f32 := win0_4.stage (cfg0.slots t 4)
abbrev whole4 (t : Fin cfg0.N) : (stage4 t).IsWhole := hstage0_4 ((cfg0.slots t 4).cast nbuf0_4)
abbrev stage5 (t : Fin cfg0.N) : Memref sig .tc .vmem S1024x1024 .bf16 := win0_5.stage (cfg0.slots t 5)
abbrev whole5 (t : Fin cfg0.N) : (stage5 t).IsWhole := hstage0_5 ((cfg0.slots t 5).cast nbuf0_5)
abbrev stage6 (t : Fin cfg0.N) : Memref sig .tc .vmem S1x1024 .f32 := win0_6.stage (cfg0.slots t 6)
abbrev whole6 (t : Fin cfg0.N) : (stage6 t).IsWhole := hstage0_6 ((cfg0.slots t 6).cast nbuf0_6)
abbrev stage7 (t : Fin cfg0.N) : Memref sig .tc .vmem S4x1024x512 .bf16 := win0_7.stage (cfg0.slots t 7)
abbrev whole7 (t : Fin cfg0.N) : (stage7 t).IsWhole := hstage0_7 ((cfg0.slots t 7).cast nbuf0_7)
abbrev stage8 (t : Fin cfg0.N) : Memref sig .tc .vmem S4x512x1024 .bf16 := win0_8.stage (cfg0.slots t 8)
abbrev whole8 (t : Fin cfg0.N) : (stage8 t).IsWhole := hstage0_8 ((cfg0.slots t 8).cast nbuf0_8)
abbrev stage9 (t : Fin cfg0.N) : Memref sig .tc .vmem S544x1024 .f32 := win0_9.stage (cfg0.slots t 9)
abbrev whole9 (t : Fin cfg0.N) : (stage9 t).IsWhole := hstage0_9 ((cfg0.slots t 9).cast nbuf0_9)
abbrev stage10 (t : Fin cfg0.N) : Memref sig .tc .vmem S544x1024 .bf16 := win0_10.stage (cfg0.slots t 10)
abbrev whole10 (t : Fin cfg0.N) : (stage10 t).IsWhole := hstage0_10 ((cfg0.slots t 10).cast nbuf0_10)
abbrev stage11 (t : Fin cfg0.N) : Memref sig .tc .vmem S544x1024 .bf16 := win0_11.stage (cfg0.slots t 11)
abbrev whole11 (t : Fin cfg0.N) : (stage11 t).IsWhole := hstage0_11 ((cfg0.slots t 11).cast nbuf0_11)
abbrev stage12 (t : Fin cfg0.N) : Memref sig .tc .vmem S544x2048 .bf16 := win0_12.stage (cfg0.slots t 12)
abbrev whole12 (t : Fin cfg0.N) : (stage12 t).IsWhole := hstage0_12 ((cfg0.slots t 12).cast nbuf0_12)
abbrev stage13 (t : Fin cfg0.N) : Memref sig .tc .vmem S544x1024 .f32 := win0_13.stage (cfg0.slots t 13)
abbrev whole13 (t : Fin cfg0.N) : (stage13 t).IsWhole := hstage0_13 ((cfg0.slots t 13).cast nbuf0_13)
abbrev acc : Memref sig .tc .vmem S544x1024 .f32 := Memref.whole cc0_scratch0

variable (m : (ℓ : Loc nD τ sig) → Buf (Elt F) ℓ) (ρ : Dev nD → PrngReg) (c : Dev nD)

/-- The run at a first point, on the inputs' blocks. -/
abbrev first (t : Fin cfg0.N) (h : t.val % 2 = 0) :=
  runFirst (F := F) c (grid0.coords t)
    (stage0 t) (whole0 t) (stage1 t) (whole1 t) (stage2 t) (whole2 t) (stage3 t) (whole3 t) (stage4 t) (whole4 t) (stage5 t) (whole5 t) (stage6 t)
    (whole6 t) (stage7 t) (whole7 t) (stage8 t) (whole8 t) (stage9 t) (whole9 t) (stage10 t) (whole10 t) (stage11 t) (whole11 t) (stage12 t) (whole12
    t) (stage13 t) (whole13 t) acc (Memref.isWhole_whole _)
    (cond_even t h).1 (cond_even t h).2 (iblk m c 0 t) (iblk m c 1 t) (iblk m c 2 t) (iblk m c 3 t) (iblk m c 4 t) (iblk m c 5 t) (iblk m c 6 t)
    (iblk m c 7 t) (iblk m c 8 t)

/-- The new rows, the mixed rows, the normed rows, the hidden values and the accumulator that a first point leaves. -/
def newAt (t : Fin cfg0.N) (h : t.val % 2 = 0) : Vec F S544x1024 .f32 := View.canon (first m c t h).1
def mixAt (t : Fin cfg0.N) (h : t.val % 2 = 0) : Vec F S544x1024 .bf16 := View.canon (first m c t h).2.1
def normAt (t : Fin cfg0.N) (h : t.val % 2 = 0) : Vec F S544x1024 .bf16 := View.canon (first m c t h).2.2.1
def hidFirst (t : Fin cfg0.N) (h : t.val % 2 = 0) : Vec F S544x2048 .bf16 := View.canon (first m c t h).2.2.2.1
def accAt (t : Fin cfg0.N) (h : t.val % 2 = 0) : Vec F S544x1024 .f32 := View.canon (first m c t h).2.2.2.2.1

/-- The run at a second point, on the weights' blocks and what the first point left. -/
abbrev second (t : Fin cfg0.N) (h : t.val % 2 = 1) :=
  runSecond (F := F) c (grid0.coords t)
    (stage0 t) (whole0 t) (stage1 t) (whole1 t) (stage2 t) (whole2 t) (stage3 t) (whole3 t) (stage4 t) (whole4 t) (stage5 t) (whole5 t) (stage6 t)
    (whole6 t) (stage7 t) (whole7 t) (stage8 t) (whole8 t) (stage9 t) (whole9 t) (stage10 t) (whole10 t) (stage11 t) (whole11 t) (stage12 t) (whole12
    t) (stage13 t) (whole13 t) acc (Memref.isWhole_whole _)
    (cond_odd t h).1 (cond_odd t h).2 (iblk m c 7 t) (iblk m c 8 t) (normAt m c (base t) (base_even t)) (accAt m c (base t) (base_even t))

/-- The hidden values and the block's output that a second point leaves. -/
def hidSecond (t : Fin cfg0.N) (h : t.val % 2 = 1) : Vec F S544x2048 .bf16 := View.canon (second m c t h).1
def outAt (t : Fin cfg0.N) (h : t.val % 2 = 1) : Vec F S544x1024 .f32 := View.canon (second m c t h).2.1

/-- Every piece list covers its buffer. -/
theorem cover_new (t : Fin cfg0.N) (h : t.val % 2 = 0) (y : S544x1024.Idx) : ∃ p ∈ (first m c t h).1, y ∈ p.1.set :=
  View.cover_of_tiledL (first m c t h).1 S544x1024.size (by sl_kernel_rfl) y
theorem cover_mix (t : Fin cfg0.N) (h : t.val % 2 = 0) (y : S544x1024.Idx) : ∃ p ∈ (first m c t h).2.1, y ∈ p.1.set :=
  View.cover_of_tiledL (first m c t h).2.1 S544x512.size (by sl_kernel_rfl) y
theorem cover_norm (t : Fin cfg0.N) (h : t.val % 2 = 0) (y : S544x1024.Idx) : ∃ p ∈ (first m c t h).2.2.1, y ∈ p.1.set :=
  View.cover_of_tiledL (first m c t h).2.2.1 S544x1024.size (by sl_kernel_rfl) y
theorem cover_hidFirst (t : Fin cfg0.N) (h : t.val % 2 = 0) (y : S544x2048.Idx) : ∃ p ∈ (first m c t h).2.2.2.1, y ∈ p.1.set :=
  View.cover_of_tiledL (first m c t h).2.2.2.1 S544x512.size (by sl_kernel_rfl) y
theorem cover_acc (t : Fin cfg0.N) (h : t.val % 2 = 0) (y : S544x1024.Idx) : ∃ p ∈ (first m c t h).2.2.2.2.1, y ∈ p.1.set :=
  View.cover_of_tiledL (first m c t h).2.2.2.2.1 S544x1024.size (by sl_kernel_rfl) y
theorem cover_hidSecond (t : Fin cfg0.N) (h : t.val % 2 = 1) (y : S544x2048.Idx) : ∃ p ∈ (second m c t h).1, y ∈ p.1.set :=
  View.cover_of_tiledL (second m c t h).1 S544x512.size (by sl_kernel_rfl) y
theorem cover_out (t : Fin cfg0.N) (h : t.val % 2 = 1) (y : S544x1024.Idx) : ∃ p ∈ (second m c t h).2.1, y ∈ p.1.set :=
  View.cover_of_tiledL (second m c t h).2.1 S544x1024.size (by sl_kernel_rfl) y

/-! ## What the buffers hold after each point -/

/-- Between the two points of a block of rows the accumulator holds what the first left; elsewhere anything. -/
def between (n : ℕ) (hn : n ≤ cfg0.N) : sProp 𝕄 :=
  if h : n % 2 = 1 then
    iprop(iprop(owns (c : Thread nD τ) acc fullShare (accAt m c (base ⟨n - 1, by omega⟩) (base_even _))) ∗ (∃ r, prngReg c r))
  else Pipeline.ΦA spec0 c

theorem between_even (n : ℕ) (hn : n ≤ cfg0.N) (h : n % 2 = 0) : between m c n hn = Pipeline.ΦA spec0 c := dif_neg (by omega)

theorem between_odd (n : ℕ) (hn : n ≤ cfg0.N) (h : n % 2 = 1) : between m c n hn =
    iprop(iprop(owns (c : Thread nD τ) acc fullShare (accAt m c (base ⟨n - 1, by omega⟩) (base_even _))) ∗ (∃ r, prngReg c r)) := dif_pos h

/-- The launch's set-up: the arrays as the region finds them, the buffers after each point, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => newAt m c (base t) (base_even t)
    | ⟨10, _⟩ => mixAt m c (base t) (base_even t)
    | ⟨11, _⟩ => normAt m c (base t) (base_even t)
    | ⟨12, _⟩ => if h : t.val % 2 = 1 then hidSecond m c t h else hidFirst m c t (by omega)
    | ⟨13, _⟩ => if h : t.val % 2 = 1 then outAt m c t h else newAt m c t (by omega)
  Φ t := between m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = newAt m c (base t) (base_even t) := by dsimp only [dats]
theorem after_10 (t : Fin cfg0.N) : (dats m 0 c).after 10 t = mixAt m c (base t) (base_even t) := by dsimp only [dats]
theorem after_11 (t : Fin cfg0.N) : (dats m 0 c).after 11 t = normAt m c (base t) (base_even t) := by dsimp only [dats]
theorem after_12 (t : Fin cfg0.N) :
    (dats m 0 c).after 12 t = if h : t.val % 2 = 1 then hidSecond m c t h else hidFirst m c t (by omega) := by dsimp only [dats]
theorem after_13 (t : Fin cfg0.N) :
    (dats m 0 c).after 13 t = if h : t.val % 2 = 1 then outAt m c t h else newAt m c t (by omega) := by dsimp only [dats]

theorem before_0 (t : Fin cfg0.N) (d) : (dats m 0 c).before 0 t d = iblk m c 0 t := before0_0_of m (dats m 0 c) (A_eq m c 0) (after_0 m c) t d
theorem before_1 (t : Fin cfg0.N) (d) : (dats m 0 c).before 1 t d = iblk m c 1 t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d
theorem before_4 (t : Fin cfg0.N) (d) : (dats m 0 c).before 4 t d = iblk m c 4 t := before0_4_of m (dats m 0 c) (A_eq m c 4) (after_4 m c) t d
theorem before_5 (t : Fin cfg0.N) (d) : (dats m 0 c).before 5 t d = iblk m c 5 t := before0_5_of m (dats m 0 c) (A_eq m c 5) (after_5 m c) t d
theorem before_6 (t : Fin cfg0.N) (d) : (dats m 0 c).before 6 t d = iblk m c 6 t := before0_6_of m (dats m 0 c) (A_eq m c 6) (after_6 m c) t d
theorem before_7 (t : Fin cfg0.N) (d) : (dats m 0 c).before 7 t d = iblk m c 7 t := before0_7_of m (dats m 0 c) (A_eq m c 7) (after_7 m c) t d
theorem before_8 (t : Fin cfg0.N) (d) : (dats m 0 c).before 8 t d = iblk m c 8 t := before0_8_of m (dats m 0 c) (A_eq m c 8) (after_8 m c) t d

/-! ## The three results that are carried through the second point -/

theorem idle_even : ∀ t : Fin cfg0.N, t.val % 2 = 0 →
    cfg0.idle 9 (grid0.coords t) = false ∧ cfg0.idle 10 (grid0.coords t) = false ∧ cfg0.idle 11 (grid0.coords t) = false
      ∧ cfg0.idle 13 (grid0.coords t) = true := by decide +kernel

theorem idle_odd : ∀ t : Fin cfg0.N, t.val % 2 = 1 →
    cfg0.idle 9 (grid0.coords t) = true ∧ cfg0.idle 10 (grid0.coords t) = true ∧ cfg0.idle 11 (grid0.coords t) = true
      ∧ cfg0.idle 13 (grid0.coords t) = false := by decide +kernel

/-- A result that the first points store and the second ones leave alone, carried by the proof data. -/
theorem found_carried (w : Fin cfg0.W) (hout : (cfg0.win w).isOut = true) (hclip : ∀ (i : cfg0.grid.Coords) a, (cfg0.win w).clip i a = none)
    (hidle : ∀ t : Fin cfg0.N, cfg0.idle w (grid0.coords t) = true → t.val % 2 = 1)
    (hstep : ∀ t : Fin cfg0.N, decide ((t.val + 1) % 2 = 0) = ((cfg0.win w).flush t || (cfg0.idle w (cfg0.grid.coords t) && decide (t.val % 2 = 0))))
    (hsame : ∀ t : Fin cfg0.N, t.val % 2 = 1 → (dats m 0 c).after w t = (dats m 0 c).after w ⟨t.val - 1, lt_of_le_of_lt (Nat.sub_le _ _) t.isLt⟩)
    (t : Fin cfg0.N) (h : t.val % 2 = 1) (d) : (dats m 0 c).before w t d = (dats m 0 c).after w t := by
  have hfresh : cfg0.fresh w t.val = false := by
    rw [Pipeline.Cfg.fresh_tab cfg0 w (fun n => decide (n % 2 = 0)) rfl hstep t.val (Nat.le_of_lt t.isLt)]
    exact decide_eq_false (by omega)
  rw [Dat.before_out_traj _ w hout hclip (fun t _ hi _ => hsame t (hidle t hi)) t.val t rfl d, if_neg (by rw [hfresh]; exact Bool.false_ne_true)]
  exact (hsame t h).symm

theorem before_9 (t : Fin cfg0.N) (h : t.val % 2 = 1) (d) : (dats m 0 c).before 9 t d = newAt m c (base t) (base_even t) := by
  rw [found_carried m c 9 rfl (fun _ _ => rfl) (by decide +kernel) (by decide +kernel) (fun t h => by
    rw [after_9, after_9]; exact at_congr (newAt m c) (base_pred t h).symm _ _) t h d, after_9]
theorem before_10 (t : Fin cfg0.N) (h : t.val % 2 = 1) (d) : (dats m 0 c).before 10 t d = mixAt m c (base t) (base_even t) := by
  rw [found_carried m c 10 rfl (fun _ _ => rfl) (by decide +kernel) (by decide +kernel) (fun t h => by
    rw [after_10, after_10]; exact at_congr (mixAt m c) (base_pred t h).symm _ _) t h d, after_10]
theorem before_11 (t : Fin cfg0.N) (h : t.val % 2 = 1) (d) : (dats m 0 c).before 11 t d = normAt m c (base t) (base_even t) := by
  rw [found_carried m c 11 rfl (fun _ _ => rfl) (by decide +kernel) (by decide +kernel) (fun t h => by
    rw [after_11, after_11]; exact at_congr (normAt m c) (base_pred t h).symm _ _) t h d, after_11]

end Cert.OutMlps

end
-- ==== Proof.OutMlp.Frame.lean ====
/-
  The body's triple at the two kinds of points of the call that closes the block, its run over any element values, and its frame.
-/
module

public import proofs.«01_k».proof.Proof.OutMlp.Contents
public import Idealize.ShloMosaic.Lib.Claim

@[expose] public section

set_option maxRecDepth 16384

noncomputable section

namespace Cert.OutMlps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutMlpIdeal Cert.OutMlpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The body at every point -/

theorem rest_eq :
    (Pipeline.ΦA spec0 c : sProp 𝕄) = iprop(iprop((∃ d, owns (c : Thread nD τ) acc fullShare d)) ∗ (∃ r, prngReg c r)) := by
  unfold Pipeline.ΦA; rw [scopedRest0_eq]; simp only [acc, owns_whole]; try rfl

/-- Pieces that cover a buffer leave it at their canonical contents. -/
theorem owns_of_pieces {s : Shape} {e : EltTy} (a : Memref sig .tc .vmem s e) (f : a.view.ty.Contents (Elt F)) (L : List (View.Piece (Elt F) s e))
    (hc : ∀ y, ∃ p ∈ L, y ∈ p.1.set) :
    (a.view.loc (c : Thread nD τ) ↦[a.view.set]{fullShare} a.view.writes (Elt F) f L : sProp 𝕄) ⊢ owns (c : Thread nD τ) a fullShare (View.canon L) := by
  unfold owns
  iintro H
  iexists _; isplitr
  swap; · iexact H
  ipureintro
  exact View.read_writes_eq_canon _ _ _ hc

def bodyPre (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare ((dats m 0 c).before 8 t d))
    ∗ (∃ d, owns (c : Thread nD τ) (stage9 t) fullShare ((dats m 0 c).before 9 t d))
    ∗ (∃ d, owns (c : Thread nD τ) (stage10 t) fullShare ((dats m 0 c).before 10 t d))
    ∗ (∃ d, owns (c : Thread nD τ) (stage11 t) fullShare ((dats m 0 c).before 11 t d))
    ∗ (∃ d, owns (c : Thread nD τ) (stage12 t) fullShare ((dats m 0 c).before 12 t d))
    ∗ (∃ d, owns (c : Thread nD τ) (stage13 t) fullShare ((dats m 0 c).before 13 t d)))

def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- A buffer that is live at a point, or written back there, is left at its contents. -/
theorem leaves_live (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

theorem leaves_flush (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h, hf]

/-! ### What each buffer is left at -/

theorem left_0 (t : Fin cfg0.N) : (dats m 0 c).leavesExact 0 t = owns (c : Thread nD τ) (stage0 t) fullShare (iblk m c 0 t) := by
  rw [leaves_live m c 0 t rfl, after_0]
theorem left_1 (t : Fin cfg0.N) : (dats m 0 c).leavesExact 1 t = owns (c : Thread nD τ) (stage1 t) fullShare (iblk m c 1 t) := by
  rw [leaves_live m c 1 t rfl, after_1]
theorem left_2 (t : Fin cfg0.N) : (dats m 0 c).leavesExact 2 t = owns (c : Thread nD τ) (stage2 t) fullShare (iblk m c 2 t) := by
  rw [leaves_live m c 2 t rfl, after_2]
theorem left_3 (t : Fin cfg0.N) : (dats m 0 c).leavesExact 3 t = owns (c : Thread nD τ) (stage3 t) fullShare (iblk m c 3 t) := by
  rw [leaves_live m c 3 t rfl, after_3]
theorem left_4 (t : Fin cfg0.N) : (dats m 0 c).leavesExact 4 t = owns (c : Thread nD τ) (stage4 t) fullShare (iblk m c 4 t) := by
  rw [leaves_live m c 4 t rfl, after_4]
theorem left_5 (t : Fin cfg0.N) : (dats m 0 c).leavesExact 5 t = owns (c : Thread nD τ) (stage5 t) fullShare (iblk m c 5 t) := by
  rw [leaves_live m c 5 t rfl, after_5]
theorem left_6 (t : Fin cfg0.N) : (dats m 0 c).leavesExact 6 t = owns (c : Thread nD τ) (stage6 t) fullShare (iblk m c 6 t) := by
  rw [leaves_live m c 6 t rfl, after_6]
theorem left_7 (t : Fin cfg0.N) : (dats m 0 c).leavesExact 7 t = owns (c : Thread nD τ) (stage7 t) fullShare (iblk m c 7 t) := by
  rw [leaves_live m c 7 t rfl, after_7]
theorem left_8 (t : Fin cfg0.N) : (dats m 0 c).leavesExact 8 t = owns (c : Thread nD τ) (stage8 t) fullShare (iblk m c 8 t) := by
  rw [leaves_live m c 8 t rfl, after_8]
theorem left_even_9 (t : Fin cfg0.N) (h : t.val % 2 = 0) :
    (dats m 0 c).leavesExact 9 t = owns (c : Thread nD τ) (stage9 t) fullShare (newAt m c t h) := by
  rw [leaves_live m c 9 t (idle_even t h).1, after_9, at_congr (newAt m c) (base_of_even t h) _ h]
theorem left_odd_9 (t : Fin cfg0.N) (h : t.val % 2 = 1) :
    (dats m 0 c).leavesExact 9 t = owns (c : Thread nD τ) (stage9 t) fullShare (newAt m c (base t) (base_even t)) := by
  rw [leaves_flush m c 9 t (idle_odd t h).1 ((flush0_9 t).mpr h), after_9]
theorem left_even_10 (t : Fin cfg0.N) (h : t.val % 2 = 0) :
    (dats m 0 c).leavesExact 10 t = owns (c : Thread nD τ) (stage10 t) fullShare (mixAt m c t h) := by
  rw [leaves_live m c 10 t (idle_even t h).2.1, after_10, at_congr (mixAt m c) (base_of_even t h) _ h]
theorem left_odd_10 (t : Fin cfg0.N) (h : t.val % 2 = 1) :
    (dats m 0 c).leavesExact 10 t = owns (c : Thread nD τ) (stage10 t) fullShare (mixAt m c (base t) (base_even t)) := by
  rw [leaves_flush m c 10 t (idle_odd t h).2.1 ((flush0_10 t).mpr h), after_10]
theorem left_even_11 (t : Fin cfg0.N) (h : t.val % 2 = 0) :
    (dats m 0 c).leavesExact 11 t = owns (c : Thread nD τ) (stage11 t) fullShare (normAt m c t h) := by
  rw [leaves_live m c 11 t (idle_even t h).2.2.1, after_11, at_congr (normAt m c) (base_of_even t h) _ h]
theorem left_odd_11 (t : Fin cfg0.N) (h : t.val % 2 = 1) :
    (dats m 0 c).leavesExact 11 t = owns (c : Thread nD τ) (stage11 t) fullShare (normAt m c (base t) (base_even t)) := by
  rw [leaves_flush m c 11 t (idle_odd t h).2.2.1 ((flush0_11 t).mpr h), after_11]
theorem left_even_12 (t : Fin cfg0.N) (h : t.val % 2 = 0) :
    (dats m 0 c).leavesExact 12 t = owns (c : Thread nD τ) (stage12 t) fullShare (hidFirst m c t h) := by
  rw [leaves_live m c 12 t rfl, after_12, dif_neg (by omega)]
theorem left_odd_12 (t : Fin cfg0.N) (h : t.val % 2 = 1) :
    (dats m 0 c).leavesExact 12 t = owns (c : Thread nD τ) (stage12 t) fullShare (hidSecond m c t h) := by
  rw [leaves_live m c 12 t rfl, after_12, dif_pos h]
theorem left_odd_13 (t : Fin cfg0.N) (h : t.val % 2 = 1) :
    (dats m 0 c).leavesExact 13 t = owns (c : Thread nD τ) (stage13 t) fullShare (outAt m c t h) := by
  rw [leaves_live m c 13 t (idle_odd t h).2.2.2, after_13, dif_pos h]
theorem left_even_13 (t : Fin cfg0.N) (h : t.val % 2 = 0) :
    (dats m 0 c).leavesExact 13 t = iprop(∃ d, owns (c : Thread nD τ) (stage13 t) fullShare ((dats m 0 c).before 13 t d)) :=
  Dat.leavesExact_idle (dats m 0 c) 13 t (idle_even t h).2.2.2 (Bool.eq_false_iff.mpr fun hf => absurd ((flush0_13 t).mp hf) (by omega))

theorem between_after_first (t : Fin cfg0.N) (h : t.val % 2 = 0) : (dats m 0 c).Φ t.succ =
    iprop(iprop(owns (c : Thread nD τ) acc fullShare (accAt m c t h)) ∗ (∃ r, prngReg c r)) := by
  rw [show (dats m 0 c).Φ t.succ = between m c (t.val + 1) t.isLt from rfl, between_odd m c _ _ (by omega),
    at_congr (accAt m c) (show base ⟨t.val + 1 - 1, by omega⟩ = t from base_of_even t h) _ h]
theorem between_before_second (t : Fin cfg0.N) (h : t.val % 2 = 1) : (dats m 0 c).Φ t.castSucc =
    iprop(iprop(owns (c : Thread nD τ) acc fullShare (accAt m c (base t) (base_even t))) ∗ (∃ r, prngReg c r)) := by
  rw [show (dats m 0 c).Φ t.castSucc = between m c t.val (Nat.le_of_lt t.isLt) from rfl, between_odd m c _ _ h,
    at_congr (accAt m c) (base_pred t h) _ (base_even t)]
theorem between_before_first (t : Fin cfg0.N) (h : t.val % 2 = 0) : (dats m 0 c).Φ t.castSucc =
    iprop(iprop((∃ d, owns (c : Thread nD τ) acc fullShare d)) ∗ (∃ r, prngReg c r)) := by
  rw [show (dats m 0 c).Φ t.castSucc = between m c t.val (Nat.le_of_lt t.isLt) from rfl, between_even m c _ _ h, rest_eq]
theorem between_after_second (t : Fin cfg0.N) (h : t.val % 2 = 1) : (dats m 0 c).Φ t.succ =
    iprop(iprop((∃ d, owns (c : Thread nD τ) acc fullShare d)) ∗ (∃ r, prngReg c r)) := by
  rw [show (dats m 0 c).Φ t.succ = between m c (t.val + 1) t.isLt from rfl, between_even m c _ _ (by omega), rest_eq]

theorem own_newAt (t : Fin cfg0.N) (h : t.val % 2 = 0) (f : (stage9 t).view.ty.Contents (Elt F)) :
    ((stage9 t).view.loc (c : Thread nD τ) ↦[(stage9 t).view.set]{fullShare} (stage9 t).view.writes (Elt F) f (first m c t h).1 : sProp 𝕄)
      ⊢ owns (c : Thread nD τ) (stage9 t) fullShare (newAt m c t h) := owns_of_pieces c (stage9 t) f _ (cover_new m c t h)
theorem own_mixAt (t : Fin cfg0.N) (h : t.val % 2 = 0) (f : (stage10 t).view.ty.Contents (Elt F)) :
    ((stage10 t).view.loc (c : Thread nD τ) ↦[(stage10 t).view.set]{fullShare} (stage10 t).view.writes (Elt F) f (first m c t h).2.1 : sProp 𝕄)
      ⊢ owns (c : Thread nD τ) (stage10 t) fullShare (mixAt m c t h) := owns_of_pieces c (stage10 t) f _ (cover_mix m c t h)
theorem own_normAt (t : Fin cfg0.N) (h : t.val % 2 = 0) (f : (stage11 t).view.ty.Contents (Elt F)) :
    ((stage11 t).view.loc (c : Thread nD τ) ↦[(stage11 t).view.set]{fullShare} (stage11 t).view.writes (Elt F) f (first m c t h).2.2.1 : sProp 𝕄)
      ⊢ owns (c : Thread nD τ) (stage11 t) fullShare (normAt m c t h) := owns_of_pieces c (stage11 t) f _ (cover_norm m c t h)
theorem own_hidFirst (t : Fin cfg0.N) (h : t.val % 2 = 0) (f : (stage12 t).view.ty.Contents (Elt F)) :
    ((stage12 t).view.loc (c : Thread nD τ) ↦[(stage12 t).view.set]{fullShare} (stage12 t).view.writes (Elt F) f (first m c t h).2.2.2.1 : sProp 𝕄)
      ⊢ owns (c : Thread nD τ) (stage12 t) fullShare (hidFirst m c t h) := owns_of_pieces c (stage12 t) f _ (cover_hidFirst m c t h)
theorem own_accAt (t : Fin cfg0.N) (h : t.val % 2 = 0) (f : acc.view.ty.Contents (Elt F)) :
    (acc.view.loc (c : Thread nD τ) ↦[acc.view.set]{fullShare} acc.view.writes (Elt F) f (first m c t h).2.2.2.2.1 : sProp 𝕄)
      ⊢ owns (c : Thread nD τ) acc fullShare (accAt m c t h) := owns_of_pieces c acc f _ (cover_acc m c t h)
theorem own_hidSecond (t : Fin cfg0.N) (h : t.val % 2 = 1) (f : (stage12 t).view.ty.Contents (Elt F)) :
    ((stage12 t).view.loc (c : Thread nD τ) ↦[(stage12 t).view.set]{fullShare} (stage12 t).view.writes (Elt F) f (second m c t h).1 : sProp 𝕄)
      ⊢ owns (c : Thread nD τ) (stage12 t) fullShare (hidSecond m c t h) := owns_of_pieces c (stage12 t) f _ (cover_hidSecond m c t h)
theorem own_outAt (t : Fin cfg0.N) (h : t.val % 2 = 1) (f : (stage13 t).view.ty.Contents (Elt F)) :
    ((stage13 t).view.loc (c : Thread nD τ) ↦[(stage13 t).view.set]{fullShare} (stage13 t).view.writes (Elt F) f (second m c t h).2.1 : sProp 𝕄)
      ⊢ owns (c : Thread nD τ) (stage13 t) fullShare (outAt m c t h) := owns_of_pieces c (stage13 t) f _ (cover_out m c t h)

set_option maxHeartbeats 1000000 in
theorem body_first (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl, between_before_first m c t h, between_after_first m c t h]
  rw [left_0, left_1, left_2, left_3, left_4, left_5, left_6, left_7, left_8, left_even_9 m c t h, left_even_10 m c t h,
    left_even_11 m c t h, left_even_12 m c t h, left_even_13 m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((first m c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS]; · iexact HS
  iintro ⟨H0, H1, H2, H3, H4, H5, H6, H7, H8, ⟨%e9, H9⟩, ⟨%e10, H10⟩, ⟨%e11, H11⟩, ⟨%e12, H12⟩, ⟨%es, HS⟩⟩
  isplitl [HS Hg]
  · isplitl [HS]
    · iapply (own_accAt m c t h es); iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (own_newAt m c t h e9); iexact H9
  isplitl [H10]; · iapply (own_mixAt m c t h e10); iexact H10
  isplitl [H11]; · iapply (own_normAt m c t h e11); iexact H11
  isplitl [H12]; · iapply (own_hidFirst m c t h e12); iexact H12
  iexists _; iexact H13

set_option maxHeartbeats 1000000 in
theorem body_second (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9 m c t h, before_10 m c t h, before_11 m c t h]
  rw [show (dats m 0 c).owesAt () t.succ = (dats m 0 c).owesAt () t.castSucc from rfl, between_before_second m c t h, between_after_second m c t h]
  rw [left_0, left_1, left_2, left_3, left_4, left_5, left_6, left_7, left_8, left_odd_9 m c t h, left_odd_10 m c t h,
    left_odd_11 m c t h, left_odd_12 m c t h, left_odd_13 m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((second m c t h).2.2.2 Set.univ _)
  isplitl [H7]; · iexact H7
  isplitl [H8]; · iexact H8
  isplitl [H11]; · iexact H11
  isplitl [HS]; · iexact HS
  isplitl [H12]; · iexists _; iexact H12
  isplitl [H13]; · iexists _; iexact H13
  iintro ⟨H7, H8, H11, ⟨%es, HS⟩, ⟨%e12, H12⟩, ⟨%e13, H13⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (own_hidSecond m c t h e12); iexact H12
  iapply (own_outAt m c t h e13); iexact H13

/-! ## The run and the frame -/

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  rcases Nat.mod_two_eq_zero_or_one t.val with h | h
  · exact triple_restated (body_first m c t h) rfl .rfl fun _ => .rfl
  · exact triple_restated (body_second m c t h) rfl .rfl fun _ => .rfl

theorem hin : Pipeline.ΦA spec0 c ⊢ (dats m 0 c).Φ 0 := by
  rw [show (dats m 0 c).Φ 0 = between m c 0 (Nat.zero_le _) from rfl, between_even m c 0 _ rfl]

theorem hout : (dats m 0 c).Φ (Fin.last cfg0.N) ⊢ Pipeline.ΦA spec0 c := by
  rw [show (dats m 0 c).Φ (Fin.last cfg0.N) = between m c cfg0.N (Nat.le_refl _) from rfl, between_even m c _ _ (by rw [show cfg0.N = 8 from N_0])]

set_option backward.isDefEq.respectTransparency.types false in
/-- Every execution ends with the pipeline's arrays at what the proof data says, and every counter at zero. -/
theorem run_quiescent :
    θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run m ρ)) ((θ_run defs _ _).mono (fun _ h => h.2) (run_quiescent m ρ))

end Cert.OutMlps

end
-- ==== Proof.OutMlp.Blocks.lean ====
/-
  What the points of the call that closes the block leave, in closed form: the mixed rows, the new rows, the normed rows, the hidden values and the
  accumulated products.
-/
module

public import proofs.«01_k».proof.Proof.OutMlp.Frame
public import proofs.«01_k».proof.Proof.In.Blocks
public import Idealize.ShloMosaic.Lib.Pipeline.ValueKit

@[expose] public section

set_option maxRecDepth 16384

noncomputable section

namespace Cert.OutMlps

open Cert.OutMlpIdeal Cert.OutMlpIdeal.Gen Idealize.ShloMosaic Idealize.ShloMosaic.TcCoe Idealize.SL.Sem
open Idealize.ShloMosaic.Pointwise

/-! ## The body's values -/

/-- One entry of a row of 512, scaled by the root of the row's mean square and by a gain. -/
def half (h g : Fin 512 → EReal) (e : Fin 512) : EReal :=
  h e * Ideal.rsqrt (Ideal.div (∑ x, h x * h x) (Ideal.ofBits FTy.f32 1140850688#32) + Ideal.ofBits FTy.f32 897988541#32) * g e

theorem half_at (o : Vec Ideal S544x512 .f32) (g : Vec Ideal S1x512 .f32) (r : Fin 544) (e : Fin 512) :
    k0_pay1 o g (ix2 r e) = half (fun k => o (ix2 r k)) (fun k => g (ix2 0 k)) e := by
  pointwise [k0_pay1]
  rfl

theorem half_at' (o : Vec Ideal S544x512 .f32) (g : Vec Ideal S1x512 .f32) (r : Fin 544) (e : Fin 512) :
    k0_pay2 o g (ix2 r e) = half (fun k => o (ix2 r k)) (fun k => g (ix2 0 k)) e := by
  pointwise [k0_pay2]
  rfl

/-- The two normed halves side by side. -/
def mixRow (o rec ga gr : Fin 512 → EReal) (e : Fin 1024) : EReal :=
  if h : (e : ℕ) < 512 then half o ga ⟨e, h⟩ else half rec gr ⟨(e : ℕ) - 512, by omega⟩

theorem new_at (h : Vec Ideal S544x1024 .f32) (x : Vec Ideal S544x1024 .bf16) (w : Vec Ideal S1024x1024 .bf16) (r : Fin 544) (e : Fin 1024) :
    k0_pay4 h (k0_pay3 x) w (ix2 r e) = h (ix2 r e) + ∑ k : Fin 1024, x (ix2 r k) * w (ix2 k e) := by
  pointwise [k0_pay4, k0_pay3]

theorem acc_at (h : Vec Ideal S544x1024 .f32) (x : Vec Ideal S544x1024 .bf16) (w : Vec Ideal S1024x1024 .bf16) :
    k0_pay5 h (k0_pay3 x) w = k0_pay4 h (k0_pay3 x) w := by
  funext y
  idx_vars y
  pointwise [k0_pay5]

theorem norm_at (h : Vec Ideal S544x1024 .f32) (x : Vec Ideal S544x1024 .bf16) (w : Vec Ideal S1024x1024 .bf16) (g : Vec Ideal S1x1024 .f32) (r : Fin 544) (e : Fin 1024) :
    k0_pay6 h (k0_pay3 x) w g (ix2 r e) = InProj.scaled (fun k => k0_pay4 h (k0_pay3 x) w (ix2 r k)) (fun k => g (ix2 0 k)) e := by
  pointwise [k0_pay6]
  rfl

/-- Hidden values of one block of hidden units. -/
def hid (z : Vec Ideal S544x1024 .bf16) (w : Vec Ideal S1x1024x512 .bf16) (r : Fin 544) (e : Fin 512) : EReal :=
  max (∑ k : Fin 1024, z (ix2 r k) * w (ix3 0 k e)) (Ideal.ofBits FTy.f32 0#32)

/-- The products of their squares with a block of the second weights. -/
def part (z : Vec Ideal S544x1024 .bf16) (w : Vec Ideal S1x1024x512 .bf16) (d : Vec Ideal S1x512x1024 .bf16) (r : Fin 544) (e : Fin 1024) : EReal :=
  ∑ k : Fin 512, hid z w r k * hid z w r k * d (ix3 0 k e)

theorem hid_at0 (z : Vec Ideal S544x1024 .bf16) (w : Vec Ideal S1x1024x512 .bf16) (r : Fin 544) (e : Fin 512) : k0_pay9 z w (ix2 r e) = hid z w r e := by
  pointwise [k0_pay9, k0_pay8, k0_pay7, hid]

theorem hid_at1 (z : Vec Ideal S544x1024 .bf16) (w : Vec Ideal S1x1024x512 .bf16) (r : Fin 544) (e : Fin 512) : k0_pay12 z w (ix2 r e) = hid z w r e := by
  pointwise [k0_pay12, k0_pay11, k0_pay7, hid]

theorem hid_at2 (z : Vec Ideal S544x1024 .bf16) (w : Vec Ideal S1x1024x512 .bf16) (r : Fin 544) (e : Fin 512) : k0_pay15 (k0_pay7 z) w (ix2 r e) = hid z w r e := by
  pointwise [k0_pay15, k0_pay14, k0_pay7, hid]

theorem hid_at3 (z : Vec Ideal S544x1024 .bf16) (w : Vec Ideal S1x1024x512 .bf16) (r : Fin 544) (e : Fin 512) : k0_pay17 (k0_pay7 z) w (ix2 r e) = hid z w r e := by
  pointwise [k0_pay17, k0_pay16, k0_pay7, hid]

theorem part_at0 (z : Vec Ideal S544x1024 .bf16) (w : Vec Ideal S1x1024x512 .bf16) (d : Vec Ideal S1x512x1024 .bf16) (r : Fin 544) (e : Fin 1024) :
    k0_pay10 z w d (ix2 r e) = part z w d r e := by
  pointwise [k0_pay10, k0_pay8, k0_pay7, part, hid]

theorem part_at1 (z : Vec Ideal S544x1024 .bf16) (w : Vec Ideal S1x1024x512 .bf16) (d : Vec Ideal S1x512x1024 .bf16) (r : Fin 544) (e : Fin 1024) :
    k0_pay13 z w d (ix2 r e) = part z w d r e := by
  pointwise [k0_pay13, k0_pay11, k0_pay7, part, hid]

theorem sum_at (z : Vec Ideal S544x1024 .bf16) (p0 p1 : Vec Ideal S544x1024 .f32) (w2 : Vec Ideal S1x1024x512 .bf16) (d2 : Vec Ideal S1x512x1024 .bf16)
    (w3 : Vec Ideal S1x1024x512 .bf16) (d3 : Vec Ideal S1x512x1024 .bf16) (s : Vec Ideal S544x1024 .f32) (r : Fin 544) (e : Fin 1024) :
    k0_pay18 (k0_pay7 z) p0 p1 w2 d2 w3 d3 s (ix2 r e) = s (ix2 r e) + (p0 (ix2 r e) + p1 (ix2 r e) + part z w2 d2 r e + part z w3 d3 r e) := by
  pointwise [k0_pay18, k0_pay14, k0_pay16, k0_pay7, part, hid]

/-! ## The arrays -/

/-- All mixed rows. -/
def mixArr (o rec : S2176x512.Idx → EReal) (ga gr : S1x512.Idx → EReal) : S2176x1024.Idx → EReal := fun y =>
  mixRow (fun k => o (ix2 (y 0) k)) (fun k => rec (ix2 (y 0) k)) (fun k => ga (ix2 0 k)) (fun k => gr (ix2 0 k)) (y 1)

/-- All new rows. -/
def newArr (h x : S2176x1024.Idx → EReal) (w : S1024x1024.Idx → EReal) : S2176x1024.Idx → EReal := fun y =>
  h y + ∑ k : Fin 1024, x (ix2 (y 0) k) * w (ix2 k (y 1))

/-- A hidden value, by its block of hidden units. -/
def hidIn (z : S2176x1024.Idx → EReal) (wu : S8x1024x512.Idx → EReal) (r : Fin 2176) (b : Fin 8) (e : Fin 512) : EReal :=
  max (∑ k : Fin 1024, z (ix2 r k) * wu (ix3 b k e)) (Ideal.ofBits FTy.f32 0#32)

/-- What a block of hidden units adds to an output. -/
def partIn (z : S2176x1024.Idx → EReal) (wu : S8x1024x512.Idx → EReal) (wd : S8x512x1024.Idx → EReal) (r : Fin 2176) (e : Fin 1024) (b : Fin 8) : EReal :=
  ∑ k : Fin 512, hidIn z wu r b k * hidIn z wu r b k * wd (ix3 b k e)

/-- All hidden values. -/
def hidArr (z : S2176x1024.Idx → EReal) (wu : S8x1024x512.Idx → EReal) : S2176x4096.Idx → EReal := fun y =>
  hidIn z wu (y 0) ⟨(y 1 : ℕ) / 512, by have : (y 1 : ℕ) < 4096 := (y 1).isLt; omega⟩ ⟨(y 1 : ℕ) % 512, Nat.mod_lt _ (by decide)⟩

/-- All outputs of the block: eight blocks of hidden units added in two runs of four. -/
def outArr (n z : S2176x1024.Idx → EReal) (wu : S8x1024x512.Idx → EReal) (wd : S8x512x1024.Idx → EReal) : S2176x1024.Idx → EReal := fun y =>
  n y + (partIn z wu wd (y 0) (y 1) 0 + partIn z wu wd (y 0) (y 1) 1 + partIn z wu wd (y 0) (y 1) 2 + partIn z wu wd (y 0) (y 1) 3)
    + (partIn z wu wd (y 0) (y 1) 4 + partIn z wu wd (y 0) (y 1) 5 + partIn z wu wd (y 0) (y 1) 6 + partIn z wu wd (y 0) (y 1) 7)

theorem index0 : ∀ t : Fin cfg0.N, win0_0.index t = ![(t : ℕ) / 2, 0] := by decide +kernel
theorem index1 : ∀ t : Fin cfg0.N, win0_1.index t = ![(t : ℕ) / 2, 0] := by decide +kernel
theorem index2 : ∀ t : Fin cfg0.N, win0_2.index t = ![(t : ℕ) / 2, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![(t : ℕ) % 2, 0, 0] := by decide +kernel
theorem index8 : ∀ t : Fin cfg0.N, win0_8.index t = ![(t : ℕ) % 2, 0, 0] := by decide +kernel
theorem index9 : ∀ t : Fin cfg0.N, win0_9.index t = ![(t : ℕ) / 2, 0] := by decide +kernel
theorem index10 : ∀ t : Fin cfg0.N, win0_10.index t = ![(t : ℕ) / 2, 0] := by decide +kernel
theorem index11 : ∀ t : Fin cfg0.N, win0_11.index t = ![(t : ℕ) / 2, 0] := by decide +kernel
theorem index12 : ∀ t : Fin cfg0.N, win0_12.index t = ![(t : ℕ) / 2, (t : ℕ) % 2] := by decide +kernel
theorem index13 : ∀ t : Fin cfg0.N, win0_13.index t = ![(t : ℕ) / 2, 0] := by decide +kernel

/-- A row of a point's block by its place among all rows. -/
def row (t : Fin cfg0.N) (r : Fin 544) : Fin 2176 := ⟨544 * ((t : ℕ) / 2) + r, by have : cfg0.N = 8 := N_0; omega⟩

/-- A point's block of hidden units by its place among the eight. -/
def blk (t : Fin cfg0.N) (b : Fin 4) : Fin 8 := ⟨4 * ((t : ℕ) % 2) + b, by omega⟩

theorem row_base (t : Fin cfg0.N) (r : Fin 544) : row (base t) r = row t r := by
  apply Fin.ext
  show 544 * (((t : ℕ) - (t : ℕ) % 2) / 2) + (r : ℕ) = 544 * ((t : ℕ) / 2) + r
  omega

theorem half_congr {h h' g g' : Fin 512 → EReal} {e : Fin 512} (hh : ∀ k, h k = h' k) (hg : ∀ k, g k = g' k) : half h g e = half h' g' e := by
  rw [funext hh, funext hg]

theorem mixRow_congr {o o' rec rec' ga ga' gr gr' : Fin 512 → EReal} {e : Fin 1024} (h1 : ∀ k, o k = o' k) (h2 : ∀ k, rec k = rec' k) (h3 : ∀ k, ga k = ga' k)
    (h4 : ∀ k, gr k = gr' k) : mixRow o rec ga gr e = mixRow o' rec' ga' gr' e := by
  rw [funext h1, funext h2, funext h3, funext h4]

/-! ## One point -/

/-- The four loads of a block of hidden units' weights. -/
def up (X : Vec Ideal S4x1024x512 .bf16) (b : Fin 4) : Vec Ideal S1x1024x512 .bf16 := fun y => X (ix3 b (y 1) (y 2))
def down (X : Vec Ideal S4x512x1024 .bf16) (b : Fin 4) : Vec Ideal S1x512x1024 .bf16 := fun y => X (ix3 b (y 1) (y 2))

theorem up_ld (X : Vec Ideal S4x1024x512 .bf16) (b : Fin 4) (inb) : View.ld X (Rect.unit (s := S4x1024x512) ![b, 0, 0] S1x1024x512.size inb) = up X b := by
  funext y
  exact View.ld_unit_apply_of X _ _ _ _ _ fun a => by
    fin_cases a
    · have : (y 0 : ℕ) < 1 := (y 0).isLt
      show (b : ℕ) = (b : ℕ) + (y 0 : ℕ); omega
    · show (y 1 : ℕ) = 0 + (y 1 : ℕ); omega
    · show (y 2 : ℕ) = 0 + (y 2 : ℕ); omega

theorem down_ld (X : Vec Ideal S4x512x1024 .bf16) (b : Fin 4) (inb) : View.ld X (Rect.unit (s := S4x512x1024) ![b, 0, 0] S1x512x1024.size inb) = down X b := by
  funext y
  exact View.ld_unit_apply_of X _ _ _ _ _ fun a => by
    fin_cases a
    · have : (y 0 : ℕ) < 1 := (y 0).isLt
      show (b : ℕ) = (b : ℕ) + (y 0 : ℕ); omega
    · show (y 1 : ℕ) = 0 + (y 1 : ℕ); omega
    · show (y 2 : ℕ) = 0 + (y 2 : ℕ); omega

theorem up_ld0 (X : Vec Ideal S4x1024x512 .bf16) : View.ld X (Rect.unit ![0, 0, 0] ![1, 1024, 512] inb_S4x1024x512_S1x1024x512_0_0_0) = up X 0 := up_ld X 0 _
theorem down_ld0 (X : Vec Ideal S4x512x1024 .bf16) : View.ld X (Rect.unit ![0, 0, 0] ![1, 512, 1024] inb_S4x512x1024_S1x512x1024_0_0_0) = down X 0 := down_ld X 0 _
theorem up_ld1 (X : Vec Ideal S4x1024x512 .bf16) : View.ld X (Rect.unit ![1, 0, 0] ![1, 1024, 512] inb_S4x1024x512_S1x1024x512_1_0_0) = up X 1 := up_ld X 1 _
theorem down_ld1 (X : Vec Ideal S4x512x1024 .bf16) : View.ld X (Rect.unit ![1, 0, 0] ![1, 512, 1024] inb_S4x512x1024_S1x512x1024_1_0_0) = down X 1 := down_ld X 1 _
theorem up_ld2 (X : Vec Ideal S4x1024x512 .bf16) : View.ld X (Rect.unit ![2, 0, 0] ![1, 1024, 512] inb_S4x1024x512_S1x1024x512_2_0_0) = up X 2 := up_ld X 2 _
theorem down_ld2 (X : Vec Ideal S4x512x1024 .bf16) : View.ld X (Rect.unit ![2, 0, 0] ![1, 512, 1024] inb_S4x512x1024_S1x512x1024_2_0_0) = down X 2 := down_ld X 2 _
theorem up_ld3 (X : Vec Ideal S4x1024x512 .bf16) : View.ld X (Rect.unit ![3, 0, 0] ![1, 1024, 512] inb_S4x1024x512_S1x1024x512_3_0_0) = up X 3 := up_ld X 3 _
theorem down_ld3 (X : Vec Ideal S4x512x1024 .bf16) : View.ld X (Rect.unit ![3, 0, 0] ![1, 512, 1024] inb_S4x512x1024_S1x512x1024_3_0_0) = down X 3 := down_ld X 3 _

/-- The hidden values that a point stores, by their pieces. -/
def hidPieces (z : Vec Ideal S544x1024 .bf16) (X : Vec Ideal S4x1024x512 .bf16) : List (View.Piece (Elt Ideal) S544x2048 .bf16) :=
  [⟨Rect.unit ![0, 1536] ![544, 512] inb_S544x2048_S544x512_0_1536, k0_pay17 (k0_pay7 z) (up X 3)⟩,
    ⟨Rect.unit ![0, 1024] ![544, 512] inb_S544x2048_S544x512_0_1024, k0_pay15 (k0_pay7 z) (up X 2)⟩,
    ⟨Rect.unit ![0, 512] ![544, 512] inb_S544x2048_S544x512_0_512, k0_pay12 z (up X 1)⟩,
    ⟨Rect.unit ![0, 0] ![544, 512] inb_S544x2048_S544x512_0_0, k0_pay9 z (up X 0)⟩]

/-- The accumulator that a point leaves from the one it finds. -/
def accumulate (z : Vec Ideal S544x1024 .bf16) (X : Vec Ideal S4x1024x512 .bf16) (Y : Vec Ideal S4x512x1024 .bf16) (s : Vec Ideal S544x1024 .f32) : Vec Ideal S544x1024 .f32 :=
  k0_pay18 (k0_pay7 z) (k0_pay10 z (up X 0) (down Y 0)) (k0_pay13 z (up X 1) (down Y 1)) (up X 2) (down Y 2) (up X 3) (down Y 3) s

theorem hid_place (z : Vec Ideal S544x1024 .bf16) (X : Vec Ideal S4x1024x512 .bf16) {r r' : Fin 544} {b b' : Fin 4} {e e' : Fin 512} (hr : (r : ℕ) = r')
    (he : 512 * (b : ℕ) + e = 512 * (b' : ℕ) + e') : hid z (up X b') r' e' = hid z (up X b) r e := by
  obtain rfl : r = r' := Fin.ext hr
  obtain rfl : b = b' := Fin.ext (by omega)
  obtain rfl : e = e' := Fin.ext (by omega)
  rfl

theorem hidPieces_at (z : Vec Ideal S544x1024 .bf16) (X : Vec Ideal S4x1024x512 .bf16) (r : Fin 544) (b : Fin 4) (e : Fin 512) :
    View.canon (hidPieces z X) (ix2 r ⟨512 * b + e, by omega⟩) = hid z (up X b) r e := by
  unfold hidPieces
  canon_tiles x h
  · idx_vars x
    exact (hid_at3 _ _ _ _).trans (hid_place z X h0 h1)
  · idx_vars x
    exact (hid_at2 _ _ _ _).trans (hid_place z X h0 h1)
  · idx_vars x
    exact (hid_at1 _ _ _ _).trans (hid_place z X h0 h1)
  · idx_vars x
    exact (hid_at0 _ _ _ _).trans (hid_place z X h0 (h1.trans (by show (x1 : ℕ) = 512 * 0 + (x1 : ℕ); omega)))

theorem accumulate_at (z : Vec Ideal S544x1024 .bf16) (X : Vec Ideal S4x1024x512 .bf16) (Y : Vec Ideal S4x512x1024 .bf16) (s : Vec Ideal S544x1024 .f32) (r : Fin 544) (e : Fin 1024) :
    accumulate z X Y s (ix2 r e) = s (ix2 r e) + (part z (up X 0) (down Y 0) r e + part z (up X 1) (down Y 1) r e + part z (up X 2) (down Y 2) r e + part z (up X 3) (down Y 3) r e) := by
  unfold accumulate
  rw [sum_at, part_at0, part_at1]

variable (m : (ℓ : Loc nD τ sig) → Buf (Elt Ideal) ℓ) (c : Dev nD)

/-- The mixed rows' two pieces. -/
def mixPieces (o rec : Vec Ideal S544x512 .f32) (ga gr : Vec Ideal S1x512 .f32) : List (View.Piece (Elt Ideal) S544x1024 .bf16) :=
  [⟨Rect.unit ![0, 512] ![544, 512] inb_S544x1024_S544x512_0_512, k0_pay2 rec gr⟩,
    ⟨Rect.unit ![0, 0] ![544, 512] inb_S544x1024_S544x512_0_0, k0_pay1 o ga⟩]

theorem mixPieces_at (o rec : Vec Ideal S544x512 .f32) (ga gr : Vec Ideal S1x512 .f32) (r : Fin 544) (e : Fin 1024) :
    View.canon (mixPieces o rec ga gr) (ix2 r e) = mixRow (fun k => o (ix2 r k)) (fun k => rec (ix2 r k)) (fun k => ga (ix2 0 k)) (fun k => gr (ix2 0 k)) e := by
  unfold mixPieces mixRow
  canon_tiles x h
  · idx_vars x
    change (e : ℕ) = 512 + (x1 : ℕ) at h1
    obtain rfl : r = x0 := Fin.ext h0
    rw [dif_neg (by omega), half_at']
    exact congrArg _ (Fin.ext (by show (x1 : ℕ) = (e : ℕ) - 512; omega))
  · idx_vars x
    change (e : ℕ) = (x1 : ℕ) at h1
    obtain rfl : r = x0 := Fin.ext h0
    rw [dif_pos (by omega), half_at]
    exact congrArg _ (Fin.ext h1.symm)

theorem mix_block (t : Fin cfg0.N) (h : t.val % 2 = 0) : mixAt m c t h = View.canon (mixPieces (iblk m c 1 t) (iblk m c 2 t) (iblk m c 3 t) (iblk m c 4 t)) := by
  unfold mixAt first
  frame_out
  rfl

theorem mix_read (t : Fin cfg0.N) (h : t.val % 2 = 0) :
    (stage10 t).view.readCov (mixPieces (iblk m c 1 t) (iblk m c 2 t) (iblk m c 3 t) (iblk m c 4 t))
      (Rect.unit ![0, 0] ![544, 1024] inb_S544x1024_S544x1024_0_0).toLoadRect = mixAt m c t h := by
  rw [mix_block, show (stage10 t).view.readCov (mixPieces (iblk m c 1 t) (iblk m c 2 t) (iblk m c 3 t) (iblk m c 4 t))
      (Rect.unit ![0, 0] ![544, 1024] inb_S544x1024_S544x1024_0_0).toLoadRect = View.ld (View.canon (mixPieces (iblk m c 1 t) (iblk m c 2 t) (iblk m c 3 t) (iblk m c 4 t)))
        (Rect.unit ![0, 0] ![544, 1024] inb_S544x1024_S544x1024_0_0) from
    View.readCov_eq_canon_ld _ _ _ (fun y => View.cover_of_tiled_head _ _ _ (by rfl) y)]
  exact View.ld_unit_lit' _ _ (by decide)

theorem new_block (t : Fin cfg0.N) (h : t.val % 2 = 0) : newAt m c t h = k0_pay4 (iblk m c 0 t) (k0_pay3 (mixAt m c t h)) (iblk m c 5 t) := by
  rw [← mix_read]
  unfold newAt first
  frame_out
  rfl

theorem norm_block (t : Fin cfg0.N) (h : t.val % 2 = 0) : normAt m c t h = k0_pay6 (iblk m c 0 t) (k0_pay3 (mixAt m c t h)) (iblk m c 5 t) (iblk m c 6 t) := by
  rw [← mix_read]
  unfold normAt first
  frame_out
  rfl

theorem hidFirst_block (t : Fin cfg0.N) (h : t.val % 2 = 0) : hidFirst m c t h = View.canon (hidPieces (normAt m c t h) (iblk m c 7 t)) := by
  rw [norm_block, ← mix_read]
  unfold hidFirst first hidPieces
  frame_out
  simp only [up_ld0, up_ld1, up_ld2, up_ld3]
  rfl

theorem accAt_block (t : Fin cfg0.N) (h : t.val % 2 = 0) : accAt m c t h = accumulate (normAt m c t h) (iblk m c 7 t) (iblk m c 8 t) (newAt m c t h) := by
  rw [norm_block, new_block, ← acc_at, ← mix_read]
  unfold accAt first accumulate
  frame_out
  simp only [up_ld0, down_ld0, up_ld1, down_ld1, up_ld2, down_ld2, up_ld3, down_ld3]
  rfl

theorem hidSecond_block (t : Fin cfg0.N) (h : t.val % 2 = 1) : hidSecond m c t h = View.canon (hidPieces (normAt m c (base t) (base_even t)) (iblk m c 7 t)) := by
  unfold hidSecond second hidPieces
  generalize normAt m c (base t) (base_even t) = z
  generalize accAt m c (base t) (base_even t) = s
  frame_out
  simp only [up_ld0, up_ld1, up_ld2, up_ld3]

theorem out_block (t : Fin cfg0.N) (h : t.val % 2 = 1) :
    outAt m c t h = accumulate (normAt m c (base t) (base_even t)) (iblk m c 7 t) (iblk m c 8 t) (accAt m c (base t) (base_even t)) := by
  unfold outAt second accumulate
  generalize normAt m c (base t) (base_even t) = z
  generalize accAt m c (base t) (base_even t) = s
  frame_out
  simp only [up_ld0, down_ld0, up_ld1, down_ld1, up_ld2, down_ld2, up_ld3, down_ld3]
  rw [show View.read (Elt Ideal) (View.whole cc0_scratch0) ((Memref.isWhole_whole _).unread s) = s from Memref.IsWhole.read_unread _ _]

/-! ## All points -/

/-- The arrays that the region ends with. -/
abbrev M := mixArr (V m c main_arg1) (V m c main_arg2) (V m c main_arg3) (V m c main_arg4)
abbrev N := newArr (V m c main_arg0) (M m c) (V m c main_v0)
abbrev Z := InProj.rowsArr (N m c) (V m c main_arg6)

theorem mix_val (t : Fin cfg0.N) (h : t.val % 2 = 0) (r : Fin 544) (e : Fin 1024) : mixAt m c t h (ix2 r e) = M m c (ix2 (row t r) e) := by
  rw [mix_block, mixPieces_at]
  unfold M mixArr
  refine mixRow_congr (fun k => ?_) (fun k => ?_) (fun k => ?_) (fun k => ?_) <;> blk_ext! [iblk, row, index1 t, index2 t, index3 t, index4 t]

theorem new_val (t : Fin cfg0.N) (h : t.val % 2 = 0) (r : Fin 544) (e : Fin 1024) : newAt m c t h (ix2 r e) = N m c (ix2 (row t r) e) := by
  rw [new_block, new_at]
  simp only [mix_val]
  unfold N newArr
  refine congrArg₂ (· + ·) ?_ (InProj.sum_congr (fun k => rfl) (fun k => ?_))
  · blk_ext! [iblk, row, index0 t]
  · blk_ext! [iblk, row, index5 t]

theorem norm_val (t : Fin cfg0.N) (h : t.val % 2 = 0) (r : Fin 544) (e : Fin 1024) : normAt m c t h (ix2 r e) = Z m c (ix2 (row t r) e) := by
  rw [norm_block, norm_at, ← new_block]
  simp only [new_val]
  unfold Z InProj.rowsArr
  refine InProj.scaled_congr (fun k => rfl) (fun k => ?_) rfl
  blk_ext! [iblk, index6 t]

theorem up_val (t : Fin cfg0.N) (b : Fin 4) (k : Fin 1024) (e : Fin 512) : up (iblk m c 7 t) b (ix3 0 k e) = V m c main_v3 (ix3 (blk t b) k e) := by
  unfold up
  blk_ext! [iblk, blk, index7 t]

theorem down_val (t : Fin cfg0.N) (b : Fin 4) (k : Fin 512) (e : Fin 1024) : down (iblk m c 8 t) b (ix3 0 k e) = V m c main_v5 (ix3 (blk t b) k e) := by
  unfold down
  blk_ext! [iblk, blk, index8 t]

theorem hid_val (t : Fin cfg0.N) (b : Fin 4) (r : Fin 544) (e : Fin 512) :
    hid (normAt m c (base t) (base_even t)) (up (iblk m c 7 t) b) r e = hidIn (Z m c) (V m c main_v3) (row t r) (blk t b) e := by
  unfold hid hidIn
  simp only [norm_val, up_val, row_base]

theorem part_val (t : Fin cfg0.N) (b : Fin 4) (r : Fin 544) (e : Fin 1024) :
    part (normAt m c (base t) (base_even t)) (up (iblk m c 7 t) b) (down (iblk m c 8 t) b) r e = partIn (Z m c) (V m c main_v3) (V m c main_v5) (row t r) e (blk t b) := by
  unfold part partIn
  simp only [hid_val, down_val]

/-- The hidden values at every point. -/
theorem hid_point (t : Fin cfg0.N) : (dats m 0 c).after 12 t = View.canon (hidPieces (normAt m c (base t) (base_even t)) (iblk m c 7 t)) := by
  rw [after_12]
  rcases Nat.mod_two_eq_zero_or_one t.val with h | h
  · rw [dif_neg (by omega), hidFirst_block, at_congr (normAt m c) (base_of_even t h) _ h]
  · rw [dif_pos h, hidSecond_block]

theorem hid_final : (dats m 0 c).arrAt 12 cfg0.N = hidArr (Z m c) (V m c main_v3) := by
  refine (dats m 0 c).arrAt_eq_of_covers 12 (hidArr (Z m c) (V m c main_v3)) (by decide +kernel) fun t hf y => ?_
  blk_simp
  rw [hid_point]
  idx_vars y
  have hy : y1 = ⟨512 * ((⟨(y1 : ℕ) / 512, by omega⟩ : Fin 4) : ℕ) + ((⟨(y1 : ℕ) % 512, Nat.mod_lt _ (by decide)⟩ : Fin 512) : ℕ), by
      show 512 * ((y1 : ℕ) / 512) + (y1 : ℕ) % 512 < 2048; omega⟩ := Fin.ext (Nat.div_add_mod _ _).symm
  rw [hy, hidPieces_at, hid_val, ← hy]
  have e0 : ((View.whole main_v6_3).slice (win0_12.rect t)).emb (ix2 y0 y1) = ix2 (row t y0) ⟨2048 * ((t : ℕ) % 2) + y1, by omega⟩ := by
    refine funext fun a => Fin.ext ?_
    fin_cases a
    · blk_simp [index12 t, row]
      show (t : ℕ) / 2 * 544 + (y0 : ℕ) = 544 * ((t : ℕ) / 2) + (y0 : ℕ)
      omega
    · blk_simp [index12 t]
      show (t : ℕ) % 2 * 2048 + (y1 : ℕ) = 2048 * ((t : ℕ) % 2) + (y1 : ℕ)
      omega
  rw [e0]
  unfold hidArr
  refine congrArg₂ (hidIn (Z m c) (V m c main_v3) (row t y0)) (Fin.ext ?_) (Fin.ext ?_)
  · show 4 * ((t : ℕ) % 2) + (y1 : ℕ) / 512 = (2048 * ((t : ℕ) % 2) + y1) / 512
    omega
  · show (y1 : ℕ) % 512 = (2048 * ((t : ℕ) % 2) + y1) % 512
    omega

theorem mix_final : (dats m 0 c).arrAt 10 cfg0.N = M m c := by
  refine (dats m 0 c).arrAt_eq_of_covers 10 (M m c) (by decide +kernel) fun t hf y => ?_
  blk_simp
  rw [after_10]
  idx_vars y
  rw [mix_val, row_base]
  refine congrArg (M m c) (funext fun a => Fin.ext ?_)
  fin_cases a
  · blk_simp [index10 t, row]
    show 544 * ((t : ℕ) / 2) + (y0 : ℕ) = (t : ℕ) / 2 * 544 + (y0 : ℕ)
    omega
  · blk_simp [index10 t]
    rfl

theorem new_final : (dats m 0 c).arrAt 9 cfg0.N = N m c := by
  refine (dats m 0 c).arrAt_eq_of_covers 9 (N m c) (by decide +kernel) fun t hf y => ?_
  blk_simp
  rw [after_9]
  idx_vars y
  rw [new_val, row_base]
  refine congrArg (N m c) (funext fun a => Fin.ext ?_)
  fin_cases a
  · blk_simp [index9 t, row]
    show 544 * ((t : ℕ) / 2) + (y0 : ℕ) = (t : ℕ) / 2 * 544 + (y0 : ℕ)
    omega
  · blk_simp [index9 t]
    rfl

theorem norm_final : (dats m 0 c).arrAt 11 cfg0.N = Z m c := by
  refine (dats m 0 c).arrAt_eq_of_covers 11 (Z m c) (by decide +kernel) fun t hf y => ?_
  blk_simp
  rw [after_11]
  idx_vars y
  rw [norm_val, row_base]
  refine congrArg (Z m c) (funext fun a => Fin.ext ?_)
  fin_cases a
  · blk_simp [index11 t, row]
    show 544 * ((t : ℕ) / 2) + (y0 : ℕ) = (t : ℕ) / 2 * 544 + (y0 : ℕ)
    omega
  · blk_simp [index11 t]
    rfl

theorem acc_val (t : Fin cfg0.N) (h : t.val % 2 = 1) (r : Fin 544) (e : Fin 1024) : accAt m c (base t) (base_even t) (ix2 r e) =
    N m c (ix2 (row t r) e) + (partIn (Z m c) (V m c main_v3) (V m c main_v5) (row t r) e 0 + partIn (Z m c) (V m c main_v3) (V m c main_v5) (row t r) e 1
      + partIn (Z m c) (V m c main_v3) (V m c main_v5) (row t r) e 2 + partIn (Z m c) (V m c main_v3) (V m c main_v5) (row t r) e 3) := by
  have hb : base (base t) = base t := base_of_even _ (base_even t)
  have h0 : ∀ b : Fin 4, blk (base t) b = ⟨b, by omega⟩ := fun b => Fin.ext (by
    show 4 * (((t : ℕ) - (t : ℕ) % 2) % 2) + (b : ℕ) = b; omega)
  have hp := fun b => part_val m c (base t) b r e
  rw [at_congr (normAt m c) hb _ (base_even t)] at hp
  rw [accAt_block, accumulate_at, new_val, hp, hp, hp, hp, row_base, h0, h0, h0, h0]
  rfl

theorem out_final : (dats m 0 c).arrAt 13 cfg0.N = outArr (N m c) (Z m c) (V m c main_v3) (V m c main_v5) := by
  refine (dats m 0 c).arrAt_eq_of_covers 13 (outArr (N m c) (Z m c) (V m c main_v3) (V m c main_v5)) (by decide +kernel) fun t hf y => ?_
  have h : t.val % 2 = 1 := (flush0_13 t).mp hf
  blk_simp
  rw [after_13, dif_pos h, out_block]
  idx_vars y
  have h1 : ∀ b : Fin 4, blk t b = ⟨4 + b, by omega⟩ := fun b => Fin.ext (by show 4 * ((t : ℕ) % 2) + (b : ℕ) = 4 + b; omega)
  rw [accumulate_at, acc_val m c t h, part_val, part_val, part_val, part_val, h1, h1, h1, h1]
  unfold outArr
  have e0 : ((View.whole main_v6_4).slice (win0_13.rect t)).emb (ix2 y0 y1) = ix2 (row t y0) y1 := by
    refine funext fun a => Fin.ext ?_
    fin_cases a
    · blk_simp [index13 t, row]
      show (t : ℕ) / 2 * 544 + (y0 : ℕ) = 544 * ((t : ℕ) / 2) + (y0 : ℕ)
      omega
    · blk_simp [index13 t]
      rfl
  rw [e0]
  rfl

end Cert.OutMlps

end
-- ==== Proof.MlpBack.Blocks.lean ====
/-
  What the points of the MLP's backward pass leave, in closed form: the hidden sums' gradients, the accumulated products, the rows' gradient and the gain's.
-/
module

public import proofs.«01_k».proof.Proof.MlpBack.Frame
public import proofs.«01_k».proof.Proof.MlpBack.Norm
public import proofs.«01_k».proof.Proof.OutMlp.Blocks
public import proofs.«01_k».proof.Proof.MlpGrad.Blocks
public import Idealize.ShloMosaic.Lib.Pipeline.ValueKit

@[expose] public section

set_option maxRecDepth 16384

noncomputable section

namespace Cert.MlpBacks

open Cert.MlpBackIdeal Cert.MlpBackIdeal.Gen Idealize.ShloMosaic Idealize.ShloMosaic.TcCoe Idealize.SL.Sem
open Idealize.ShloMosaic.Pointwise
open Cert.OutMlps (up down)

/-! ## The body's values -/

/-- A hidden sum's gradient: twice its activation, times the gradient that the second weights hand down. -/
def sumGrad (z : Vec Ideal S544x1024 .bf16) (d : Vec Ideal S1x512x1024 .bf16) (u : Vec Ideal S544x512 .bf16) (r : Fin 544) (e : Fin 512) : EReal :=
  (∑ k : Fin 1024, z (ix2 r k) * d (ix3 0 e k)) * (Ideal.ofBits FTy.f32 1073741824#32 * u (ix2 r e))

/-- Their products with a block of the first weights. -/
def part (z : Vec Ideal S544x1024 .bf16) (d : Vec Ideal S1x512x1024 .bf16) (u : Vec Ideal S544x512 .bf16) (w : Vec Ideal S1x1024x512 .bf16) (r : Fin 544) (e : Fin 1024) : EReal :=
  ∑ k : Fin 512, sumGrad z d u r k * w (ix3 0 e k)

theorem sum_at0 (z : Vec Ideal S544x1024 .bf16) (d : Vec Ideal S1x512x1024 .bf16) (u : Vec Ideal S544x512 .bf16) (r : Fin 544) (e : Fin 512) :
    k0_pay11 z d u (ix2 r e) = sumGrad z d u r e := by
  pointwise [k0_pay11, sumGrad]

theorem sum_at1 (z : Vec Ideal S544x1024 .bf16) (d : Vec Ideal S1x512x1024 .bf16) (u : Vec Ideal S544x512 .bf16) (r : Fin 544) (e : Fin 512) :
    k0_pay14 (k0_pay13 z d u) (ix2 r e) = sumGrad z d u r e := by
  pointwise [k0_pay14, k0_pay13, sumGrad]

theorem sum_at2 (z : Vec Ideal S544x1024 .bf16) (d : Vec Ideal S1x512x1024 .bf16) (u : Vec Ideal S544x512 .bf16) (r : Fin 544) (e : Fin 512) :
    k0_pay15 z d u (ix2 r e) = sumGrad z d u r e := by
  pointwise [k0_pay15, sumGrad]

theorem sum_at3 (z : Vec Ideal S544x1024 .bf16) (d : Vec Ideal S1x512x1024 .bf16) (u : Vec Ideal S544x512 .bf16) (r : Fin 544) (e : Fin 512) :
    k0_pay1 (k0_pay17 z d) u (ix2 r e) = sumGrad z d u r e := by
  pointwise [k0_pay1, k0_pay17, sumGrad]

/-- The four blocks of hidden units of a point. -/
def total (z : Vec Ideal S544x1024 .bf16) (d0 d1 d2 d3 : Vec Ideal S1x512x1024 .bf16) (u0 u1 u2 u3 : Vec Ideal S544x512 .bf16) (w0 w1 w2 w3 : Vec Ideal S1x1024x512 .bf16)
    (r : Fin 544) (e : Fin 1024) : EReal := part z d0 u0 w0 r e + part z d1 u1 w1 r e + part z d2 u2 w2 r e + part z d3 u3 w3 r e

theorem total_at (z : Vec Ideal S544x1024 .bf16) (d0 d1 d2 d3 : Vec Ideal S1x512x1024 .bf16) (u0 u1 u2 u3 : Vec Ideal S544x512 .bf16) (w0 w1 w2 w3 : Vec Ideal S1x1024x512 .bf16)
    (r : Fin 544) (e : Fin 1024) :
    k0_pay3 (k0_pay16 (k0_pay12 z d0 u0 w0) (k0_pay13 z d1 u1) w1 z d2 u2 w2) (k0_pay17 z d3) u3 w3 (ix2 r e) = total z d0 d1 d2 d3 u0 u1 u2 u3 w0 w1 w2 w3 r e := by
  pointwise [k0_pay3, k0_pay2, k0_pay16, k0_pay12, k0_pay11, k0_pay14, k0_pay13, k0_pay15, k0_pay1, k0_pay17, total, part, sumGrad]

theorem more_at (z : Vec Ideal S544x1024 .bf16) (d0 d1 d2 d3 : Vec Ideal S1x512x1024 .bf16) (u0 u1 u2 u3 : Vec Ideal S544x512 .bf16) (w0 w1 w2 w3 : Vec Ideal S1x1024x512 .bf16)
    (s : Vec Ideal S544x1024 .f32) (r : Fin 544) (e : Fin 1024) :
    k0_pay4 (k0_pay16 (k0_pay12 z d0 u0 w0) (k0_pay13 z d1 u1) w1 z d2 u2 w2) (k0_pay17 z d3) u3 w3 s (ix2 r e) =
      s (ix2 r e) + total z d0 d1 d2 d3 u0 u1 u2 u3 w0 w1 w2 w3 r e := by
  pointwise [k0_pay4, k0_pay2, k0_pay16, k0_pay12, k0_pay11, k0_pay14, k0_pay13, k0_pay15, k0_pay1, k0_pay17, total, part, sumGrad]

/-- The inverse root of a row's mean square, and the norm's backward pass on a row. -/
abbrev root (h : Fin 1024 → EReal) : EReal := NormBack.root 1149239296#32 h
abbrev closed (h g a : Fin 1024 → EReal) (e : Fin 1024) : EReal := NormBack.closed 1149239296#32 h g a e

theorem rows_at (h : Vec Ideal S544x1024 .f32) (g : Vec Ideal S1x1024 .f32) (a d : Vec Ideal S544x1024 .f32) (r : Fin 544) (e : Fin 1024) :
    k0_pay8 h g a d (ix2 r e) = d (ix2 r e) + closed (fun k => h (ix2 r k)) (fun k => g (ix2 0 k)) (fun k => a (ix2 r k)) e := by
  pointwise [k0_pay8, k0_pay6, k0_pay5]
  rfl

theorem gain_at (h a : Vec Ideal S544x1024 .f32) (e : Fin 1024) :
    k0_pay7 h a (ix2 0 e) = ∑ r : Fin 544, a (ix2 r e) * (h (ix2 r e) * root (fun k => h (ix2 r k))) := by
  pointwise [k0_pay7, k0_pay6, k0_pay5]
  rfl

theorem gain_more (h a : Vec Ideal S544x1024 .f32) (w : Vec Ideal S1x1024 .f32) (e : Fin 1024) :
    k0_pay9 h a w (ix2 0 e) = w (ix2 0 e) + k0_pay7 h a (ix2 0 e) := by
  pointwise [k0_pay9]

theorem round_at (d : Vec Ideal S544x1024 .f32) (r : Fin 544) (e : Fin 1024) : k0_pay10 d (ix2 r e) = d (ix2 r e) := by
  pointwise [k0_pay10]

/-! ## One point -/

/-- The columns of a block of hidden units. -/
def cols (X : Vec Ideal S544x2048 .bf16) (b : Fin 4) : Vec Ideal S544x512 .bf16 := fun y => X (ix2 (y 0) ⟨512 * b + (y 1 : ℕ), by have : (y 1 : ℕ) < 512 := (y 1).isLt; omega⟩)

theorem cols_ld (X : Vec Ideal S544x2048 .bf16) (b : Fin 4) (n : ℕ) (hn : n = 512 * (b : ℕ)) (inb) :
    View.ld X (Rect.unit (s := S544x2048) ![0, n] S544x512.size inb) = cols X b := by
  funext y
  exact View.ld_unit_apply_of X _ _ _ _ _ fun a => by
    fin_cases a
    · show (y 0 : ℕ) = 0 + (y 0 : ℕ); omega
    · show 512 * (b : ℕ) + (y 1 : ℕ) = n + (y 1 : ℕ); omega

theorem cols_ld0 (X : Vec Ideal S544x2048 .bf16) : View.ld X (Rect.unit ![0, 0] ![544, 512] inb_S544x2048_S544x512_0_0) = cols X 0 := cols_ld X 0 _ rfl _
theorem cols_ld1 (X : Vec Ideal S544x2048 .bf16) : View.ld X (Rect.unit ![0, 512] ![544, 512] inb_S544x2048_S544x512_0_512) = cols X 1 := cols_ld X 1 _ rfl _
theorem cols_ld2 (X : Vec Ideal S544x2048 .bf16) : View.ld X (Rect.unit ![0, 1024] ![544, 512] inb_S544x2048_S544x512_0_1024) = cols X 2 := cols_ld X 2 _ rfl _
theorem cols_ld3 (X : Vec Ideal S544x2048 .bf16) : View.ld X (Rect.unit ![0, 1536] ![544, 512] inb_S544x2048_S544x512_0_1536) = cols X 3 := cols_ld X 3 _ rfl _
theorem up_ld0 (X : Vec Ideal S4x1024x512 .bf16) : View.ld X (Rect.unit ![0, 0, 0] ![1, 1024, 512] inb_S4x1024x512_S1x1024x512_0_0_0) = up X 0 := OutMlps.up_ld X 0 _
theorem up_ld1 (X : Vec Ideal S4x1024x512 .bf16) : View.ld X (Rect.unit ![1, 0, 0] ![1, 1024, 512] inb_S4x1024x512_S1x1024x512_1_0_0) = up X 1 := OutMlps.up_ld X 1 _
theorem up_ld2 (X : Vec Ideal S4x1024x512 .bf16) : View.ld X (Rect.unit ![2, 0, 0] ![1, 1024, 512] inb_S4x1024x512_S1x1024x512_2_0_0) = up X 2 := OutMlps.up_ld X 2 _
theorem up_ld3 (X : Vec Ideal S4x1024x512 .bf16) : View.ld X (Rect.unit ![3, 0, 0] ![1, 1024, 512] inb_S4x1024x512_S1x1024x512_3_0_0) = up X 3 := OutMlps.up_ld X 3 _
theorem down_ld0 (X : Vec Ideal S4x512x1024 .bf16) : View.ld X (Rect.unit ![0, 0, 0] ![1, 512, 1024] inb_S4x512x1024_S1x512x1024_0_0_0) = down X 0 := OutMlps.down_ld X 0 _
theorem down_ld1 (X : Vec Ideal S4x512x1024 .bf16) : View.ld X (Rect.unit ![1, 0, 0] ![1, 512, 1024] inb_S4x512x1024_S1x512x1024_1_0_0) = down X 1 := OutMlps.down_ld X 1 _
theorem down_ld2 (X : Vec Ideal S4x512x1024 .bf16) : View.ld X (Rect.unit ![2, 0, 0] ![1, 512, 1024] inb_S4x512x1024_S1x512x1024_2_0_0) = down X 2 := OutMlps.down_ld X 2 _
theorem down_ld3 (X : Vec Ideal S4x512x1024 .bf16) : View.ld X (Rect.unit ![3, 0, 0] ![1, 512, 1024] inb_S4x512x1024_S1x512x1024_3_0_0) = down X 3 := OutMlps.down_ld X 3 _

/-- The hidden sums' gradients that a point stores, by their pieces. -/
def sumPieces (z : Vec Ideal S544x1024 .bf16) (U : Vec Ideal S544x2048 .bf16) (D : Vec Ideal S4x512x1024 .bf16) : List (View.Piece (Elt Ideal) S544x2048 .bf16) :=
  [⟨Rect.unit ![0, 1536] ![544, 512] inb_S544x2048_S544x512_0_1536, k0_pay1 (k0_pay17 z (down D 3)) (cols U 3)⟩,
    ⟨Rect.unit ![0, 1024] ![544, 512] inb_S544x2048_S544x512_0_1024, k0_pay15 z (down D 2) (cols U 2)⟩,
    ⟨Rect.unit ![0, 512] ![544, 512] inb_S544x2048_S544x512_0_512, k0_pay14 (k0_pay13 z (down D 1) (cols U 1))⟩,
    ⟨Rect.unit ![0, 0] ![544, 512] inb_S544x2048_S544x512_0_0, k0_pay11 z (down D 0) (cols U 0)⟩]

/-- The accumulator that a first point leaves, and that a second point leaves from the one it finds. -/
def start (z : Vec Ideal S544x1024 .bf16) (U : Vec Ideal S544x2048 .bf16) (W : Vec Ideal S4x1024x512 .bf16) (D : Vec Ideal S4x512x1024 .bf16) : Vec Ideal S544x1024 .f32 :=
  k0_pay3 (k0_pay16 (k0_pay12 z (down D 0) (cols U 0) (up W 0)) (k0_pay13 z (down D 1) (cols U 1)) (up W 1) z (down D 2) (cols U 2) (up W 2)) (k0_pay17 z (down D 3)) (cols U 3) (up W 3)
def more (z : Vec Ideal S544x1024 .bf16) (U : Vec Ideal S544x2048 .bf16) (W : Vec Ideal S4x1024x512 .bf16) (D : Vec Ideal S4x512x1024 .bf16) (s : Vec Ideal S544x1024 .f32) :
    Vec Ideal S544x1024 .f32 :=
  k0_pay4 (k0_pay16 (k0_pay12 z (down D 0) (cols U 0) (up W 0)) (k0_pay13 z (down D 1) (cols U 1)) (up W 1) z (down D 2) (cols U 2) (up W 2)) (k0_pay17 z (down D 3)) (cols U 3) (up W 3) s

theorem sum_place (z : Vec Ideal S544x1024 .bf16) (U : Vec Ideal S544x2048 .bf16) (D : Vec Ideal S4x512x1024 .bf16) {r r' : Fin 544} {b b' : Fin 4} {e e' : Fin 512}
    (hr : (r : ℕ) = r') (he : 512 * (b : ℕ) + e = 512 * (b' : ℕ) + e') : sumGrad z (down D b') (cols U b') r' e' = sumGrad z (down D b) (cols U b) r e := by
  obtain rfl : r = r' := Fin.ext hr
  obtain rfl : b = b' := Fin.ext (by omega)
  obtain rfl : e = e' := Fin.ext (by omega)
  rfl

theorem sumPieces_at (z : Vec Ideal S544x1024 .bf16) (U : Vec Ideal S544x2048 .bf16) (D : Vec Ideal S4x512x1024 .bf16) (r : Fin 544) (b : Fin 4) (e : Fin 512) :
    View.canon (sumPieces z U D) (ix2 r ⟨512 * b + e, by omega⟩) = sumGrad z (down D b) (cols U b) r e := by
  unfold sumPieces
  canon_tiles x h
  · idx_vars x
    exact (sum_at3 _ _ _ _ _).trans (sum_place z U D h0 h1)
  · idx_vars x
    exact (sum_at2 _ _ _ _ _).trans (sum_place z U D h0 h1)
  · idx_vars x
    exact (sum_at1 _ _ _ _ _).trans (sum_place z U D h0 h1)
  · idx_vars x
    exact (sum_at0 _ _ _ _ _).trans (sum_place z U D h0 (h1.trans (by show (x1 : ℕ) = 512 * 0 + (x1 : ℕ); omega)))

variable (m : (ℓ : Loc nD τ sig) → Buf (Elt Ideal) ℓ) (c : Dev nD)

theorem round_block (t : Fin cfg0.N) (h : t.val % 2 = 0) : roundAt m c t h = k0_pay10 (iblk m c 0 t) := by
  unfold roundAt first
  frame_out
  try rfl

theorem sumsFirst_block (t : Fin cfg0.N) (h : t.val % 2 = 0) : sumsFirst m c t h = View.canon (sumPieces (roundAt m c t h) (iblk m c 1 t) (iblk m c 5 t)) := by
  rw [round_block]
  unfold sumsFirst first sumPieces
  frame_out
  simp only [down_ld0, down_ld1, down_ld2, down_ld3, cols_ld0, cols_ld1, cols_ld2, cols_ld3]
  try rfl

theorem accAt_block (t : Fin cfg0.N) (h : t.val % 2 = 0) : accAt m c t h = start (roundAt m c t h) (iblk m c 1 t) (iblk m c 4 t) (iblk m c 5 t) := by
  rw [round_block]
  unfold accAt first start
  frame_out
  simp only [up_ld0, up_ld1, up_ld2, up_ld3, down_ld0, down_ld1, down_ld2, down_ld3, cols_ld0, cols_ld1, cols_ld2, cols_ld3]
  try rfl

theorem sumsSecond_block (t : Fin cfg0.N) (h : t.val % 2 = 1) :
    sumsSecond m c t h = View.canon (sumPieces (roundAt m c (base t) (base_even t)) (iblk m c 1 t) (iblk m c 5 t)) := by
  unfold sumsSecond second third sumPieces
  generalize roundAt m c (base t) (base_even t) = z
  generalize accAt m c (base t) (base_even t) = s
  generalize gainAt m c (prev t) = w
  split
  · frame_out
    simp only [down_ld0, down_ld1, down_ld2, down_ld3, cols_ld0, cols_ld1, cols_ld2, cols_ld3]
    try rfl
  · frame_out
    simp only [down_ld0, down_ld1, down_ld2, down_ld3, cols_ld0, cols_ld1, cols_ld2, cols_ld3]
    try rfl

/-- The products that a block of rows ends with. -/
abbrev sumAt (t : Fin cfg0.N) : Vec Ideal S544x1024 .f32 :=
  more (roundAt m c (base t) (base_even t)) (iblk m c 1 t) (iblk m c 4 t) (iblk m c 5 t) (accAt m c (base t) (base_even t))

theorem rows_block (t : Fin cfg0.N) (h : t.val % 2 = 1) : rowsAt m c t h = k0_pay8 (iblk m c 2 t) (iblk m c 3 t) (sumAt m c t) (iblk m c 0 t) := by
  unfold rowsAt second third sumAt more
  generalize roundAt m c (base t) (base_even t) = z
  generalize accAt m c (base t) (base_even t) = s
  generalize gainAt m c (prev t) = w
  split
  · frame_out
    simp only [up_ld0, up_ld1, up_ld2, up_ld3, down_ld0, down_ld1, down_ld2, down_ld3, cols_ld0, cols_ld1, cols_ld2, cols_ld3]
    rw [show View.read (Elt Ideal) (View.whole cc0_scratch0) ((Memref.isWhole_whole _).unread s) = s from Memref.IsWhole.read_unread _ _]
  · frame_out
    simp only [up_ld0, up_ld1, up_ld2, up_ld3, down_ld0, down_ld1, down_ld2, down_ld3, cols_ld0, cols_ld1, cols_ld2, cols_ld3]
    rw [show View.read (Elt Ideal) (View.whole cc0_scratch0) ((Memref.isWhole_whole _).unread s) = s from Memref.IsWhole.read_unread _ _]

theorem gain_block_one (t : Fin cfg0.N) (h : t.val = 1) : gainAt m c t = k0_pay7 (iblk m c 2 t) (sumAt m c t) := by
  rw [gain_one m c t h]
  unfold second sumAt more
  generalize roundAt m c (base t) (base_even t) = z
  generalize accAt m c (base t) (base_even t) = s
  frame_out
  simp only [up_ld0, up_ld1, up_ld2, up_ld3, down_ld0, down_ld1, down_ld2, down_ld3, cols_ld0, cols_ld1, cols_ld2, cols_ld3]
  rw [show View.read (Elt Ideal) (View.whole cc0_scratch0) ((Memref.isWhole_whole _).unread s) = s from Memref.IsWhole.read_unread _ _]

theorem gain_block_later (t : Fin cfg0.N) (h : t.val % 2 = 1) (h1 : t.val ≠ 1) : gainAt m c t = k0_pay9 (iblk m c 2 t) (sumAt m c t) (gainAt m c (prev t)) := by
  rw [gain_later m c t h h1]
  unfold third sumAt more
  generalize roundAt m c (base t) (base_even t) = z
  generalize accAt m c (base t) (base_even t) = s
  generalize gainAt m c (prev t) = w
  frame_out
  simp only [up_ld0, up_ld1, up_ld2, up_ld3, down_ld0, down_ld1, down_ld2, down_ld3, cols_ld0, cols_ld1, cols_ld2, cols_ld3]
  rw [show View.read (Elt Ideal) (View.whole cc0_scratch0) ((Memref.isWhole_whole _).unread s) = s from Memref.IsWhole.read_unread _ _]

/-! ## The arrays -/

/-- A hidden sum's gradient by its block of hidden units. -/
def sumIn (d : S2176x1024.Idx → EReal) (u : S2176x4096.Idx → EReal) (wd : S8x512x1024.Idx → EReal) (r : Fin 2176) (b : Fin 8) (e : Fin 512) : EReal :=
  (∑ k : Fin 1024, d (ix2 r k) * wd (ix3 b e k)) * (Ideal.ofBits FTy.f32 1073741824#32 * u (ix2 r (MlpGrads.col b e)))

/-- What a block of hidden units adds to the gradient of a normed row. -/
def partIn (d : S2176x1024.Idx → EReal) (u : S2176x4096.Idx → EReal) (wu : S8x1024x512.Idx → EReal) (wd : S8x512x1024.Idx → EReal) (r : Fin 2176) (e : Fin 1024) (b : Fin 8) : EReal :=
  ∑ k : Fin 512, sumIn d u wd r b k * wu (ix3 b e k)

/-- All hidden sums' gradients. -/
def sumArr (d : S2176x1024.Idx → EReal) (u : S2176x4096.Idx → EReal) (wd : S8x512x1024.Idx → EReal) : S2176x4096.Idx → EReal := fun y =>
  sumIn d u wd (y 0) ⟨(y 1 : ℕ) / 512, by have : (y 1 : ℕ) < 4096 := (y 1).isLt; omega⟩ ⟨(y 1 : ℕ) % 512, Nat.mod_lt _ (by decide)⟩

/-- All normed rows' gradients: eight blocks of hidden units in two runs of four. -/
def prodArr (d : S2176x1024.Idx → EReal) (u : S2176x4096.Idx → EReal) (wu : S8x1024x512.Idx → EReal) (wd : S8x512x1024.Idx → EReal) : S2176x1024.Idx → EReal := fun y =>
  (partIn d u wu wd (y 0) (y 1) 0 + partIn d u wu wd (y 0) (y 1) 1 + partIn d u wu wd (y 0) (y 1) 2 + partIn d u wu wd (y 0) (y 1) 3)
    + (partIn d u wu wd (y 0) (y 1) 4 + partIn d u wu wd (y 0) (y 1) 5 + partIn d u wu wd (y 0) (y 1) 6 + partIn d u wu wd (y 0) (y 1) 7)

/-- All rows' gradients. -/
def rowArr (d h : S2176x1024.Idx → EReal) (g : S1x1024.Idx → EReal) (a : S2176x1024.Idx → EReal) : S2176x1024.Idx → EReal := fun y =>
  d y + closed (fun k => h (ix2 (y 0) k)) (fun k => g (ix2 0 k)) (fun k => a (ix2 (y 0) k)) (y 1)

/-- What a row adds to the gain's gradient. -/
def gainIn (h a : S2176x1024.Idx → EReal) (e : Fin 1024) (r : Fin 2176) : EReal := a (ix2 r e) * (h (ix2 r e) * root (fun k => h (ix2 r k)))

/-- A row by its block of rows. -/
def rowOf (i : Fin 4) (r : Fin 544) : Fin 2176 := ⟨544 * i + r, by omega⟩

/-- The gain's gradient: the four blocks of rows one after another. -/
def gainArr (h a : S2176x1024.Idx → EReal) : S1x1024.Idx → EReal := fun y =>
  ((∑ r, gainIn h a (y 1) (rowOf 0 r)) + (∑ r, gainIn h a (y 1) (rowOf 1 r))) + (∑ r, gainIn h a (y 1) (rowOf 2 r)) + (∑ r, gainIn h a (y 1) (rowOf 3 r))

theorem index0 : ∀ t : Fin cfg0.N, win0_0.index t = ![(t : ℕ) / 2, 0] := by decide +kernel
theorem index1 : ∀ t : Fin cfg0.N, win0_1.index t = ![(t : ℕ) / 2, (t : ℕ) % 2] := by decide +kernel
theorem index2 : ∀ t : Fin cfg0.N, win0_2.index t = ![(t : ℕ) / 2, 0] := by decide +kernel
theorem index3 : ∀ t : Fin cfg0.N, win0_3.index t = ![0, 0] := by decide +kernel
theorem index4 : ∀ t : Fin cfg0.N, win0_4.index t = ![(t : ℕ) % 2, 0, 0] := by decide +kernel
theorem index5 : ∀ t : Fin cfg0.N, win0_5.index t = ![(t : ℕ) % 2, 0, 0] := by decide +kernel
theorem index6 : ∀ t : Fin cfg0.N, win0_6.index t = ![(t : ℕ) / 2, (t : ℕ) % 2] := by decide +kernel
theorem index7 : ∀ t : Fin cfg0.N, win0_7.index t = ![(t : ℕ) / 2, 0] := by decide +kernel
theorem index8 : ∀ t : Fin cfg0.N, win0_8.index t = ![0, 0] := by decide +kernel
theorem index9 : ∀ t : Fin cfg0.N, win0_9.index t = ![(t : ℕ) / 2, 0] := by decide +kernel

/-- A row of a point's block by its place among all rows, and a point's block of hidden units among the eight. -/
def row (t : Fin cfg0.N) (r : Fin 544) : Fin 2176 := ⟨544 * ((t : ℕ) / 2) + r, by have : cfg0.N = 8 := N_0; omega⟩
def blk (t : Fin cfg0.N) (b : Fin 4) : Fin 8 := ⟨4 * ((t : ℕ) % 2) + b, by omega⟩

theorem row_base (t : Fin cfg0.N) (r : Fin 544) : row (base t) r = row t r := by
  apply Fin.ext
  show 544 * (((t : ℕ) - (t : ℕ) % 2) / 2) + (r : ℕ) = 544 * ((t : ℕ) / 2) + r
  omega

abbrev A := prodArr (V m c main_arg0) (V m c main_v14) (V m c main_v17) (V m c main_v19)

theorem round_val (t : Fin cfg0.N) (h : t.val % 2 = 0) (r : Fin 544) (e : Fin 1024) : roundAt m c t h (ix2 r e) = V m c main_arg0 (ix2 (row t r) e) := by
  rw [round_block, round_at]
  blk_ext! [iblk, row, index0 t]

theorem up_val (t : Fin cfg0.N) (b : Fin 4) (k : Fin 1024) (e : Fin 512) : up (iblk m c 4 t) b (ix3 0 k e) = V m c main_v17 (ix3 (blk t b) k e) := by
  unfold up
  blk_ext! [iblk, blk, index4 t]

theorem down_val (t : Fin cfg0.N) (b : Fin 4) (k : Fin 512) (e : Fin 1024) : down (iblk m c 5 t) b (ix3 0 k e) = V m c main_v19 (ix3 (blk t b) k e) := by
  unfold down
  blk_ext! [iblk, blk, index5 t]

theorem cols_val (t : Fin cfg0.N) (b : Fin 4) (r : Fin 544) (e : Fin 512) : cols (iblk m c 1 t) b (ix2 r e) = V m c main_v14 (ix2 (row t r) (MlpGrads.col (blk t b) e)) := by
  unfold cols
  blk_ext! [iblk, row, blk, MlpGrads.col, index1 t]

theorem sum_val (t : Fin cfg0.N) (b : Fin 4) (r : Fin 544) (e : Fin 512) :
    sumGrad (roundAt m c (base t) (base_even t)) (down (iblk m c 5 t) b) (cols (iblk m c 1 t) b) r e =
      sumIn (V m c main_arg0) (V m c main_v14) (V m c main_v19) (row t r) (blk t b) e := by
  unfold sumGrad sumIn
  simp only [round_val, down_val, cols_val, row_base]

theorem part_val (t : Fin cfg0.N) (b : Fin 4) (r : Fin 544) (e : Fin 1024) :
    part (roundAt m c (base t) (base_even t)) (down (iblk m c 5 t) b) (cols (iblk m c 1 t) b) (up (iblk m c 4 t) b) r e =
      partIn (V m c main_arg0) (V m c main_v14) (V m c main_v17) (V m c main_v19) (row t r) e (blk t b) := by
  unfold part partIn
  simp only [sum_val, up_val]

/-- The hidden sums' gradients at every point. -/
theorem sum_point (t : Fin cfg0.N) : (dats m 0 c).after 6 t = View.canon (sumPieces (roundAt m c (base t) (base_even t)) (iblk m c 1 t) (iblk m c 5 t)) := by
  rw [after_6]
  rcases Nat.mod_two_eq_zero_or_one t.val with h | h
  · rw [dif_neg (by omega), sumsFirst_block, at_congr (roundAt m c) (base_of_even t h) _ h]
  · rw [dif_pos h, sumsSecond_block]

theorem sum_final : (dats m 0 c).arrAt 6 cfg0.N = sumArr (V m c main_arg0) (V m c main_v14) (V m c main_v19) := by
  refine (dats m 0 c).arrAt_eq_of_covers 6 (sumArr (V m c main_arg0) (V m c main_v14) (V m c main_v19)) (by decide +kernel) fun t hf y => ?_
  blk_simp
  rw [sum_point]
  idx_vars y
  have hy : y1 = ⟨512 * ((⟨(y1 : ℕ) / 512, by omega⟩ : Fin 4) : ℕ) + ((⟨(y1 : ℕ) % 512, Nat.mod_lt _ (by decide)⟩ : Fin 512) : ℕ), by
      show 512 * ((y1 : ℕ) / 512) + (y1 : ℕ) % 512 < 2048; omega⟩ := Fin.ext (Nat.div_add_mod _ _).symm
  rw [hy, sumPieces_at, sum_val, ← hy]
  have e0 : ((View.whole main_v20_0).slice (win0_6.rect t)).emb (ix2 y0 y1) = ix2 (row t y0) ⟨2048 * ((t : ℕ) % 2) + y1, by omega⟩ := by
    refine funext fun a => Fin.ext ?_
    fin_cases a
    · blk_simp [index6 t, row]
      show (t : ℕ) / 2 * 544 + (y0 : ℕ) = 544 * ((t : ℕ) / 2) + (y0 : ℕ)
      omega
    · blk_simp [index6 t]
      show (t : ℕ) % 2 * 2048 + (y1 : ℕ) = 2048 * ((t : ℕ) % 2) + (y1 : ℕ)
      omega
  rw [e0]
  unfold sumArr
  refine congrArg₂ (sumIn (V m c main_arg0) (V m c main_v14) (V m c main_v19) (row t y0)) (Fin.ext ?_) (Fin.ext ?_)
  · show 4 * ((t : ℕ) % 2) + (y1 : ℕ) / 512 = (2048 * ((t : ℕ) % 2) + y1) / 512
    omega
  · show (y1 : ℕ) % 512 = (2048 * ((t : ℕ) % 2) + y1) % 512
    omega

theorem acc_val (t : Fin cfg0.N) (h : t.val % 2 = 1) (r : Fin 544) (e : Fin 1024) : accAt m c (base t) (base_even t) (ix2 r e) =
    partIn (V m c main_arg0) (V m c main_v14) (V m c main_v17) (V m c main_v19) (row t r) e 0 + partIn (V m c main_arg0) (V m c main_v14) (V m c main_v17) (V m c main_v19) (row t r) e 1
      + partIn (V m c main_arg0) (V m c main_v14) (V m c main_v17) (V m c main_v19) (row t r) e 2
      + partIn (V m c main_arg0) (V m c main_v14) (V m c main_v17) (V m c main_v19) (row t r) e 3 := by
  have hb : base (base t) = base t := base_of_even _ (base_even t)
  have h0 : ∀ b : Fin 4, blk (base t) b = ⟨b, by omega⟩ := fun b => Fin.ext (by
    show 4 * (((t : ℕ) - (t : ℕ) % 2) % 2) + (b : ℕ) = b; omega)
  have hp := fun b => part_val m c (base t) b r e
  rw [at_congr (roundAt m c) hb _ (base_even t)] at hp
  rw [accAt_block]
  unfold start
  rw [total_at]
  unfold total
  rw [hp, hp, hp, hp, row_base, h0, h0, h0, h0]
  rfl

theorem prod_val (t : Fin cfg0.N) (h : t.val % 2 = 1) (r : Fin 544) (e : Fin 1024) : sumAt m c t (ix2 r e) = A m c (ix2 (row t r) e) := by
  have h1 : ∀ b : Fin 4, blk t b = ⟨4 + b, by omega⟩ := fun b => Fin.ext (by show 4 * ((t : ℕ) % 2) + (b : ℕ) = 4 + b; omega)
  unfold sumAt more
  rw [more_at, acc_val m c t h]
  unfold total
  rw [part_val, part_val, part_val, part_val, h1, h1, h1, h1]
  rfl

theorem rows_final : (dats m 0 c).arrAt 7 cfg0.N = rowArr (V m c main_arg0) (V m c main_arg1) (V m c main_arg2) (A m c) := by
  refine (dats m 0 c).arrAt_eq_of_covers 7 (rowArr (V m c main_arg0) (V m c main_arg1) (V m c main_arg2) (A m c)) (by decide +kernel) fun t hf y => ?_
  have h : t.val % 2 = 1 := (flush0_7 t).mp hf
  blk_simp
  rw [after_7, dif_pos h, rows_block]
  idx_vars y
  rw [rows_at]
  have e0 : ((View.whole main_v20_1).slice (win0_7.rect t)).emb (ix2 y0 y1) = ix2 (row t y0) y1 := by
    refine funext fun a => Fin.ext ?_
    fin_cases a
    · blk_simp [index7 t, row]
      show (t : ℕ) / 2 * 544 + (y0 : ℕ) = 544 * ((t : ℕ) / 2) + (y0 : ℕ)
      omega
    · blk_simp [index7 t]
      rfl
  rw [e0]
  have h0 : iblk m c 0 t (ix2 y0 y1) = V m c main_arg0 (ix2 (row t y0) y1) := by blk_ext! [iblk, row, index0 t]
  have h2 : ∀ k : Fin 1024, iblk m c 2 t (ix2 y0 k) = V m c main_arg1 (ix2 (row t y0) k) := fun k => by blk_ext! [iblk, row, index2 t]
  have h3 : ∀ k : Fin 1024, iblk m c 3 t (ix2 0 k) = V m c main_arg2 (ix2 0 k) := fun k => by blk_ext! [iblk, index3 t]
  rw [h0, funext h2, funext h3, funext fun k => prod_val m c t h y0 k]
  rfl

theorem gain_step (t : Fin cfg0.N) (h : t.val % 2 = 1) (i : Fin 4) (hi : t.val / 2 = i) (e : Fin 1024) :
    k0_pay7 (iblk m c 2 t) (sumAt m c t) (ix2 0 e) = ∑ r, gainIn (V m c main_arg1) (A m c) e (rowOf i r) := by
  have hr : ∀ r, rowOf i r = row t r := fun r => Fin.ext (by show 544 * (i : ℕ) + r = 544 * ((t : ℕ) / 2) + r; omega)
  have h2 : ∀ (r : Fin 544) (k : Fin 1024), iblk m c 2 t (ix2 r k) = V m c main_arg1 (ix2 (row t r) k) := fun r k => by blk_ext! [iblk, row, index2 t]
  rw [gain_at]
  refine Finset.sum_congr rfl fun r _ => ?_
  unfold gainIn
  rw [hr, prod_val m c t h, h2, funext fun k => h2 r k]

/-- The gain's gradient after the last point. -/
theorem gain_last (t : Fin cfg0.N) (h : t.val = 7) (e : Fin 1024) : gainAt m c t (ix2 0 e) = gainArr (V m c main_arg1) (A m c) (ix2 0 e) := by
  have hN : cfg0.N = 8 := N_0
  have e6 : gainAt m c (prev t) = gainAt m c (prev (prev t)) := gain_even m c (prev t) (by show (t.val - 1) % 2 = 0; omega) (by show t.val - 1 ≠ 0; omega)
  have v5 : (prev (prev t)).val = 5 := by show t.val - 1 - 1 = 5; omega
  generalize prev (prev t) = t5 at e6 v5
  have e4 : gainAt m c (prev t5) = gainAt m c (prev (prev t5)) := gain_even m c (prev t5) (by show (t5.val - 1) % 2 = 0; omega) (by show t5.val - 1 ≠ 0; omega)
  have v3 : (prev (prev t5)).val = 3 := by show t5.val - 1 - 1 = 3; omega
  generalize prev (prev t5) = t3 at e4 v3
  have e2 : gainAt m c (prev t3) = gainAt m c (prev (prev t3)) := gain_even m c (prev t3) (by show (t3.val - 1) % 2 = 0; omega) (by show t3.val - 1 ≠ 0; omega)
  have v1 : (prev (prev t3)).val = 1 := by show t3.val - 1 - 1 = 1; omega
  generalize prev (prev t3) = t1 at e2 v1
  rw [gain_block_later m c t (by omega) (by omega), gain_more, gain_step m c t (by omega) 3 (by rw [h]; rfl), e6,
    gain_block_later m c t5 (by omega) (by omega), gain_more, gain_step m c t5 (by omega) 2 (by rw [v5]; rfl), e4,
    gain_block_later m c t3 (by omega) (by omega), gain_more, gain_step m c t3 (by omega) 1 (by rw [v3]; rfl), e2,
    gain_block_one m c t1 v1, gain_step m c t1 (by omega) 0 (by rw [v1]; rfl)]
  rfl

theorem gain_final : (dats m 0 c).arrAt 8 cfg0.N = gainArr (V m c main_arg1) (A m c) := by
  have hN : cfg0.N = 8 := N_0
  refine (dats m 0 c).arrAt_eq_of_covers 8 (gainArr (V m c main_arg1) (A m c)) (by decide +kernel) fun t hf y => ?_
  have h : t.val = 7 := by have := (flush0_8 t).mp hf; have := t.isLt; omega
  blk_simp
  rw [after_8]
  idx_vars y
  obtain rfl : y0 = 0 := Subsingleton.elim _ _
  rw [gain_last m c t h]
  refine congrArg (gainArr (V m c main_arg1) (A m c)) (funext fun a => Fin.ext ?_)
  fin_cases a
  · blk_simp [index8 t]
  · blk_simp [index8 t]

theorem round_final : (dats m 0 c).arrAt 9 cfg0.N = V m c main_arg0 := by
  refine (dats m 0 c).arrAt_eq_of_covers 9 (V m c main_arg0) (by decide +kernel) fun t hf y => ?_
  blk_simp
  rw [after_9]
  idx_vars y
  rw [round_val, row_base]
  refine congrArg (V m c main_arg0) (funext fun a => Fin.ext ?_)
  fin_cases a
  · blk_simp [index9 t, row]
    show 544 * ((t : ℕ) / 2) + (y0 : ℕ) = (t : ℕ) / 2 * 544 + (y0 : ℕ)
    omega
  · blk_simp [index9 t]
    rfl

end Cert.MlpBacks

end
-- ==== Proof.InBack.Blocks.lean ====
/-
  What the backward pass of the input projection leaves: each grid point takes a block of rows, adds the six products that come back to a normed row,
  brings them back through the norm, and adds the rows' share of the gain's gradient to what the point before left.
-/
module

public import proofs.«01_k».proof.Proof.Gen.InBackIdeal.Value
public import Idealize.ShloMosaic.Lib.Pipeline.ValueKit
public import proofs.«01_k».proof.Proof.MlpBack.Blocks

@[expose] public section

set_option maxRecDepth 16384

noncomputable section

namespace Cert.InBacks

open Cert.InBackIdeal Cert.InBackIdeal.Gen Idealize.ShloMosaic Idealize.ShloMosaic.TcCoe Idealize.SL.Sem
open Idealize.ShloMosaic.Pointwise
open Cert.MlpBacks (root closed rowArr gainArr gainIn rowOf)

/-! ## The body's values -/

theorem prod_at (q k v x y : Vec Ideal S544x512 .bf16) (f : Vec Ideal S544x128 .bf16) (wq wk wv wx wy : Vec Ideal S512x1024 .bf16) (wf : Vec Ideal S128x1024 .bf16)
    (r : Fin 544) (e : Fin 1024) : k0_pay1 (k0_pay7 q wq k wk v wv x wx y wy) (k0_pay8 f wf) (ix2 r e) =
      (∑ a : Fin 512, q (ix2 r a) * wq (ix2 a e)) + (∑ a : Fin 512, k (ix2 r a) * wk (ix2 a e)) + (∑ a : Fin 512, v (ix2 r a) * wv (ix2 a e))
        + (∑ a : Fin 512, x (ix2 r a) * wx (ix2 a e)) + (∑ a : Fin 512, y (ix2 r a) * wy (ix2 a e)) + ∑ a : Fin 128, f (ix2 r a) * wf (ix2 a e) := by
  pointwise [k0_pay1, k0_pay7, k0_pay8]

theorem rows_at (p p' h d : Vec Ideal S544x1024 .f32) (g : Vec Ideal S1x1024 .f32) (r : Fin 544) (e : Fin 1024) :
    k0_pay5 p p' h g d (ix2 r e) = d (ix2 r e) + closed (fun k => h (ix2 r k)) (fun k => g (ix2 0 k)) (fun k => k0_pay1 (F := Ideal) p p' (ix2 r k)) e := by
  pointwise [k0_pay5, k0_pay3, k0_pay2]
  rfl

theorem gain_at (p p' h : Vec Ideal S544x1024 .f32) (e : Fin 1024) :
    k0_pay4 p p' h (ix2 0 e) = ∑ r : Fin 544, k0_pay1 (F := Ideal) p p' (ix2 r e) * (h (ix2 r e) * root (fun k => h (ix2 r k))) := by
  pointwise [k0_pay4, k0_pay3, k0_pay2]
  rfl

theorem gain_more (p p' h : Vec Ideal S544x1024 .f32) (w : Vec Ideal S1x1024 .f32) (e : Fin 1024) :
    k0_pay6 p p' h w (ix2 0 e) = w (ix2 0 e) + k0_pay4 p p' h (ix2 0 e) := by
  pointwise [k0_pay6]

/-! ## One point -/

/-- 512 rows of the first weights, 512 rows of the other weights, and the last 128 of these. -/
def wide (X : Vec Ideal S1536x1024 .bf16) (b : Fin 3) : Vec Ideal S512x1024 .bf16 := fun y => X (ix2 ⟨512 * b + (y 0 : ℕ), by have : (y 0 : ℕ) < 512 := (y 0).isLt; omega⟩ (y 1))
def side (X : Vec Ideal S1152x1024 .bf16) (b : Fin 2) : Vec Ideal S512x1024 .bf16 := fun y => X (ix2 ⟨512 * b + (y 0 : ℕ), by have : (y 0 : ℕ) < 512 := (y 0).isLt; omega⟩ (y 1))
def gates (X : Vec Ideal S1152x1024 .bf16) : Vec Ideal S128x1024 .bf16 := fun y => X (ix2 ⟨1024 + (y 0 : ℕ), by have : (y 0 : ℕ) < 128 := (y 0).isLt; omega⟩ (y 1))

theorem wide_ld (X : Vec Ideal S1536x1024 .bf16) (b : Fin 3) (n : ℕ) (hn : n = 512 * (b : ℕ)) (inb) :
    View.ld X (Rect.unit (s := S1536x1024) ![n, 0] S512x1024.size inb) = wide X b := by
  funext y
  exact View.ld_unit_apply_of X _ _ _ _ _ fun a => by
    fin_cases a
    · show 512 * (b : ℕ) + (y 0 : ℕ) = n + (y 0 : ℕ); omega
    · show (y 1 : ℕ) = 0 + (y 1 : ℕ); omega

theorem side_ld (X : Vec Ideal S1152x1024 .bf16) (b : Fin 2) (n : ℕ) (hn : n = 512 * (b : ℕ)) (inb) :
    View.ld X (Rect.unit (s := S1152x1024) ![n, 0] S512x1024.size inb) = side X b := by
  funext y
  exact View.ld_unit_apply_of X _ _ _ _ _ fun a => by
    fin_cases a
    · show 512 * (b : ℕ) + (y 0 : ℕ) = n + (y 0 : ℕ); omega
    · show (y 1 : ℕ) = 0 + (y 1 : ℕ); omega

theorem gates_ld (X : Vec Ideal S1152x1024 .bf16) : View.ld X (Rect.unit ![1024, 0] ![128, 1024] inb_S1152x1024_S128x1024_1024_0) = gates X := by
  funext y
  exact View.ld_unit_apply_of X _ _ _ _ _ fun a => by
    fin_cases a
    · rfl
    · show (y 1 : ℕ) = 0 + (y 1 : ℕ); omega

theorem wide_ld0 (X : Vec Ideal S1536x1024 .bf16) : View.ld X (Rect.unit ![0, 0] ![512, 1024] inb_S1536x1024_S512x1024_0_0) = wide X 0 := wide_ld X 0 _ rfl _
theorem wide_ld1 (X : Vec Ideal S1536x1024 .bf16) : View.ld X (Rect.unit ![512, 0] ![512, 1024] inb_S1536x1024_S512x1024_512_0) = wide X 1 := wide_ld X 1 _ rfl _
theorem wide_ld2 (X : Vec Ideal S1536x1024 .bf16) : View.ld X (Rect.unit ![1024, 0] ![512, 1024] inb_S1536x1024_S512x1024_1024_0) = wide X 2 := wide_ld X 2 _ rfl _
theorem side_ld0 (X : Vec Ideal S1152x1024 .bf16) : View.ld X (Rect.unit ![0, 0] ![512, 1024] inb_S1152x1024_S512x1024_0_0) = side X 0 := side_ld X 0 _ rfl _
theorem side_ld1 (X : Vec Ideal S1152x1024 .bf16) : View.ld X (Rect.unit ![512, 0] ![512, 1024] inb_S1152x1024_S512x1024_512_0) = side X 1 := side_ld X 1 _ rfl _

variable (m : (ℓ : Loc nD τ sig) → Buf (Elt Ideal) ℓ) (c : Dev nD)

/-- The first five products of a point, and the gates' product. -/
abbrev five (t : Fin cfg0.N) : FVec Ideal S544x1024 .f32 :=
  k0_pay7 (iblk m c 1 t) (wide (X0_7 m c t) 0) (iblk m c 2 t) (wide (X0_7 m c t) 1) (iblk m c 3 t) (wide (X0_7 m c t) 2) (iblk m c 4 t) (side (iblk m c 8 t) 0)
    (iblk m c 5 t) (side (iblk m c 8 t) 1)
abbrev sixth (t : Fin cfg0.N) : FVec Ideal S544x1024 .f32 := k0_pay8 (iblk m c 6 t) (gates (iblk m c 8 t))

theorem rows_block (t : Fin cfg0.N) : (outsAt0 m c t.val t.isLt).1 = k0_pay5 (five m c t) (sixth m c t) (iblk m c 9 t) (iblk m c 10 t) (iblk m c 0 t) := by
  have hN : cfg0.N = 4 := N_0
  by_cases h : t.val = 0
  · rw [outsAt0_A m c t (by omega) (by omega)]
    frame_out
    simp only [wide_ld0, wide_ld1, wide_ld2, side_ld0, side_ld1, gates_ld]
  · rw [outsAt0_B m c t (by omega) (by omega)]
    generalize outsAt0 m c (t - 1) _ = z
    frame_out
    simp only [wide_ld0, wide_ld1, wide_ld2, side_ld0, side_ld1, gates_ld]

theorem gain_first (t : Fin cfg0.N) (h : t.val = 0) : (outsAt0 m c t.val t.isLt).2 = k0_pay4 (five m c t) (sixth m c t) (iblk m c 9 t) := by
  rw [outsAt0_A m c t (by omega) (by omega)]
  frame_out
  simp only [wide_ld0, wide_ld1, wide_ld2, side_ld0, side_ld1, gates_ld]

theorem gain_later (t t' : Fin cfg0.N) (h : t.val = t'.val + 1) :
    (outsAt0 m c t.val t.isLt).2 = k0_pay6 (five m c t) (sixth m c t) (iblk m c 9 t) (outsAt0 m c t'.val t'.isLt).2 := by
  have hN : cfg0.N = 4 := N_0
  have e : outsAt0 m c (t - 1) (by omega) = outsAt0 m c t'.val t'.isLt := by
    obtain ⟨n, hn⟩ := t
    obtain rfl : n = t'.val + 1 := h
    rfl
  rw [outsAt0_B m c t (by omega) (by omega), e]
  generalize outsAt0 m c t'.val t'.isLt = z
  frame_out
  simp only [wide_ld0, wide_ld1, wide_ld2, side_ld0, side_ld1, gates_ld]

/-! ## The arrays -/

/-- Rows of the weights by their block. -/
def wideRow (b : Fin 3) (a : Fin 512) : Fin 2568 := ⟨512 * b + a, by omega⟩
def sideRow (b : Fin 2) (a : Fin 512) : Fin 1152 := ⟨512 * b + a, by omega⟩
def gateRow (a : Fin 128) : Fin 1152 := ⟨1024 + a, by omega⟩

/-- The products that come back to the normed rows. -/
def prodArr (q k v x y : S2176x512.Idx → EReal) (f : S2176x128.Idx → EReal) (w : S2568x1024.Idx → EReal) (w' : S1152x1024.Idx → EReal) : S2176x1024.Idx → EReal := fun i =>
  (∑ a : Fin 512, q (ix2 (i 0) a) * w (ix2 (wideRow 0 a) (i 1))) + (∑ a : Fin 512, k (ix2 (i 0) a) * w (ix2 (wideRow 1 a) (i 1)))
    + (∑ a : Fin 512, v (ix2 (i 0) a) * w (ix2 (wideRow 2 a) (i 1))) + (∑ a : Fin 512, x (ix2 (i 0) a) * w' (ix2 (sideRow 0 a) (i 1)))
    + (∑ a : Fin 512, y (ix2 (i 0) a) * w' (ix2 (sideRow 1 a) (i 1))) + ∑ a : Fin 128, f (ix2 (i 0) a) * w' (ix2 (gateRow a) (i 1))

theorem index0 : ∀ t : Fin cfg0.N, win0_0.index t = ![(t : ℕ), 0] := by decide +kernel
theorem index1 : ∀ t : Fin cfg0.N, win0_1.index t = ![(t : ℕ), 0] := by decide +kernel
theorem index2 : ∀ t : Fin cfg0.N, win0_2.index t = ![(t : ℕ), 0] := by decide +kernel
theorem index3 : ∀ t : Fin cfg0.N, win0_3.index t = ![(t : ℕ), 0] := by decide +kernel
theorem index4 : ∀ t : Fin cfg0.N, win0_4.index t = ![(t : ℕ), 0] := by decide +kernel
theorem index5 : ∀ t : Fin cfg0.N, win0_5.index t = ![(t : ℕ), 0] := by decide +kernel
theorem index6 : ∀ t : Fin cfg0.N, win0_6.index t = ![(t : ℕ), 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![(t : ℕ), 0] := by decide +kernel
theorem index10 : ∀ t : Fin cfg0.N, win0_10.index t = ![0, 0] := by decide +kernel
theorem index11 : ∀ t : Fin cfg0.N, win0_11.index t = ![(t : ℕ), 0] := by decide +kernel
theorem index12 : ∀ t : Fin cfg0.N, win0_12.index t = ![0, 0] := by decide +kernel

/-- A row of a point's block by its place among all rows. -/
def row (t : Fin cfg0.N) (r : Fin 544) : Fin 2176 := ⟨544 * t + r, by have : cfg0.N = 4 := N_0; omega⟩

abbrev A := prodArr (V m c main_arg1) (V m c main_arg2) (V m c main_arg3) (V m c main_arg5) (V m c main_arg6) (V m c main_v0) (V m c main_v2) (V m c main_v6)

theorem q_val (t : Fin cfg0.N) (r : Fin 544) (a : Fin 512) : iblk m c 1 t (ix2 r a) = V m c main_arg1 (ix2 (row t r) a) := by blk_ext! [iblk, row, index1 t]
theorem k_val (t : Fin cfg0.N) (r : Fin 544) (a : Fin 512) : iblk m c 2 t (ix2 r a) = V m c main_arg2 (ix2 (row t r) a) := by blk_ext! [iblk, row, index2 t]
theorem v_val (t : Fin cfg0.N) (r : Fin 544) (a : Fin 512) : iblk m c 3 t (ix2 r a) = V m c main_arg3 (ix2 (row t r) a) := by blk_ext! [iblk, row, index3 t]
theorem x_val (t : Fin cfg0.N) (r : Fin 544) (a : Fin 512) : iblk m c 4 t (ix2 r a) = V m c main_arg5 (ix2 (row t r) a) := by blk_ext! [iblk, row, index4 t]
theorem y_val (t : Fin cfg0.N) (r : Fin 544) (a : Fin 512) : iblk m c 5 t (ix2 r a) = V m c main_arg6 (ix2 (row t r) a) := by blk_ext! [iblk, row, index5 t]
theorem f_val (t : Fin cfg0.N) (r : Fin 544) (a : Fin 128) : iblk m c 6 t (ix2 r a) = V m c main_v0 (ix2 (row t r) a) := by blk_ext! [iblk, row, index6 t]
theorem h_val (t : Fin cfg0.N) (r : Fin 544) (a : Fin 1024) : iblk m c 9 t (ix2 r a) = V m c main_arg7 (ix2 (row t r) a) := by blk_ext! [iblk, row, index9 t]

theorem wide_val (t : Fin cfg0.N) (b : Fin 3) (a : Fin 512) (e : Fin 1024) : wide (X0_7 m c t) b (ix2 a e) = V m c main_v2 (ix2 (wideRow b a) e) := by
  unfold wide X0_7 Pipeline.Window.fill
  rw [dif_pos (moved0_7 t _)]
  blk_ext! [iblk, wideRow, index7 t]

theorem side_val (t : Fin cfg0.N) (b : Fin 2) (a : Fin 512) (e : Fin 1024) : side (iblk m c 8 t) b (ix2 a e) = V m c main_v6 (ix2 (sideRow b a) e) := by
  unfold side
  blk_ext! [iblk, sideRow, index8 t]

theorem gates_val (t : Fin cfg0.N) (a : Fin 128) (e : Fin 1024) : gates (iblk m c 8 t) (ix2 a e) = V m c main_v6 (ix2 (gateRow a) e) := by
  unfold gates
  blk_ext! [iblk, gateRow, index8 t]

theorem prod_val (t : Fin cfg0.N) (r : Fin 544) (e : Fin 1024) : k0_pay1 (five m c t) (sixth m c t) (ix2 r e) = A m c (ix2 (row t r) e) := by
  rw [prod_at]
  simp only [q_val, k_val, v_val, x_val, y_val, f_val, wide_val, side_val, gates_val]
  rfl

theorem rows_final : (dats m 0 c).arrAt 11 cfg0.N = rowArr (V m c main_arg0) (V m c main_arg7) (V m c main_arg8) (A m c) := by
  refine (dats m 0 c).arrAt_eq_of_covers 11 (rowArr (V m c main_arg0) (V m c main_arg7) (V m c main_arg8) (A m c)) (by decide +kernel) fun t hf y => ?_
  blk_simp
  rw [after0_11, rows_block]
  idx_vars y
  rw [rows_at]
  have e0 : ((View.whole main_v7_0).slice (win0_11.rect t)).emb (ix2 y0 y1) = ix2 (row t y0) y1 := by
    refine funext fun a => Fin.ext ?_
    fin_cases a
    · blk_simp [index11 t, row]
      show (t : ℕ) * 544 + (y0 : ℕ) = 544 * (t : ℕ) + (y0 : ℕ)
      omega
    · blk_simp [index11 t]
      rfl
  rw [e0]
  have h0 : iblk m c 0 t (ix2 y0 y1) = V m c main_arg0 (ix2 (row t y0) y1) := by blk_ext! [iblk, row, index0 t]
  have h3 : ∀ k : Fin 1024, iblk m c 10 t (ix2 0 k) = V m c main_arg8 (ix2 0 k) := fun k => by blk_ext! [iblk, index10 t]
  rw [h0, funext fun k => h_val m c t y0 k, funext h3, funext fun k => prod_val m c t y0 k]
  rfl

theorem gain_step (t : Fin cfg0.N) (i : Fin 4) (hi : t.val = i) (e : Fin 1024) :
    k0_pay4 (five m c t) (sixth m c t) (iblk m c 9 t) (ix2 0 e) = ∑ r, gainIn (V m c main_arg7) (A m c) e (rowOf i r) := by
  have hr : ∀ r, rowOf i r = row t r := fun r => Fin.ext (by show 544 * (i : ℕ) + r = 544 * (t : ℕ) + r; omega)
  rw [gain_at]
  refine Finset.sum_congr rfl fun r _ => ?_
  unfold gainIn
  rw [hr, prod_val m c t, h_val, funext fun k => h_val m c t r k]

/-- The gain's gradient after the last point. -/
theorem gain_last (t : Fin cfg0.N) (h : t.val = 3) (e : Fin 1024) : (outsAt0 m c t.val t.isLt).2 (ix2 0 e) = gainArr (V m c main_arg7) (A m c) (ix2 0 e) := by
  have hN : cfg0.N = 4 := N_0
  rw [gain_later m c t ⟨2, by omega⟩ h, gain_more, gain_step m c t 3 h, gain_later m c ⟨2, by omega⟩ ⟨1, by omega⟩ rfl, gain_more, gain_step m c ⟨2, by omega⟩ 2 rfl,
    gain_later m c ⟨1, by omega⟩ ⟨0, by omega⟩ rfl, gain_more, gain_step m c ⟨1, by omega⟩ 1 rfl, gain_first m c ⟨0, by omega⟩ rfl, gain_step m c ⟨0, by omega⟩ 0 rfl]
  rfl

theorem gain_final : (dats m 0 c).arrAt 12 cfg0.N = gainArr (V m c main_arg7) (A m c) := by
  have hN : cfg0.N = 4 := N_0
  refine (dats m 0 c).arrAt_eq_of_covers 12 (gainArr (V m c main_arg7) (A m c)) (by decide +kernel) fun t hf y => ?_
  have h : t.val = 3 := by have := (flush0_12 t).mp hf; have := t.isLt; omega
  blk_simp
  rw [after0_12]
  idx_vars y
  obtain rfl : y0 = 0 := Subsingleton.elim _ _
  rw [gain_last m c t h]
  refine congrArg (gainArr (V m c main_arg7) (A m c)) (funext fun a => Fin.ext ?_)
  fin_cases a
  · blk_simp [index12 t]
  · blk_simp [index12 t]

end Cert.InBacks

end
-- ==== Proof.InBack.Join.lean ====
/-
  The columns of the projection's gradient: six arrays side by side in the reference, six products in the kernel, where the gates stand last among zeros.
-/
module

public import proofs.«01_k».proof.Proof.InBack.Blocks
public import proofs.«01_k».proof.Proof.In.Runs
public import proofs.«01_k».proof.Proof.Gen.InBackRefIdeal.Run

@[expose] public section

set_option maxRecDepth 16384

noncomputable section

namespace Cert.InBacks

open Idealize.ShloMosaic Idealize.ShloMosaic.TcCoe Idealize.SL.Sem
open Idealize.ShloMosaic.Pointwise
open Cert.InProj (turned others)

/-- The columns by their part. -/
def colQ (a : Fin 512) : Fin 2568 := ⟨a, by omega⟩
def colK (a : Fin 512) : Fin 2568 := ⟨512 + a, by omega⟩
def colV (a : Fin 512) : Fin 2568 := ⟨1024 + a, by omega⟩
def colF (a : Fin 8) : Fin 2568 := ⟨1536 + a, by omega⟩
def colX (a : Fin 512) : Fin 2568 := ⟨1544 + a, by omega⟩
def colY (a : Fin 512) : Fin 2568 := ⟨2056 + a, by omega⟩

/-- A sum over all columns, part by part. -/
theorem sum_cols (f : Fin 2568 → EReal) :
    ∑ k, f k = (∑ a, f (colQ a)) + (∑ a, f (colK a)) + (∑ a, f (colV a)) + (∑ a, f (colF a)) + (∑ a, f (colX a)) + ∑ a, f (colY a) := by
  show ∑ k : Fin (512 + 512 + 512 + 8 + 512 + 512), f k = _
  rw [Fin.sum_univ_add, Fin.sum_univ_add, Fin.sum_univ_add, Fin.sum_univ_add, Fin.sum_univ_add]
  rfl

section

open Cert.InBackRefIdeal Cert.InBackRefIdeal.Gen

/-- The six arrays side by side. -/
def joined (q k v : FVec Ideal S2176x512 .bf16) (f : FVec Ideal S2176x8 .bf16) (x y : FVec Ideal S2176x512 .bf16) : FVec Ideal S2176x2568 .bf16 :=
  concatenate S2176x2568 1 [⟨S2176x512, q⟩, ⟨S2176x512, k⟩, ⟨S2176x512, v⟩, ⟨S2176x8, f⟩, ⟨S2176x512, x⟩, ⟨S2176x512, y⟩]
    concatenates_S2176x512_S2176x512_S2176x512_S2176x8_S2176x512_S2176x512_S2176x2568_d1

variable (q k v : FVec Ideal S2176x512 .bf16) (f : FVec Ideal S2176x8 .bf16) (x y : FVec Ideal S2176x512 .bf16) (r : Fin 2176)

theorem joined_q (a : Fin 512) : joined q k v f x y (ix2 r (colQ a)) = q (ix2 r a) := by
  pointwise [joined, colQ]
theorem joined_k (a : Fin 512) : joined q k v f x y (ix2 r (colK a)) = k (ix2 r a) := by
  pointwise [joined, colK]

theorem joined_v (a : Fin 512) : joined q k v f x y (ix2 r (colV a)) = v (ix2 r a) := by
  pointwise [joined, colV]
  rw [dif_neg (by omega), dif_neg (by omega), dif_pos (by omega)]
  exact congrArg (fun i => v (ix2 r i)) (Fin.ext (by show 1024 + (a : ℕ) - 512 - 512 = a; omega))

theorem joined_f (a : Fin 8) : joined q k v f x y (ix2 r (colF a)) = f (ix2 r a) := by
  pointwise [joined, colF]
  rw [dif_neg (by omega), dif_neg (by omega), dif_neg (by omega), dif_pos (by omega)]
  exact congrArg (fun i => f (ix2 r i)) (Fin.ext (by show 1536 + (a : ℕ) - 512 - 512 - 512 = a; omega))

theorem joined_x (a : Fin 512) : joined q k v f x y (ix2 r (colX a)) = x (ix2 r a) := by
  pointwise [joined, colX]
  rw [dif_neg (by omega), dif_neg (by omega), dif_neg (by omega), dif_neg (by omega), dif_pos (by omega)]
  exact congrArg (fun i => x (ix2 r i)) (Fin.ext (by show 1544 + (a : ℕ) - 512 - 512 - 512 - 8 = a; omega))

theorem joined_y (a : Fin 512) : joined q k v f x y (ix2 r (colY a)) = y (ix2 r a) := by
  pointwise [joined, colY]
  rw [dif_neg (by omega), dif_neg (by omega), dif_neg (by omega), dif_neg (by omega), dif_neg (by omega)]
  exact congrArg (fun i => y (ix2 r i)) (Fin.ext (by show 2056 + (a : ℕ) - 512 - 512 - 512 - 8 - 512 = a; omega))

end

section

open Cert.InBackIdeal Cert.InBackIdeal.Gen

/-- The gates' gradient, in the first lanes of 128. -/
def padded (f : FVec Ideal S2176x8 .bf16) : FVec Ideal S2176x128 .bf16 :=
  pad S2176x128 ![0, 0] ![0, 120] ![0, 0] f (sitofp .bf16 (constantI S_ 32 0#32)) pads_S2176x8_S2176x128_000_01200 h_S_

theorem padded_gate (f : FVec Ideal S2176x8 .bf16) (r : Fin 2176) (a : Fin 8) : padded f (ix2 r ⟨a, by omega⟩) = f (ix2 r a) := by
  pointwise [padded]

theorem padded_zero (f : FVec Ideal S2176x8 .bf16) (r : Fin 2176) (a : Fin 120) : padded f (ix2 r ⟨8 + a, by omega⟩) = 0 := by
  pointwise [padded]
  exact InProj.zero_of_int _

theorem wide_row (w : FVec Ideal InIdeal.S1024x2568 .f32) (k : Fin 2568) (e : Fin 1024) : turned w (ix2 k e) = w (ix2 e k) := by
  pointwise [turned]

theorem side_row0 (w : FVec Ideal InIdeal.S1024x2568 .f32) (a : Fin 512) (e : Fin 1024) : others (turned w) (ix2 (sideRow 0 a) e) = w (ix2 e (colX a)) := by
  pointwise [others, turned, sideRow, colX]
  rw [dif_pos (by omega)]

theorem side_row1 (w : FVec Ideal InIdeal.S1024x2568 .f32) (a : Fin 512) (e : Fin 1024) : others (turned w) (ix2 (sideRow 1 a) e) = w (ix2 e (colY a)) := by
  pointwise [others, turned, sideRow, colY]
  rw [dif_pos (by omega)]
  exact congrArg (fun i => w (ix2 e i)) (Fin.ext (by show 1544 + (512 + (a : ℕ)) = 2056 + a; omega))

theorem gate_row (w : FVec Ideal InIdeal.S1024x2568 .f32) (a : Fin 8) (e : Fin 1024) : others (turned w) (ix2 (gateRow ⟨a, by omega⟩) e) = w (ix2 e (colF a)) := by
  pointwise [others, turned, gateRow, colF]

/-- The gates' product stops at the eighth lane: the others hold zeros. -/
theorem sum_gates (f : FVec Ideal S2176x8 .bf16) (w : FVec Ideal InIdeal.S1024x2568 .f32) (r : Fin 2176) (e : Fin 1024) :
    ∑ a : Fin 128, padded f (ix2 r a) * others (turned w) (ix2 (gateRow a) e) = ∑ a : Fin 8, f (ix2 r a) * w (ix2 e (colF a)) := by
  have h : ∀ a : Fin 120, padded f (ix2 r (Fin.natAdd 8 a)) * others (turned w) (ix2 (gateRow (Fin.natAdd 8 a)) e) = 0 := fun a => by
    rw [show padded f (ix2 r (Fin.natAdd 8 a)) = 0 from padded_zero f r a, zero_mul]
  refine (Fin.sum_univ_add (a := 8) (b := 120) fun a : Fin (8 + 120) => padded f (ix2 r a) * others (turned w) (ix2 (gateRow a) e)).trans ?_
  rw [Finset.sum_congr rfl fun a _ => h a, Finset.sum_const_zero, add_zero]
  refine Finset.sum_congr rfl fun a _ => ?_
  exact congrArg₂ (· * ·) (padded_gate f r a) (gate_row w a e)

end

section

open Cert.InBackRefIdeal Cert.InBackRefIdeal.Gen

/-- The products of the joined columns with the weights. -/
def hostProd (p : FVec Ideal S2176x2568 .f32) (w : FVec Ideal S1024x2568 .f32) : FVec Ideal S2176x1024 .f32 :=
  Host.dotGeneral dot_S2176x2568_S1024x2568_S2176x1024_1_1_0_0_n_n none p w

theorem ref_prod (q k v : FVec Ideal S2176x512 .bf16) (f : FVec Ideal S2176x8 .bf16) (x y : FVec Ideal S2176x512 .bf16) (w : FVec Ideal S1024x2568 .f32) :
    hostProd (extf .f32 (joined q k v f x y) bitsLt_bf16_f32) w = prodArr q k v x y (padded f) (turned w) (others (turned w)) := by
  funext i
  idx_vars i
  have hq : ∀ a, turned w (ix2 (wideRow 0 a) i1) = w (ix2 i1 (colQ a)) := fun a => (wide_row w _ _).trans (congrArg (fun j => w (ix2 i1 j)) (Fin.ext (by
    show 512 * 0 + (a : ℕ) = a; omega)))
  have hk : ∀ a, turned w (ix2 (wideRow 1 a) i1) = w (ix2 i1 (colK a)) := fun a => wide_row w _ _
  have hv : ∀ a, turned w (ix2 (wideRow 2 a) i1) = w (ix2 i1 (colV a)) := fun a => wide_row w _ _
  pointwise [hostProd, prodArr]
  rw [sum_gates, sum_cols]
  simp only [joined_q, joined_k, joined_v, joined_f, joined_x, joined_y, hq, hk, hv, side_row0, side_row1]
  simp only [add_assoc, add_comm, add_left_comm]

end

end Cert.InBacks

end
-- ==== Proof.OutMlp.Runs.lean ====
/-
  The two runs of the call that closes the block.

  The call adds the products of the hidden units block by block; the reference multiplies all hidden units at once. Both end with the arrays of
  `Blocks.lean`.
-/
module

public import proofs.«01_k».proof.Proof.OutMlp.Blocks
public import proofs.«01_k».proof.Proof.In.Runs
public import proofs.«01_k».proof.Proof.Gen.OutMlpRefIdeal.Run
public import proofs.«01_k».proof.Defs
public import Idealize.ShloMosaic.Lib.StableHlo.ReadAt

@[expose] public section

set_option maxRecDepth 16384

noncomputable section

namespace Cert.OutMlps

open Idealize.ShloMosaic Idealize.ShloMosaic.TcCoe Idealize.SL.Sem
open Idealize.ShloMosaic.Pointwise

section kernel

open Cert.OutMlpIdeal Cert.OutMlpIdeal.Gen

/-- The first weights in blocks of hidden units. -/
def upBlocks (w : FVec Ideal S1024x4096 .f32) : FVec Ideal S8x1024x512 .bf16 :=
  truncf .bf16 (transpose S8x1024x512 [1, 0, 2] (shapeCast S1024x8x512 w shapeCasts_S1024x4096_S1024x8x512) transposes_S1024x8x512_S8x1024x512_1_0_2) bitsLt_bf16_f32

/-- The second weights in blocks of hidden units. -/
def downBlocks (w : FVec Ideal S4096x1024 .f32) : FVec Ideal S8x512x1024 .bf16 :=
  truncf .bf16 (shapeCast S8x512x1024 w shapeCasts_S4096x1024_S8x512x1024) bitsLt_bf16_f32

variable (m : (ℓ : Loc nD τ sig) → Buf (Elt Ideal) ℓ) (c : Dev nD)

theorem V_mixing : Gen.V m c main_v0 = m ((c.tc : Thread nD τ).loc main_arg5) := by
  unfold Gen.V
  after_reads_simp
  try simp -implicitDefEqProofs only [StableHlo.TRef.toBuf, StableHlo.TRef.ofBuf, cast_cast, cast_eq]
  rfl

theorem V_up : Gen.V m c main_v3 = upBlocks (m ((c.tc : Thread nD τ).loc main_arg7)) := by
  unfold Gen.V
  after_reads_simp
  try simp -implicitDefEqProofs only [StableHlo.TRef.toBuf, StableHlo.TRef.ofBuf, cast_cast, cast_eq]
  rfl

theorem V_down : Gen.V m c main_v5 = downBlocks (m ((c.tc : Thread nD τ).loc main_arg8)) := by
  unfold Gen.V
  after_reads_simp
  try simp -implicitDefEqProofs only [StableHlo.TRef.toBuf, StableHlo.TRef.ofBuf, cast_cast, cast_eq]
  rfl

/-- The results from the operands. -/
def resNew (h : S2176x1024.Idx → EReal) (o rec : S2176x512.Idx → EReal) (ga gr : S1x512.Idx → EReal) (w : S1024x1024.Idx → EReal) : S2176x1024.Idx → EReal :=
  newArr h (mixArr o rec ga gr) w

def resNorm (h : S2176x1024.Idx → EReal) (o rec : S2176x512.Idx → EReal) (ga gr : S1x512.Idx → EReal) (w : S1024x1024.Idx → EReal)
    (g : S1x1024.Idx → EReal) : S2176x1024.Idx → EReal := InProj.rowsArr (resNew h o rec ga gr w) g

def resHid (h : S2176x1024.Idx → EReal) (o rec : S2176x512.Idx → EReal) (ga gr : S1x512.Idx → EReal) (w : S1024x1024.Idx → EReal)
    (g : S1x1024.Idx → EReal) (wu : S1024x4096.Idx → EReal) : S2176x4096.Idx → EReal := hidArr (resNorm h o rec ga gr w g) (upBlocks wu)

def resOut (h : S2176x1024.Idx → EReal) (o rec : S2176x512.Idx → EReal) (ga gr : S1x512.Idx → EReal) (w : S1024x1024.Idx → EReal)
    (g : S1x1024.Idx → EReal) (wu : S1024x4096.Idx → EReal) (wd : S4096x1024.Idx → EReal) : S2176x1024.Idx → EReal :=
  outArr (resNew h o rec ga gr w) (resNorm h o rec ga gr w g) (upBlocks wu) (downBlocks wd)

theorem M_eq : M m c = mixArr (m ((c.tc : Thread nD τ).loc main_arg1)) (m ((c.tc : Thread nD τ).loc main_arg2)) (m ((c.tc : Thread nD τ).loc main_arg3)) (m ((c.tc : Thread nD τ).loc main_arg4)) := by
  unfold M; rw [V_main_arg1, V_main_arg2, V_main_arg3, V_main_arg4]

theorem N_eq : N m c = resNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold N; rw [V_main_arg0, V_mixing, M_eq]; rfl

theorem Z_eq : Z m c = resNorm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Z; rw [V_main_arg6, N_eq]; rfl

variable (ρ : Dev nD → PrngReg)

theorem kernel_run : θ_run (defs (F := Ideal)) (onTc (τ := τ) (main (F := Ideal))) ⟨m, fun _ => 0, ρ⟩ fun r => ∀ c : Dev nD,
      r.2.mem ((c.tc : Thread nD τ).loc main_v6_0) = resNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6_1) = mixArr (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_2) = resNorm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v6_3) = resHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v6_4) = resOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ?_) (θ_run_and (run m ρ) (frame_of m ρ (dats m) (A_eq m) (run m ρ)))
  have hc := (h.1 c).1
  refine ⟨(hc 9).trans ((new_final m c).trans (N_eq m c)), (hc 10).trans ((mix_final m c).trans (M_eq m c)),
    (hc 11).trans ((norm_final m c).trans (Z_eq m c)), (hc 12).trans ((hid_final m c).trans ?_), (hc 13).trans ((out_final m c).trans ?_), h.2 c⟩
  · rw [Z_eq, V_up]; rfl
  · rw [Z_eq, N_eq, V_up, V_down]; rfl

end kernel

section reference

open Cert.OutMlpRefIdeal Cert.OutMlpRefIdeal.Gen

/-- The host's normed rows of 512. -/
def normedHalf (h : FVec Ideal S2176x512 .f32) (g : FVec Ideal S1x512 .f32) : FVec Ideal S2176x512 .f32 :=
  mulf (mulf h (broadcastInDim S2176x512 ![0, 1] bcast_S2176x1_S2176x512_0_1 (Host.rsqrt (addf (Host.divf (broadcastInDim S2176x1 ![0] bcast_S2176_S2176x1_0
    (Host.reduceAdd (mulf h h) (constant S_ .f32 0x00000000#32) reducesTo_S2176x512_S2176_d1 h_S_)) (broadcastInDim S2176x1 ![] bcast_S_S2176x1 (constant S_ .f32 0x44000000#32)))
    (broadcastInDim S2176x1 ![] bcast_S_S2176x1 (constant S_ .f32 0x358637BD#32)))))) (broadcastInDim S2176x512 ![0, 1] bcast_S1x512_S2176x512_0_1 g)

/-- The host's mixed rows. -/
def mixed (o rec : FVec Ideal S2176x512 .f32) (ga gr : FVec Ideal S1x512 .f32) : FVec Ideal S2176x1024 .f32 :=
  concatenate S2176x1024 1 [⟨S2176x512, normedHalf o ga⟩, ⟨S2176x512, normedHalf rec gr⟩] concatenates_S2176x512_S2176x512_S2176x1024_d1

theorem normedHalf_at (h : FVec Ideal S2176x512 .f32) (g : FVec Ideal S1x512 .f32) (r : Fin 2176) (e : Fin 512) :
    normedHalf h g (ix2 r e) = half (fun k => h (ix2 r k)) (fun k => g (ix2 0 k)) e := by
  pointwise [normedHalf]
  rfl

theorem mixed_eq (o rec : FVec Ideal S2176x512 .f32) (ga gr : FVec Ideal S1x512 .f32) : mixed o rec ga gr = mixArr o rec ga gr := by
  funext y
  idx_vars y
  pointwise [mixed, mixArr, mixRow]
  simp only [normedHalf_at]

theorem ref_new (h x : FVec Ideal S2176x1024 .f32) (w : FVec Ideal S1024x1024 .f32) :
    addf h (Host.dotGeneral dot_S2176x1024_S1024x1024_S2176x1024_1_0_0_1_n_n none x w) = newArr h x w := by
  funext y
  idx_vars y
  pointwise [newArr]

theorem ref_hid (z : FVec Ideal S2176x1024 .f32) (w : FVec Ideal S1024x4096 .f32) : MlpGrads.hidden (MlpGrads.products z w) = hidArr z (upBlocks w) := by
  funext y
  idx_vars y
  pointwise [MlpGrads.hidden, MlpGrads.products, hidArr, hidIn, upBlocks]

/-- A sum over all hidden units, block by block. -/
theorem sum_blocks (f : Fin 4096 → EReal) : ∑ k, f k = ∑ b : Fin 8, ∑ e : Fin 512, f (MlpGrads.col b e) := by
  rw [← Fintype.sum_prod_type' (f := fun b e => f (MlpGrads.col b e))]
  refine (Fintype.sum_equiv (finProdFinEquiv : Fin 8 × Fin 512 ≃ Fin (8 * 512)) _ _ fun p => ?_).symm
  refine congrArg f (Fin.ext ?_)
  show 512 * (p.1 : ℕ) + p.2 = p.2 + 512 * p.1
  omega

theorem hid_at (z : FVec Ideal S2176x1024 .f32) (w : FVec Ideal S1024x4096 .f32) (r : Fin 2176) (b : Fin 8) (e : Fin 512) :
    MlpGrads.hidden (MlpGrads.products z w) (ix2 r (MlpGrads.col b e)) = hidIn z (upBlocks w) r b e := by
  have hw : ∀ k : Fin 1024, upBlocks w (ix3 b k e) = w (ix2 k (MlpGrads.col b e)) := fun k => by
    pointwise [upBlocks]
    exact congrArg (fun i => w (ix2 k i)) (Fin.ext (by show (b : ℕ) * 512 + (e : ℕ) = 512 * b + e; omega))
  pointwise [MlpGrads.hidden, MlpGrads.products, hidIn]
  simp only [hw]

theorem ref_out (n z : FVec Ideal S2176x1024 .f32) (u : FVec Ideal S2176x4096 .f32) (wu : Cert.OutMlpIdeal.S8x1024x512.Idx → EReal) (w : FVec Ideal S4096x1024 .f32)
    (hu : ∀ r b e, u (ix2 r (MlpGrads.col b e)) = hidIn z wu r b e) :
    addf n (Host.dotGeneral dot_S2176x4096_S4096x1024_S2176x1024_1_0_0_1_n_n none (mulf u u) w) = outArr n z wu (downBlocks w) := by
  have hd : ∀ (b : Fin 8) (k : Fin 512) (e : Fin 1024), downBlocks w (ix3 b k e) = w (ix2 (MlpGrads.col b k) e) := fun b k e => by
    pointwise [downBlocks]
    exact congrArg (fun i => w (ix2 i e)) (Fin.ext (by show (b : ℕ) * 512 + (k : ℕ) = 512 * b + k; omega))
  funext y
  idx_vars y
  pointwise [outArr, partIn]
  rw [sum_blocks, Fin.sum_univ_eight]
  simp only [hu, hd, add_assoc]

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r => ∀ c : Dev nD,
      r.2.mem ((c.tc : Thread nD τ).loc main_v26) = resNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v41) = mixArr (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v42) = resNorm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v43) = resHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v46) = resOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ?_) (Cert.OutMlpRefIdeal.Value.run (F := Ideal) m ρ)
  obtain ⟨r0, r1, r2, r3, r4, rest⟩ := h c
  have en : addf (m ((c.tc : Thread nD τ).loc main_arg0)) (Host.dotGeneral dot_S2176x1024_S1024x1024_S2176x1024_1_0_0_1_n_n none (mixed (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5))) = resNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    (ref_new _ _ _).trans (congrArg (fun x => newArr _ x _) (mixed_eq _ _ _ _))
  have ez : MlpGrads.normed (addf (m ((c.tc : Thread nD τ).loc main_arg0)) (Host.dotGeneral dot_S2176x1024_S1024x1024_S2176x1024_1_0_0_1_n_n none (mixed (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)))) (m ((c.tc : Thread nD τ).loc main_arg6))
      = resNorm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := (InProj.normed_eq _ _).trans (congrArg (fun n => InProj.rowsArr n _) en)
  refine ⟨r0.trans en, r1.trans (mixed_eq _ _ _ _), r2.trans ?_, r3.trans ?_, r4.trans ?_, rest⟩
  · unfold Value.res_main_v42
    exact ez
  · unfold Value.res_main_v43
    exact (ref_hid _ _).trans (congrArg (fun z => hidArr z _) ez)
  · unfold Value.res_main_v46
    refine (ref_out _ _ _ _ _ (hid_at _ _)).trans ?_
    show outArr _ (MlpGrads.normed _ _) _ _ = _
    erw [ez, en]
    rfl

end reference

/-- So from equal arguments the two programs end with equal results. -/
theorem algebraic : Cert.algebraic_OutMlpIdeal_OutMlpRefIdeal := by
  intro m ρ m' ρ' _ hagree
  refine ⟨_, _, _, _, _, kernel_run m ρ, ?_⟩
  refine (θ_run _ _ _).mono (fun r h c => ?_) (reference_run m' ρ')
  obtain ⟨a0, a1, a2, a3, a4, a5, a6, a7, a8⟩ := hagree c
  obtain ⟨r0, r1, r2, r3, r4, rest⟩ := h c
  rw [a0, a1, a2, a3, a4, a5] at r0
  rw [a1, a2, a3, a4] at r1
  rw [a0, a1, a2, a3, a4, a5, a6] at r2
  rw [a0, a1, a2, a3, a4, a5, a6, a7] at r3
  rw [a0, a1, a2, a3, a4, a5, a6, a7, a8] at r4
  exact ⟨r0, r1, r2, r3, r4, rest⟩

end Cert.OutMlps

end
-- ==== Proof.MlpBack.Runs.lean ====
/-
  The two runs of the MLP's backward pass.

  The call doubles the activations, adds the products of the hidden units block by block and brings them back through the norm with one mean; the reference
  is the chain rule line by line, on all hidden units at once. Both end with the arrays of `Blocks.lean`. No entry has to be finite.
-/
module

public import proofs.«01_k».proof.Proof.MlpBack.Blocks
public import proofs.«01_k».proof.Proof.OutMlp.Runs
public import proofs.«01_k».proof.Proof.Gen.MlpBackRefIdeal.Run
public import proofs.«01_k».proof.Defs
public import Idealize.ShloMosaic.Lib.StableHlo.ReadAt

@[expose] public section

set_option maxRecDepth 16384

noncomputable section

namespace Cert.MlpBacks

open Idealize.ShloMosaic Idealize.ShloMosaic.TcCoe Idealize.SL.Sem
open Idealize.ShloMosaic.Pointwise
open Cert.OutMlps (upBlocks downBlocks)
open Cert.MlpGrads (normed products hidden handed hiddenGrad)

section kernel

open Cert.MlpBackIdeal Cert.MlpBackIdeal.Gen

variable (m : (ℓ : Loc nD τ sig) → Buf (Elt Ideal) ℓ) (c : Dev nD)

theorem V_hidden : Gen.V m c main_v14 = hidden (products (normed (m ((c.tc : Thread nD τ).loc main_arg1)) (m ((c.tc : Thread nD τ).loc main_arg2))) (m ((c.tc : Thread nD τ).loc main_arg3))) := by
  unfold Gen.V
  after_reads_simp
  try simp -implicitDefEqProofs only [StableHlo.TRef.toBuf, StableHlo.TRef.ofBuf, cast_cast, cast_eq]
  rfl

theorem V_up : Gen.V m c main_v17 = upBlocks (m ((c.tc : Thread nD τ).loc main_arg3)) := by
  unfold Gen.V
  after_reads_simp
  try simp -implicitDefEqProofs only [StableHlo.TRef.toBuf, StableHlo.TRef.ofBuf, cast_cast, cast_eq]
  rfl

theorem V_down : Gen.V m c main_v19 = downBlocks (m ((c.tc : Thread nD τ).loc main_arg4)) := by
  unfold Gen.V
  after_reads_simp
  try simp -implicitDefEqProofs only [StableHlo.TRef.toBuf, StableHlo.TRef.ofBuf, cast_cast, cast_eq]
  rfl

/-- The results from the operands. -/
def resSum (d h : S2176x1024.Idx → EReal) (g : S1x1024.Idx → EReal) (wu : S1024x4096.Idx → EReal) (wd : S4096x1024.Idx → EReal) : S2176x4096.Idx → EReal :=
  sumArr d (hidden (products (normed h g) wu)) (downBlocks wd)

def resProd (d h : S2176x1024.Idx → EReal) (g : S1x1024.Idx → EReal) (wu : S1024x4096.Idx → EReal) (wd : S4096x1024.Idx → EReal) : S2176x1024.Idx → EReal :=
  prodArr d (hidden (products (normed h g) wu)) (upBlocks wu) (downBlocks wd)

def resRows (d h : S2176x1024.Idx → EReal) (g : S1x1024.Idx → EReal) (wu : S1024x4096.Idx → EReal) (wd : S4096x1024.Idx → EReal) : S2176x1024.Idx → EReal := rowArr d h g (resProd d h g wu wd)

def resGain (d h : S2176x1024.Idx → EReal) (g : S1x1024.Idx → EReal) (wu : S1024x4096.Idx → EReal) (wd : S4096x1024.Idx → EReal) : S1x1024.Idx → EReal := gainArr h (resProd d h g wu wd)

theorem A_val : A m c = resProd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold A; rw [V_main_arg0, V_hidden, V_up, V_down]; rfl

variable (ρ : Dev nD → PrngReg)

theorem kernel_run : θ_run (defs (F := Ideal)) (onTc (τ := τ) (main (F := Ideal))) ⟨m, fun _ => 0, ρ⟩ fun r => ∀ c : Dev nD,
      r.2.mem ((c.tc : Thread nD τ).loc main_v20_0) = resSum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v20_1) = resRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v20_2) = resGain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v20_3) = (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (θ_run_and (run m ρ) (frame_of m ρ (dats m) (A_eq m) (run m ρ)))
  have hc := (h.1 c).1
  refine ⟨(hc 6).trans ((sum_final m c).trans ?_), (hc 7).trans ((rows_final m c).trans ?_),
    (hc 8).trans ((gain_final m c).trans ?_), (hc 9).trans ((round_final m c).trans (V_main_arg0 m c)), h.2 c⟩
  · rw [V_main_arg0, V_hidden, V_down]; rfl
  · rw [A_val, V_main_arg0, V_main_arg1, V_main_arg2]; rfl
  · rw [A_val, V_main_arg1]; rfl

end kernel

section reference

open Cert.MlpBackRefIdeal Cert.MlpBackRefIdeal.Gen

/-- The mean squares of the rows, plus the small constant. -/
def squares (h : FVec Ideal S2176x1024 .f32) : FVec Ideal S2176x1 .f32 :=
  addf (Host.divf (broadcastInDim S2176x1 ![0] bcast_S2176_S2176x1_0 (Host.reduceAdd (mulf h h) (constant S_ .f32 0x00000000#32) reducesTo_S2176x1024_S2176_d1 h_S_))
    (broadcastInDim S2176x1 ![] bcast_S_S2176x1 (constant S_ .f32 0x44800000#32))) (broadcastInDim S2176x1 ![] bcast_S_S2176x1 (constant S_ .f32 0x358637BD#32))

/-- The products with the first weights, turned. -/
def hostProd (a : FVec Ideal S2176x4096 .f32) (wu : FVec Ideal S1024x4096 .f32) : FVec Ideal S2176x1024 .f32 :=
  Host.dotGeneral dot_S2176x4096_S1024x4096_S2176x1024_1_1_0_0_n_n none a wu

/-- What comes back through the mean squares. -/
def hostSlope (h : FVec Ideal S2176x1024 .f32) (g : FVec Ideal S1x1024 .f32) (z : FVec Ideal S2176x1024 .f32) : FVec Ideal S2176x1024 .f32 :=
  broadcastInDim S2176x1024 ![0] bcast_S2176_S2176x1024_0 (Host.reduceAdd (Host.divf (mulf (shapeCast S2176x1 (Host.reduceAdd (mulf h (mulf z
    (broadcastInDim S2176x1024 ![0, 1] bcast_S1x1024_S2176x1024_0_1 g))) (constant S_ .f32 0x00000000#32) reducesTo_S2176x1024_S2176_d1 h_S_) shapeCasts_S2176_S2176x1)
    (mulf (broadcastInDim S2176x1 ![] bcast_S_S2176x1 (constant S_ .f32 0xBF000000#32)) (Host.divf (Host.rsqrt (squares h)) (squares h))))
    (broadcastInDim S2176x1 ![] bcast_S_S2176x1 (constant S_ .f32 0x44800000#32))) (constant S_ .f32 0x00000000#32) reducesTo_S2176x1_S2176_d1 h_S_)

/-- The rows' gradients. -/
def hostRows (d h : FVec Ideal S2176x1024 .f32) (g : FVec Ideal S1x1024 .f32) (z : FVec Ideal S2176x1024 .f32) : FVec Ideal S2176x1024 .f32 :=
  addf (addf (addf d (mulf (mulf z (broadcastInDim S2176x1024 ![0, 1] bcast_S1x1024_S2176x1024_0_1 g)) (broadcastInDim S2176x1024 ![0, 1] bcast_S2176x1_S2176x1024_0_1
    (Host.rsqrt (squares h))))) (mulf h (hostSlope h g z))) (mulf (hostSlope h g z) h)

/-- The gain's gradient. -/
def hostGain (h z : FVec Ideal S2176x1024 .f32) : FVec Ideal S1x1024 .f32 :=
  shapeCast S1x1024 (Host.reduceAdd (mulf (mulf h (broadcastInDim S2176x1024 ![0, 1] bcast_S2176x1_S2176x1024_0_1 (Host.rsqrt (squares h)))) z)
    (constant S_ .f32 0x00000000#32) reducesTo_S2176x1024_S1024_d0 h_S_) shapeCasts_S1024_S1x1024

theorem squares_at (h : FVec Ideal S2176x1024 .f32) (r : Fin 2176) : squares h (ix2 r 0) = NormBack.square 1149239296#32 fun k => h (ix2 r k) := by
  pointwise [squares]
  rfl

theorem slope_at (h : FVec Ideal S2176x1024 .f32) (g : FVec Ideal S1x1024 .f32) (z : FVec Ideal S2176x1024 .f32) (r : Fin 2176) (e : Fin 1024) :
    hostSlope h g z (ix2 r e) = NormBack.slope 1149239296#32 (fun k => h (ix2 r k)) (fun k => g (ix2 0 k)) (fun k => z (ix2 r k)) := by
  pointwise [hostSlope]
  refine (Fintype.sum_subsingleton _ (0 : Fin 1)).trans ?_
  rw [squares_at]
  rfl

theorem ref_rows (d h : FVec Ideal S2176x1024 .f32) (g : FVec Ideal S1x1024 .f32) (z : FVec Ideal S2176x1024 .f32) : hostRows d h g z = rowArr d h g z := by
  funext y
  idx_vars y
  pointwise [hostRows, rowArr]
  simp only [squares_at, slope_at]
  unfold closed
  rw [← NormBack.chain_eq _ 1024 (by norm_num) NormBack.k1024, add_assoc, add_assoc, add_assoc]
  rfl

/-- A sum over all rows, block by block. -/
theorem sum_rows (f : Fin 2176 → EReal) : ∑ k, f k = ∑ i : Fin 4, ∑ r : Fin 544, f (rowOf i r) := by
  rw [← Fintype.sum_prod_type' (f := fun b e => f (rowOf b e))]
  refine (Fintype.sum_equiv (finProdFinEquiv : Fin 4 × Fin 544 ≃ Fin (4 * 544)) _ _ fun p => ?_).symm
  refine congrArg f (Fin.ext ?_)
  show 544 * (p.1 : ℕ) + p.2 = p.2 + 544 * p.1
  omega

theorem ref_gain (h z : FVec Ideal S2176x1024 .f32) : hostGain h z = gainArr h z := by
  funext y
  idx_vars y
  obtain rfl : y0 = 0 := Subsingleton.elim _ _
  pointwise [hostGain]
  simp only [squares_at]
  rw [sum_rows, Fin.sum_univ_four]
  unfold gainArr gainIn
  simp only [mul_comm (z _)]
  rfl

/-- Twice the activation where it is positive. -/
theorem double (a g : EReal) : (if 0 < a then max a 0 * g + g * max a 0 else 0) = g * (Ideal.ofBits FTy.f32 1073741824#32 * max a 0) := by
  have hd : ∀ x : EReal, x + x = ((2 : ℝ) : EReal) * x := fun x => by
    induction x with
    | bot => rw [EReal.coe_mul_bot_of_pos (by norm_num)]; rfl
    | top => rw [EReal.coe_mul_top_of_pos (by norm_num)]; rfl
    | coe x => rw [← EReal.coe_add, ← EReal.coe_mul]; congr 1; ring
  rw [NormBack.two]
  split_ifs with h
  · rw [mul_comm (max a 0) g, hd, mul_left_comm]
  · rw [max_eq_right (not_lt.mp h), mul_zero, mul_zero]

theorem grad_at (a gd : FVec Ideal S2176x4096 .f32) (r : Fin 2176) (e : Fin 4096) :
    hiddenGrad a gd (ix2 r e) = gd (ix2 r e) * (Ideal.ofBits FTy.f32 1073741824#32 * hidden a (ix2 r e)) := by
  pointwise [hiddenGrad, MlpGrads.hidden]
  exact double _ _

theorem sum_in (d : FVec Ideal S2176x1024 .f32) (a : FVec Ideal S2176x4096 .f32) (wd : FVec Ideal S4096x1024 .f32) (r : Fin 2176) (b : Fin 8) (e : Fin 512) :
    hiddenGrad a (handed d wd) (ix2 r (MlpGrads.col b e)) = sumIn d (hidden a) (downBlocks wd) r b e := by
  have hw : ∀ k : Fin 1024, downBlocks wd (ix3 b e k) = wd (ix2 (MlpGrads.col b e) k) := fun k => by
    pointwise [downBlocks]
    exact congrArg (fun i => wd (ix2 i k)) (Fin.ext (by show (b : ℕ) * 512 + (e : ℕ) = 512 * b + e; omega))
  rw [grad_at]
  pointwise [handed, sumIn]
  simp only [hw]

theorem ref_sum (d : FVec Ideal S2176x1024 .f32) (a : FVec Ideal S2176x4096 .f32) (wd : FVec Ideal S4096x1024 .f32) :
    hiddenGrad a (handed d wd) = sumArr d (hidden a) (downBlocks wd) := by
  funext y
  idx_vars y
  have hy : y1 = MlpGrads.col ⟨(y1 : ℕ) / 512, by omega⟩ ⟨(y1 : ℕ) % 512, Nat.mod_lt _ (by decide)⟩ := Fin.ext (Nat.div_add_mod _ _).symm
  show _ = sumIn d (hidden a) (downBlocks wd) y0 ⟨(y1 : ℕ) / 512, by omega⟩ ⟨(y1 : ℕ) % 512, Nat.mod_lt _ (by decide)⟩
  rw [← sum_in, ← hy]

theorem ref_prod (d : FVec Ideal S2176x1024 .f32) (a : FVec Ideal S2176x4096 .f32) (wu : FVec Ideal S1024x4096 .f32) (wd : FVec Ideal S4096x1024 .f32) :
    hostProd (hiddenGrad a (handed d wd)) wu = prodArr d (hidden a) (upBlocks wu) (downBlocks wd) := by
  have hu : ∀ (b : Fin 8) (k : Fin 1024) (e : Fin 512), upBlocks wu (ix3 b k e) = wu (ix2 k (MlpGrads.col b e)) := fun b k e => by
    pointwise [upBlocks]
    exact congrArg (fun i => wu (ix2 k i)) (Fin.ext (by show (b : ℕ) * 512 + (e : ℕ) = 512 * b + e; omega))
  funext y
  idx_vars y
  pointwise [hostProd, prodArr, partIn]
  rw [OutMlps.sum_blocks, Fin.sum_univ_eight]
  simp only [hu, sum_in, add_assoc]

variable (m : (ℓ : Loc nD τ sig) → Buf (Elt Ideal) ℓ) (ρ : Dev nD → PrngReg)

/-- A reshape to the same shape changes nothing. -/
theorem same (d : FVec Ideal S2176x1024 .f32) : shapeCast S2176x1024 d shapeCasts_S2176x1024_S2176x1024 = d := by
  funext y
  idx_vars y
  pointwise []

theorem rows_value (c : Dev nD) : Cert.MlpBackRefIdeal.Value.res_main_v75 m c = resRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.MlpBackRefIdeal.Value.res_main_v75
  rw [same]
  exact (ref_rows _ _ _ _).trans (congrArg (rowArr _ _ _) (ref_prod _ (products (normed _ _) _) _ _))

theorem reference_run : θ_run (defs (F := Ideal)) (onTc (τ := τ) (main (F := Ideal))) ⟨m, fun _ => 0, ρ⟩ fun r => ∀ c : Dev nD,
      r.2.mem ((c.tc : Thread nD τ).loc main_v76) = resSum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v75) = resRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v58) = resGain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v77) = (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (Cert.MlpBackRefIdeal.Value.run (F := Ideal) m ρ)
  obtain ⟨r0, r1, r2, r3, rest⟩ := h c
  rw [same] at r2
  refine ⟨r0.trans (ref_sum _ (products (normed _ _) _) _), r1.trans (rows_value m c), r2.trans ((ref_gain _ _).trans (congrArg (gainArr _) (ref_prod _ (products (normed _ _) _) _ _))), r3.trans ?_, rest⟩
  rfl

end reference

/-- So from equal arguments the two programs end with equal results. -/
theorem algebraic : Cert.algebraic_MlpBackIdeal_MlpBackRefIdeal := by
  intro m ρ m' ρ' _ hagree
  refine ⟨_, _, _, _, kernel_run m ρ, ?_⟩
  refine (θ_run _ _ _).mono (fun r h c => ?_) (reference_run m' ρ')
  obtain ⟨a0, a1, a2, a3, a4⟩ := hagree c
  obtain ⟨r0, r1, r2, r3, rest⟩ := h c
  rw [a0, a1, a2, a3, a4] at r0 r1 r2
  rw [a0] at r3
  exact ⟨r0, r1, r2, r3, rest⟩

end Cert.MlpBacks

end
-- ==== Proof.InBack.Runs.lean ====
/-
  The two runs of the input projection's backward pass: from equal arguments the rows' gradients and the gain's agree. No entry has to be finite.
-/
module

public import proofs.«01_k».proof.Proof.InBack.Join
public import proofs.«01_k».proof.Proof.MlpBack.Runs
public import proofs.«01_k».proof.Defs
public import Idealize.ShloMosaic.Lib.StableHlo.ReadAt

@[expose] public section

set_option maxRecDepth 16384

noncomputable section

namespace Cert.InBacks

open Idealize.ShloMosaic Idealize.ShloMosaic.TcCoe Idealize.SL.Sem
open Idealize.ShloMosaic.Pointwise
open Cert.InProj (turned others)
open Cert.MlpBacks (rowArr gainArr squares hostSlope hostGain)

/-- The products that come back, from the operands. -/
def resProd (q k v : InBackIdeal.S2176x512.Idx → EReal) (f : InBackIdeal.S2176x8.Idx → EReal) (x y : InBackIdeal.S2176x512.Idx → EReal) (w : InBackIdeal.S1024x2568.Idx → EReal) :
    InBackIdeal.S2176x1024.Idx → EReal := prodArr q k v x y (padded f) (turned w) (others (turned w))

section kernel

open Cert.InBackIdeal Cert.InBackIdeal.Gen

variable (m : (ℓ : Loc nD τ sig) → Buf (Elt Ideal) ℓ) (c : Dev nD)

theorem V_gates : Gen.V m c main_v0 = padded (m ((c.tc : Thread nD τ).loc main_arg4)) := by
  unfold Gen.V
  after_reads_simp
  try simp -implicitDefEqProofs only [StableHlo.TRef.toBuf, StableHlo.TRef.ofBuf, cast_cast, cast_eq]
  rfl

theorem V_turned : Gen.V m c main_v2 = turned (m ((c.tc : Thread nD τ).loc main_arg9)) := by
  unfold Gen.V
  after_reads_simp
  try simp -implicitDefEqProofs only [StableHlo.TRef.toBuf, StableHlo.TRef.ofBuf, cast_cast, cast_eq]
  rfl

theorem V_others : Gen.V m c main_v6 = others (turned (m ((c.tc : Thread nD τ).loc main_arg9))) := by
  unfold Gen.V
  after_reads_simp
  try simp -implicitDefEqProofs only [StableHlo.TRef.toBuf, StableHlo.TRef.ofBuf, cast_cast, cast_eq]
  rfl

theorem A_val : A m c = resProd (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) := by
  unfold A
  rw [V_main_arg1, V_main_arg2, V_main_arg3, V_main_arg5, V_main_arg6, V_gates, V_turned, V_others]
  rfl

variable (ρ : Dev nD → PrngReg)

theorem kernel_run : θ_run (defs (F := Ideal)) (onTc (τ := τ) (main (F := Ideal))) ⟨m, fun _ => 0, ρ⟩ fun r => ∀ c : Dev nD,
      r.2.mem ((c.tc : Thread nD τ).loc main_v7_0) = rowArr (m ((c.tc : Thread nD τ).loc main_arg0)) (m ((c.tc : Thread nD τ).loc main_arg7)) (m ((c.tc : Thread nD τ).loc main_arg8))
        (resProd (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)))
      ∧ r.2.mem ((c.tc : Thread nD τ).loc main_v7_1) = gainArr (m ((c.tc : Thread nD τ).loc main_arg7)) (resProd (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Cert.InBackIdeal.Value.run_blocks m ρ)
  obtain ⟨r0, r1, rest⟩ := h c
  refine ⟨r0.trans ((rows_final m c).trans ?_), r1.trans ((gain_final m c).trans ?_), rest⟩
  · rw [A_val, V_main_arg0, V_main_arg7, V_main_arg8]
  · rw [A_val, V_main_arg7]

end kernel

section reference

open Cert.InBackRefIdeal Cert.InBackRefIdeal.Gen

/-- The rows' gradients. -/
def hostRows (d h : FVec Ideal S2176x1024 .f32) (g : FVec Ideal S1x1024 .f32) (z : FVec Ideal S2176x1024 .f32) : FVec Ideal S2176x1024 .f32 :=
  addf d (addf (addf (mulf (mulf z (broadcastInDim S2176x1024 ![0, 1] bcast_S1x1024_S2176x1024_0_1 g)) (broadcastInDim S2176x1024 ![0, 1] bcast_S2176x1_S2176x1024_0_1
    (Host.rsqrt (squares h)))) (mulf h (hostSlope h g z))) (mulf (hostSlope h g z) h))

theorem ref_rows (d h : FVec Ideal S2176x1024 .f32) (g : FVec Ideal S1x1024 .f32) (z : FVec Ideal S2176x1024 .f32) : hostRows d h g z = rowArr d h g z := by
  refine Eq.trans ?_ (MlpBacks.ref_rows d h g z)
  funext i
  idx_vars i
  pointwise [hostRows, MlpBacks.hostRows]
  simp only [add_assoc]

variable (m : (ℓ : Loc nD τ sig) → Buf (Elt Ideal) ℓ) (ρ : Dev nD → PrngReg)

theorem rows_value (c : Dev nD) : Cert.InBackRefIdeal.Value.res_main_v38 m c = rowArr (m ((c.tc : Thread nD τ).loc main_arg0)) (m ((c.tc : Thread nD τ).loc main_arg7)) (m ((c.tc : Thread nD τ).loc main_arg8))
    (resProd (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9))) := by
  unfold Cert.InBackRefIdeal.Value.res_main_v38
  exact (ref_rows _ _ _ _).trans (congrArg (rowArr _ _ _) (ref_prod _ _ _ _ _ _ _))

theorem reference_run : θ_run (defs (F := Ideal)) (onTc (τ := τ) (main (F := Ideal))) ⟨m, fun _ => 0, ρ⟩ fun r => ∀ c : Dev nD,
      r.2.mem ((c.tc : Thread nD τ).loc main_v38) = rowArr (m ((c.tc : Thread nD τ).loc main_arg0)) (m ((c.tc : Thread nD τ).loc main_arg7)) (m ((c.tc : Thread nD τ).loc main_arg8))
        (resProd (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)))
      ∧ r.2.mem ((c.tc : Thread nD τ).loc main_v21) = gainArr (m ((c.tc : Thread nD τ).loc main_arg7)) (resProd (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Cert.InBackRefIdeal.Value.run (F := Ideal) m ρ)
  obtain ⟨r0, r1, rest⟩ := h c
  exact ⟨r0.trans (rows_value m c), r1.trans ((MlpBacks.ref_gain _ _).trans (congrArg (gainArr _) (ref_prod _ _ _ _ _ _ _))), rest⟩

end reference

/-- So from equal arguments the two programs end with equal results. -/
theorem algebraic : Cert.algebraic_InBackIdeal_InBackRefIdeal := by
  intro m ρ m' ρ' _ hagree
  refine ⟨_, _, kernel_run m ρ, ?_⟩
  refine (θ_run _ _ _).mono (fun r h c => ?_) (reference_run m' ρ')
  obtain ⟨a0, a1, a2, a3, a4, a5, a6, a7, a8, a9⟩ := hagree c
  obtain ⟨r0, r1, rest⟩ := h c
  rw [a0, a1, a2, a3, a4, a5, a6, a7, a8, a9] at r0
  rw [a1, a2, a3, a4, a5, a6, a7, a9] at r1
  exact ⟨r0, r1, rest⟩

end Cert.InBacks

end
-- ==== Proof.InGrad.Blocks.lean ====
/-
  The blocks of the input projection's weight gradient.

  The call keeps the whole transposed gradient in a scratch. Its first step fills the scratch with zeros; each of the two steps then adds, for
  each of the six parts of the columns, that part's block of rows, transposed, times the block of normalised rows. The last step hands the
  scratch out in eight blocks of columns.
-/
module

public import proofs.«01_k».proof.Proof.Gen.InGradIdeal.Value
public import Idealize.ShloMosaic.Lib.Pipeline.ValueKit
public import Idealize.ShloMosaic.Lib.Pipeline.ReadBack
public import proofs.«01_k».proof.Proof.InBack.Join

@[expose] public section

set_option maxRecDepth 16384

noncomputable section

namespace Cert.InGrads

open Cert.InGradIdeal Cert.InGradIdeal.Gen Idealize.ShloMosaic Idealize.ShloMosaic.TcCoe Idealize.SL.Sem
open Idealize.ShloMosaic.Pointwise
open Cert.InBacks (colQ colK colV colF colX colY)

/-! ## The columns of six arrays side by side -/

/-- The entry of one row in one column, with the gates in the first lanes of their array. -/
def lane {R : ℕ} (q k v x y : (⟨2, ![R, 512]⟩ : Shape).Idx → EReal) (f : (⟨2, ![R, 128]⟩ : Shape).Idx → EReal) (r : Fin R) (n : Fin 2568) : EReal :=
  if h : (n : ℕ) < 512 then q (ix2 r ⟨n, h⟩)
  else if h : (n : ℕ) < 1024 then k (ix2 r ⟨n - 512, by omega⟩)
  else if h : (n : ℕ) < 1536 then v (ix2 r ⟨n - 1024, by omega⟩)
  else if h : (n : ℕ) < 1544 then f (ix2 r ⟨n - 1536, by omega⟩)
  else if h : (n : ℕ) < 2056 then x (ix2 r ⟨n - 1544, by omega⟩)
  else y (ix2 r ⟨n - 2056, by omega⟩)

section lanes

variable {R : ℕ} (q k v x y : (⟨2, ![R, 512]⟩ : Shape).Idx → EReal) (f : (⟨2, ![R, 128]⟩ : Shape).Idx → EReal) (r : Fin R)

theorem lane_q (a : Fin 512) : lane q k v x y f r (colQ a) = q (ix2 r a) := by
  unfold lane colQ
  rw [dif_pos (by show (a : ℕ) < 512; omega)]

theorem lane_k (a : Fin 512) : lane q k v x y f r (colK a) = k (ix2 r a) := by
  unfold lane colK
  rw [dif_neg (by show ¬512 + (a : ℕ) < 512; omega), dif_pos (by show 512 + (a : ℕ) < 1024; omega)]
  exact congrArg (fun i => k (ix2 r i)) (Fin.ext (by show 512 + (a : ℕ) - 512 = a; omega))

theorem lane_v (a : Fin 512) : lane q k v x y f r (colV a) = v (ix2 r a) := by
  unfold lane colV
  rw [dif_neg (by show ¬1024 + (a : ℕ) < 512; omega), dif_neg (by show ¬1024 + (a : ℕ) < 1024; omega), dif_pos (by show 1024 + (a : ℕ) < 1536; omega)]
  exact congrArg (fun i => v (ix2 r i)) (Fin.ext (by show 1024 + (a : ℕ) - 1024 = a; omega))

theorem lane_f (a : Fin 8) : lane q k v x y f r (colF a) = f (ix2 r ⟨a, by omega⟩) := by
  unfold lane colF
  rw [dif_neg (by show ¬1536 + (a : ℕ) < 512; omega), dif_neg (by show ¬1536 + (a : ℕ) < 1024; omega), dif_neg (by show ¬1536 + (a : ℕ) < 1536; omega),
    dif_pos (by show 1536 + (a : ℕ) < 1544; omega)]
  exact congrArg (fun i => f (ix2 r i)) (Fin.ext (by show 1536 + (a : ℕ) - 1536 = a; omega))

theorem lane_x (a : Fin 512) : lane q k v x y f r (colX a) = x (ix2 r a) := by
  unfold lane colX
  rw [dif_neg (by show ¬1544 + (a : ℕ) < 512; omega), dif_neg (by show ¬1544 + (a : ℕ) < 1024; omega), dif_neg (by show ¬1544 + (a : ℕ) < 1536; omega),
    dif_neg (by show ¬1544 + (a : ℕ) < 1544; omega), dif_pos (by show 1544 + (a : ℕ) < 2056; omega)]
  exact congrArg (fun i => x (ix2 r i)) (Fin.ext (by show 1544 + (a : ℕ) - 1544 = a; omega))

theorem lane_y (a : Fin 512) : lane q k v x y f r (colY a) = y (ix2 r a) := by
  unfold lane colY
  rw [dif_neg (by show ¬2056 + (a : ℕ) < 512; omega), dif_neg (by show ¬2056 + (a : ℕ) < 1024; omega), dif_neg (by show ¬2056 + (a : ℕ) < 1536; omega),
    dif_neg (by show ¬2056 + (a : ℕ) < 1544; omega), dif_neg (by show ¬2056 + (a : ℕ) < 2056; omega)]
  exact congrArg (fun i => y (ix2 r i)) (Fin.ext (by show 2056 + (a : ℕ) - 2056 = a; omega))

/-- A row of blocks is a row of the arrays that they are cut from. -/
theorem lane_congr {R' : ℕ} {q' k' v' x' y' : (⟨2, ![R', 512]⟩ : Shape).Idx → EReal} {f' : (⟨2, ![R', 128]⟩ : Shape).Idx → EReal} {r' : Fin R'}
    (hq : ∀ a, q (ix2 r a) = q' (ix2 r' a)) (hk : ∀ a, k (ix2 r a) = k' (ix2 r' a)) (hv : ∀ a, v (ix2 r a) = v' (ix2 r' a))
    (hx : ∀ a, x (ix2 r a) = x' (ix2 r' a)) (hy : ∀ a, y (ix2 r a) = y' (ix2 r' a)) (hf : ∀ a, f (ix2 r a) = f' (ix2 r' a)) (n : Fin 2568) :
    lane q k v x y f r n = lane q' k' v' x' y' f' r' n := by
  unfold lane
  simp only [hq, hk, hv, hx, hy, hf]

end lanes

/-! ## One step on the scratch -/

theorem part1_at (z : Vec Ideal S1088x1024 .bf16) (w : Vec Ideal S512x1024 .f32) (q : Vec Ideal S1088x512 .bf16) (a : Fin 512) (e : Fin 1024) :
    k0_pay1 (F := Ideal) (k0_pay14 z) w q (ix2 a e) = w (ix2 a e) + ∑ r : Fin 1088, q (ix2 r a) * z (ix2 r e) := by
  pointwise [k0_pay1, k0_pay14]

theorem part2_at (z : Vec Ideal S1088x1024 .bf16) (w : Vec Ideal S512x1024 .f32) (q : Vec Ideal S1088x512 .bf16) (a : Fin 512) (e : Fin 1024) :
    k0_pay2 (F := Ideal) (k0_pay14 z) w q (ix2 a e) = w (ix2 a e) + ∑ r : Fin 1088, q (ix2 r a) * z (ix2 r e) := part1_at z w q a e

theorem part15_at (z : Vec Ideal S1088x1024 .bf16) (w : Vec Ideal S512x1024 .f32) (q : Vec Ideal S1088x512 .bf16) (a : Fin 512) (e : Fin 1024) :
    k0_pay15 (F := Ideal) z w q (ix2 a e) = w (ix2 a e) + ∑ r : Fin 1088, q (ix2 r a) * z (ix2 r e) := part1_at z w q a e

theorem part16_at (z : Vec Ideal S1088x1024 .bf16) (w : Vec Ideal S512x1024 .f32) (q : Vec Ideal S1088x512 .bf16) (a : Fin 512) (e : Fin 1024) :
    k0_pay16 (F := Ideal) z w q (ix2 a e) = w (ix2 a e) + ∑ r : Fin 1088, q (ix2 r a) * z (ix2 r e) := part1_at z w q a e

theorem part17_at (z : Vec Ideal S1088x1024 .bf16) (w : Vec Ideal S512x1024 .f32) (q : Vec Ideal S1088x512 .bf16) (a : Fin 512) (e : Fin 1024) :
    k0_pay17 (F := Ideal) z w q (ix2 a e) = w (ix2 a e) + ∑ r : Fin 1088, q (ix2 r a) * z (ix2 r e) := part1_at z w q a e

theorem gates_at (z : Vec Ideal S1088x1024 .bf16) (w : Vec Ideal S8x1024 .f32) (f : Vec Ideal S1088x128 .bf16) (a : Fin 8) (e : Fin 1024) :
    k0_pay3 (F := Ideal) (k0_pay14 z) w f (ix2 a e) = w (ix2 a e) + ∑ r : Fin 1088, f (ix2 r ⟨a, by omega⟩) * z (ix2 r e) := by
  pointwise [k0_pay3, k0_pay14]

theorem zeros_at (y : S2568x1024.Idx) : k0_pay13 (F := Ideal) y = 0 := by
  idx_vars y
  pointwise [k0_pay13]

/-- The scratch after a step, from the scratch before it and the step's blocks. -/
def grown (base : S2568x1024.Idx → EReal) (z : S1088x1024.Idx → EReal) (q k v x y : S1088x512.Idx → EReal) (f : S1088x128.Idx → EReal) :
    S2568x1024.Idx → EReal := fun i => base i + ∑ r : Fin 1088, lane q k v x y f r (i 0) * z (ix2 r (i 1))

/-- Rows from some row on, among all rows. -/
theorem spot (n k : ℕ) (inb : ∀ a, (![n, 0] : Fin 2 → ℕ) a + (![k, 1024] : Fin 2 → ℕ) a ≤ S2568x1024.size a) (a : Fin k) (e : Fin 1024) (j : Fin 2568)
    (h : (j : ℕ) = n + a) : (Rect.unit (s := S2568x1024) ![n, 0] ![k, 1024] inb).emb (ix2 a e) = ix2 j e := by
  refine funext fun b => Fin.ext ?_
  refine (Rect.idx_unit_val ![n, 0] ![k, 1024] inb (ix2 a e) b).trans ?_
  fin_cases b
  · show n + (a : ℕ) = j; omega
  · show 0 + (e : ℕ) = e; omega

section step

variable (base : Vec Ideal S2568x1024 .f32) (z : Vec Ideal S1088x1024 .bf16) (q k v x y : Vec Ideal S1088x512 .bf16) (f : Vec Ideal S1088x128 .bf16)

/-- A part that adds its products to the scratch is a block of `grown`. -/
theorem piece_at {n s : ℕ} {inb : ∀ a, (![n, 0] : Fin 2 → ℕ) a + (![s, 1024] : Fin 2 → ℕ) a ≤ S2568x1024.size a} {p : (⟨2, ![s, 1024]⟩ : Shape).Idx → EReal}
    (col : Fin s → Fin 2568) (hcol : ∀ a, (col a : ℕ) = n + a)
    (hp : ∀ a e, p (ix2 a e) = View.ld (Val := Elt Ideal) (e' := .f32) base (Rect.unit (s := S2568x1024) ![n, 0] ![s, 1024] inb) (ix2 a e)
      + ∑ r, lane q k v x y f r (col a) * z (ix2 r e)) (i : (⟨2, ![s, 1024]⟩ : Shape).Idx) :
    p i = grown base z q k v x y f ((Rect.unit (s := S2568x1024) ![n, 0] ![s, 1024] inb).emb i) := by
  obtain ⟨i0, i1, rfl⟩ : ∃ (a : Fin s) (b : Fin 1024), i = ix2 a b := ⟨_, _, eq_ix2 i⟩
  rw [hp, spot n s inb i0 i1 (col i0) (hcol i0)]
  exact congrArg (· + _) (congrArg base (spot n s inb i0 i1 (col i0) (hcol i0)))

/-- What the six stores of a step leave. -/
abbrev pieces : List (View.Piece (Elt Ideal) S2568x1024 .f32) :=
  [⟨Rect.unit ![1536, 0] ![8, 1024] inb_S2568x1024_S8x1024_1536_0, k0_pay3 (F := Ideal) (k0_pay14 z) (View.ld base (Rect.unit ![1536, 0] ![8, 1024] inb_S2568x1024_S8x1024_1536_0)) f⟩,
   ⟨Rect.unit ![2056, 0] ![512, 1024] inb_S2568x1024_S512x1024_2056_0, k0_pay2 (F := Ideal) (k0_pay14 z) (View.ld base (Rect.unit ![2056, 0] ![512, 1024] inb_S2568x1024_S512x1024_2056_0)) y⟩,
   ⟨Rect.unit ![1544, 0] ![512, 1024] inb_S2568x1024_S512x1024_1544_0, k0_pay1 (F := Ideal) (k0_pay14 z) (View.ld base (Rect.unit ![1544, 0] ![512, 1024] inb_S2568x1024_S512x1024_1544_0)) x⟩,
   ⟨Rect.unit ![1024, 0] ![512, 1024] inb_S2568x1024_S512x1024_1024_0, k0_pay17 (F := Ideal) z (View.ld base (Rect.unit ![1024, 0] ![512, 1024] inb_S2568x1024_S512x1024_1024_0)) v⟩,
   ⟨Rect.unit ![512, 0] ![512, 1024] inb_S2568x1024_S512x1024_512_0, k0_pay16 (F := Ideal) z (View.ld base (Rect.unit ![512, 0] ![512, 1024] inb_S2568x1024_S512x1024_512_0)) k⟩,
   ⟨Rect.unit ![0, 0] ![512, 1024] inb_S2568x1024_S512x1024_0_0, k0_pay15 (F := Ideal) z (View.ld base (Rect.unit ![0, 0] ![512, 1024] inb_S2568x1024_S512x1024_0_0)) q⟩]

theorem pieces_of : View.PiecesOf (Val := Elt Ideal) (e := .f32) (grown base z q k v x y f) (pieces base z q k v x y f) := by
  refine ⟨?_, ?_, ?_, ?_, ?_, ?_, trivial⟩
  · exact piece_at base z q k v x y f colF (fun _ => rfl) fun a e => by simp only [lane_f]; exact gates_at z _ f a e
  · exact piece_at base z q k v x y f colY (fun _ => rfl) fun a e => by simp only [lane_y]; exact part2_at z _ y a e
  · exact piece_at base z q k v x y f colX (fun _ => rfl) fun a e => by simp only [lane_x]; exact part1_at z _ x a e
  · exact piece_at base z q k v x y f colV (fun _ => rfl) fun a e => by simp only [lane_v]; exact part17_at z _ v a e
  · exact piece_at base z q k v x y f colK (fun _ => rfl) fun a e => by simp only [lane_k]; exact part16_at z _ k a e
  · exact piece_at base z q k v x y f colQ (fun a => (Nat.zero_add _).symm) fun a e => by simp only [lane_q]; exact part15_at z _ q a e

theorem pieces_cover (i : S2568x1024.Idx) : ∃ p ∈ pieces base z q k v x y f, i ∈ p.1.set :=
  View.cover_of_tiledBy (pieces base z q k v x y f) ![8, 1024] (by sl_kernel_rfl) i

theorem pieces_canon (L : List (View.Piece (Elt Ideal) S2568x1024 .f32)) (i : S2568x1024.Idx) :
    View.canon (pieces base z q k v x y f ++ L) i = grown base z q k v x y f i :=
  View.canon_append_of_piecesOf _ L _ (pieces_of base z q k v x y f) i (pieces_cover base z q k v x y f i)

/-- A block of rows, read back after the six stores. -/
theorem read_rows {κ : Kind} {sp : Space} {sg : RefSig} (w : View sg κ sp S2568x1024 .f32) (n : ℕ) (inb : ∀ a, (![n, 0] : Fin 2 → ℕ) a + (![321, 1024] : Fin 2 → ℕ) a ≤ S2568x1024.size a) (a : Fin 321) (e : Fin 1024)
    (j : Fin 2568) (h : (j : ℕ) = n + a) :
    w.readCov (pieces base z q k v x y f) (Rect.unit (s := S2568x1024) ![n, 0] ![321, 1024] inb).toLoadRect (ix2 a e) = grown base z q k v x y f (ix2 j e) := by
  rw [View.readCov_eq_canon', ← spot n 321 inb a e j h]
  exact (congrArg (fun L => View.canon L _) (List.append_nil _).symm).trans (pieces_canon base z q k v x y f [] _)

end step

/-- A block of rows as the call hands it out. -/
theorem cut_at (v : Vec Ideal S321x1024 .f32) (p : Fin 1) (a : Fin 321) (e : Fin 1024) : k0_pay5 v (ix3 p a e) = v (ix2 a e) := by
  pointwise [k0_pay5]

/-- It holds rows of the scratch after the step. -/
theorem handed_rows {κ : Kind} {sp : Space} {sg : RefSig} (w : View sg κ sp S2568x1024 .f32) (base : Vec Ideal S2568x1024 .f32) (z : Vec Ideal S1088x1024 .bf16)
    (q k v x y : Vec Ideal S1088x512 .bf16) (f : Vec Ideal S1088x128 .bf16) (n : ℕ) (inb : ∀ a, (![n, 0] : Fin 2 → ℕ) a + (![321, 1024] : Fin 2 → ℕ) a ≤ S2568x1024.size a)
    (i : S1x321x1024.Idx) (j : Fin 2568) (e : Fin 1024) (hj : (j : ℕ) = n + i 1) (he : (e : ℕ) = i 2) :
    k0_pay5 (w.readCov (pieces base z q k v x y f) (Rect.unit (s := S2568x1024) ![n, 0] ![321, 1024] inb).toLoadRect) i = grown base z q k v x y f (ix2 j e) := by
  obtain ⟨i0, i1, i2, rfl⟩ : ∃ (p : Fin 1) (a : Fin 321) (b : Fin 1024), i = ix3 p a b := ⟨_, _, _, eq_ix3 i⟩
  obtain rfl : e = i2 := Fin.ext he
  exact (cut_at _ i0 i1 e).trans (read_rows base z q k v x y f w n inb i1 e j hj)

/-! ## The two steps -/

variable (m : (ℓ : Loc nD τ sig) → Buf (Elt Ideal) ℓ) (c : Dev nD)

/-- The scratch after step `t`, from what it held before. -/
def stepped (t : Fin cfg0.N) (base : S2568x1024.Idx → EReal) : S2568x1024.Idx → EReal :=
  grown base (iblk m c 0 t) (iblk m c 1 t) (iblk m c 2 t) (iblk m c 3 t) (iblk m c 4 t) (iblk m c 5 t) (iblk m c 6 t)

theorem acc_first (t : Fin cfg0.N) (h : t.val % 2 = 0) : (outsAt0 m c t.val t.isLt).2 = stepped m c t (k0_pay13 (F := Ideal)) := by
  rw [outsAt0_A m c t h (by omega)]
  frame_out
  funext y
  simp (disch := first | rfl | decide) only [↓View.readCov_skip, ↓View.readCov_fill]
  exact pieces_canon _ _ _ _ _ _ _ _ [_] y

/-- A column by its block and its place there. -/
def cell (b : Fin 8) (a : Fin 321) : Fin 2568 := ⟨321 * b + a, by omega⟩

theorem out_last (t : Fin cfg0.N) (h : t.val % 2 = 1) (y : S8x321x1024.Idx) :
    (outsAt0 m c t.val t.isLt).1 y = stepped m c t (outsAt0 m c (t.val - 1) (by omega)).2 (ix2 (cell (y 0) (y 1)) (y 2)) := by
  rw [outsAt0_B m c t (by omega) h]
  generalize outsAt0 m c (t.val - 1) _ = w
  frame_out
  rw [show View.read (Elt Ideal) (View.whole cc0_scratch0) ((Memref.isWhole_whole _).unread w.2) = w.2 from Memref.IsWhole.read_unread _ _]
  canon_tiles x hx
  all_goals exact handed_rows _ _ _ _ _ _ _ _ _ _ _ _ _ _ (by show 321 * (y 0 : ℕ) + y 1 = _; omega) (by omega)

/-! ## The whole array -/

/-- A row by its block and its place there. -/
def row (t : Fin 2) (r : Fin 1088) : Fin 2176 := ⟨1088 * t + r, by omega⟩

theorem index0 : ∀ t : Fin cfg0.N, win0_0.index t = ![(t : ℕ), 0] := by decide +kernel
theorem index1 : ∀ t : Fin cfg0.N, win0_1.index t = ![(t : ℕ), 0] := by decide +kernel
theorem index2 : ∀ t : Fin cfg0.N, win0_2.index t = ![(t : ℕ), 0] := by decide +kernel
theorem index3 : ∀ t : Fin cfg0.N, win0_3.index t = ![(t : ℕ), 0] := by decide +kernel
theorem index4 : ∀ t : Fin cfg0.N, win0_4.index t = ![(t : ℕ), 0] := by decide +kernel
theorem index5 : ∀ t : Fin cfg0.N, win0_5.index t = ![(t : ℕ), 0] := by decide +kernel
theorem index6 : ∀ t : Fin cfg0.N, win0_6.index t = ![(t : ℕ), 0] := by decide +kernel
theorem index7 : ∀ t : Fin cfg0.N, win0_7.index t = ![0, 0, 0] := by decide +kernel

/-- The products of one block of rows. -/
def share (q k v x y : S2176x512.Idx → EReal) (f : S2176x128.Idx → EReal) (z : S2176x1024.Idx → EReal) (t : Fin 2) (n : Fin 2568) (e : Fin 1024) : EReal :=
  ∑ r : Fin 1088, lane q k v x y f (row t r) n * z (ix2 (row t r) e)

/-- The weights' gradient, transposed and in blocks of columns. -/
def gradArr (q k v x y : S2176x512.Idx → EReal) (f : S2176x128.Idx → EReal) (z : S2176x1024.Idx → EReal) : S8x321x1024.Idx → EReal := fun i =>
  share q k v x y f z 0 (cell (i 0) (i 1)) (i 2) + share q k v x y f z 1 (cell (i 0) (i 1)) (i 2)

theorem sum_mul_congr {f f' g g' : Fin 1088 → EReal} (h : ∀ a, f a = f' a) (h' : ∀ a, g a = g' a) : ∑ a, f a * g a = ∑ a, f' a * g' a := by simp only [h, h']

theorem stepped_at (t : Fin cfg0.N) (base : S2568x1024.Idx → EReal) (n : Fin 2568) (e : Fin 1024) :
    stepped m c t base (ix2 n e) = base (ix2 n e)
      + share (V m c main_arg0) (V m c main_arg1) (V m c main_arg2) (V m c main_arg4) (V m c main_arg5) (V m c main_v13) (V m c main_v12) t n e := by
  unfold stepped grown share
  refine congrArg (base (ix2 n e) + ·) (sum_mul_congr (fun r => lane_congr _ _ _ _ _ _ _ ?_ ?_ ?_ ?_ ?_ ?_ n) fun r => ?_)
  · intro a; blk_ext! [iblk, row, index1 t]
  · intro a; blk_ext! [iblk, row, index2 t]
  · intro a; blk_ext! [iblk, row, index3 t]
  · intro a; blk_ext! [iblk, row, index4 t]
  · intro a; blk_ext! [iblk, row, index5 t]
  · intro a; blk_ext! [iblk, row, index6 t]
  · blk_ext! [iblk, row, index0 t]

/-- The output block is the whole array. -/
theorem emb_whole (t : Fin cfg0.N) (G : S8x321x1024.Idx → EReal) (a : Fin 8) (b : Fin 321) (e : Fin 1024) : G (ix3 a b e) = G ((win0_7.blk t).view.emb (ix3 a b e)) := by
  blk_ext! [index7 t]

theorem grad_final : (dats m 0 c).arrAt 7 cfg0.N
    = gradArr (V m c main_arg0) (V m c main_arg1) (V m c main_arg2) (V m c main_arg4) (V m c main_arg5) (V m c main_v13) (V m c main_v12) := by
  refine (dats m 0 c).arrAt_eq_of_covers 7 (gradArr (V m c main_arg0) (V m c main_arg1) (V m c main_arg2) (V m c main_arg4) (V m c main_arg5) (V m c main_v13) (V m c main_v12))
    (by decide +kernel) fun t hf y => ?_
  blk_simp
  have h2 : cfg0.N = 2 := N_0
  have one : 1 < cfg0.N := by rw [h2]; decide
  have first : 0 < cfg0.N := by rw [h2]; decide
  have ht : t.val % 2 = 1 := (flush0_7 t).mp hf
  obtain rfl : t = ⟨1, one⟩ := Fin.ext (by have hl : t.val < cfg0.N := t.isLt; show t.val = 1; omega)
  have h0 : (outsAt0 m c 0 first).2 = stepped m c ⟨0, first⟩ (k0_pay13 (F := Ideal)) := acc_first m c ⟨0, first⟩ rfl
  idx_vars y
  rw [after0_7]
  refine (out_last m c ⟨1, one⟩ rfl (ix3 y0 y1 y2)).trans ?_
  show stepped m c ⟨1, one⟩ (outsAt0 m c 0 first).2 (ix2 (cell y0 y1) y2) = _
  rw [stepped_at, h0, stepped_at, zeros_at, zero_add]
  exact emb_whole ⟨1, one⟩ (gradArr (V m c main_arg0) (V m c main_arg1) (V m c main_arg2) (V m c main_arg4) (V m c main_arg5) (V m c main_v13) (V m c main_v12)) y0 y1 y2

end Cert.InGrads

end
-- ==== Proof.InGrad.Runs.lean ====
/-
  The two runs of the input projection's weight gradient: from equal arguments the gradients agree. No entry has to be finite.
-/
module

public import proofs.«01_k».proof.Proof.InGrad.Blocks
public import proofs.«01_k».proof.Proof.MlpGrad.Runs
public import proofs.«01_k».proof.Proof.Gen.InGradRefIdeal.Run
public import proofs.«01_k».proof.Defs
public import Idealize.ShloMosaic.Lib.StableHlo.ReadAt

@[expose] public section

set_option maxRecDepth 16384

noncomputable section

namespace Cert.InGrads

open Idealize.ShloMosaic Idealize.ShloMosaic.TcCoe Idealize.SL.Sem
open Idealize.ShloMosaic.Pointwise
open Cert.InBacks (colQ colK colV colF colX colY joined padded)
open Cert.MlpGrads (normed)

/-- The gradient, from the operands. -/
def resGrad (q k v : InGradIdeal.S2176x512.Idx → EReal) (f : InGradIdeal.S2176x8.Idx → EReal) (x y : InGradIdeal.S2176x512.Idx → EReal)
    (h : InGradIdeal.S2176x1024.Idx → EReal) (g : InGradIdeal.S1x1024.Idx → EReal) : InGradIdeal.S8x321x1024.Idx → EReal :=
  gradArr q k v x y (padded f) (normed h g)

section kernel

open Cert.InGradIdeal Cert.InGradIdeal.Gen

variable (m : (ℓ : Loc nD τ sig) → Buf (Elt Ideal) ℓ) (c : Dev nD)

theorem V_rows : Gen.V m c main_v12 = normed (m ((c.tc : Thread nD τ).loc main_arg6)) (m ((c.tc : Thread nD τ).loc main_arg7)) := by
  unfold Gen.V
  after_reads_simp
  try simp -implicitDefEqProofs only [StableHlo.TRef.toBuf, StableHlo.TRef.ofBuf, cast_cast, cast_eq]
  rfl

theorem V_gates : Gen.V m c main_v13 = padded (m ((c.tc : Thread nD τ).loc main_arg3)) := by
  unfold Gen.V
  after_reads_simp
  try simp -implicitDefEqProofs only [StableHlo.TRef.toBuf, StableHlo.TRef.ofBuf, cast_cast, cast_eq]
  rfl

variable (ρ : Dev nD → PrngReg)

theorem kernel_run : θ_run (defs (F := Ideal)) (onTc (τ := τ) (main (F := Ideal))) ⟨m, fun _ => 0, ρ⟩ fun r => ∀ c : Dev nD,
      r.2.mem ((c.tc : Thread nD τ).loc main_v14) = resGrad (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (Cert.InGradIdeal.Value.run_blocks m ρ)
  obtain ⟨r0, rest⟩ := h c
  refine ⟨r0.trans ((grad_final m c).trans ?_), rest⟩
  rw [V_main_arg0, V_main_arg1, V_main_arg2, V_main_arg4, V_main_arg5, V_gates, V_rows]
  rfl

end kernel

section reference

open Cert.InGradRefIdeal Cert.InGradRefIdeal.Gen

/-- The arrays side by side, column by column. -/
theorem joined_lane (q k v : FVec Ideal S2176x512 .bf16) (f : FVec Ideal S2176x8 .bf16) (x y : FVec Ideal S2176x512 .bf16) (r : Fin 2176) (n : Fin 2568) :
    joined q k v f x y (ix2 r n) = lane q k v x y (padded f) r n := by
  by_cases h1 : (n : ℕ) < 512
  · obtain ⟨a, rfl⟩ : ∃ a, n = colQ a := ⟨⟨n, h1⟩, rfl⟩
    rw [InBacks.joined_q, lane_q]
  by_cases h2 : (n : ℕ) < 1024
  · obtain ⟨a, rfl⟩ : ∃ a, n = colK a := ⟨⟨n - 512, by omega⟩, Fin.ext (by show (n : ℕ) = 512 + (n - 512); omega)⟩
    rw [InBacks.joined_k, lane_k]
  by_cases h3 : (n : ℕ) < 1536
  · obtain ⟨a, rfl⟩ : ∃ a, n = colV a := ⟨⟨n - 1024, by omega⟩, Fin.ext (by show (n : ℕ) = 1024 + (n - 1024); omega)⟩
    rw [InBacks.joined_v, lane_v]
  by_cases h4 : (n : ℕ) < 1544
  · obtain ⟨a, rfl⟩ : ∃ a, n = colF a := ⟨⟨n - 1536, by omega⟩, Fin.ext (by show (n : ℕ) = 1536 + (n - 1536); omega)⟩
    rw [InBacks.joined_f, lane_f]
    exact (InBacks.padded_gate f r a).symm
  by_cases h5 : (n : ℕ) < 2056
  · obtain ⟨a, rfl⟩ : ∃ a, n = colX a := ⟨⟨n - 1544, by omega⟩, Fin.ext (by show (n : ℕ) = 1544 + (n - 1544); omega)⟩
    rw [InBacks.joined_x, lane_x]
  · obtain ⟨a, rfl⟩ : ∃ a, n = colY a := ⟨⟨n - 2056, by omega⟩, Fin.ext (by show (n : ℕ) = 2056 + (n - 2056); omega)⟩
    rw [InBacks.joined_y, lane_y]

/-- A sum over the rows, block by block. -/
theorem sum_rows (s : Fin 2176 → EReal) : ∑ r, s r = (∑ r, s (row 0 r)) + ∑ r, s (row 1 r) := by
  refine (Fin.sum_univ_add (a := 1088) (b := 1088) s).trans ?_
  refine congrArg₂ (· + ·) (Finset.sum_congr rfl fun r _ => congrArg s (Fin.ext ?_)) (Finset.sum_congr rfl fun r _ => congrArg s (Fin.ext ?_))
  · show (r : ℕ) = 1088 * 0 + r; omega
  · show 1088 + (r : ℕ) = 1088 * 1 + r; omega

theorem ref_products (p : FVec Ideal S2176x2568 .bf16) (z : FVec Ideal S2176x1024 .f32) (b : Fin 8) (a : Fin 321) (e : Fin 1024) :
    (truncf (F := Ideal) .bf16 (shapeCast S8x321x1024 (transpose S2568x1024 [1, 0] (transpose S1024x2568 [1, 0] (Host.dotGeneral dot_S2176x2568_S2176x1024_S2568x1024_0_0_1_1_n_n none
      (extf .f32 p bitsLt_bf16_f32) z) transposes_S2568x1024_S1024x2568_1_0) transposes_S1024x2568_S2568x1024_1_0) shapeCasts_S2568x1024_S8x321x1024) bitsLt_bf16_f32 : S8x321x1024.Idx → EReal) (ix3 b a e)
      = ∑ r : Fin 2176, p (ix2 r (cell b a)) * z (ix2 r e) := by
  pointwise
  have w : (⟨(b : ℕ) * 321 + a, by omega⟩ : Fin 2568) = cell b a := Fin.ext (by show (b : ℕ) * 321 + a = 321 * (b : ℕ) + a; omega)
  rw [← w]

theorem ref_grad (q k v : FVec Ideal S2176x512 .bf16) (f : FVec Ideal S2176x8 .bf16) (x y : FVec Ideal S2176x512 .bf16) (z : FVec Ideal S2176x1024 .f32) :
    (truncf (F := Ideal) .bf16 (shapeCast S8x321x1024 (transpose S2568x1024 [1, 0] (transpose S1024x2568 [1, 0] (Host.dotGeneral dot_S2176x2568_S2176x1024_S2568x1024_0_0_1_1_n_n none
      (extf .f32 (joined q k v f x y) bitsLt_bf16_f32) z) transposes_S2568x1024_S1024x2568_1_0) transposes_S1024x2568_S2568x1024_1_0) shapeCasts_S2568x1024_S8x321x1024) bitsLt_bf16_f32 : S8x321x1024.Idx → EReal)
      = gradArr q k v x y (padded f) z := by
  funext i
  idx_vars i
  rw [ref_products, sum_rows]
  simp only [joined_lane]
  rfl

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r => ∀ c : Dev nD,
      r.2.mem ((c.tc : Thread nD τ).loc main_v20) = resGrad (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (Cert.InGradRefIdeal.Value.run (F := Ideal) m ρ)
  obtain ⟨r0, rest⟩ := h c
  exact ⟨r0.trans (ref_grad _ _ _ _ _ _ (normed _ _)), rest⟩

end reference

/-- So from equal arguments the two programs end with equal results. -/
theorem algebraic : Cert.algebraic_InGradIdeal_InGradRefIdeal := by
  intro m ρ m' ρ' _ hagree
  refine ⟨_, kernel_run m ρ, ?_⟩
  refine (θ_run _ _ _).mono (fun r h c => ?_) (reference_run m' ρ')
  obtain ⟨a0, a1, a2, a3, a4, a5, a6, a7⟩ := hagree c
  obtain ⟨r0, rest⟩ := h c
  rw [a0, a1, a2, a3, a4, a5, a6, a7] at r0
  exact ⟨r0, rest⟩

end Cert.InGrads

end
-- ==== Proof.OutMlp.Copy.lean ====
/-
  The frame of the call that closes the block, before idealisation.

  Idealisation rewrites nothing in this call, so that the two programs are one program under two names: their body tables are equal, and the frame of the
  one, proved over any floats, is the frame of the other.
-/
module

public import proofs.«01_k».proof.Proof.OutMlp.Frame
public import proofs.«01_k».proof.Proof.Gen.OutMlp.Frame

@[expose] public section

set_option maxRecDepth 16384

noncomputable section

namespace Cert.OutMlps

open Idealize.ShloMosaic Idealize.ShloMosaic.TcCoe Idealize.SL.Sem

variable {F : FTy → Type} [FloatOps F]

set_option maxHeartbeats 8000000 in
/-- The two programs have the same body table. -/
theorem defs_eq : Cert.OutMlp.defs (F := F) = Cert.OutMlpIdeal.defs (F := F) := by
  have e : Cert.OutMlp.defs₀ (F := F) = Cert.OutMlpIdeal.defs₀ (F := F) := by
    refine congrArg Defs.onTc (funext fun l => funext fun x => ?_)
    match l with
    | 0 => rfl
    | ⟨_ + 1, h⟩ => exact absurd h (Nat.not_lt.2 (Nat.le_add_left _ _))
  exact congrArg (Pipeline.defs (Cert.OutMlpIdeal.pcfgs (F := F))) e

end Cert.OutMlps

end
-- ==== Proof.MlpBack.Copy.lean ====
/-
  The frame of the MLP's backward pass, before idealisation.

  Idealisation rewrites nothing in this call, so that the two programs are one program under two names: their body tables are equal, and the frame of the
  one, proved over any floats, is the frame of the other.
-/
module

public import proofs.«01_k».proof.Proof.MlpBack.Frame
public import proofs.«01_k».proof.Proof.Gen.MlpBack.Frame

@[expose] public section

set_option maxRecDepth 16384

noncomputable section

namespace Cert.MlpBacks

open Idealize.ShloMosaic Idealize.ShloMosaic.TcCoe Idealize.SL.Sem

variable {F : FTy → Type} [FloatOps F]

set_option maxHeartbeats 8000000 in
/-- The two programs have the same body table. -/
theorem defs_eq : Cert.MlpBack.defs (F := F) = Cert.MlpBackIdeal.defs (F := F) := by
  have e : Cert.MlpBack.defs₀ (F := F) = Cert.MlpBackIdeal.defs₀ (F := F) := by
    refine congrArg Defs.onTc (funext fun l => funext fun x => ?_)
    match l with
    | 0 => rfl
    | ⟨_ + 1, h⟩ => exact absurd h (Nat.not_lt.2 (Nat.le_add_left _ _))
  exact congrArg (Pipeline.defs (Cert.MlpBackIdeal.pcfgs (F := F))) e

end Cert.MlpBacks

end
-- ==== Proof.OutBack.Blocks.lean ====
/-
  What the backward pass of the output projection leaves: each grid point takes a block of rows, multiplies their gradient with the turned weights, brings the
  two halves back through their norms, and adds the rows' share of the gains' and of the weights' gradients to what the point before left.
-/
module

public import proofs.«01_k».proof.Proof.Gen.OutBackIdeal.Value
public import Idealize.ShloMosaic.Lib.Pipeline.ValueKit
public import proofs.«01_k».proof.Proof.MlpBack.Blocks

@[expose] public section

set_option maxRecDepth 16384

noncomputable section

namespace Cert.OutBacks

open Cert.OutBackIdeal Cert.OutBackIdeal.Gen Idealize.ShloMosaic Idealize.ShloMosaic.TcCoe Idealize.SL.Sem
open Idealize.ShloMosaic.Pointwise
open Cert.MlpBacks (rowOf)

/-- The norm of a row of 512. -/
abbrev root (h : Fin 512 → EReal) : EReal := NormBack.root 1140850688#32 h
abbrev closed (h g a : Fin 512 → EReal) (e : Fin 512) : EReal := NormBack.closed 1140850688#32 h g a e

/-- A column by its half and its place there. -/
def half (s : Fin 2) (e : Fin 512) : Fin 1024 := ⟨512 * s + e, by omega⟩

/-! ## The body's values -/

theorem prod_at (d : Vec Ideal S544x1024 .f32) (w : Vec Ideal S1024x1024 .bf16) (r : Fin 544) (e : Fin 1024) :
    k0_pay6 d w (ix2 r e) = ∑ k : Fin 1024, d (ix2 r k) * w (ix2 e k) := by
  pointwise [k0_pay6, k0_pay5]

theorem first_at (d : Vec Ideal S544x1024 .f32) (w : Vec Ideal S1024x1024 .bf16) (r : Fin 544) (e : Fin 512) :
    k0_pay7 d w (ix2 r e) = k0_pay6 d w (ix2 r (half 0 e)) := by
  pointwise [k0_pay7]
  exact congrArg (fun i => k0_pay6 d w (ix2 r i)) (Fin.ext (by show _ = 512 * 0 + (e : ℕ); simp))

theorem second_at (d : Vec Ideal S544x1024 .f32) (w : Vec Ideal S1024x1024 .bf16) (r : Fin 544) (e : Fin 512) :
    k0_pay12 d w (ix2 r e) = k0_pay6 d w (ix2 r (half 1 e)) := by
  pointwise [k0_pay12]
  exact congrArg (fun i => k0_pay6 d w (ix2 r i)) (Fin.ext (by show _ = 512 * 1 + (e : ℕ); simp))

theorem rows_first (d : Vec Ideal S544x1024 .f32) (w : Vec Ideal S1024x1024 .bf16) (h : Vec Ideal S544x512 .f32) (g : Vec Ideal S1x512 .f32) (r : Fin 544) (e : Fin 512) :
    k0_pay10 d w h g (ix2 r e) = closed (fun k => h (ix2 r k)) (fun k => g (ix2 0 k)) (fun k => k0_pay7 d w (ix2 r k)) e := by
  pointwise [k0_pay10, k0_pay9, k0_pay8]
  rfl

theorem gain_first (d : Vec Ideal S544x1024 .f32) (w : Vec Ideal S1024x1024 .bf16) (h : Vec Ideal S544x512 .f32) (e : Fin 512) :
    k0_pay11 d w h (ix2 0 e) = ∑ r : Fin 544, k0_pay7 d w (ix2 r e) * (h (ix2 r e) * root (fun k => h (ix2 r k))) := by
  pointwise [k0_pay11, k0_pay9, k0_pay8]
  rfl

theorem rows_second (h : Vec Ideal S544x512 .f32) (g : Vec Ideal S1x512 .f32) (a : FVec Ideal S544x512 .f32) (r : Fin 544) (e : Fin 512) :
    k0_pay16 h g a (k0_pay13 h) (ix2 r e) = closed (fun k => h (ix2 r k)) (fun k => g (ix2 0 k)) (fun k => a (ix2 r k)) e := by
  pointwise [k0_pay16, k0_pay15, k0_pay14, k0_pay13]
  rfl

theorem gain_second (h : Vec Ideal S544x512 .f32) (a : FVec Ideal S544x512 .f32) (e : Fin 512) :
    k0_pay17 h a (k0_pay13 h) (ix2 0 e) = ∑ r : Fin 544, a (ix2 r e) * (h (ix2 r e) * root (fun k => h (ix2 r k))) := by
  pointwise [k0_pay17, k0_pay15, k0_pay14, k0_pay13]
  rfl

theorem weights_at (d : FVec Ideal S544x1024 .bf16) (z : Vec Ideal S544x1024 .bf16) (a b : Fin 1024) :
    k0_pay1 d z (ix2 a b) = ∑ r : Fin 544, z (ix2 r a) * d (ix2 r b) := by
  pointwise [k0_pay1]

theorem start_at (d : FVec Ideal S544x1024 .bf16) (z : Vec Ideal S544x1024 .bf16) (a b : Fin 1024) : k0_pay2 d z (ix2 a b) = k0_pay1 d z (ix2 a b) := by
  pointwise [k0_pay2]

theorem more_at (d : FVec Ideal S544x1024 .bf16) (z : Vec Ideal S544x1024 .bf16) (w : Vec Ideal S1024x1024 .f32) (a b : Fin 1024) :
    k0_pay3 d z w (ix2 a b) = w (ix2 a b) + k0_pay1 d z (ix2 a b) := by
  pointwise [k0_pay3]

/-! ## One point -/

variable (m : (ℓ : Loc nD τ sig) → Buf (Elt Ideal) ℓ) (c : Dev nD)

theorem before_eq (t t' : Fin cfg0.N) (h : t.val = t'.val + 1) : outsAt0 m c (t - 1) (by have := t.isLt; omega) = outsAt0 m c t'.val t'.isLt := by
  obtain ⟨n, hn⟩ := t
  obtain rfl : n = t'.val + 1 := h
  rfl

/-- After the first point. -/
theorem at_first (t : Fin cfg0.N) (h : t.val = 0) :
    (outsAt0 m c t.val t.isLt).1 = k0_pay10 (iblk m c 0 t) (iblk m c 6 t) (iblk m c 2 t) (iblk m c 4 t)
    ∧ (outsAt0 m c t.val t.isLt).2.1 = k0_pay16 (iblk m c 3 t) (iblk m c 5 t) (k0_pay12 (iblk m c 0 t) (iblk m c 6 t)) (k0_pay13 (iblk m c 3 t))
    ∧ (outsAt0 m c t.val t.isLt).2.2.1 = k0_pay11 (iblk m c 0 t) (iblk m c 6 t) (iblk m c 2 t)
    ∧ (outsAt0 m c t.val t.isLt).2.2.2.1 = k0_pay17 (iblk m c 3 t) (k0_pay12 (iblk m c 0 t) (iblk m c 6 t)) (k0_pay13 (iblk m c 3 t))
    ∧ (outsAt0 m c t.val t.isLt).2.2.2.2.2 = k0_pay2 (k0_pay5 (iblk m c 0 t)) (iblk m c 1 t) := by
  rw [outsAt0_A m c t (by omega) (by omega) (by omega) (by omega) (by omega) (by omega) (by omega)]
  refine ⟨?_, ?_, ?_, ?_, ?_⟩
  all_goals frame_out

/-- After a later point. -/
theorem at_later (t t' : Fin cfg0.N) (h : t.val = t'.val + 1) :
    (outsAt0 m c t.val t.isLt).1 = k0_pay10 (iblk m c 0 t) (iblk m c 6 t) (iblk m c 2 t) (iblk m c 4 t)
    ∧ (outsAt0 m c t.val t.isLt).2.1 = k0_pay16 (iblk m c 3 t) (iblk m c 5 t) (k0_pay12 (iblk m c 0 t) (iblk m c 6 t)) (k0_pay13 (iblk m c 3 t))
    ∧ (outsAt0 m c t.val t.isLt).2.2.1 = k0_pay18 (k0_pay11 (iblk m c 0 t) (iblk m c 6 t) (iblk m c 2 t)) (outsAt0 m c t'.val t'.isLt).2.2.1
    ∧ (outsAt0 m c t.val t.isLt).2.2.2.1 = k0_pay19 (iblk m c 3 t) (k0_pay12 (iblk m c 0 t) (iblk m c 6 t)) (k0_pay13 (iblk m c 3 t)) (outsAt0 m c t'.val t'.isLt).2.2.2.1
    ∧ (outsAt0 m c t.val t.isLt).2.2.2.2.2 = k0_pay3 (k0_pay5 (iblk m c 0 t)) (iblk m c 1 t) (outsAt0 m c t'.val t'.isLt).2.2.2.2.2 := by
  have hN : cfg0.N = 4 := N_0
  by_cases h3 : t.val = 3
  · rw [outsAt0_C m c t (by omega) (by omega) (by omega) (by omega) (by omega) (by omega) (by omega), before_eq m c t t' h]
    generalize outsAt0 m c t'.val t'.isLt = z
    refine ⟨?_, ?_, ?_, ?_, ?_⟩
    all_goals frame_out
    rw [show View.read (Elt Ideal) (View.whole cc0_scratch0) ((Memref.isWhole_whole _).unread z.2.2.2.2.2) = z.2.2.2.2.2 from Memref.IsWhole.read_unread _ _]
  · rw [outsAt0_B m c t (by omega) (by omega) (by omega) (by omega) (by omega) (by omega) (by omega), before_eq m c t t' h]
    generalize outsAt0 m c t'.val t'.isLt = z
    refine ⟨?_, ?_, ?_, ?_, ?_⟩
    all_goals frame_out
    rw [show View.read (Elt Ideal) (View.whole cc0_scratch0) ((Memref.isWhole_whole _).unread z.2.2.2.2.2) = z.2.2.2.2.2 from Memref.IsWhole.read_unread _ _]

/-- The last point writes the sum of the weights' gradients. -/
theorem at_last (t t' : Fin cfg0.N) (h : t.val = t'.val + 1) (h3 : t.val = 3) :
    (outsAt0 m c t.val t.isLt).2.2.2.2.1 = k0_pay4 (k0_pay3 (k0_pay5 (iblk m c 0 t)) (iblk m c 1 t) (outsAt0 m c t'.val t'.isLt).2.2.2.2.2) := by
  rw [outsAt0_C m c t (by omega) (by omega) (by omega) (by omega) (by omega) (by omega) (by omega), before_eq m c t t' h]
  generalize outsAt0 m c t'.val t'.isLt = z
  frame_out
  rw [show View.read (Elt Ideal) (View.whole cc0_scratch0) ((Memref.isWhole_whole _).unread z.2.2.2.2.2) = z.2.2.2.2.2 from Memref.IsWhole.read_unread _ _]

theorem rows_block (t : Fin cfg0.N) :
    (outsAt0 m c t.val t.isLt).1 = k0_pay10 (iblk m c 0 t) (iblk m c 6 t) (iblk m c 2 t) (iblk m c 4 t)
    ∧ (outsAt0 m c t.val t.isLt).2.1 = k0_pay16 (iblk m c 3 t) (iblk m c 5 t) (k0_pay12 (iblk m c 0 t) (iblk m c 6 t)) (k0_pay13 (iblk m c 3 t)) := by
  by_cases h : t.val = 0
  · exact ⟨(at_first m c t h).1, (at_first m c t h).2.1⟩
  · have hl := at_later m c t ⟨t.val - 1, by have := t.isLt; omega⟩ (by show t.val = t.val - 1 + 1; omega)
    exact ⟨hl.1, hl.2.1⟩

/-! ## The arrays -/

/-- The product that comes back to the mixed rows. -/
def backArr (d : S2176x1024.Idx → EReal) (w : S1024x1024.Idx → EReal) : S2176x1024.Idx → EReal := fun y => ∑ k : Fin 1024, d (ix2 (y 0) k) * w (ix2 (y 1) k)

/-- A half of it, brought back through the norm. -/
def halfArr (s : Fin 2) (h : S2176x512.Idx → EReal) (g : S1x512.Idx → EReal) (a : S2176x1024.Idx → EReal) : S2176x512.Idx → EReal := fun y =>
  closed (fun k => h (ix2 (y 0) k)) (fun k => g (ix2 0 k)) (fun k => a (ix2 (y 0) (half s k))) (y 1)

/-- A row's share of the gain's gradient, and all rows'. -/
def gainIn (s : Fin 2) (h : S2176x512.Idx → EReal) (a : S2176x1024.Idx → EReal) (e : Fin 512) (r : Fin 2176) : EReal :=
  a (ix2 r (half s e)) * (h (ix2 r e) * root (fun k => h (ix2 r k)))

def gainArr (s : Fin 2) (h : S2176x512.Idx → EReal) (a : S2176x1024.Idx → EReal) : S1x512.Idx → EReal := fun y =>
  (∑ r, gainIn s h a (y 1) (rowOf 0 r)) + (∑ r, gainIn s h a (y 1) (rowOf 1 r)) + (∑ r, gainIn s h a (y 1) (rowOf 2 r)) + ∑ r, gainIn s h a (y 1) (rowOf 3 r)

/-- A row's share of the weights' gradient, and all rows'. -/
def weightIn (z d : S2176x1024.Idx → EReal) (a b : Fin 1024) (r : Fin 2176) : EReal := z (ix2 r a) * d (ix2 r b)

def weightArr (z d : S2176x1024.Idx → EReal) : S1024x1024.Idx → EReal := fun y =>
  (∑ r, weightIn z d (y 0) (y 1) (rowOf 0 r)) + (∑ r, weightIn z d (y 0) (y 1) (rowOf 1 r)) + (∑ r, weightIn z d (y 0) (y 1) (rowOf 2 r))
    + ∑ r, weightIn z d (y 0) (y 1) (rowOf 3 r)

theorem index0 : ∀ t : Fin cfg0.N, win0_0.index t = ![(t : ℕ), 0] := by decide +kernel
theorem index1 : ∀ t : Fin cfg0.N, win0_1.index t = ![(t : ℕ), 0] := by decide +kernel
theorem index2 : ∀ t : Fin cfg0.N, win0_2.index t = ![(t : ℕ), 0] := by decide +kernel
theorem index3 : ∀ t : Fin cfg0.N, win0_3.index t = ![(t : ℕ), 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![(t : ℕ), 0] := by decide +kernel
theorem index8 : ∀ t : Fin cfg0.N, win0_8.index t = ![(t : ℕ), 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![0, 0] := by decide +kernel

/-- A row of a point's block by its place among all rows. -/
def row (t : Fin cfg0.N) (r : Fin 544) : Fin 2176 := ⟨544 * t + r, by have : cfg0.N = 4 := N_0; omega⟩

abbrev A := backArr (V m c main_arg0) (V m c main_v26)

theorem d_val (t : Fin cfg0.N) (r : Fin 544) (a : Fin 1024) : iblk m c 0 t (ix2 r a) = V m c main_arg0 (ix2 (row t r) a) := by blk_ext! [iblk, row, index0 t]
theorem z_val (t : Fin cfg0.N) (r : Fin 544) (a : Fin 1024) : iblk m c 1 t (ix2 r a) = V m c main_v25 (ix2 (row t r) a) := by blk_ext! [iblk, row, index1 t]
theorem o_val (t : Fin cfg0.N) (r : Fin 544) (a : Fin 512) : iblk m c 2 t (ix2 r a) = V m c main_arg1 (ix2 (row t r) a) := by blk_ext! [iblk, row, index2 t]
theorem x_val (t : Fin cfg0.N) (r : Fin 544) (a : Fin 512) : iblk m c 3 t (ix2 r a) = V m c main_arg2 (ix2 (row t r) a) := by blk_ext! [iblk, row, index3 t]
theorem go_val (t : Fin cfg0.N) (a : Fin 512) : iblk m c 4 t (ix2 0 a) = V m c main_arg3 (ix2 0 a) := by blk_ext! [iblk, index4 t]
theorem gx_val (t : Fin cfg0.N) (a : Fin 512) : iblk m c 5 t (ix2 0 a) = V m c main_arg4 (ix2 0 a) := by blk_ext! [iblk, index5 t]
theorem w_val (t : Fin cfg0.N) (a b : Fin 1024) : iblk m c 6 t (ix2 a b) = V m c main_v26 (ix2 a b) := by blk_ext! [iblk, index6 t]

theorem prod_val (t : Fin cfg0.N) (r : Fin 544) (e : Fin 1024) : k0_pay6 (iblk m c 0 t) (iblk m c 6 t) (ix2 r e) = A m c (ix2 (row t r) e) := by
  rw [prod_at]
  simp only [d_val, w_val]
  rfl

theorem first_val (t : Fin cfg0.N) (r : Fin 544) (e : Fin 512) : k0_pay7 (iblk m c 0 t) (iblk m c 6 t) (ix2 r e) = A m c (ix2 (row t r) (half 0 e)) := by
  rw [first_at, prod_val]

theorem second_val (t : Fin cfg0.N) (r : Fin 544) (e : Fin 512) : k0_pay12 (iblk m c 0 t) (iblk m c 6 t) (ix2 r e) = A m c (ix2 (row t r) (half 1 e)) := by
  rw [second_at, prod_val]

theorem first_final : (dats m 0 c).arrAt 7 cfg0.N = halfArr 0 (V m c main_arg1) (V m c main_arg3) (A m c) := by
  refine (dats m 0 c).arrAt_eq_of_covers 7 (halfArr 0 (V m c main_arg1) (V m c main_arg3) (A m c)) (by decide +kernel) fun t hf y => ?_
  blk_simp
  rw [after0_7, (rows_block m c t).1]
  idx_vars y
  rw [rows_first]
  have e0 : ((View.whole main_v27_0).slice (win0_7.rect t)).emb (ix2 y0 y1) = ix2 (row t y0) y1 := by
    refine funext fun a => Fin.ext ?_
    fin_cases a
    · blk_simp [index7 t, row]
      show (t : ℕ) * 544 + (y0 : ℕ) = 544 * (t : ℕ) + (y0 : ℕ)
      omega
    · blk_simp [index7 t]
      rfl
  rw [e0, funext fun k => o_val m c t y0 k, funext fun k => go_val m c t k, funext fun k => first_val m c t y0 k]
  rfl

theorem second_final : (dats m 0 c).arrAt 8 cfg0.N = halfArr 1 (V m c main_arg2) (V m c main_arg4) (A m c) := by
  refine (dats m 0 c).arrAt_eq_of_covers 8 (halfArr 1 (V m c main_arg2) (V m c main_arg4) (A m c)) (by decide +kernel) fun t hf y => ?_
  blk_simp
  rw [after0_8, (rows_block m c t).2]
  idx_vars y
  rw [rows_second]
  have e0 : ((View.whole main_v27_1).slice (win0_8.rect t)).emb (ix2 y0 y1) = ix2 (row t y0) y1 := by
    refine funext fun a => Fin.ext ?_
    fin_cases a
    · blk_simp [index8 t, row]
      show (t : ℕ) * 544 + (y0 : ℕ) = 544 * (t : ℕ) + (y0 : ℕ)
      omega
    · blk_simp [index8 t]
      rfl
  rw [e0, funext fun k => x_val m c t y0 k, funext fun k => gx_val m c t k, funext fun k => second_val m c t y0 k]
  rfl

theorem row_eq (t : Fin cfg0.N) (i : Fin 4) (hi : t.val = i) (r : Fin 544) : row t r = rowOf i r :=
  Fin.ext (by show 544 * (t : ℕ) + r = 544 * (i : ℕ) + r; omega)

theorem gain_first_step (t : Fin cfg0.N) (i : Fin 4) (hi : t.val = i) (e : Fin 512) :
    k0_pay11 (iblk m c 0 t) (iblk m c 6 t) (iblk m c 2 t) (ix2 0 e) = ∑ r, gainIn 0 (V m c main_arg1) (A m c) e (rowOf i r) := by
  rw [gain_first]
  refine Finset.sum_congr rfl fun r _ => ?_
  unfold gainIn
  rw [← row_eq t i hi, first_val m c t, o_val, funext fun k => o_val m c t r k]

theorem gain_second_step (t : Fin cfg0.N) (i : Fin 4) (hi : t.val = i) (e : Fin 512) :
    k0_pay17 (iblk m c 3 t) (k0_pay12 (iblk m c 0 t) (iblk m c 6 t)) (k0_pay13 (iblk m c 3 t)) (ix2 0 e) = ∑ r, gainIn 1 (V m c main_arg2) (A m c) e (rowOf i r) := by
  rw [gain_second]
  refine Finset.sum_congr rfl fun r _ => ?_
  unfold gainIn
  rw [← row_eq t i hi, second_val m c t, x_val, funext fun k => x_val m c t r k]

theorem weights_step (t : Fin cfg0.N) (i : Fin 4) (hi : t.val = i) (a b : Fin 1024) :
    k0_pay1 (k0_pay5 (iblk m c 0 t)) (iblk m c 1 t) (ix2 a b) = ∑ r, weightIn (V m c main_v25) (V m c main_arg0) a b (rowOf i r) := by
  rw [weights_at]
  refine Finset.sum_congr rfl fun r _ => ?_
  unfold weightIn
  rw [← row_eq t i hi, z_val, ← d_val m c t]
  rfl

theorem gain_more (v w : Vec Ideal S1x512 .f32) (e : Fin 512) : k0_pay18 v w (ix2 0 e) = w (ix2 0 e) + v (ix2 0 e) := by
  pointwise [k0_pay18]

theorem gain_more' (h : Vec Ideal S544x512 .f32) (a : FVec Ideal S544x512 .f32) (q : FVec Ideal S544x1 .f32) (w : Vec Ideal S1x512 .f32) (e : Fin 512) :
    k0_pay19 h a q w (ix2 0 e) = w (ix2 0 e) + k0_pay17 h a q (ix2 0 e) := by
  pointwise [k0_pay19]

/-- The sums after the last point. -/
theorem gain_first_last (t : Fin cfg0.N) (h : t.val = 3) (e : Fin 512) : (outsAt0 m c t.val t.isLt).2.2.1 (ix2 0 e) = gainArr 0 (V m c main_arg1) (A m c) (ix2 0 e) := by
  have hN : cfg0.N = 4 := N_0
  rw [(at_later m c t ⟨2, by omega⟩ h).2.2.1, gain_more, gain_first_step m c t 3 h, (at_later m c ⟨2, by omega⟩ ⟨1, by omega⟩ rfl).2.2.1, gain_more,
    gain_first_step m c ⟨2, by omega⟩ 2 rfl, (at_later m c ⟨1, by omega⟩ ⟨0, by omega⟩ rfl).2.2.1, gain_more, gain_first_step m c ⟨1, by omega⟩ 1 rfl,
    (at_first m c ⟨0, by omega⟩ rfl).2.2.1, gain_first_step m c ⟨0, by omega⟩ 0 rfl]
  rfl

theorem gain_second_last (t : Fin cfg0.N) (h : t.val = 3) (e : Fin 512) : (outsAt0 m c t.val t.isLt).2.2.2.1 (ix2 0 e) = gainArr 1 (V m c main_arg2) (A m c) (ix2 0 e) := by
  have hN : cfg0.N = 4 := N_0
  rw [(at_later m c t ⟨2, by omega⟩ h).2.2.2.1, gain_more', gain_second_step m c t 3 h, (at_later m c ⟨2, by omega⟩ ⟨1, by omega⟩ rfl).2.2.2.1, gain_more',
    gain_second_step m c ⟨2, by omega⟩ 2 rfl, (at_later m c ⟨1, by omega⟩ ⟨0, by omega⟩ rfl).2.2.2.1, gain_more', gain_second_step m c ⟨1, by omega⟩ 1 rfl,
    (at_first m c ⟨0, by omega⟩ rfl).2.2.2.1, gain_second_step m c ⟨0, by omega⟩ 0 rfl]
  rfl

theorem weights_last (t : Fin cfg0.N) (h : t.val = 3) (a b : Fin 1024) :
    (outsAt0 m c t.val t.isLt).2.2.2.2.1 (ix2 a b) = weightArr (V m c main_v25) (V m c main_arg0) (ix2 a b) := by
  have hN : cfg0.N = 4 := N_0
  rw [at_last m c t ⟨2, by omega⟩ h h, show ∀ w : Vec Ideal S1024x1024 .f32, k0_pay4 w (ix2 a b) = w (ix2 a b) from fun w => by pointwise [k0_pay4],
    more_at, weights_step m c t 3 h, (at_later m c ⟨2, by omega⟩ ⟨1, by omega⟩ rfl).2.2.2.2, more_at,
    weights_step m c ⟨2, by omega⟩ 2 rfl, (at_later m c ⟨1, by omega⟩ ⟨0, by omega⟩ rfl).2.2.2.2, more_at, weights_step m c ⟨1, by omega⟩ 1 rfl,
    (at_first m c ⟨0, by omega⟩ rfl).2.2.2.2, start_at, weights_step m c ⟨0, by omega⟩ 0 rfl]
  rfl

theorem gain_first_final : (dats m 0 c).arrAt 9 cfg0.N = gainArr 0 (V m c main_arg1) (A m c) := by
  have hN : cfg0.N = 4 := N_0
  refine (dats m 0 c).arrAt_eq_of_covers 9 (gainArr 0 (V m c main_arg1) (A m c)) (by decide +kernel) fun t hf y => ?_
  have h : t.val = 3 := by have := (flush0_9 t).mp hf; have := t.isLt; omega
  blk_simp
  rw [after0_9]
  idx_vars y
  obtain rfl : y0 = 0 := Subsingleton.elim _ _
  rw [gain_first_last m c t h]
  refine congrArg (gainArr 0 (V m c main_arg1) (A m c)) (funext fun a => Fin.ext ?_)
  fin_cases a
  · blk_simp [index9 t]
  · blk_simp [index9 t]

theorem gain_second_final : (dats m 0 c).arrAt 10 cfg0.N = gainArr 1 (V m c main_arg2) (A m c) := by
  have hN : cfg0.N = 4 := N_0
  refine (dats m 0 c).arrAt_eq_of_covers 10 (gainArr 1 (V m c main_arg2) (A m c)) (by decide +kernel) fun t hf y => ?_
  have h : t.val = 3 := by have := (flush0_10 t).mp hf; have := t.isLt; omega
  blk_simp
  rw [after0_10]
  idx_vars y
  obtain rfl : y0 = 0 := Subsingleton.elim _ _
  rw [gain_second_last m c t h]
  refine congrArg (gainArr 1 (V m c main_arg2) (A m c)) (funext fun a => Fin.ext ?_)
  fin_cases a
  · blk_simp [index10 t]
  · blk_simp [index10 t]

theorem weights_final : (dats m 0 c).arrAt 11 cfg0.N = weightArr (V m c main_v25) (V m c main_arg0) := by
  have hN : cfg0.N = 4 := N_0
  refine (dats m 0 c).arrAt_eq_of_covers 11 (weightArr (V m c main_v25) (V m c main_arg0)) (by decide +kernel) fun t hf y => ?_
  have h : t.val = 3 := by have := (flush0_11 t).mp hf; have := t.isLt; omega
  blk_simp
  rw [after0_11]
  idx_vars y
  rw [weights_last m c t h]
  refine congrArg (weightArr (V m c main_v25) (V m c main_arg0)) (funext fun a => Fin.ext ?_)
  fin_cases a
  · blk_simp [index11 t]
  · blk_simp [index11 t]

end Cert.OutBacks

end
-- ==== Proof.OutBack.Runs.lean ====
/-
  The two runs of the output projection's backward pass: from equal arguments the gradients of the mixers' rows, of their gains and of the weights agree.
  No entry has to be finite.
-/
module

public import proofs.«01_k».proof.Proof.OutBack.Blocks
public import proofs.«01_k».proof.Proof.OutMlp.Runs
public import proofs.«01_k».proof.Proof.MlpBack.Runs
public import proofs.«01_k».proof.Proof.Gen.OutBackRefIdeal.Run
public import proofs.«01_k».proof.Defs
public import Idealize.ShloMosaic.Lib.StableHlo.ReadAt

@[expose] public section

set_option maxRecDepth 16384

noncomputable section

namespace Cert.OutBacks

open Idealize.ShloMosaic Idealize.ShloMosaic.TcCoe Idealize.SL.Sem
open Idealize.ShloMosaic.Pointwise
open Cert.OutMlps (mixed)

section kernel

open Cert.OutBackIdeal Cert.OutBackIdeal.Gen

variable (m : (ℓ : Loc nD τ sig) → Buf (Elt Ideal) ℓ) (c : Dev nD)

theorem V_mixed : Gen.V m c main_v25 = mixed (m ((c.tc : Thread nD τ).loc main_arg1)) (m ((c.tc : Thread nD τ).loc main_arg2)) (m ((c.tc : Thread nD τ).loc main_arg3)) (m ((c.tc : Thread nD τ).loc main_arg4)) := by
  unfold Gen.V
  after_reads_simp
  try simp -implicitDefEqProofs only [StableHlo.TRef.toBuf, StableHlo.TRef.ofBuf, cast_cast, cast_eq]
  rfl

theorem V_weights : Gen.V m c main_v26 = (m ((c.tc : Thread nD τ).loc main_arg5)) := by
  unfold Gen.V
  after_reads_simp
  try simp -implicitDefEqProofs only [StableHlo.TRef.toBuf, StableHlo.TRef.ofBuf, cast_cast, cast_eq]
  rfl

theorem A_val : A m c = backArr (m ((c.tc : Thread nD τ).loc main_arg0)) (m ((c.tc : Thread nD τ).loc main_arg5)) := by
  unfold A
  rw [V_main_arg0, V_weights]

variable (ρ : Dev nD → PrngReg)

theorem kernel_run : θ_run (defs (F := Ideal)) (onTc (τ := τ) (main (F := Ideal))) ⟨m, fun _ => 0, ρ⟩ fun r => ∀ c : Dev nD,
      r.2.mem ((c.tc : Thread nD τ).loc main_v27_0) = halfArr 0 (m ((c.tc : Thread nD τ).loc main_arg1)) (m ((c.tc : Thread nD τ).loc main_arg3)) (backArr (m ((c.tc : Thread nD τ).loc main_arg0)) (m ((c.tc : Thread nD τ).loc main_arg5)))
      ∧ r.2.mem ((c.tc : Thread nD τ).loc main_v27_1) = halfArr 1 (m ((c.tc : Thread nD τ).loc main_arg2)) (m ((c.tc : Thread nD τ).loc main_arg4)) (backArr (m ((c.tc : Thread nD τ).loc main_arg0)) (m ((c.tc : Thread nD τ).loc main_arg5)))
      ∧ r.2.mem ((c.tc : Thread nD τ).loc main_v27_2) = gainArr 0 (m ((c.tc : Thread nD τ).loc main_arg1)) (backArr (m ((c.tc : Thread nD τ).loc main_arg0)) (m ((c.tc : Thread nD τ).loc main_arg5)))
      ∧ r.2.mem ((c.tc : Thread nD τ).loc main_v27_3) = gainArr 1 (m ((c.tc : Thread nD τ).loc main_arg2)) (backArr (m ((c.tc : Thread nD τ).loc main_arg0)) (m ((c.tc : Thread nD τ).loc main_arg5)))
      ∧ r.2.mem ((c.tc : Thread nD τ).loc main_v27_4) = weightArr (mixed (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (Cert.OutBackIdeal.Value.run_blocks m ρ)
  obtain ⟨r0, r1, r2, r3, r4, rest⟩ := h c
  refine ⟨r0.trans ((first_final m c).trans ?_), r1.trans ((second_final m c).trans ?_), r2.trans ((gain_first_final m c).trans ?_),
    r3.trans ((gain_second_final m c).trans ?_), r4.trans ((weights_final m c).trans ?_), rest⟩
  · rw [A_val, V_main_arg1, V_main_arg3]
  · rw [A_val, V_main_arg2, V_main_arg4]
  · rw [A_val, V_main_arg1]
  · rw [A_val, V_main_arg2]
  · rw [V_mixed, V_main_arg0]

end kernel

section reference

open Cert.OutBackRefIdeal Cert.OutBackRefIdeal.Gen

/-- The mean squares of the rows, plus the small constant. -/
def squares (h : FVec Ideal S2176x512 .f32) : FVec Ideal S2176x1 .f32 :=
  addf (Host.divf (broadcastInDim S2176x1 ![0] bcast_S2176_S2176x1_0 (Host.reduceAdd (mulf h h) (constant S_ .f32 0x00000000#32) reducesTo_S2176x512_S2176_d1 h_S_))
    (broadcastInDim S2176x1 ![] bcast_S_S2176x1 (constant S_ .f32 0x44000000#32))) (broadcastInDim S2176x1 ![] bcast_S_S2176x1 (constant S_ .f32 0x358637BD#32))

/-- What comes back through the mean squares. -/
def hostSlope (h : FVec Ideal S2176x512 .f32) (g : FVec Ideal S1x512 .f32) (z : FVec Ideal S2176x512 .f32) : FVec Ideal S2176x512 .f32 :=
  broadcastInDim S2176x512 ![0] bcast_S2176_S2176x512_0 (Host.reduceAdd (Host.divf (mulf (shapeCast S2176x1 (Host.reduceAdd (mulf h (mulf z
    (broadcastInDim S2176x512 ![0, 1] bcast_S1x512_S2176x512_0_1 g))) (constant S_ .f32 0x00000000#32) reducesTo_S2176x512_S2176_d1 h_S_) shapeCasts_S2176_S2176x1)
    (mulf (broadcastInDim S2176x1 ![] bcast_S_S2176x1 (constant S_ .f32 0xBF000000#32)) (Host.divf (Host.rsqrt (squares h)) (squares h))))
    (broadcastInDim S2176x1 ![] bcast_S_S2176x1 (constant S_ .f32 0x44000000#32))) (constant S_ .f32 0x00000000#32) reducesTo_S2176x1_S2176_d1 h_S_)

/-- A half's gradients. -/
def hostRows (h : FVec Ideal S2176x512 .f32) (g : FVec Ideal S1x512 .f32) (z : FVec Ideal S2176x512 .f32) : FVec Ideal S2176x512 .f32 :=
  addf (addf (mulf (mulf z (broadcastInDim S2176x512 ![0, 1] bcast_S1x512_S2176x512_0_1 g)) (broadcastInDim S2176x512 ![0, 1] bcast_S2176x1_S2176x512_0_1
    (Host.rsqrt (squares h)))) (mulf h (hostSlope h g z))) (mulf (hostSlope h g z) h)

/-- Its gain's gradient. -/
def hostGain (h z : FVec Ideal S2176x512 .f32) : FVec Ideal S1x512 .f32 :=
  shapeCast S1x512 (Host.reduceAdd (mulf (mulf h (broadcastInDim S2176x512 ![0, 1] bcast_S2176x1_S2176x512_0_1 (Host.rsqrt (squares h)))) z)
    (constant S_ .f32 0x00000000#32) reducesTo_S2176x512_S512_d0 h_S_) shapeCasts_S512_S1x512

/-- The product with the turned weights, and its halves. -/
def hostBack (d : FVec Ideal S2176x1024 .f32) (w : FVec Ideal S1024x1024 .f32) : FVec Ideal S2176x1024 .f32 :=
  Host.dotGeneral dot_S2176x1024_S1024x1024_S2176x1024_1_1_0_0_n_n none d w

def hostFirst (a : FVec Ideal S2176x1024 .f32) : FVec Ideal S2176x512 .f32 := extractStridedSlice S2176x512 ![0, 0] a slices_S2176x1024_S2176x512_0_0
def hostSecond (a : FVec Ideal S2176x1024 .f32) : FVec Ideal S2176x512 .f32 := extractStridedSlice S2176x512 ![0, 512] a slices_S2176x1024_S2176x512_0_512

/-- The weights' gradient. -/
def hostWeights (d z : FVec Ideal S2176x1024 .f32) : FVec Ideal S1024x1024 .bf16 :=
  truncf .bf16 (transpose S1024x1024 [1, 0] (Host.dotGeneral dot_S2176x1024_S2176x1024_S1024x1024_0_0_1_1_n_n none d z) transposes_S1024x1024_S1024x1024_1_0) bitsLt_bf16_f32

theorem squares_at (h : FVec Ideal S2176x512 .f32) (r : Fin 2176) : squares h (ix2 r 0) = NormBack.square 1140850688#32 fun k => h (ix2 r k) := by
  pointwise [squares]
  rfl

theorem slope_at (h : FVec Ideal S2176x512 .f32) (g : FVec Ideal S1x512 .f32) (z : FVec Ideal S2176x512 .f32) (r : Fin 2176) (e : Fin 512) :
    hostSlope h g z (ix2 r e) = NormBack.slope 1140850688#32 (fun k => h (ix2 r k)) (fun k => g (ix2 0 k)) (fun k => z (ix2 r k)) := by
  pointwise [hostSlope]
  refine (Fintype.sum_subsingleton _ (0 : Fin 1)).trans ?_
  rw [squares_at]
  rfl

theorem ref_back (d : FVec Ideal S2176x1024 .f32) (w : FVec Ideal S1024x1024 .f32) : hostBack d w = backArr d w := by
  funext y
  idx_vars y
  pointwise [hostBack, backArr]

theorem first_half (a : FVec Ideal S2176x1024 .f32) (r : Fin 2176) (e : Fin 512) : hostFirst a (ix2 r e) = a (ix2 r (half 0 e)) := by
  pointwise [hostFirst]
  exact congrArg (fun i => a (ix2 r i)) (Fin.ext (by show _ = 512 * 0 + (e : ℕ); simp))

theorem second_half (a : FVec Ideal S2176x1024 .f32) (r : Fin 2176) (e : Fin 512) : hostSecond a (ix2 r e) = a (ix2 r (half 1 e)) := by
  pointwise [hostSecond]
  exact congrArg (fun i => a (ix2 r i)) (Fin.ext (by show _ = 512 * 1 + (e : ℕ); simp))

theorem ref_rows (s : Fin 2) (h : FVec Ideal S2176x512 .f32) (g : FVec Ideal S1x512 .f32) (z : FVec Ideal S2176x512 .f32) (a : S2176x1024.Idx → EReal)
    (hz : ∀ r e, z (ix2 r e) = a (ix2 r (half s e))) : hostRows h g z = halfArr s h g a := by
  funext y
  idx_vars y
  pointwise [hostRows, halfArr]
  simp only [squares_at, slope_at, hz]
  unfold closed
  rw [← NormBack.chain_eq _ 512 (by norm_num) NormBack.k512]
  rfl

theorem ref_gain (s : Fin 2) (h z : FVec Ideal S2176x512 .f32) (a : S2176x1024.Idx → EReal) (hz : ∀ r e, z (ix2 r e) = a (ix2 r (half s e))) :
    hostGain h z = gainArr s h a := by
  funext y
  idx_vars y
  obtain rfl : y0 = 0 := Subsingleton.elim _ _
  pointwise [hostGain]
  simp only [squares_at, hz]
  rw [MlpBacks.sum_rows, Fin.sum_univ_four]
  unfold gainArr gainIn
  simp only [mul_comm (a _)]
  rfl

theorem ref_weights (d z : FVec Ideal S2176x1024 .f32) : hostWeights d z = weightArr z d := by
  funext y
  idx_vars y
  pointwise [hostWeights]
  rw [MlpBacks.sum_rows, Fin.sum_univ_four]
  unfold weightArr weightIn
  simp only [mul_comm (z _)]
  rfl

variable (m : (ℓ : Loc nD τ sig) → Buf (Elt Ideal) ℓ) (ρ : Dev nD → PrngReg)

theorem first_value (c : Dev nD) : Cert.OutBackRefIdeal.Value.res_main_v74 m c = halfArr 0 (m ((c.tc : Thread nD τ).loc main_arg1)) (m ((c.tc : Thread nD τ).loc main_arg3)) (backArr (m ((c.tc : Thread nD τ).loc main_arg0)) (m ((c.tc : Thread nD τ).loc main_arg5))) := by
  unfold Cert.OutBackRefIdeal.Value.res_main_v74
  rw [← ref_back]
  exact ref_rows 0 _ _ _ _ (first_half (hostBack (m ((c.tc : Thread nD τ).loc main_arg0)) (m ((c.tc : Thread nD τ).loc main_arg5))))

theorem second_value (c : Dev nD) : Cert.OutBackRefIdeal.Value.res_main_v55 m c = halfArr 1 (m ((c.tc : Thread nD τ).loc main_arg2)) (m ((c.tc : Thread nD τ).loc main_arg4)) (backArr (m ((c.tc : Thread nD τ).loc main_arg0)) (m ((c.tc : Thread nD τ).loc main_arg5))) := by
  unfold Cert.OutBackRefIdeal.Value.res_main_v55
  rw [← ref_back]
  exact ref_rows 1 _ _ _ _ (second_half (hostBack (m ((c.tc : Thread nD τ).loc main_arg0)) (m ((c.tc : Thread nD τ).loc main_arg5))))

theorem reference_run : θ_run (defs (F := Ideal)) (onTc (τ := τ) (main (F := Ideal))) ⟨m, fun _ => 0, ρ⟩ fun r => ∀ c : Dev nD,
      r.2.mem ((c.tc : Thread nD τ).loc main_v74) = halfArr 0 (m ((c.tc : Thread nD τ).loc main_arg1)) (m ((c.tc : Thread nD τ).loc main_arg3)) (backArr (m ((c.tc : Thread nD τ).loc main_arg0)) (m ((c.tc : Thread nD τ).loc main_arg5)))
      ∧ r.2.mem ((c.tc : Thread nD τ).loc main_v55) = halfArr 1 (m ((c.tc : Thread nD τ).loc main_arg2)) (m ((c.tc : Thread nD τ).loc main_arg4)) (backArr (m ((c.tc : Thread nD τ).loc main_arg0)) (m ((c.tc : Thread nD τ).loc main_arg5)))
      ∧ r.2.mem ((c.tc : Thread nD τ).loc main_v58) = gainArr 0 (m ((c.tc : Thread nD τ).loc main_arg1)) (backArr (m ((c.tc : Thread nD τ).loc main_arg0)) (m ((c.tc : Thread nD τ).loc main_arg5)))
      ∧ r.2.mem ((c.tc : Thread nD τ).loc main_v39) = gainArr 1 (m ((c.tc : Thread nD τ).loc main_arg2)) (backArr (m ((c.tc : Thread nD τ).loc main_arg0)) (m ((c.tc : Thread nD τ).loc main_arg5)))
      ∧ r.2.mem ((c.tc : Thread nD τ).loc main_v75) = weightArr (mixed (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (Cert.OutBackRefIdeal.Value.run (F := Ideal) m ρ)
  obtain ⟨r0, r1, r2, r3, r4, rest⟩ := h c
  refine ⟨r0.trans (first_value m c), r1.trans (second_value m c), r2.trans ?_, r3.trans ?_, r4.trans (ref_weights _ (mixed (m ((c.tc : Thread nD τ).loc main_arg1)) (m ((c.tc : Thread nD τ).loc main_arg2)) (m ((c.tc : Thread nD τ).loc main_arg3)) (m ((c.tc : Thread nD τ).loc main_arg4)))), rest⟩
  · rw [← ref_back]
    exact ref_gain 0 _ _ _ (first_half (hostBack (m ((c.tc : Thread nD τ).loc main_arg0)) (m ((c.tc : Thread nD τ).loc main_arg5))))
  · rw [← ref_back]
    exact ref_gain 1 _ _ _ (second_half (hostBack (m ((c.tc : Thread nD τ).loc main_arg0)) (m ((c.tc : Thread nD τ).loc main_arg5))))

end reference

/-- So from equal arguments the two programs end with equal results. -/
theorem algebraic : Cert.algebraic_OutBackIdeal_OutBackRefIdeal := by
  intro m ρ m' ρ' _ hagree
  refine ⟨_, _, _, _, _, kernel_run m ρ, ?_⟩
  refine (θ_run _ _ _).mono (fun r h c => ?_) (reference_run m' ρ')
  obtain ⟨a0, a1, a2, a3, a4, a5⟩ := hagree c
  obtain ⟨r0, r1, r2, r3, r4, rest⟩ := h c
  rw [a0, a1, a3, a5] at r0
  rw [a0, a2, a4, a5] at r1
  rw [a0, a1, a5] at r2
  rw [a0, a2, a5] at r3
  rw [a0, a1, a2, a3, a4] at r4
  exact ⟨r0, r1, r2, r3, r4, rest⟩

end Cert.OutBacks

end
-- ==== Proof.lean ====
/-
  The proof of `Cert.Claim`.

  The frames are the generated runs. For the values, `Proof/Attn/` shows that finite operands are real numbers (`Finite`), that the backward call's
  five result arrays are then the arrays of `Arrays`, and that these are the reference's results (`Grads`); here the two runs are put side by side.
  The other calls' runs are put side by side in their own modules.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Attn.Runs
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnFwdRefIdeal.Run
public import proofs.«01_k».proof.Proof.AttnFwd.Runs
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.In.Runs
public import proofs.«01_k».proof.Proof.Gen.InBack.Frame
public import proofs.«01_k».proof.Proof.Gen.InBackIdeal.Frame
public import proofs.«01_k».proof.Proof.Gen.InBackIdeal.Value
public import proofs.«01_k».proof.Proof.Gen.InBackRefIdeal.Run
public import proofs.«01_k».proof.Proof.InBack.Runs
public import proofs.«01_k».proof.Proof.Gen.InGrad.Frame
public import proofs.«01_k».proof.Proof.Gen.InGradIdeal.Frame
public import proofs.«01_k».proof.Proof.Gen.InGradIdeal.Value
public import proofs.«01_k».proof.Proof.Gen.InGradRefIdeal.Run
public import proofs.«01_k».proof.Proof.InGrad.Runs
public import proofs.«01_k».proof.Proof.Gen.OutMlp.Frame
public import proofs.«01_k».proof.Proof.OutMlp.Copy
public import proofs.«01_k».proof.Proof.Gen.OutMlpRefIdeal.Run
public import proofs.«01_k».proof.Proof.OutMlp.Runs
public import proofs.«01_k».proof.Proof.Gen.MlpBack.Frame
public import proofs.«01_k».proof.Proof.MlpBack.Copy
public import proofs.«01_k».proof.Proof.Gen.MlpBackRefIdeal.Run
public import proofs.«01_k».proof.Proof.MlpBack.Runs
public import proofs.«01_k».proof.Proof.Gen.MlpGrad.Frame
public import proofs.«01_k».proof.Proof.Gen.MlpGradIdeal.Frame
public import proofs.«01_k».proof.Proof.Gen.MlpGradIdeal.Value
public import proofs.«01_k».proof.Proof.Gen.MlpGradRefIdeal.Run
public import proofs.«01_k».proof.Proof.MlpGrad.Runs
public import proofs.«01_k».proof.Proof.Gen.OutBack.Frame
public import proofs.«01_k».proof.Proof.Gen.OutBackIdeal.Frame
public import proofs.«01_k».proof.Proof.Gen.OutBackIdeal.Value
public import proofs.«01_k».proof.Proof.Gen.OutBackRefIdeal.Run
public import proofs.«01_k».proof.Proof.OutBack.Runs
public import Idealize.ShloMosaic.Adequacy
public import Idealize.ShloMosaic.Init

@[expose] public section

noncomputable section

namespace Cert.Proof

open Idealize.ShloMosaic Idealize.SL.Sem Cert.Attn

/-- The shapes of the precondition's host lines fit. -/
theorem facts_finite : Cert.Pre_finite.Facts where
  bitsLt_bf16_f32 := by decide
  bcast_S_S2176x1536 := by decide
  reducesTo_S2176x1536_S_d0_1 := by decide
  h_S_ := by decide
  bcast_S_S2176x8 := by decide
  reducesTo_S2176x8_S_d0_1 := by decide
  bcast_S_S2176x512 := by decide
  reducesTo_S2176x512_S_d0_1 := by decide

/-- The kernel's run ends without a fault, its arguments unchanged and its counters at zero. -/
theorem frame_kernel : Cert.quiescent_Kernel := fun m ρ _ => Cert.Kernel.Gen.frame m ρ

/-- The same of the idealised kernel. -/
theorem frame_kernelIdeal : Cert.quiescent_KernelIdeal := fun m ρ _ => Cert.KernelIdeal.Gen.frame m ρ

/-- The reference is host operations alone, and declares no semaphore. -/
theorem frame_referenceIdeal : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The frames of the forward attention: the kernel's, its idealisation's, and the reference's (host operations alone). -/
theorem frame_AttnFwd : Cert.quiescent_AttnFwd := fun m ρ _ => Cert.AttnFwd.Gen.frame m ρ

theorem frame_AttnFwdIdeal : Cert.quiescent_AttnFwdIdeal := fun m ρ _ => Cert.AttnFwdIdeal.Gen.frame m ρ

theorem frame_AttnFwdRefIdeal : Cert.quiescent_AttnFwdRefIdeal := fun m ρ _ =>
  (θ_run Cert.AttnFwdRefIdeal.defs _ _).mono
    (fun r h => ⟨fun c => (h c).2.2, sem_eq_zero_of_no_sems (by decide) r.2⟩)
    (Cert.AttnFwdRefIdeal.Value.run (F := Ideal) m ρ)

/-- The mask's literal is named, and its name stands for minus infinity. -/
theorem preserves_AttnFwd : Cert.preserves_AttnFwd_AttnFwdIdeal := IdealRules.named_const.statement Cert.AttnFwdIdeal.κ "mask" .f32 0xF149F2CA#32 ⊥ rfl

/-- The frames of the projection before the attention: the kernel's, its idealisation's, and the reference's (host operations alone). -/
theorem frame_In : Cert.quiescent_In := fun m ρ _ => Cert.In.Gen.frame m ρ

theorem frame_InIdeal : Cert.quiescent_InIdeal := fun m ρ _ => Cert.InIdeal.Gen.frame m ρ

theorem frame_InRefIdeal : Cert.quiescent_InRefIdeal := fun m ρ _ =>
  (θ_run Cert.InRefIdeal.defs _ _).mono
    (fun r h => ⟨fun c => (h c).2.2.2, sem_eq_zero_of_no_sems (by decide) r.2⟩)
    (Cert.InRefIdeal.Value.run (F := Ideal) m ρ)

/-- The frames of the projection's backward pass: the kernel's, its idealisation's, and the reference's (host operations alone). -/
theorem frame_InBack : Cert.quiescent_InBack := fun m ρ _ => Cert.InBack.Gen.frame m ρ

theorem frame_InBackIdeal : Cert.quiescent_InBackIdeal := fun m ρ _ => Cert.InBackIdeal.Gen.frame m ρ

theorem frame_InBackRefIdeal : Cert.quiescent_InBackRefIdeal := fun m ρ _ =>
  (θ_run Cert.InBackRefIdeal.defs _ _).mono
    (fun r h => ⟨fun c => (h c).2.2, sem_eq_zero_of_no_sems (by decide) r.2⟩)
    (Cert.InBackRefIdeal.Value.run (F := Ideal) m ρ)

/-- The frames of the projection's weight gradient: the kernel's, its idealisation's, and the reference's (host operations alone). -/
theorem frame_InGrad : Cert.quiescent_InGrad := fun m ρ _ => Cert.InGrad.Gen.frame m ρ

theorem frame_InGradIdeal : Cert.quiescent_InGradIdeal := fun m ρ _ => Cert.InGradIdeal.Gen.frame m ρ

theorem frame_InGradRefIdeal : Cert.quiescent_InGradRefIdeal := fun m ρ _ =>
  (θ_run Cert.InGradRefIdeal.defs _ _).mono
    (fun r h => ⟨fun c => (h c).2, sem_eq_zero_of_no_sems (by decide) r.2⟩)
    (Cert.InGradRefIdeal.Value.run (F := Ideal) m ρ)

/-- The frames of the output projection and the MLP: the kernel's, its idealisation's, and the reference's (host operations alone). -/
theorem frame_OutMlp : Cert.quiescent_OutMlp := fun m ρ _ => by
  have h := Cert.OutMlps.frame m ρ
  rw [← Cert.OutMlps.defs_eq] at h
  exact h

theorem frame_OutMlpIdeal : Cert.quiescent_OutMlpIdeal := fun m ρ _ => Cert.OutMlps.frame m ρ

theorem frame_OutMlpRefIdeal : Cert.quiescent_OutMlpRefIdeal := fun m ρ _ =>
  (θ_run Cert.OutMlpRefIdeal.defs _ _).mono
    (fun r h => ⟨fun c => (h c).2.2.2.2.2, sem_eq_zero_of_no_sems (by decide) r.2⟩)
    (Cert.OutMlpRefIdeal.Value.run (F := Ideal) m ρ)

/-- The frames of the MLP's backward pass: the kernel's, its idealisation's, and the reference's (host operations alone). -/
theorem frame_MlpBack : Cert.quiescent_MlpBack := fun m ρ _ => by
  have h := Cert.MlpBacks.frame m ρ
  rw [← Cert.MlpBacks.defs_eq] at h
  exact h

theorem frame_MlpBackIdeal : Cert.quiescent_MlpBackIdeal := fun m ρ _ => Cert.MlpBacks.frame m ρ

theorem frame_MlpBackRefIdeal : Cert.quiescent_MlpBackRefIdeal := fun m ρ _ =>
  (θ_run Cert.MlpBackRefIdeal.defs _ _).mono
    (fun r h => ⟨fun c => (h c).2.2.2.2, sem_eq_zero_of_no_sems (by decide) r.2⟩)
    (Cert.MlpBackRefIdeal.Value.run (F := Ideal) m ρ)

/-- The frames of the MLP's weight gradients: the kernel's, its idealisation's, and the reference's (host operations alone). -/
theorem frame_MlpGrad : Cert.quiescent_MlpGrad := fun m ρ _ => Cert.MlpGrad.Gen.frame m ρ

theorem frame_MlpGradIdeal : Cert.quiescent_MlpGradIdeal := fun m ρ _ => Cert.MlpGradIdeal.Gen.frame m ρ

theorem frame_MlpGradRefIdeal : Cert.quiescent_MlpGradRefIdeal := fun m ρ _ =>
  (θ_run Cert.MlpGradRefIdeal.defs _ _).mono
    (fun r h => ⟨fun c => (h c).2.2, sem_eq_zero_of_no_sems (by decide) r.2⟩)
    (Cert.MlpGradRefIdeal.Value.run (F := Ideal) m ρ)

/-- The frames of the output projection's backward pass: the kernel's, its idealisation's, and the reference's (host operations alone). -/
theorem frame_OutBack : Cert.quiescent_OutBack := fun m ρ _ => Cert.OutBack.Gen.frame m ρ

theorem frame_OutBackIdeal : Cert.quiescent_OutBackIdeal := fun m ρ _ => Cert.OutBackIdeal.Gen.frame m ρ

theorem frame_OutBackRefIdeal : Cert.quiescent_OutBackRefIdeal := fun m ρ _ =>
  (θ_run Cert.OutBackRefIdeal.defs _ _).mono
    (fun r h => ⟨fun c => (h c).2.2.2.2.2, sem_eq_zero_of_no_sems (by decide) r.2⟩)
    (Cert.OutBackRefIdeal.Value.run (F := Ideal) m ρ)

section

attribute [local instance] facts_finite

/-- The frames hold of finite arguments because they hold of all. -/
theorem frame_kernelIdeal_finite : Cert.quiescent_KernelIdeal_pre_finite := fun m ρ _ => Cert.KernelIdeal.Gen.frame m ρ

theorem frame_referenceIdeal_finite : Cert.quiescent_ReferenceIdeal_pre_finite := fun m ρ _ => frame_referenceIdeal m ρ trivial

/-- Of finite arguments the backward call's five arrays are the gradients of the reference. -/
theorem algebraic : Cert.algebraic_KernelIdeal_ReferenceIdeal_pre_finite := by
  intro m ρ m' ρ' hpre hagree
  refine ⟨fun c => resQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => resK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => resV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => resRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => resCol (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact kernel_run m ρ fun c => finite_of _ _ _ (hpre c)
  exact reference_run m' ρ' (fun c => m ((c.tc : Thread Cert.KernelIdeal.nD Cert.KernelIdeal.τ).loc Cert.KernelIdeal.main_arg0))
    (fun c => m ((c.tc : Thread Cert.KernelIdeal.nD Cert.KernelIdeal.τ).loc Cert.KernelIdeal.main_arg1))
    (fun c => m ((c.tc : Thread Cert.KernelIdeal.nD Cert.KernelIdeal.τ).loc Cert.KernelIdeal.main_arg2)) hagree

end

section

attribute [local instance] Cert.AttnFwdCall.facts_pre

theorem frame_AttnFwdIdeal_finite : Cert.quiescent_AttnFwdIdeal_pre_finite_fwd := fun m ρ _ => frame_AttnFwdIdeal m ρ trivial

theorem frame_AttnFwdRefIdeal_finite : Cert.quiescent_AttnFwdRefIdeal_pre_finite_fwd := fun m ρ _ => frame_AttnFwdRefIdeal m ρ trivial

end

theorem claim : Cert.Claim := ⟨
  Cert.Kernel.Gen.facts, Cert.KernelIdeal.Gen.facts, Cert.ReferenceIdeal.Gen.facts, Cert.AttnFwd.Gen.facts, Cert.AttnFwdIdeal.Gen.facts,
  Cert.AttnFwdRefIdeal.Gen.facts, Cert.In.Gen.facts, Cert.InIdeal.Gen.facts,
  Cert.InRefIdeal.Gen.facts, Cert.InBack.Gen.facts, Cert.InBackIdeal.Gen.facts, Cert.InBackRefIdeal.Gen.facts, Cert.InGrad.Gen.facts,
  Cert.InGradIdeal.Gen.facts, Cert.InGradRefIdeal.Gen.facts, Cert.OutMlp.Gen.facts, Cert.OutMlpIdeal.Gen.facts, Cert.OutMlpRefIdeal.Gen.facts,
  Cert.MlpBack.Gen.facts, Cert.MlpBackIdeal.Gen.facts, Cert.MlpBackRefIdeal.Gen.facts, Cert.MlpGrad.Gen.facts, Cert.MlpGradIdeal.Gen.facts,
  Cert.MlpGradRefIdeal.Gen.facts, Cert.OutBack.Gen.facts, Cert.OutBackIdeal.Gen.facts, Cert.OutBackRefIdeal.Gen.facts, facts_finite,
  Cert.AttnFwdCall.facts_pre,
  frame_kernel, frame_kernelIdeal, frame_kernelIdeal_finite, frame_referenceIdeal, frame_referenceIdeal_finite, frame_AttnFwd,
  frame_AttnFwdIdeal, frame_AttnFwdIdeal_finite, frame_AttnFwdRefIdeal, frame_AttnFwdRefIdeal_finite, frame_In, frame_InIdeal,
  frame_InRefIdeal, frame_InBack, frame_InBackIdeal, frame_InBackRefIdeal, frame_InGrad, frame_InGradIdeal, frame_InGradRefIdeal, frame_OutMlp,
  frame_OutMlpIdeal, frame_OutMlpRefIdeal, frame_MlpBack, frame_MlpBackIdeal, frame_MlpBackRefIdeal, frame_MlpGrad, frame_MlpGradIdeal,
  frame_MlpGradRefIdeal, frame_OutBack, frame_OutBackIdeal, frame_OutBackRefIdeal,
  trivial, algebraic, preserves_AttnFwd, Cert.AttnFwdCall.algebraic, trivial, Cert.InProj.algebraic, trivial, Cert.InBacks.algebraic, trivial, Cert.InGrads.algebraic,
  trivial, Cert.OutMlps.algebraic, trivial, Cert.MlpBacks.algebraic, trivial, Cert.MlpGrads.algebraic, trivial, Cert.OutBacks.algebraic⟩

end Cert.Proof

end
